-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.bf16_pack.Statement Cert.KernelIdeal.S96x128
  ∧ IdealRules.bf16_pair.Statement Cert.KernelIdeal.S96x128 Cert.KernelIdeal.S48x128
  ∧ IdealRules.bf16_pair.SelectZeroStatement Cert.KernelIdeal.S48x128
  ∧ IdealRules.bf16_pack.Statement Cert.KernelIdeal.S32x128
  ∧ IdealRules.bf16_pair.Statement Cert.KernelIdeal.S32x128 Cert.KernelIdeal.S16x128
  ∧ IdealRules.bf16_pack.Statement Cert.KernelIdeal.S64x128
  ∧ IdealRules.bf16_pair.Statement Cert.KernelIdeal.S64x128 Cert.KernelIdeal.S32x128

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v109_7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S3x640x18x96 : Shape := ⟨4, ![3, 640, 18, 96]⟩
abbrev S3x640x18 : Shape := ⟨3, ![3, 640, 18]⟩
abbrev S3x640x18x128 : Shape := ⟨4, ![3, 640, 18, 128]⟩
abbrev S3x18x96x128 : Shape := ⟨4, ![3, 18, 96, 128]⟩
abbrev S_ : Shape := ⟨0, ![]⟩

class Facts : Prop where
  bcast_S_S3x640x18x96 : S_.BroadcastsInDim S3x640x18x96 (![] : Fin 0 → Fin S3x640x18x96.rank)
  bcast_S_S3x640x18 : S_.BroadcastsInDim S3x640x18 (![] : Fin 0 → Fin S3x640x18.rank)
  bcast_S_S3x640x18x128 : S_.BroadcastsInDim S3x640x18x128 (![] : Fin 0 → Fin S3x640x18x128.rank)
  bcast_S_S3x18x96x128 : S_.BroadcastsInDim S3x18x96x128 (![] : Fin 0 → Fin S3x18x96x128.rank)

variable [Facts]

def fn_part1 {F : FTy → Type} [FloatOps F] (main_arg6 : FVec F S3x640x18 .f32) (main_arg7 : FVec F S3x18x96x128 .f32) (main_v2 : IVec S3x640x18x96 1) (main_v5 : IVec S3x640x18 1) (main_v8 : IVec S3x640x18x96 1) (main_v11 : IVec S3x640x18 1) (main_v14 : IVec S3x640x18x128 1) (main_v17 : IVec S3x640x18x96 1) : IVec S3x640x18x96 1 × IVec S3x640x18 1 × IVec S3x640x18x96 1 × IVec S3x640x18 1 × IVec S3x640x18x128 1 × IVec S3x640x18x96 1 × IVec S3x640x18 1 × IVec S3x18x96x128 1 :=
  let main_v18 : FVec F S3x640x18 .f32 := Host.absf main_arg6
  let main_cst_5 : FVec F S_ .f32 := constant S_ .f32 0x7F800000#32
  let main_v19 : FVec F S3x640x18 .f32 := broadcastInDim S3x640x18 ![] bcast_S_S3x640x18 main_cst_5
  let main_v20 : IVec S3x640x18 1 := cmpf .olt main_v18 main_v19
  let main_v21 : FVec F S3x18x96x128 .f32 := Host.absf main_arg7
  let main_cst_6 : FVec F S_ .f32 := constant S_ .f32 0x7F800000#32
  let main_v22 : FVec F S3x18x96x128 .f32 := broadcastInDim S3x18x96x128 ![] bcast_S_S3x18x96x128 main_cst_6
  let main_v23 : IVec S3x18x96x128 1 := cmpf .olt main_v21 main_v22
  (main_v2, main_v5, main_v8, main_v11, main_v14, main_v17, main_v20, main_v23)

def fn {F : FTy → Type} [FloatOps F] (main_arg0 : FVec F S3x640x18x96 .f32) (main_arg1 : FVec F S3x640x18 .f32) (main_arg2 : FVec F S3x640x18x96 .f32) (main_arg3 : FVec F S3x640x18 .f32) (main_arg4 : FVec F S3x640x18x128 .bf16) (main_arg5 : FVec F S3x640x18x96 .f32) (main_arg6 : FVec F S3x640x18 .f32) (main_arg7 : FVec F S3x18x96x128 .f32) : IVec S3x640x18x96 1 × IVec S3x640x18 1 × IVec S3x640x18x96 1 × IVec S3x640x18 1 × IVec S3x640x18x128 1 × IVec S3x640x18x96 1 × IVec S3x640x18 1 × IVec S3x18x96x128 1 :=
  let main_v0 : FVec F S3x640x18x96 .f32 := Host.absf main_arg0
  let main_cst : FVec F S_ .f32 := constant S_ .f32 0x7F800000#32
  let main_v1 : FVec F S3x640x18x96 .f32 := broadcastInDim S3x640x18x96 ![] bcast_S_S3x640x18x96 main_cst
  let main_v2 : IVec S3x640x18x96 1 := cmpf .olt main_v0 main_v1
  let main_v3 : FVec F S3x640x18 .f32 := Host.absf main_arg1
  let main_cst_0 : FVec F S_ .f32 := constant S_ .f32 0x7F800000#32
  let main_v4 : FVec F S3x640x18 .f32 := broadcastInDim S3x640x18 ![] bcast_S_S3x640x18 main_cst_0
  let main_v5 : IVec S3x640x18 1 := cmpf .olt main_v3 main_v4
  let main_v6 : FVec F S3x640x18x96 .f32 := Host.absf main_arg2
  let main_cst_1 : FVec F S_ .f32 := constant S_ .f32 0x7F800000#32
  let main_v7 : FVec F S3x640x18x96 .f32 := broadcastInDim S3x640x18x96 ![] bcast_S_S3x640x18x96 main_cst_1
  let main_v8 : IVec S3x640x18x96 1 := cmpf .olt main_v6 main_v7
  let main_v9 : FVec F S3x640x18 .f32 := Host.absf main_arg3
  let main_cst_2 : FVec F S_ .f32 := constant S_ .f32 0x7F800000#32
  let main_v10 : FVec F S3x640x18 .f32 := broadcastInDim S3x640x18 ![] bcast_S_S3x640x18 main_cst_2
  let main_v11 : IVec S3x640x18 1 := cmpf .olt main_v9 main_v10
  let main_v12 : FVec F S3x640x18x128 .bf16 := Host.absf main_arg4
  let main_cst_3 : FVec F S_ .bf16 := constant S_ .bf16 0x7F80#16
  let main_v13 : FVec F S3x640x18x128 .bf16 := broadcastInDim S3x640x18x128 ![] bcast_S_S3x640x18x128 main_cst_3
  let main_v14 : IVec S3x640x18x128 1 := cmpf .olt main_v12 main_v13
  let main_v15 : FVec F S3x640x18x96 .f32 := Host.absf main_arg5
  let main_cst_4 : FVec F S_ .f32 := constant S_ .f32 0x7F800000#32
  let main_v16 : FVec F S3x640x18x96 .f32 := broadcastInDim S3x640x18x96 ![] bcast_S_S3x640x18x96 main_cst_4
  let main_v17 : IVec S3x640x18x96 1 := cmpf .olt main_v15 main_v16
  fn_part1 (F := F) main_arg6 main_arg7 main_v2 main_v5 main_v8 main_v11 main_v14 main_v17
-- ==== Kernel.lean ====
abbrev S3x640x18x96 : Shape := ⟨4, ![3, 640, 18, 96]⟩
abbrev S3x640x18 : Shape := ⟨3, ![3, 640, 18]⟩
abbrev S3x640x18x128 : Shape := ⟨4, ![3, 640, 18, 128]⟩
abbrev S3x18x96x128 : Shape := ⟨4, ![3, 18, 96, 128]⟩
abbrev S3x18x96x640 : Shape := ⟨4, ![3, 18, 96, 640]⟩
abbrev S3x18x640x128 : Shape := ⟨4, ![3, 18, 640, 128]⟩
abbrev S3x18x640 : Shape := ⟨3, ![3, 18, 640]⟩
abbrev S3x640x2304 : Shape := ⟨3, ![3, 640, 2304]⟩
abbrev S1x18x96x128 : Shape := ⟨4, ![1, 18, 96, 128]⟩
abbrev S1x18x128x128 : Shape := ⟨4, ![1, 18, 128, 128]⟩
abbrev S1x18x128 : Shape := ⟨3, ![1, 18, 128]⟩
abbrev S1x128x2304 : Shape := ⟨3, ![1, 128, 2304]⟩
abbrev S18x96x128 : Shape := ⟨3, ![18, 96, 128]⟩
abbrev S128x128 : Shape := ⟨2, ![128, 128]⟩
abbrev S128x256 : Shape := ⟨2, ![128, 256]⟩
abbrev S256x256 : Shape := ⟨2, ![256, 256]⟩
abbrev S64x128 : Shape := ⟨2, ![64, 128]⟩
abbrev S32x128 : Shape := ⟨2, ![32, 128]⟩
abbrev S48x128 : Shape := ⟨2, ![48, 128]⟩
abbrev S16x128 : Shape := ⟨2, ![16, 128]⟩
abbrev S1x1x96x128 : Shape := ⟨4, ![1, 1, 96, 128]⟩
abbrev S96x128 : Shape := ⟨2, ![96, 128]⟩
abbrev S96x256 : Shape := ⟨2, ![96, 256]⟩
abbrev S64x256 : Shape := ⟨2, ![64, 256]⟩
abbrev S256x128 : Shape := ⟨2, ![256, 128]⟩
abbrev S1x1x128 : Shape := ⟨3, ![1, 1, 128]⟩
abbrev S1x128 : Shape := ⟨2, ![1, 128]⟩
abbrev S32x128x1 : Shape := ⟨3, ![32, 128, 1]⟩
abbrev S24x128 : Shape := ⟨2, ![24, 128]⟩
abbrev S24x128x1 : Shape := ⟨3, ![24, 128, 1]⟩
abbrev S8x128 : Shape := ⟨2, ![8, 128]⟩
abbrev S16x128x1 : Shape := ⟨3, ![16, 128, 1]⟩
abbrev S8x128x1 : Shape := ⟨3, ![8, 128, 1]⟩
abbrev S1x96x128 : Shape := ⟨3, ![1, 96, 128]⟩
abbrev S32x256 : Shape := ⟨2, ![32, 256]⟩
abbrev S1x1x64x128 : Shape := ⟨4, ![1, 1, 64, 128]⟩
abbrev S160x256 : Shape := ⟨2, ![160, 256]⟩
abbrev S160x128 : Shape := ⟨2, ![160, 128]⟩
abbrev S1x64x128 : Shape := ⟨3, ![1, 64, 128]⟩
abbrev S96x1 : Shape := ⟨2, ![96, 1]⟩

abbrev nBuf : Space → Nat
  | .hbm => 19
  | .vmem => 21
  | .smem => 0
  | _ => 0

abbrev bufTy : (tb : Table) → Fin (tcTables nBuf tb) → BufTy
  | .hbm, ⟨0, _⟩ => ⟨S3x640x18x96, .f32⟩
  | .hbm, ⟨1, _⟩ => ⟨S3x640x18, .f32⟩
  | .hbm, ⟨2, _⟩ => ⟨S3x640x18x96, .f32⟩
  | .hbm, ⟨3, _⟩ => ⟨S3x640x18, .f32⟩
  | .hbm, ⟨4, _⟩ => ⟨S3x640x18x128, .bf16⟩
  | .hbm, ⟨5, _⟩ => ⟨S3x640x18x96, .f32⟩
  | .hbm, ⟨6, _⟩ => ⟨S3x640x18, .f32⟩
  | .hbm, ⟨7, _⟩ => ⟨S3x18x96x128, .f32⟩
  | .hbm, ⟨8, _⟩ => ⟨S3x640x18x96, .fp8e4m3⟩
  | .hbm, ⟨9, _⟩ => ⟨S3x640x18x96, .fp8e4m3⟩
  | .hbm, ⟨10, _⟩ => ⟨S3x18x96x640, .fp8e4m3⟩
  | .hbm, ⟨11, _⟩ => ⟨S3x18x96x640, .fp8e4m3⟩
  | .hbm, ⟨12, _⟩ => ⟨S3x18x96x640, .f32⟩
  | .hbm, ⟨13, _⟩ => ⟨S3x18x640x128, .bf16⟩
  | .hbm, ⟨14, _⟩ => ⟨S3x18x640, .f32⟩
  | .hbm, ⟨15, _⟩ => ⟨S3x18x640, .f32⟩
  | .hbm, ⟨16, _⟩ => ⟨S3x18x640, .f32⟩
  | .hbm, ⟨17, _⟩ => ⟨S3x640x2304, .bf16⟩
  | .hbm, ⟨18, _⟩ => ⟨S3x18x96x128, .f32⟩
  | .local _ .vmem, ⟨0, _⟩ => ⟨S1x18x96x128, .fp8e4m3⟩
  | .local _ .vmem, ⟨1, _⟩ => ⟨S1x18x96x128, .fp8e4m3⟩
  | .local _ .vmem, ⟨2, _⟩ => ⟨S1x18x96x128, .fp8e4m3⟩
  | .local _ .vmem, ⟨3, _⟩ => ⟨S1x18x96x128, .fp8e4m3⟩
  | .local _ .vmem, ⟨4, _⟩ => ⟨S1x18x96x128, .f32⟩
  | .local _ .vmem, ⟨5, _⟩ => ⟨S1x18x96x128, .f32⟩
  | .local _ .vmem, ⟨6, _⟩ => ⟨S1x18x128x128, .bf16⟩
  | .local _ .vmem, ⟨7, _⟩ => ⟨S1x18x128x128, .bf16⟩
  | .local _ .vmem, ⟨8, _⟩ => ⟨S1x18x128, .f32⟩
  | .local _ .vmem, ⟨9, _⟩ => ⟨S1x18x128, .f32⟩
  | .local _ .vmem, ⟨10, _⟩ => ⟨S1x18x128, .f32⟩
  | .local _ .vmem, ⟨11, _⟩ => ⟨S1x18x128, .f32⟩
  | .local _ .vmem, ⟨12, _⟩ => ⟨S1x18x128, .f32⟩
  | .local _ .vmem, ⟨13, _⟩ => ⟨S1x18x128, .f32⟩
  | .local _ .vmem, ⟨14, _⟩ => ⟨S1x18x96x128, .f32⟩
  | .local _ .vmem, ⟨15, _⟩ => ⟨S1x18x96x128, .f32⟩
  | .local _ .vmem, ⟨16, _⟩ => ⟨S1x128x2304, .bf16⟩
  | .local _ .vmem, ⟨17, _⟩ => ⟨S1x128x2304, .bf16⟩
  | .local _ .vmem, ⟨18, _⟩ => ⟨S1x18x96x128, .f32⟩
  | .local _ .vmem, ⟨19, _⟩ => ⟨S1x18x96x128, .f32⟩
  | .local _ .vmem, ⟨20, _⟩ => ⟨S18x96x128, .f32⟩
  | _, _ => ⟨S3x640x18x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [BitOps F]

abbrev grid0 : Pipeline.Grid := ⟨2, ![3, 5], ![false, false]⟩

@[reducible] def k0_t1_loop : Scf.Loop 32 :=
  let c0_i32_61 : BitVec 32 := 0#32
  let c18_i32 : BitVec 32 := 18#32
  let v213 : BitVec 32 := Scalar.addi c0_i32_61 c18_i32
  let c1_i32_62 : BitVec 32 := 1#32
  ⟨c0_i32_61, v213, c1_i32_62⟩
def k0_off1 (k0_t1 : Fin k0_t1_loop.trips) : Fin 4 → Nat :=
  let c0_70 : Index := 0#32
  let c0_i32_61 : BitVec 32 := 0#32
  let c1_i32_62 : BitVec 32 := 1#32
  let arg13 : BitVec 32 := Scf.iv c0_i32_61 c1_i32_62 k0_t1
  let v218 : Index := Scalar.indexCast arg13
  let c0_71 : Index := 0#32
  let c0_72 : Index := 0#32
  ![0, v218.toNat, 0, 0]
def k0_off2 (k0_t1 : Fin k0_t1_loop.trips) : Fin 3 → Nat :=
  let c0_88 : Index := 0#32
  let c0_i32_61 : BitVec 32 := 0#32
  let c1_i32_62 : BitVec 32 := 1#32
  let arg13 : BitVec 32 := Scf.iv c0_i32_61 c1_i32_62 k0_t1
  let v284 : Index := Scalar.indexCast arg13
  let c0_89 : Index := 0#32
  ![0, v284.toNat, 0]
def k0_off3 (k0_t1 : Fin k0_t1_loop.trips) : Fin 3 → Nat :=
  let c0_i32_61 : BitVec 32 := 0#32
  let c1_i32_62 : BitVec 32 := 1#32
  let arg13 : BitVec 32 := Scf.iv c0_i32_61 c1_i32_62 k0_t1
  let v932 : Index := Scalar.indexCast arg13
  let c0_175 : Index := 0#32
  let c0_176 : Index := 0#32
  ![v932.toNat, 0, 0]
def k0_off4 (k0_t1 : Fin k0_t1_loop.trips) : Fin 4 → Nat :=
  let c0_181 : Index := 0#32
  let c0_i32_61 : BitVec 32 := 0#32
  let c1_i32_62 : BitVec 32 := 1#32
  let arg13 : BitVec 32 := Scf.iv c0_i32_61 c1_i32_62 k0_t1
  let v963 : Index := Scalar.indexCast arg13
  let c0_182 : Index := 0#32
  let c0_183 : Index := 0#32
  ![0, v963.toNat, 0, 0]
def k0_mult1 (k0_t1 : Fin k0_t1_loop.trips) : BitVec 32 :=
  let c0_i32_61 : BitVec 32 := 0#32
  let c1_i32_62 : BitVec 32 := 1#32
  let arg13 : BitVec 32 := Scf.iv c0_i32_61 c1_i32_62 k0_t1
  let c128_i32_213 : BitVec 32 := 128#32
  let v1148 : BitVec 32 := Scalar.muli arg13 c128_i32_213
  v1148
def k0_off5 (k0_t1 : Fin k0_t1_loop.trips) : Fin 3 → Nat :=
  let c0_214 : Index := 0#32
  let c0_215 : Index := 0#32
  let c0_i32_61 : BitVec 32 := 0#32
  let c1_i32_62 : BitVec 32 := 1#32
  let arg13 : BitVec 32 := Scf.iv c0_i32_61 c1_i32_62 k0_t1
  let c128_i32_213 : BitVec 32 := 128#32
  let v1148 : BitVec 32 := Scalar.muli arg13 c128_i32_213
  let v1149 : BitVec 32 := v1148
  let v1150 : Index := Scalar.indexCast v1149
  ![0, 0, v1150.toNat]
def k0_off6 (k0_t1 : Fin k0_t1_loop.trips) : Fin 4 → Nat :=
  let c0_224 : Index := 0#32
  let c0_i32_61 : BitVec 32 := 0#32
  let c1_i32_62 : BitVec 32 := 1#32
  let arg13 : BitVec 32 := Scf.iv c0_i32_61 c1_i32_62 k0_t1
  let v1195 : Index := Scalar.indexCast arg13
  let c64 : Index := 64#32
  let c0_225 : Index := 0#32
  ![0, v1195.toNat, 64, 0]
def k0_mult2 (k0_t1 : Fin k0_t1_loop.trips) : BitVec 32 :=
  let c0_i32_61 : BitVec 32 := 0#32
  let c1_i32_62 : BitVec 32 := 1#32
  let arg13 : BitVec 32 := Scf.iv c0_i32_61 c1_i32_62 k0_t1
  let c128_i32_256 : BitVec 32 := 128#32
  let v1381 : BitVec 32 := Scalar.muli arg13 c128_i32_256
  v1381
def k0_off7 (k0_t1 : Fin k0_t1_loop.trips) : Fin 3 → Nat :=
  let c0_257 : Index := 0#32
  let c64_258 : Index := 64#32
  let c0_i32_61 : BitVec 32 := 0#32
  let c1_i32_62 : BitVec 32 := 1#32
  let arg13 : BitVec 32 := Scf.iv c0_i32_61 c1_i32_62 k0_t1
  let c128_i32_256 : BitVec 32 := 128#32
  let v1381 : BitVec 32 := Scalar.muli arg13 c128_i32_256
  let v1382 : BitVec 32 := v1381
  let v1383 : Index := Scalar.indexCast v1382
  ![0, 64, v1383.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x18x96x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x18x96x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x18x96x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x18x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x18x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x18x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x18x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x18x96x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x2304 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x18x96x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S3x640x18x96 : Shape := ⟨4, ![3, 640, 18, 96]⟩
abbrev S3x640x18 : Shape := ⟨3, ![3, 640, 18]⟩
abbrev S3x640x18x128 : Shape := ⟨4, ![3, 640, 18, 128]⟩
abbrev S3x18x96x128 : Shape := ⟨4, ![3, 18, 96, 128]⟩
abbrev S3x10x64x18x96 : Shape := ⟨5, ![3, 10, 64, 18, 96]⟩
abbrev S10x3x64x18x96 : Shape := ⟨5, ![10, 3, 64, 18, 96]⟩
abbrev S3x10x64x18 : Shape := ⟨4, ![3, 10, 64, 18]⟩
abbrev S10x3x64x18 : Shape := ⟨4, ![10, 3, 64, 18]⟩
abbrev S3x10x64x18x128 : Shape := ⟨5, ![3, 10, 64, 18, 128]⟩
abbrev S10x3x64x18x128 : Shape := ⟨5, ![10, 3, 64, 18, 128]⟩
abbrev S_ : Shape := ⟨0, ![]⟩
abbrev S10x3x1x18x96 : Shape := ⟨5, ![10, 3, 1, 18, 96]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S10x3x18x64 : Shape := ⟨4, ![10, 3, 18, 64]⟩
abbrev S10x3x18x64x64 : Shape := ⟨5, ![10, 3, 18, 64, 64]⟩
abbrev S10x3x18x64x1 : Shape := ⟨5, ![10, 3, 18, 64, 1]⟩
abbrev S10x3x18x1x64 : Shape := ⟨5, ![10, 3, 18, 1, 64]⟩
abbrev S1x1x1x64x64 : Shape := ⟨5, ![1, 1, 1, 64, 64]⟩
abbrev S10x3x64x18x1 : Shape := ⟨5, ![10, 3, 64, 18, 1]⟩
abbrev S10x3x18x96x64 : Shape := ⟨5, ![10, 3, 18, 96, 64]⟩
abbrev S10x3x18x128x64 : Shape := ⟨5, ![10, 3, 18, 128, 64]⟩
abbrev S10x3x18x96 : Shape := ⟨4, ![10, 3, 18, 96]⟩
abbrev S1x3x64x18x128 : Shape := ⟨5, ![1, 3, 64, 18, 128]⟩
abbrev S3x64x18x128 : Shape := ⟨4, ![3, 64, 18, 128]⟩
abbrev S1x3x64x18x96 : Shape := ⟨5, ![1, 3, 64, 18, 96]⟩
abbrev S3x64x18x96 : Shape := ⟨4, ![3, 64, 18, 96]⟩
abbrev S1x3x18x64x64 : Shape := ⟨5, ![1, 3, 18, 64, 64]⟩
abbrev S3x18x64x64 : Shape := ⟨4, ![3, 18, 64, 64]⟩
abbrev S1x3x18x96 : Shape := ⟨4, ![1, 3, 18, 96]⟩
abbrev S3x18x96 : Shape := ⟨3, ![3, 18, 96]⟩
abbrev S3x18x128x64 : Shape := ⟨4, ![3, 18, 128, 64]⟩
abbrev S3x18x96x1 : Shape := ⟨4, ![3, 18, 96, 1]⟩
abbrev S3x640x2304 : Shape := ⟨3, ![3, 640, 2304]⟩

abbrev nBuf : Space → Nat
  | .hbm => 204
  | .vmem => 4
  | .smem => 0
  | _ => 0

abbrev hbmTy0_0 (i : Nat) : BufTy := match i % 128 with
  | 0 => ⟨S3x640x18x96, .f32⟩
  | 1 => ⟨S3x640x18, .f32⟩
  | 2 => ⟨S3x640x18x96, .f32⟩
  | 3 => ⟨S3x640x18, .f32⟩
  | 4 => ⟨S3x640x18x128, .bf16⟩
  | 5 => ⟨S3x640x18x96, .f32⟩
  | 6 => ⟨S3x640x18, .f32⟩
  | 7 => ⟨S3x18x96x128, .f32⟩
  | 8 => ⟨S3x640x18x96, .fp8e4m3⟩
  | 9 => ⟨S3x640x18x96, .fp8e4m3⟩
  | 10 => ⟨S3x640x18x96, .bf16⟩
  | 11 => ⟨S3x640x18x96, .bf16⟩
  | 12 => ⟨S3x10x64x18x96, .bf16⟩
  | 13 => ⟨S10x3x64x18x96, .bf16⟩
  | 14 => ⟨S3x10x64x18x96, .bf16⟩
  | 15 => ⟨S10x3x64x18x96, .bf16⟩
  | 16 => ⟨S3x10x64x18, .f32⟩
  | 17 => ⟨S10x3x64x18, .f32⟩
  | 18 => ⟨S3x10x64x18, .f32⟩
  | 19 => ⟨S10x3x64x18, .f32⟩
  | 20 => ⟨S3x10x64x18x128, .bf16⟩
  | 21 => ⟨S10x3x64x18x128, .bf16⟩
  | 22 => ⟨S3x10x64x18x96, .f32⟩
  | 23 => ⟨S10x3x64x18x96, .f32⟩
  | 24 => ⟨S3x10x64x18, .f32⟩
  | 25 => ⟨S10x3x64x18, .f32⟩
  | 26 => ⟨S_, .f32⟩
  | 27 => ⟨S_, .f32⟩
  | 28 => ⟨S10x3x64x18x96, .f32⟩
  | 29 => ⟨S10x3x1x18x96, .f32⟩
  | 30 => ⟨S10x3x64x18x96, .f32⟩
  | 31 => ⟨S10x3x64x18x96, .bf16⟩
  | 32 => ⟨S10x3x64x18x96, .bf16⟩
  | 33 => ⟨S10x3x64x18x96, .bf16⟩
  | 34 => ⟨S10x3x64x18x96, .f32⟩
  | 35 => ⟨S10x3x64x18x96, .f32⟩
  | 36 => ⟨S10x3x64x18x96, .bf16⟩
  | 37 => ⟨S10x3x64x18x96, .bf16⟩
  | 38 => ⟨S10x3x64x18x96, .f32⟩
  | 39 => ⟨S10x3x64x18x96, .f32⟩
  | 40 => ⟨S10x3x64x18x96, .f32⟩
  | 41 => ⟨S10x3x64x18x96, .bf16⟩
  | 42 => ⟨S10x3x64x18x96, .bf16⟩
  | 43 => ⟨S64, .i32⟩
  | 44 => ⟨S64x1, .i32⟩
  | 45 => ⟨S64, .i32⟩
  | 46 => ⟨S1x64, .i32⟩
  | 47 => ⟨S64x64, .i32⟩
  | 48 => ⟨S64x64, .i32⟩
  | 49 => ⟨S64x64, .i1⟩
  | 50 => ⟨S64x64, .i32⟩
  | 51 => ⟨S64x64, .i32⟩
  | 52 => ⟨S64x64, .i1⟩
  | 53 => ⟨S10x3x64x18, .f32⟩
  | 54 => ⟨S10x3x18x64, .f32⟩
  | 55 => ⟨S10x3x18x64, .f32⟩
  | 56 => ⟨S10x3x18x64, .f32⟩
  | 57 => ⟨S10x3x18x64x64, .f32⟩
  | 58 => ⟨S10x3x18x64x1, .f32⟩
  | 59 => ⟨S10x3x18x1x64, .f32⟩
  | 60 => ⟨S10x3x18x64x64, .f32⟩
  | 61 => ⟨S10x3x18x64x64, .f32⟩
  | 62 => ⟨S10x3x18x64x64, .f32⟩
  | 63 => ⟨S10x3x18x64x64, .f32⟩
  | 64 => ⟨S_, .f32⟩
  | 65 => ⟨S_, .f32⟩
  | 66 => ⟨S10x3x18x64x64, .i1⟩
  | 67 => ⟨S10x3x18x64x64, .f32⟩
  | 68 => ⟨S10x3x18x64x64, .f32⟩
  | 69 => ⟨S10x3x18x64x64, .f32⟩
  | 70 => ⟨S10x3x18x64x1, .f32⟩
  | 71 => ⟨S10x3x18x1x64, .f32⟩
  | 72 => ⟨S10x3x18x64x64, .f32⟩
  | 73 => ⟨S10x3x18x64x64, .f32⟩
  | 74 => ⟨S10x3x18x64x64, .f32⟩
  | 75 => ⟨S10x3x18x64x64, .f32⟩
  | 76 => ⟨S_, .f32⟩
  | 77 => ⟨S_, .f32⟩
  | 78 => ⟨S10x3x18x64x64, .i1⟩
  | 79 => ⟨S10x3x18x64x64, .f32⟩
  | 80 => ⟨S10x3x18x64x64, .f32⟩
  | 81 => ⟨S64x64, .i32⟩
  | 82 => ⟨S64x64, .i32⟩
  | 83 => ⟨S_, .i32⟩
  | 84 => ⟨S64x64, .i32⟩
  | 85 => ⟨S64x64, .i32⟩
  | 86 => ⟨S64x64, .i1⟩
  | 87 => ⟨S64x64, .f32⟩
  | 88 => ⟨S1x1x1x64x64, .f32⟩
  | 89 => ⟨S10x3x18x64x64, .f32⟩
  | 90 => ⟨S10x3x18x64x64, .f32⟩
  | 91 => ⟨S10x3x18x64x64, .f32⟩
  | 92 => ⟨S10x3x18x64x64, .f32⟩
  | 93 => ⟨S10x3x18x64x64, .f32⟩
  | 94 => ⟨S10x3x18x64x64, .f32⟩
  | 95 => ⟨S10x3x18x64x64, .f32⟩
  | 96 => ⟨S10x3x18x64x64, .f32⟩
  | 97 => ⟨S10x3x18x64x64, .f32⟩
  | 98 => ⟨S10x3x18x64x64, .f32⟩
  | 99 => ⟨S10x3x18x64x64, .f32⟩
  | 100 => ⟨S10x3x18x64x64, .f32⟩
  | 101 => ⟨S10x3x18x64x64, .f32⟩
  | 102 => ⟨S10x3x18x64x64, .f32⟩
  | 103 => ⟨S10x3x18x64x64, .f32⟩
  | 104 => ⟨S10x3x18x64x64, .f32⟩
  | 105 => ⟨S10x3x18x64x64, .f32⟩
  | 106 => ⟨S10x3x64x18x1, .f32⟩
  | 107 => ⟨S10x3x64x18x96, .f32⟩
  | 108 => ⟨S10x3x64x18x96, .f32⟩
  | 109 => ⟨S10x3x64x18x96, .f32⟩
  | 110 => ⟨S10x3x18x96x64, .f32⟩
  | 111 => ⟨S10x3x64x18x96, .f32⟩
  | 112 => ⟨S10x3x64x18x1, .f32⟩
  | 113 => ⟨S10x3x64x18x128, .f32⟩
  | 114 => ⟨S10x3x64x18x128, .f32⟩
  | 115 => ⟨S10x3x64x18x128, .f32⟩
  | 116 => ⟨S10x3x18x128x64, .f32⟩
  | 117 => ⟨S10x3x64x18x128, .f32⟩
  | 118 => ⟨S10x3x64x18x1, .f32⟩
  | 119 => ⟨S10x3x64x18x96, .f32⟩
  | 120 => ⟨S10x3x64x18x96, .f32⟩
  | 121 => ⟨S10x3x64x18x96, .f32⟩
  | 122 => ⟨S10x3x64x18x1, .f32⟩
  | 123 => ⟨S10x3x64x18x96, .f32⟩
  | 124 => ⟨S10x3x64x18x96, .f32⟩
  | 125 => ⟨S10x3x64x18x96, .f32⟩
  | 126 => ⟨S10x3x18x96, .f32⟩
  | 127 => ⟨S10x3x18x96, .f32⟩
  | _ => ⟨S3x640x18x96, .f32⟩

abbrev hbmTy0_1 (i : Nat) : BufTy := match i % 128 with
  | 0 => ⟨S_, .f32⟩
  | 1 => ⟨S10x3x64x18x128, .f32⟩
  | 2 => ⟨S_, .i32⟩
  | 3 => ⟨S10x3x64x18x128, .f32⟩
  | 4 => ⟨S10x3x64x18x96, .f32⟩
  | 5 => ⟨S10x3x64x18x96, .f32⟩
  | 6 => ⟨S10x3x18x64x64, .f32⟩
  | 7 => ⟨S10x3x64x18x96, .f32⟩
  | 8 => ⟨S10x3x18x96, .f32⟩
  | 9 => ⟨S_, .i32⟩
  | 10 => ⟨S3x18x96x128, .f32⟩
  | 11 => ⟨S10x3x64x18x128, .f32⟩
  | 12 => ⟨S_, .i32⟩
  | 13 => ⟨S_, .i1⟩
  | 14 => ⟨S_, .i32⟩
  | 15 => ⟨S_, .i32⟩
  | 16 => ⟨S_, .i32⟩
  | 17 => ⟨S_, .i32⟩
  | 18 => ⟨S1x3x64x18x128, .f32⟩
  | 19 => ⟨S3x64x18x128, .f32⟩
  | 20 => ⟨S_, .i32⟩
  | 21 => ⟨S_, .i32⟩
  | 22 => ⟨S_, .i32⟩
  | 23 => ⟨S_, .i32⟩
  | 24 => ⟨S1x3x64x18x96, .f32⟩
  | 25 => ⟨S3x64x18x96, .f32⟩
  | 26 => ⟨S_, .i32⟩
  | 27 => ⟨S_, .i32⟩
  | 28 => ⟨S_, .i32⟩
  | 29 => ⟨S_, .i32⟩
  | 30 => ⟨S1x3x64x18x96, .f32⟩
  | 31 => ⟨S3x64x18x96, .f32⟩
  | 32 => ⟨S_, .i32⟩
  | 33 => ⟨S_, .i32⟩
  | 34 => ⟨S_, .i32⟩
  | 35 => ⟨S_, .i32⟩
  | 36 => ⟨S1x3x18x64x64, .f32⟩
  | 37 => ⟨S3x18x64x64, .f32⟩
  | 38 => ⟨S_, .i32⟩
  | 39 => ⟨S_, .i32⟩
  | 40 => ⟨S_, .i32⟩
  | 41 => ⟨S_, .i32⟩
  | 42 => ⟨S1x3x64x18x96, .f32⟩
  | 43 => ⟨S3x64x18x96, .f32⟩
  | 44 => ⟨S_, .i32⟩
  | 45 => ⟨S_, .i32⟩
  | 46 => ⟨S_, .i32⟩
  | 47 => ⟨S1x3x18x96, .f32⟩
  | 48 => ⟨S3x18x96, .f32⟩
  | 49 => ⟨S3x18x128x64, .f32⟩
  | 50 => ⟨S3x64x18x128, .f32⟩
  | 51 => ⟨S3x64x18x128, .f32⟩
  | 52 => ⟨S3x18x128x64, .f32⟩
  | 53 => ⟨S3x64x18x128, .f32⟩
  | 54 => ⟨S3x18x128x64, .f32⟩
  | 55 => ⟨S3x64x18x128, .f32⟩
  | 56 => ⟨S3x64x18x128, .f32⟩
  | 57 => ⟨S_, .f32⟩
  | 58 => ⟨S3x64x18x128, .f32⟩
  | 59 => ⟨S3x64x18x128, .f32⟩
  | 60 => ⟨S3x18x96x1, .f32⟩
  | 61 => ⟨S3x18x96x128, .f32⟩
  | 62 => ⟨S3x18x96x128, .f32⟩
  | 63 => ⟨S3x18x96x128, .f32⟩
  | 64 => ⟨S3x18x96x128, .f32⟩
  | 65 => ⟨S1x3x64x18x128, .f32⟩
  | 66 => ⟨S_, .i32⟩
  | 67 => ⟨S_, .i32⟩
  | 68 => ⟨S_, .i32⟩
  | 69 => ⟨S_, .i32⟩
  | 70 => ⟨S10x3x64x18x128, .f32⟩
  | 71 => ⟨S_, .i32⟩
  | 72 => ⟨S_, .i32⟩
  | 73 => ⟨S3x10x64x18x128, .f32⟩
  | 74 => ⟨S3x640x2304, .f32⟩
  | 75 => ⟨S3x640x2304, .bf16⟩
  | _ => ⟨S3x640x18x96, .f32⟩

abbrev hbmTy (i : Nat) : BufTy := match i / 128 with
  | 0 => hbmTy0_0 i
  | 1 => hbmTy0_1 i
  | _ => ⟨S3x640x18x96, .f32⟩

abbrev bufTy : (tb : Table) → Fin (tcTables nBuf tb) → BufTy
  | .hbm, ⟨i, _⟩ => hbmTy i
  | .local _ .vmem, ⟨0, _⟩ => ⟨S3x640x18x96, .fp8e4m3⟩
  | .local _ .vmem, ⟨1, _⟩ => ⟨S3x640x18x96, .fp8e4m3⟩
  | .local _ .vmem, ⟨2, _⟩ => ⟨S3x640x18x96, .bf16⟩
  | .local _ .vmem, ⟨3, _⟩ => ⟨S3x640x18x96, .bf16⟩
  | _, _ => ⟨S3x640x18x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_0 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_c : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_cst_1 : Ref sig .tc := ⟨.hbm, 128, rfl⟩
abbrev main_v108 : Ref sig .tc := ⟨.hbm, 129, rfl⟩
abbrev main_c_2 : Ref sig .tc := ⟨.hbm, 130, rfl⟩
abbrev main_v109_0 : Ref sig .tc := ⟨.hbm, 131, rfl⟩
abbrev main_v109_1 : Ref sig .tc := ⟨.hbm, 132, rfl⟩
abbrev main_v109_2 : Ref sig .tc := ⟨.hbm, 133, rfl⟩
abbrev main_v109_3 : Ref sig .tc := ⟨.hbm, 134, rfl⟩
abbrev main_v109_4 : Ref sig .tc := ⟨.hbm, 135, rfl⟩
abbrev main_v109_5 : Ref sig .tc := ⟨.hbm, 136, rfl⟩
abbrev main_v109_6 : Ref sig .tc := ⟨.hbm, 137, rfl⟩
abbrev main_v109_7 : Ref sig .tc := ⟨.hbm, 138, rfl⟩
abbrev main_v109_8 : Ref sig .tc := ⟨.hbm, 139, rfl⟩
abbrev main_while0c_c_11 : Ref sig .tc := ⟨.hbm, 140, rfl⟩
abbrev main_while0c_v113 : Ref sig .tc := ⟨.hbm, 141, rfl⟩
abbrev main_while0b_call3_c : Ref sig .tc := ⟨.hbm, 142, rfl⟩
abbrev main_while0b_call3_c_0 : Ref sig .tc := ⟨.hbm, 143, rfl⟩
abbrev main_while0b_call3_c_1 : Ref sig .tc := ⟨.hbm, 144, rfl⟩
abbrev main_while0b_call3_c_2 : Ref sig .tc := ⟨.hbm, 145, rfl⟩
abbrev main_while0b_call3_v0 : Ref sig .tc := ⟨.hbm, 146, rfl⟩
abbrev main_while0b_v113 : Ref sig .tc := ⟨.hbm, 147, rfl⟩
abbrev main_while0b_call4_c : Ref sig .tc := ⟨.hbm, 148, rfl⟩
abbrev main_while0b_call4_c_0 : Ref sig .tc := ⟨.hbm, 149, rfl⟩
abbrev main_while0b_call4_c_1 : Ref sig .tc := ⟨.hbm, 150, rfl⟩
abbrev main_while0b_call4_c_2 : Ref sig .tc := ⟨.hbm, 151, rfl⟩
abbrev main_while0b_call4_v0 : Ref sig .tc := ⟨.hbm, 152, rfl⟩
abbrev main_while0b_v114 : Ref sig .tc := ⟨.hbm, 153, rfl⟩
abbrev main_while0b_call5_c : Ref sig .tc := ⟨.hbm, 154, rfl⟩
abbrev main_while0b_call5_c_0 : Ref sig .tc := ⟨.hbm, 155, rfl⟩
abbrev main_while0b_call5_c_1 : Ref sig .tc := ⟨.hbm, 156, rfl⟩
abbrev main_while0b_call5_c_2 : Ref sig .tc := ⟨.hbm, 157, rfl⟩
abbrev main_while0b_call5_v0 : Ref sig .tc := ⟨.hbm, 158, rfl⟩
abbrev main_while0b_v115 : Ref sig .tc := ⟨.hbm, 159, rfl⟩
abbrev main_while0b_call6_c : Ref sig .tc := ⟨.hbm, 160, rfl⟩
abbrev main_while0b_call6_c_0 : Ref sig .tc := ⟨.hbm, 161, rfl⟩
abbrev main_while0b_call6_c_1 : Ref sig .tc := ⟨.hbm, 162, rfl⟩
abbrev main_while0b_call6_c_2 : Ref sig .tc := ⟨.hbm, 163, rfl⟩
abbrev main_while0b_call6_v0 : Ref sig .tc := ⟨.hbm, 164, rfl⟩
abbrev main_while0b_v116 : Ref sig .tc := ⟨.hbm, 165, rfl⟩
abbrev main_while0b_call7_c : Ref sig .tc := ⟨.hbm, 166, rfl⟩
abbrev main_while0b_call7_c_0 : Ref sig .tc := ⟨.hbm, 167, rfl⟩
abbrev main_while0b_call7_c_1 : Ref sig .tc := ⟨.hbm, 168, rfl⟩
abbrev main_while0b_call7_c_2 : Ref sig .tc := ⟨.hbm, 169, rfl⟩
abbrev main_while0b_call7_v0 : Ref sig .tc := ⟨.hbm, 170, rfl⟩
abbrev main_while0b_v117 : Ref sig .tc := ⟨.hbm, 171, rfl⟩
abbrev main_while0b_call8_c : Ref sig .tc := ⟨.hbm, 172, rfl⟩
abbrev main_while0b_call8_c_0 : Ref sig .tc := ⟨.hbm, 173, rfl⟩
abbrev main_while0b_call8_c_1 : Ref sig .tc := ⟨.hbm, 174, rfl⟩
abbrev main_while0b_call8_v0 : Ref sig .tc := ⟨.hbm, 175, rfl⟩
abbrev main_while0b_v118 : Ref sig .tc := ⟨.hbm, 176, rfl⟩
abbrev main_while0b_v119 : Ref sig .tc := ⟨.hbm, 177, rfl⟩
abbrev main_while0b_v120 : Ref sig .tc := ⟨.hbm, 178, rfl⟩
abbrev main_while0b_v121 : Ref sig .tc := ⟨.hbm, 179, rfl⟩
abbrev main_while0b_v122 : Ref sig .tc := ⟨.hbm, 180, rfl⟩
abbrev main_while0b_v123 : Ref sig .tc := ⟨.hbm, 181, rfl⟩
abbrev main_while0b_v124 : Ref sig .tc := ⟨.hbm, 182, rfl⟩
abbrev main_while0b_v125 : Ref sig .tc := ⟨.hbm, 183, rfl⟩
abbrev main_while0b_v126 : Ref sig .tc := ⟨.hbm, 184, rfl⟩
abbrev main_while0b_cst_11 : Ref sig .tc := ⟨.hbm, 185, rfl⟩
abbrev main_while0b_v127 : Ref sig .tc := ⟨.hbm, 186, rfl⟩
abbrev main_while0b_v128 : Ref sig .tc := ⟨.hbm, 187, rfl⟩
abbrev main_while0b_v129 : Ref sig .tc := ⟨.hbm, 188, rfl⟩
abbrev main_while0b_v130 : Ref sig .tc := ⟨.hbm, 189, rfl⟩
abbrev main_while0b_v131 : Ref sig .tc := ⟨.hbm, 190, rfl⟩
abbrev main_while0b_v132 : Ref sig .tc := ⟨.hbm, 191, rfl⟩
abbrev main_while0b_v133 : Ref sig .tc := ⟨.hbm, 192, rfl⟩
abbrev main_while0b_call9_v0 : Ref sig .tc := ⟨.hbm, 193, rfl⟩
abbrev main_while0b_call9_c : Ref sig .tc := ⟨.hbm, 194, rfl⟩
abbrev main_while0b_call9_c_0 : Ref sig .tc := ⟨.hbm, 195, rfl⟩
abbrev main_while0b_call9_c_1 : Ref sig .tc := ⟨.hbm, 196, rfl⟩
abbrev main_while0b_call9_c_2 : Ref sig .tc := ⟨.hbm, 197, rfl⟩
abbrev main_while0b_v134 : Ref sig .tc := ⟨.hbm, 198, rfl⟩
abbrev main_while0b_c_12 : Ref sig .tc := ⟨.hbm, 199, rfl⟩
abbrev main_while0b_v135 : Ref sig .tc := ⟨.hbm, 200, rfl⟩
abbrev main_v110 : Ref sig .tc := ⟨.hbm, 201, rfl⟩
abbrev main_v111 : Ref sig .tc := ⟨.hbm, 202, rfl⟩
abbrev main_v112 : Ref sig .tc := ⟨.hbm, 203, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev main_while0_count : Scf.Loop 32 := ⟨0#32, 10#32, 1#32⟩

abbrev grid0 : Pipeline.Grid := .none

abbrev stage0_0 : Fin 1 → Memref sig .tc .vmem S3x640x18x96 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x640x18x96 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x640x18x96 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x640x18x96 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Plain.Runs.lean ====
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 7).trans (((dats 0 c).arrAt_in 7 rfl _).trans ((hA c 7).trans (V_main_arg7 m c)))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 5) — by arithmetic of the point. -/
theorem hcond0_0 : ∀ t : Fin cfg0.N, cond0_0 (grid0.coords t) ↔ t.val % 5 = 0 :=
  (fun t => by
    have ht : t.val < 15 := Nat.lt_of_lt_of_eq t.isLt N_0
    have e0 : (grid0.coords t 0).val = t.val / 5 % 3 := Pipeline.Grid.coords_val t 0 (by decide) rfl
    have e1 : (grid0.coords t 1).val = t.val / 1 % 5 := Pipeline.Grid.coords_val t 1 (by decide) rfl
    simp only [cond0_0, e0, e1]
    word_cmp
   : ∀ t : Fin grid0.N, cond0_0 (grid0.coords t) ↔ t.val % 5 = 0)

/-! ## The kernel body on any staging memrefs: a subtype the run finds -/

/-- One staging buffer of output window 8, through which its contents are stated (`View.read_writes_of_cover`: the
    choice does not matter). -/
abbrev VO0_8 : View sig .tc .vmem S1x128x2304 .bf16 := (Memref.whole cc0_stg8_0 : Memref sig .tc .vmem S1x128x2304 .bf16).view
/-- One staging buffer of output window 9, through which its contents are stated (`View.read_writes_of_cover`: the
    choice does not matter). -/
abbrev VO0_9 : View sig .tc .vmem S1x18x96x128 .f32 := (Memref.whole cc0_stg9_0 : Memref sig .tc .vmem S1x18x96x128 .f32).view
/-- Each window's current staging memref at point `t`, spelled as the pipeline passes it (`bodyAt0`), and its wholeness. -/
abbrev ms0_0 (t : Fin cfg0.N) : Memref sig .tc .vmem S1x18x96x128 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x18x96x128 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x18x96x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x18x128x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x18x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x18x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x18x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x18x96x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128x2304 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x18x96x128 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S18x96x128 .f32 := Memref.whole cc0_scratch0
/-- The scratch `arg12` the kernel carries between points, as a view: what it holds is stated through it. -/
abbrev VS0_0 : View sig .tc .vmem S18x96x128 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Own

end
-- ==== Proof.Plain.Indep.lean ====
module

public import proofs.«01_k».proof.Proof.Gen.Kernel.Loops

@[expose] public section

set_option maxRecDepth 16384

noncomputable section

namespace Cert.Kernel.Own

open Idealize.ShloMosaic Idealize.ShloMosaic.TcCoe Idealize.ShloMosaic.Tactic
open Idealize.SL Idealize.SL.RA Idealize.SL.BI
open Idealize.SL.Sem
open Cert.Kernel Cert.Kernel.Gen

variable {F : FTy → Type} [FloatOps F] [BitOps F]

/-- What a trip of the head loop stores does not depend on what the output block held before: the body loads the
    rows it is about to overwrite, and uses none of them. -/
theorem trip_indep (𝒱 : Variants) (c : Dev nD) (bd : Option 𝒱.V) (i : grid0.Coords) (arg2 : Memref sig .tc .vmem S1x18x96x128 .fp8e4m3) (harg2 : arg2.IsWhole) (arg3 : Memref sig .tc .vmem S1x18x96x128 .fp8e4m3) (harg3 : arg3.IsWhole) (arg4 : Memref sig .tc .vmem S1x18x96x128 .f32) (harg4 : arg4.IsWhole) (arg5 : Memref sig .tc .vmem S1x18x128x128 .bf16) (harg5 : arg5.IsWhole) (arg6 : Memref sig .tc .vmem S1x18x128 .f32) (harg6 : arg6.IsWhole) (arg7 : Memref sig .tc .vmem S1x18x128 .f32) (harg7 : arg7.IsWhole) (arg8 : Memref sig .tc .vmem S1x18x128 .f32) (harg8 : arg8.IsWhole) (arg9 : Memref sig .tc .vmem S1x18x96x128 .f32) (harg9 : arg9.IsWhole) (arg10 : Memref sig .tc .vmem S1x128x2304 .bf16) (harg10 : arg10.IsWhole) (arg11 : Memref sig .tc .vmem S1x18x96x128 .f32) (harg11 : arg11.IsWhole) (arg12 : Memref sig .tc .vmem S18x96x128 .f32) (harg12 : arg12.IsWhole) (v66 : FVec F S128x256 .bf16) (v67 : FVec F S256x256 .bf16) (v86 : IVec S64x128 1) (v87 : IVec S64x128 1) (v90 : IVec S64x128 1) (v112 : FVec F S32x128 .f32) (v138 : IVec S32x128 32) (v178 : IVec S32x128 32) (v179 : IVec S32x128 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin k0_t1_loop.trips) (f_arg10 : BufTy.Contents (Elt F) arg10.view.ty) (f_arg12 : BufTy.Contents (Elt F) arg12.view.ty) (g_arg10 : BufTy.Contents (Elt F) arg10.view.ty) :
    tripL_k0_t1 (F := F) 𝒱 c bd i arg2 harg2 arg3 harg3 arg4 harg4 arg5 harg5 arg6 harg6 arg7 harg7 arg8 harg8 arg9 harg9 arg10 harg10 arg11 harg11 arg12 harg12 v66 v67 v86 v87 v90 v112 v138 v178 v179 X_arg2 X_arg3 X_arg4 X_arg5 X_arg6 X_arg7 X_arg8 k f_arg10 f_arg12 = tripL_k0_t1 (F := F) 𝒱 c bd i arg2 harg2 arg3 harg3 arg4 harg4 arg5 harg5 arg6 harg6 arg7 harg7 arg8 harg8 arg9 harg9 arg10 harg10 arg11 harg11 arg12 harg12 v66 v67 v86 v87 v90 v112 v138 v178 v179 X_arg2 X_arg3 X_arg4 X_arg5 X_arg6 X_arg7 X_arg8 k g_arg10 f_arg12 := by
  unfold tripL_k0_t1 trip_k0_t1
  rfl

/-- So what all the trips store does not depend on it either: it may be taken as junk. -/
theorem pb_indep (𝒱 : Variants) (c : Dev nD) (bd : Option 𝒱.V) (i : grid0.Coords) (arg2 : Memref sig .tc .vmem S1x18x96x128 .fp8e4m3) (harg2 : arg2.IsWhole) (arg3 : Memref sig .tc .vmem S1x18x96x128 .fp8e4m3) (harg3 : arg3.IsWhole) (arg4 : Memref sig .tc .vmem S1x18x96x128 .f32) (harg4 : arg4.IsWhole) (arg5 : Memref sig .tc .vmem S1x18x128x128 .bf16) (harg5 : arg5.IsWhole) (arg6 : Memref sig .tc .vmem S1x18x128 .f32) (harg6 : arg6.IsWhole) (arg7 : Memref sig .tc .vmem S1x18x128 .f32) (harg7 : arg7.IsWhole) (arg8 : Memref sig .tc .vmem S1x18x128 .f32) (harg8 : arg8.IsWhole) (arg9 : Memref sig .tc .vmem S1x18x96x128 .f32) (harg9 : arg9.IsWhole) (arg10 : Memref sig .tc .vmem S1x128x2304 .bf16) (harg10 : arg10.IsWhole) (arg11 : Memref sig .tc .vmem S1x18x96x128 .f32) (harg11 : arg11.IsWhole) (arg12 : Memref sig .tc .vmem S18x96x128 .f32) (harg12 : arg12.IsWhole) (v66 : FVec F S128x256 .bf16) (v67 : FVec F S256x256 .bf16) (v86 : IVec S64x128 1) (v87 : IVec S64x128 1) (v90 : IVec S64x128 1) (v112 : FVec F S32x128 .f32) (v138 : IVec S32x128 32) (v178 : IVec S32x128 32) (v179 : IVec S32x128 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (G_arg10 : BufTy.Contents (Elt F) arg10.view.ty) (G_arg12 : BufTy.Contents (Elt F) arg12.view.ty) (n : ℕ) :
    pb_k0_t1 (F := F) 𝒱 c bd i arg2 harg2 arg3 harg3 arg4 harg4 arg5 harg5 arg6 harg6 arg7 harg7 arg8 harg8 arg9 harg9 arg10 harg10 arg11 harg11 arg12 harg12 v66 v67 v86 v87 v90 v112 v138 v178 v179 X_arg2 X_arg3 X_arg4 X_arg5 X_arg6 X_arg7 X_arg8 G_arg10 G_arg12 n = pb_k0_t1 (F := F) 𝒱 c bd i arg2 harg2 arg3 harg3 arg4 harg4 arg5 harg5 arg6 harg6 arg7 harg7 arg8 harg8 arg9 harg9 arg10 harg10 arg11 harg11 arg12 harg12 v66 v67 v86 v87 v90 v112 v138 v178 v179 X_arg2 X_arg3 X_arg4 X_arg5 X_arg6 X_arg7 X_arg8 (arg10.view.junk (Val := Elt F)) G_arg12 n := by
  induction n with
  | zero => rfl
  | succ n ih =>
    rw [pb_k0_t1.eq_2, pb_k0_t1.eq_2, ← ih]
    unfold pb_k0_t1Step
    split
    · rw [trip_indep]
    · rfl

end Cert.Kernel.Own

end
-- ==== Proof.Plain.RunA.lean ====
module
public import proofs.«01_k».proof.Proof.Plain.Runs
public import proofs.«01_k».proof.Proof.Plain.Indep

@[expose] public section

-- membership in a rectangle of production extents (`View.cover_of_tiled`): the elaborator's structural look
-- recurses once per coordinate of the long axes
set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0, 5, 10), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1x18x96x128 .fp8e4m3) (harg2 : arg2.IsWhole) (arg3 : Memref sig .tc .vmem S1x18x96x128 .fp8e4m3) (harg3 : arg3.IsWhole) (arg4 : Memref sig .tc .vmem S1x18x96x128 .f32) (harg4 : arg4.IsWhole) (arg5 : Memref sig .tc .vmem S1x18x128x128 .bf16) (harg5 : arg5.IsWhole) (arg6 : Memref sig .tc .vmem S1x18x128 .f32) (harg6 : arg6.IsWhole) (arg7 : Memref sig .tc .vmem S1x18x128 .f32) (harg7 : arg7.IsWhole) (arg8 : Memref sig .tc .vmem S1x18x128 .f32) (harg8 : arg8.IsWhole) (arg9 : Memref sig .tc .vmem S1x18x96x128 .f32) (harg9 : arg9.IsWhole) (arg10 : Memref sig .tc .vmem S1x128x2304 .bf16) (harg10 : arg10.IsWhole) (arg11 : Memref sig .tc .vmem S1x18x96x128 .f32) (harg11 : arg11.IsWhole) (arg12 : Memref sig .tc .vmem S18x96x128 .f32) (harg12 : arg12.IsWhole) (hc0 : cond0_0 i)
    (x0 : Vec F S1x18x96x128 .fp8e4m3) (x1 : Vec F S1x18x96x128 .fp8e4m3) (x2 : Vec F S1x18x96x128 .f32) (x3 : Vec F S1x18x128x128 .bf16) (x4 : Vec F S1x18x128 .f32) (x5 : Vec F S1x18x128 .f32) (x6 : Vec F S1x18x128 .f32) (x7 : Vec F S1x18x96x128 .f32) :
    Σ' (L8 : List (View.Piece (Elt F) S1x128x2304 .bf16)), Σ' (L9 : List (View.Piece (Elt F) S1x18x96x128 .f32)), { LS0 : List (View.Piece (Elt F) S18x96x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc0_kda i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_kda_eq_skeleton]; unfold cc0_kda_skel
    simp only [k0_part24_eq_skeleton, k0_part25_eq_skeleton, k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    unfold kernelRun0_A.sl.r_2 kernelRun0_A.sl.v214
    rw [pb_indep (G_arg10 := f8)]
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    iexists _; iexact HS0

end Cert.Kernel.Own

end
-- ==== Proof.Plain.RunB.lean ====
module

public import proofs.«01_k».proof.Proof.Plain.RunA

@[expose] public section

-- membership in a rectangle of production extents (`View.cover_of_tiled`): the elaborator's structural look
-- recurses once per coordinate of the long axes
set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 14: 12 of 15), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1x18x96x128 .fp8e4m3) (harg2 : arg2.IsWhole) (arg3 : Memref sig .tc .vmem S1x18x96x128 .fp8e4m3) (harg3 : arg3.IsWhole) (arg4 : Memref sig .tc .vmem S1x18x96x128 .f32) (harg4 : arg4.IsWhole) (arg5 : Memref sig .tc .vmem S1x18x128x128 .bf16) (harg5 : arg5.IsWhole) (arg6 : Memref sig .tc .vmem S1x18x128 .f32) (harg6 : arg6.IsWhole) (arg7 : Memref sig .tc .vmem S1x18x128 .f32) (harg7 : arg7.IsWhole) (arg8 : Memref sig .tc .vmem S1x18x128 .f32) (harg8 : arg8.IsWhole) (arg9 : Memref sig .tc .vmem S1x18x96x128 .f32) (harg9 : arg9.IsWhole) (arg10 : Memref sig .tc .vmem S1x128x2304 .bf16) (harg10 : arg10.IsWhole) (arg11 : Memref sig .tc .vmem S1x18x96x128 .f32) (harg11 : arg11.IsWhole) (arg12 : Memref sig .tc .vmem S18x96x128 .f32) (harg12 : arg12.IsWhole) (hc0 : ¬cond0_0 i)
    (x0 : Vec F S1x18x96x128 .fp8e4m3) (x1 : Vec F S1x18x96x128 .fp8e4m3) (x2 : Vec F S1x18x96x128 .f32) (x3 : Vec F S1x18x128x128 .bf16) (x4 : Vec F S1x18x128 .f32) (x5 : Vec F S1x18x128 .f32) (x6 : Vec F S1x18x128 .f32) (x7 : Vec F S1x18x96x128 .f32) (xs0 : Vec F S18x96x128 .f32) :
    Σ' (L8 : List (View.Piece (Elt F) S1x128x2304 .bf16)), Σ' (L9 : List (View.Piece (Elt F) S1x18x96x128 .f32)), { LS0 : List (View.Piece (Elt F) S18x96x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc0_kda i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_kda_eq_skeleton]; unfold cc0_kda_skel
    simp only [k0_part24_eq_skeleton, k0_part25_eq_skeleton, k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hfs0
    sl_exec (disch := first | sl_exact hc0)
    unfold kernelRun0_B.sl.r_2 kernelRun0_B.sl.v214
    rw [pb_indep (G_arg10 := f8)]
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    iexists _; iexact HS0

end Cert.Kernel.Own

end
-- ==== Proof.Plain.Frame.lean ====
module

public import proofs.«01_k».proof.Proof.Plain.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-- Case A's pieces for output 8 tile its block (36 stores of `S1x64x128`, checked by the kernel's evaluation: Lib/Ring.lean `Piece.tiledL`, linear in the pieces, through a loop's `@[irreducible]` trip theorem too), so they cover it. -/
theorem cover0_A_8 (c : Dev nD) (i : grid0.Coords) (arg2 : Memref sig .tc .vmem S1x18x96x128 .fp8e4m3) (harg2 : arg2.IsWhole) (arg3 : Memref sig .tc .vmem S1x18x96x128 .fp8e4m3) (harg3 : arg3.IsWhole) (arg4 : Memref sig .tc .vmem S1x18x96x128 .f32) (harg4 : arg4.IsWhole) (arg5 : Memref sig .tc .vmem S1x18x128x128 .bf16) (harg5 : arg5.IsWhole) (arg6 : Memref sig .tc .vmem S1x18x128 .f32) (harg6 : arg6.IsWhole) (arg7 : Memref sig .tc .vmem S1x18x128 .f32) (harg7 : arg7.IsWhole) (arg8 : Memref sig .tc .vmem S1x18x128 .f32) (harg8 : arg8.IsWhole) (arg9 : Memref sig .tc .vmem S1x18x96x128 .f32) (harg9 : arg9.IsWhole) (arg10 : Memref sig .tc .vmem S1x128x2304 .bf16) (harg10 : arg10.IsWhole) (arg11 : Memref sig .tc .vmem S1x18x96x128 .f32) (harg11 : arg11.IsWhole) (arg12 : Memref sig .tc .vmem S18x96x128 .f32) (harg12 : arg12.IsWhole) (hc0 : cond0_0 i)
    (x0 : Vec F S1x18x96x128 .fp8e4m3) (x1 : Vec F S1x18x96x128 .fp8e4m3) (x2 : Vec F S1x18x96x128 .f32) (x3 : Vec F S1x18x128x128 .bf16) (x4 : Vec F S1x18x128 .f32) (x5 : Vec F S1x18x128 .f32) (x6 : Vec F S1x18x128 .f32) (x7 : Vec F S1x18x96x128 .f32) (y : S1x128x2304.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).1 S1x64x128.size (by sl_kernel_rfl) y

/-- What case A leaves in output 8's staging buffer: its pieces read back over junk. -/
def out0_A_8 (c : Dev nD) (i : grid0.Coords) (arg2 : Memref sig .tc .vmem S1x18x96x128 .fp8e4m3) (harg2 : arg2.IsWhole) (arg3 : Memref sig .tc .vmem S1x18x96x128 .fp8e4m3) (harg3 : arg3.IsWhole) (arg4 : Memref sig .tc .vmem S1x18x96x128 .f32) (harg4 : arg4.IsWhole) (arg5 : Memref sig .tc .vmem S1x18x128x128 .bf16) (harg5 : arg5.IsWhole) (arg6 : Memref sig .tc .vmem S1x18x128 .f32) (harg6 : arg6.IsWhole) (arg7 : Memref sig .tc .vmem S1x18x128 .f32) (harg7 : arg7.IsWhole) (arg8 : Memref sig .tc .vmem S1x18x128 .f32) (harg8 : arg8.IsWhole) (arg9 : Memref sig .tc .vmem S1x18x96x128 .f32) (harg9 : arg9.IsWhole) (arg10 : Memref sig .tc .vmem S1x128x2304 .bf16) (harg10 : arg10.IsWhole) (arg11 : Memref sig .tc .vmem S1x18x96x128 .f32) (harg11 : arg11.IsWhole) (arg12 : Memref sig .tc .vmem S18x96x128 .f32) (harg12 : arg12.IsWhole) (hc0 : cond0_0 i)
    (x0 : Vec F S1x18x96x128 .fp8e4m3) (x1 : Vec F S1x18x96x128 .fp8e4m3) (x2 : Vec F S1x18x96x128 .f32) (x3 : Vec F S1x18x128x128 .bf16) (x4 : Vec F S1x18x128 .f32) (x5 : Vec F S1x18x128 .f32) (x6 : Vec F S1x18x128 .f32) (x7 : Vec F S1x18x96x128 .f32) : Vec F S1x128x2304 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).1)

/-- Case A's pieces for output 9 tile its block (1 store of `S1x18x96x128`, checked by the kernel's evaluation: Lib/Ring.lean `Piece.tiledL`, linear in the pieces, through a loop's `@[irreducible]` trip theorem too), so they cover it. -/
theorem cover0_A_9 (c : Dev nD) (i : grid0.Coords) (arg2 : Memref sig .tc .vmem S1x18x96x128 .fp8e4m3) (harg2 : arg2.IsWhole) (arg3 : Memref sig .tc .vmem S1x18x96x128 .fp8e4m3) (harg3 : arg3.IsWhole) (arg4 : Memref sig .tc .vmem S1x18x96x128 .f32) (harg4 : arg4.IsWhole) (arg5 : Memref sig .tc .vmem S1x18x128x128 .bf16) (harg5 : arg5.IsWhole) (arg6 : Memref sig .tc .vmem S1x18x128 .f32) (harg6 : arg6.IsWhole) (arg7 : Memref sig .tc .vmem S1x18x128 .f32) (harg7 : arg7.IsWhole) (arg8 : Memref sig .tc .vmem S1x18x128 .f32) (harg8 : arg8.IsWhole) (arg9 : Memref sig .tc .vmem S1x18x96x128 .f32) (harg9 : arg9.IsWhole) (arg10 : Memref sig .tc .vmem S1x128x2304 .bf16) (harg10 : arg10.IsWhole) (arg11 : Memref sig .tc .vmem S1x18x96x128 .f32) (harg11 : arg11.IsWhole) (arg12 : Memref sig .tc .vmem S18x96x128 .f32) (harg12 : arg12.IsWhole) (hc0 : cond0_0 i)
    (x0 : Vec F S1x18x96x128 .fp8e4m3) (x1 : Vec F S1x18x96x128 .fp8e4m3) (x2 : Vec F S1x18x96x128 .f32) (x3 : Vec F S1x18x128x128 .bf16) (x4 : Vec F S1x18x128 .f32) (x5 : Vec F S1x18x128 .f32) (x6 : Vec F S1x18x128 .f32) (x7 : Vec F S1x18x96x128 .f32) (y : S1x18x96x128.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.1 S1x18x96x128.size (by sl_kernel_rfl) y

/-- What case A leaves in output 9's staging buffer: its pieces read back over junk. -/
def out0_A_9 (c : Dev nD) (i : grid0.Coords) (arg2 : Memref sig .tc .vmem S1x18x96x128 .fp8e4m3) (harg2 : arg2.IsWhole) (arg3 : Memref sig .tc .vmem S1x18x96x128 .fp8e4m3) (harg3 : arg3.IsWhole) (arg4 : Memref sig .tc .vmem S1x18x96x128 .f32) (harg4 : arg4.IsWhole) (arg5 : Memref sig .tc .vmem S1x18x128x128 .bf16) (harg5 : arg5.IsWhole) (arg6 : Memref sig .tc .vmem S1x18x128 .f32) (harg6 : arg6.IsWhole) (arg7 : Memref sig .tc .vmem S1x18x128 .f32) (harg7 : arg7.IsWhole) (arg8 : Memref sig .tc .vmem S1x18x128 .f32) (harg8 : arg8.IsWhole) (arg9 : Memref sig .tc .vmem S1x18x96x128 .f32) (harg9 : arg9.IsWhole) (arg10 : Memref sig .tc .vmem S1x128x2304 .bf16) (harg10 : arg10.IsWhole) (arg11 : Memref sig .tc .vmem S1x18x96x128 .f32) (harg11 : arg11.IsWhole) (arg12 : Memref sig .tc .vmem S18x96x128 .f32) (harg12 : arg12.IsWhole) (hc0 : cond0_0 i)
    (x0 : Vec F S1x18x96x128 .fp8e4m3) (x1 : Vec F S1x18x96x128 .fp8e4m3) (x2 : Vec F S1x18x96x128 .f32) (x3 : Vec F S1x18x128x128 .bf16) (x4 : Vec F S1x18x128 .f32) (x5 : Vec F S1x18x128 .f32) (x6 : Vec F S1x18x128 .f32) (x7 : Vec F S1x18x96x128 .f32) : Vec F S1x18x96x128 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.1)

/-- Case A's pieces for scratch `arg12`, which the kernel carries between points, cover it: one of them a store of the WHOLE buffer (Lib/Ring.lean `sl_whole_mem`). -/
theorem scover0_A_0 (c : Dev nD) (i : grid0.Coords) (arg2 : Memref sig .tc .vmem S1x18x96x128 .fp8e4m3) (harg2 : arg2.IsWhole) (arg3 : Memref sig .tc .vmem S1x18x96x128 .fp8e4m3) (harg3 : arg3.IsWhole) (arg4 : Memref sig .tc .vmem S1x18x96x128 .f32) (harg4 : arg4.IsWhole) (arg5 : Memref sig .tc .vmem S1x18x128x128 .bf16) (harg5 : arg5.IsWhole) (arg6 : Memref sig .tc .vmem S1x18x128 .f32) (harg6 : arg6.IsWhole) (arg7 : Memref sig .tc .vmem S1x18x128 .f32) (harg7 : arg7.IsWhole) (arg8 : Memref sig .tc .vmem S1x18x128 .f32) (harg8 : arg8.IsWhole) (arg9 : Memref sig .tc .vmem S1x18x96x128 .f32) (harg9 : arg9.IsWhole) (arg10 : Memref sig .tc .vmem S1x128x2304 .bf16) (harg10 : arg10.IsWhole) (arg11 : Memref sig .tc .vmem S1x18x96x128 .f32) (harg11 : arg11.IsWhole) (arg12 : Memref sig .tc .vmem S18x96x128 .f32) (harg12 : arg12.IsWhole) (hc0 : cond0_0 i)
    (x0 : Vec F S1x18x96x128 .fp8e4m3) (x1 : Vec F S1x18x96x128 .fp8e4m3) (x2 : Vec F S1x18x96x128 .f32) (x3 : Vec F S1x18x128x128 .bf16) (x4 : Vec F S1x18x128 .f32) (x5 : Vec F S1x18x128 .f32) (x6 : Vec F S1x18x128 .f32) (x7 : Vec F S1x18x96x128 .f32) (y : S18x96x128.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.2.1 (by sl_whole_mem) y

/-- What case A leaves in scratch `arg12`: its pieces read back over junk. -/
def sout0_A_0 (c : Dev nD) (i : grid0.Coords) (arg2 : Memref sig .tc .vmem S1x18x96x128 .fp8e4m3) (harg2 : arg2.IsWhole) (arg3 : Memref sig .tc .vmem S1x18x96x128 .fp8e4m3) (harg3 : arg3.IsWhole) (arg4 : Memref sig .tc .vmem S1x18x96x128 .f32) (harg4 : arg4.IsWhole) (arg5 : Memref sig .tc .vmem S1x18x128x128 .bf16) (harg5 : arg5.IsWhole) (arg6 : Memref sig .tc .vmem S1x18x128 .f32) (harg6 : arg6.IsWhole) (arg7 : Memref sig .tc .vmem S1x18x128 .f32) (harg7 : arg7.IsWhole) (arg8 : Memref sig .tc .vmem S1x18x128 .f32) (harg8 : arg8.IsWhole) (arg9 : Memref sig .tc .vmem S1x18x96x128 .f32) (harg9 : arg9.IsWhole) (arg10 : Memref sig .tc .vmem S1x128x2304 .bf16) (harg10 : arg10.IsWhole) (arg11 : Memref sig .tc .vmem S1x18x96x128 .f32) (harg11 : arg11.IsWhole) (arg12 : Memref sig .tc .vmem S18x96x128 .f32) (harg12 : arg12.IsWhole) (hc0 : cond0_0 i)
    (x0 : Vec F S1x18x96x128 .fp8e4m3) (x1 : Vec F S1x18x96x128 .fp8e4m3) (x2 : Vec F S1x18x96x128 .f32) (x3 : Vec F S1x18x128x128 .bf16) (x4 : Vec F S1x18x128 .f32) (x5 : Vec F S1x18x128 .f32) (x6 : Vec F S1x18x128 .f32) (x7 : Vec F S1x18x96x128 .f32) : Vec F S18x96x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.2.1)

/-- Case B's pieces for output 8 tile its block (36 stores of `S1x64x128`, checked by the kernel's evaluation: Lib/Ring.lean `Piece.tiledL`, linear in the pieces, through a loop's `@[irreducible]` trip theorem too), so they cover it. -/
theorem cover0_B_8 (c : Dev nD) (i : grid0.Coords) (arg2 : Memref sig .tc .vmem S1x18x96x128 .fp8e4m3) (harg2 : arg2.IsWhole) (arg3 : Memref sig .tc .vmem S1x18x96x128 .fp8e4m3) (harg3 : arg3.IsWhole) (arg4 : Memref sig .tc .vmem S1x18x96x128 .f32) (harg4 : arg4.IsWhole) (arg5 : Memref sig .tc .vmem S1x18x128x128 .bf16) (harg5 : arg5.IsWhole) (arg6 : Memref sig .tc .vmem S1x18x128 .f32) (harg6 : arg6.IsWhole) (arg7 : Memref sig .tc .vmem S1x18x128 .f32) (harg7 : arg7.IsWhole) (arg8 : Memref sig .tc .vmem S1x18x128 .f32) (harg8 : arg8.IsWhole) (arg9 : Memref sig .tc .vmem S1x18x96x128 .f32) (harg9 : arg9.IsWhole) (arg10 : Memref sig .tc .vmem S1x128x2304 .bf16) (harg10 : arg10.IsWhole) (arg11 : Memref sig .tc .vmem S1x18x96x128 .f32) (harg11 : arg11.IsWhole) (arg12 : Memref sig .tc .vmem S18x96x128 .f32) (harg12 : arg12.IsWhole) (hc0 : ¬cond0_0 i)
    (x0 : Vec F S1x18x96x128 .fp8e4m3) (x1 : Vec F S1x18x96x128 .fp8e4m3) (x2 : Vec F S1x18x96x128 .f32) (x3 : Vec F S1x18x128x128 .bf16) (x4 : Vec F S1x18x128 .f32) (x5 : Vec F S1x18x128 .f32) (x6 : Vec F S1x18x128 .f32) (x7 : Vec F S1x18x96x128 .f32) (xs0 : Vec F S18x96x128 .f32) (y : S1x128x2304.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xs0).1 S1x64x128.size (by sl_kernel_rfl) y

/-- What case B leaves in output 8's staging buffer: its pieces read back over junk. -/
def out0_B_8 (c : Dev nD) (i : grid0.Coords) (arg2 : Memref sig .tc .vmem S1x18x96x128 .fp8e4m3) (harg2 : arg2.IsWhole) (arg3 : Memref sig .tc .vmem S1x18x96x128 .fp8e4m3) (harg3 : arg3.IsWhole) (arg4 : Memref sig .tc .vmem S1x18x96x128 .f32) (harg4 : arg4.IsWhole) (arg5 : Memref sig .tc .vmem S1x18x128x128 .bf16) (harg5 : arg5.IsWhole) (arg6 : Memref sig .tc .vmem S1x18x128 .f32) (harg6 : arg6.IsWhole) (arg7 : Memref sig .tc .vmem S1x18x128 .f32) (harg7 : arg7.IsWhole) (arg8 : Memref sig .tc .vmem S1x18x128 .f32) (harg8 : arg8.IsWhole) (arg9 : Memref sig .tc .vmem S1x18x96x128 .f32) (harg9 : arg9.IsWhole) (arg10 : Memref sig .tc .vmem S1x128x2304 .bf16) (harg10 : arg10.IsWhole) (arg11 : Memref sig .tc .vmem S1x18x96x128 .f32) (harg11 : arg11.IsWhole) (arg12 : Memref sig .tc .vmem S18x96x128 .f32) (harg12 : arg12.IsWhole) (hc0 : ¬cond0_0 i)
    (x0 : Vec F S1x18x96x128 .fp8e4m3) (x1 : Vec F S1x18x96x128 .fp8e4m3) (x2 : Vec F S1x18x96x128 .f32) (x3 : Vec F S1x18x128x128 .bf16) (x4 : Vec F S1x18x128 .f32) (x5 : Vec F S1x18x128 .f32) (x6 : Vec F S1x18x128 .f32) (x7 : Vec F S1x18x96x128 .f32) (xs0 : Vec F S18x96x128 .f32) : Vec F S1x128x2304 .bf16 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xs0).1)

/-- Case B's pieces for output 9 tile its block (1 store of `S1x18x96x128`, checked by the kernel's evaluation: Lib/Ring.lean `Piece.tiledL`, linear in the pieces, through a loop's `@[irreducible]` trip theorem too), so they cover it. -/
theorem cover0_B_9 (c : Dev nD) (i : grid0.Coords) (arg2 : Memref sig .tc .vmem S1x18x96x128 .fp8e4m3) (harg2 : arg2.IsWhole) (arg3 : Memref sig .tc .vmem S1x18x96x128 .fp8e4m3) (harg3 : arg3.IsWhole) (arg4 : Memref sig .tc .vmem S1x18x96x128 .f32) (harg4 : arg4.IsWhole) (arg5 : Memref sig .tc .vmem S1x18x128x128 .bf16) (harg5 : arg5.IsWhole) (arg6 : Memref sig .tc .vmem S1x18x128 .f32) (harg6 : arg6.IsWhole) (arg7 : Memref sig .tc .vmem S1x18x128 .f32) (harg7 : arg7.IsWhole) (arg8 : Memref sig .tc .vmem S1x18x128 .f32) (harg8 : arg8.IsWhole) (arg9 : Memref sig .tc .vmem S1x18x96x128 .f32) (harg9 : arg9.IsWhole) (arg10 : Memref sig .tc .vmem S1x128x2304 .bf16) (harg10 : arg10.IsWhole) (arg11 : Memref sig .tc .vmem S1x18x96x128 .f32) (harg11 : arg11.IsWhole) (arg12 : Memref sig .tc .vmem S18x96x128 .f32) (harg12 : arg12.IsWhole) (hc0 : ¬cond0_0 i)
    (x0 : Vec F S1x18x96x128 .fp8e4m3) (x1 : Vec F S1x18x96x128 .fp8e4m3) (x2 : Vec F S1x18x96x128 .f32) (x3 : Vec F S1x18x128x128 .bf16) (x4 : Vec F S1x18x128 .f32) (x5 : Vec F S1x18x128 .f32) (x6 : Vec F S1x18x128 .f32) (x7 : Vec F S1x18x96x128 .f32) (xs0 : Vec F S18x96x128 .f32) (y : S1x18x96x128.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xs0).2.1 S1x18x96x128.size (by sl_kernel_rfl) y

/-- What case B leaves in output 9's staging buffer: its pieces read back over junk. -/
def out0_B_9 (c : Dev nD) (i : grid0.Coords) (arg2 : Memref sig .tc .vmem S1x18x96x128 .fp8e4m3) (harg2 : arg2.IsWhole) (arg3 : Memref sig .tc .vmem S1x18x96x128 .fp8e4m3) (harg3 : arg3.IsWhole) (arg4 : Memref sig .tc .vmem S1x18x96x128 .f32) (harg4 : arg4.IsWhole) (arg5 : Memref sig .tc .vmem S1x18x128x128 .bf16) (harg5 : arg5.IsWhole) (arg6 : Memref sig .tc .vmem S1x18x128 .f32) (harg6 : arg6.IsWhole) (arg7 : Memref sig .tc .vmem S1x18x128 .f32) (harg7 : arg7.IsWhole) (arg8 : Memref sig .tc .vmem S1x18x128 .f32) (harg8 : arg8.IsWhole) (arg9 : Memref sig .tc .vmem S1x18x96x128 .f32) (harg9 : arg9.IsWhole) (arg10 : Memref sig .tc .vmem S1x128x2304 .bf16) (harg10 : arg10.IsWhole) (arg11 : Memref sig .tc .vmem S1x18x96x128 .f32) (harg11 : arg11.IsWhole) (arg12 : Memref sig .tc .vmem S18x96x128 .f32) (harg12 : arg12.IsWhole) (hc0 : ¬cond0_0 i)
    (x0 : Vec F S1x18x96x128 .fp8e4m3) (x1 : Vec F S1x18x96x128 .fp8e4m3) (x2 : Vec F S1x18x96x128 .f32) (x3 : Vec F S1x18x128x128 .bf16) (x4 : Vec F S1x18x128 .f32) (x5 : Vec F S1x18x128 .f32) (x6 : Vec F S1x18x128 .f32) (x7 : Vec F S1x18x96x128 .f32) (xs0 : Vec F S18x96x128 .f32) : Vec F S1x18x96x128 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xs0).2.1)

/-- Case B's pieces for scratch `arg12`, which the kernel carries between points, cover it: 36 pieces of `S1x96x128` tiling it (Lib/Ring.lean `Piece.tiledL`). -/
theorem scover0_B_0 (c : Dev nD) (i : grid0.Coords) (arg2 : Memref sig .tc .vmem S1x18x96x128 .fp8e4m3) (harg2 : arg2.IsWhole) (arg3 : Memref sig .tc .vmem S1x18x96x128 .fp8e4m3) (harg3 : arg3.IsWhole) (arg4 : Memref sig .tc .vmem S1x18x96x128 .f32) (harg4 : arg4.IsWhole) (arg5 : Memref sig .tc .vmem S1x18x128x128 .bf16) (harg5 : arg5.IsWhole) (arg6 : Memref sig .tc .vmem S1x18x128 .f32) (harg6 : arg6.IsWhole) (arg7 : Memref sig .tc .vmem S1x18x128 .f32) (harg7 : arg7.IsWhole) (arg8 : Memref sig .tc .vmem S1x18x128 .f32) (harg8 : arg8.IsWhole) (arg9 : Memref sig .tc .vmem S1x18x96x128 .f32) (harg9 : arg9.IsWhole) (arg10 : Memref sig .tc .vmem S1x128x2304 .bf16) (harg10 : arg10.IsWhole) (arg11 : Memref sig .tc .vmem S1x18x96x128 .f32) (harg11 : arg11.IsWhole) (arg12 : Memref sig .tc .vmem S18x96x128 .f32) (harg12 : arg12.IsWhole) (hc0 : ¬cond0_0 i)
    (x0 : Vec F S1x18x96x128 .fp8e4m3) (x1 : Vec F S1x18x96x128 .fp8e4m3) (x2 : Vec F S1x18x96x128 .f32) (x3 : Vec F S1x18x128x128 .bf16) (x4 : Vec F S1x18x128 .f32) (x5 : Vec F S1x18x128 .f32) (x6 : Vec F S1x18x128 .f32) (x7 : Vec F S1x18x96x128 .f32) (xs0 : Vec F S18x96x128 .f32) (y : S18x96x128.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xs0).2.2.1 S1x96x128.size (by sl_kernel_rfl) y

/-- What case B leaves in scratch `arg12`: its pieces read back over junk. -/
def sout0_B_0 (c : Dev nD) (i : grid0.Coords) (arg2 : Memref sig .tc .vmem S1x18x96x128 .fp8e4m3) (harg2 : arg2.IsWhole) (arg3 : Memref sig .tc .vmem S1x18x96x128 .fp8e4m3) (harg3 : arg3.IsWhole) (arg4 : Memref sig .tc .vmem S1x18x96x128 .f32) (harg4 : arg4.IsWhole) (arg5 : Memref sig .tc .vmem S1x18x128x128 .bf16) (harg5 : arg5.IsWhole) (arg6 : Memref sig .tc .vmem S1x18x128 .f32) (harg6 : arg6.IsWhole) (arg7 : Memref sig .tc .vmem S1x18x128 .f32) (harg7 : arg7.IsWhole) (arg8 : Memref sig .tc .vmem S1x18x128 .f32) (harg8 : arg8.IsWhole) (arg9 : Memref sig .tc .vmem S1x18x96x128 .f32) (harg9 : arg9.IsWhole) (arg10 : Memref sig .tc .vmem S1x128x2304 .bf16) (harg10 : arg10.IsWhole) (arg11 : Memref sig .tc .vmem S1x18x96x128 .f32) (harg11 : arg11.IsWhole) (arg12 : Memref sig .tc .vmem S18x96x128 .f32) (harg12 : arg12.IsWhole) (hc0 : ¬cond0_0 i)
    (x0 : Vec F S1x18x96x128 .fp8e4m3) (x1 : Vec F S1x18x96x128 .fp8e4m3) (x2 : Vec F S1x18x96x128 .f32) (x3 : Vec F S1x18x128x128 .bf16) (x4 : Vec F S1x18x128 .f32) (x5 : Vec F S1x18x128 .f32) (x6 : Vec F S1x18x128 .f32) (x7 : Vec F S1x18x96x128 .f32) (xs0 : Vec F S18x96x128 .f32) : Vec F S18x96x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x128x2304 .bf16 × Vec F S1x18x96x128 .f32 × Vec F S18x96x128 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 5 = 0 then
      (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2)

/-- `outsAt0` at a point of case A: that case's contents. -/
theorem outsAt0_A (c : Dev nD) (t : Fin cfg0.N) (h0 : t.val % 5 = 0) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 5 = 0) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ]
  have hN : t.val < 15 := lt_of_lt_of_eq t.isLt (show cfg0.N = 15 from N_0)
  by_cases h0 : t.val % 5 = 0
  · by_cases hz : t.val = 0
    · rw [PhiS_castSucc m c t, PhiS_zero m c _ _ hz, PhiA0_eq]
      rw [outsAt0_A m c t h0]
      unfold out0_A_8 out0_A_9 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      iintro ⟨H0, H1, H2, H3, H4, H5, H6, H7, ⟨%e8, H8⟩, ⟨%e9, H9⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _)
    · rw [PhiS_castSucc m c t, PhiS_pos m c _ _ hz]
      rw [outsAt0_A m c t h0]
      unfold out0_A_8 out0_A_9 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexists _; iexact HS0
      iintro ⟨H0, H1, H2, H3, H4, H5, H6, H7, ⟨%e8, H8⟩, ⟨%e9, H9⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _)
  · by_cases hz : t.val = 0
    · exfalso; have hN : t.val < 15 := lt_of_lt_of_eq t.isLt (show cfg0.N = 15 from N_0); omega
    · rw [PhiS_castSucc m c t, PhiS_pos m c _ _ hz]
      rw [outsAt0_B m c t h0]
      unfold out0_B_8 out0_B_9 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      iintro ⟨H0, H1, H2, H3, H4, H5, H6, H7, ⟨%e8, H8⟩, ⟨%e9, H9⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 15 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Own

end
-- ==== Proof.Ideal.Indep.lean ====
module

public import proofs.«01_k».proof.Proof.Gen.KernelIdeal.Loops

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open Idealize.SL.Sem
open Cert.KernelIdeal Cert.KernelIdeal.Gen

variable {F : FTy → Type} [FloatOps F] [Named F]

/-- What a trip of the head loop stores does not depend on what the output block held before: the body loads the
    rows it is about to overwrite, and uses none of them. -/
theorem trip_indep (𝒱 : Variants) (c : Dev nD) (bd : Option 𝒱.V) (i : grid0.Coords) (arg2 : Memref sig .tc .vmem S1x18x96x128 .fp8e4m3) (harg2 : arg2.IsWhole) (arg3 : Memref sig .tc .vmem S1x18x96x128 .fp8e4m3) (harg3 : arg3.IsWhole) (arg4 : Memref sig .tc .vmem S1x18x96x128 .f32) (harg4 : arg4.IsWhole) (arg5 : Memref sig .tc .vmem S1x18x128x128 .bf16) (harg5 : arg5.IsWhole) (arg6 : Memref sig .tc .vmem S1x18x128 .f32) (harg6 : arg6.IsWhole) (arg7 : Memref sig .tc .vmem S1x18x128 .f32) (harg7 : arg7.IsWhole) (arg8 : Memref sig .tc .vmem S1x18x128 .f32) (harg8 : arg8.IsWhole) (arg9 : Memref sig .tc .vmem S1x18x96x128 .f32) (harg9 : arg9.IsWhole) (arg10 : Memref sig .tc .vmem S1x128x2304 .bf16) (harg10 : arg10.IsWhole) (arg11 : Memref sig .tc .vmem S1x18x96x128 .f32) (harg11 : arg11.IsWhole) (arg12 : Memref sig .tc .vmem S18x96x128 .f32) (harg12 : arg12.IsWhole) (v66 : FVec F S128x256 .bf16) (v67 : FVec F S256x256 .bf16) (v86 : IVec S64x128 1) (v87 : IVec S64x128 1) (v90 : IVec S64x128 1) (v112 : FVec F S32x128 .f32) (v138 : IVec S32x128 32) (v178 : IVec S32x128 32) (v179 : IVec S32x128 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin k0_t1_loop.trips) (f_arg10 : BufTy.Contents (Elt F) arg10.view.ty) (f_arg12 : BufTy.Contents (Elt F) arg12.view.ty) (g_arg10 : BufTy.Contents (Elt F) arg10.view.ty) :
    tripL_k0_t1 (F := F) 𝒱 c bd i arg2 harg2 arg3 harg3 arg4 harg4 arg5 harg5 arg6 harg6 arg7 harg7 arg8 harg8 arg9 harg9 arg10 harg10 arg11 harg11 arg12 harg12 v66 v67 v86 v87 v90 v112 v138 v178 v179 X_arg2 X_arg3 X_arg4 X_arg5 X_arg6 X_arg7 X_arg8 k f_arg10 f_arg12 = tripL_k0_t1 (F := F) 𝒱 c bd i arg2 harg2 arg3 harg3 arg4 harg4 arg5 harg5 arg6 harg6 arg7 harg7 arg8 harg8 arg9 harg9 arg10 harg10 arg11 harg11 arg12 harg12 v66 v67 v86 v87 v90 v112 v138 v178 v179 X_arg2 X_arg3 X_arg4 X_arg5 X_arg6 X_arg7 X_arg8 k g_arg10 f_arg12 := by
  unfold tripL_k0_t1 trip_k0_t1
  rfl

/-- So what all the trips store does not depend on it either: it may be taken as junk. -/
theorem pb_indep (𝒱 : Variants) (c : Dev nD) (bd : Option 𝒱.V) (i : grid0.Coords) (arg2 : Memref sig .tc .vmem S1x18x96x128 .fp8e4m3) (harg2 : arg2.IsWhole) (arg3 : Memref sig .tc .vmem S1x18x96x128 .fp8e4m3) (harg3 : arg3.IsWhole) (arg4 : Memref sig .tc .vmem S1x18x96x128 .f32) (harg4 : arg4.IsWhole) (arg5 : Memref sig .tc .vmem S1x18x128x128 .bf16) (harg5 : arg5.IsWhole) (arg6 : Memref sig .tc .vmem S1x18x128 .f32) (harg6 : arg6.IsWhole) (arg7 : Memref sig .tc .vmem S1x18x128 .f32) (harg7 : arg7.IsWhole) (arg8 : Memref sig .tc .vmem S1x18x128 .f32) (harg8 : arg8.IsWhole) (arg9 : Memref sig .tc .vmem S1x18x96x128 .f32) (harg9 : arg9.IsWhole) (arg10 : Memref sig .tc .vmem S1x128x2304 .bf16) (harg10 : arg10.IsWhole) (arg11 : Memref sig .tc .vmem S1x18x96x128 .f32) (harg11 : arg11.IsWhole) (arg12 : Memref sig .tc .vmem S18x96x128 .f32) (harg12 : arg12.IsWhole) (v66 : FVec F S128x256 .bf16) (v67 : FVec F S256x256 .bf16) (v86 : IVec S64x128 1) (v87 : IVec S64x128 1) (v90 : IVec S64x128 1) (v112 : FVec F S32x128 .f32) (v138 : IVec S32x128 32) (v178 : IVec S32x128 32) (v179 : IVec S32x128 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (G_arg10 : BufTy.Contents (Elt F) arg10.view.ty) (G_arg12 : BufTy.Contents (Elt F) arg12.view.ty) (n : ℕ) :
    pb_k0_t1 (F := F) 𝒱 c bd i arg2 harg2 arg3 harg3 arg4 harg4 arg5 harg5 arg6 harg6 arg7 harg7 arg8 harg8 arg9 harg9 arg10 harg10 arg11 harg11 arg12 harg12 v66 v67 v86 v87 v90 v112 v138 v178 v179 X_arg2 X_arg3 X_arg4 X_arg5 X_arg6 X_arg7 X_arg8 G_arg10 G_arg12 n = pb_k0_t1 (F := F) 𝒱 c bd i arg2 harg2 arg3 harg3 arg4 harg4 arg5 harg5 arg6 harg6 arg7 harg7 arg8 harg8 arg9 harg9 arg10 harg10 arg11 harg11 arg12 harg12 v66 v67 v86 v87 v90 v112 v138 v178 v179 X_arg2 X_arg3 X_arg4 X_arg5 X_arg6 X_arg7 X_arg8 (arg10.view.junk (Val := Elt F)) G_arg12 n := by
  induction n with
  | zero => rfl
  | succ n ih =>
    rw [pb_k0_t1.eq_2, pb_k0_t1.eq_2, ← ih]
    unfold pb_k0_t1Step
    split
    · rw [trip_indep]
    · rfl

end Cert.KernelIdeal.Own

end
-- ==== Proof.Ideal.RunA.lean ====
module
public import proofs.«01_k».proof.Proof.Gen.KernelIdeal.Frame.Runs
public import proofs.«01_k».proof.Proof.Ideal.Indep

@[expose] public section

-- membership in a rectangle of production extents (`View.cover_of_tiled`): the elaborator's structural look
-- recurses once per coordinate of the long axes
set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0, 5, 10), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1x18x96x128 .fp8e4m3) (harg2 : arg2.IsWhole) (arg3 : Memref sig .tc .vmem S1x18x96x128 .fp8e4m3) (harg3 : arg3.IsWhole) (arg4 : Memref sig .tc .vmem S1x18x96x128 .f32) (harg4 : arg4.IsWhole) (arg5 : Memref sig .tc .vmem S1x18x128x128 .bf16) (harg5 : arg5.IsWhole) (arg6 : Memref sig .tc .vmem S1x18x128 .f32) (harg6 : arg6.IsWhole) (arg7 : Memref sig .tc .vmem S1x18x128 .f32) (harg7 : arg7.IsWhole) (arg8 : Memref sig .tc .vmem S1x18x128 .f32) (harg8 : arg8.IsWhole) (arg9 : Memref sig .tc .vmem S1x18x96x128 .f32) (harg9 : arg9.IsWhole) (arg10 : Memref sig .tc .vmem S1x128x2304 .bf16) (harg10 : arg10.IsWhole) (arg11 : Memref sig .tc .vmem S1x18x96x128 .f32) (harg11 : arg11.IsWhole) (arg12 : Memref sig .tc .vmem S18x96x128 .f32) (harg12 : arg12.IsWhole) (hc0 : cond0_0 i)
    (x0 : Vec F S1x18x96x128 .fp8e4m3) (x1 : Vec F S1x18x96x128 .fp8e4m3) (x2 : Vec F S1x18x96x128 .f32) (x3 : Vec F S1x18x128x128 .bf16) (x4 : Vec F S1x18x128 .f32) (x5 : Vec F S1x18x128 .f32) (x6 : Vec F S1x18x128 .f32) (x7 : Vec F S1x18x96x128 .f32) :
    Σ' (L8 : List (View.Piece (Elt F) S1x128x2304 .bf16)), Σ' (L9 : List (View.Piece (Elt F) S1x18x96x128 .f32)), { LS0 : List (View.Piece (Elt F) S18x96x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc0_kda i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_kda_eq_skeleton]; unfold cc0_kda_skel
    simp only [k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    unfold kernelRun0_A.sl.r_2 kernelRun0_A.sl.v214
    rw [pb_indep (G_arg10 := f8)]
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    iexists _; iexact HS0

end Cert.KernelIdeal.Own

end
-- ==== Proof.Ideal.RunB.lean ====
module

public import proofs.«01_k».proof.Proof.Ideal.RunA

@[expose] public section

-- membership in a rectangle of production extents (`View.cover_of_tiled`): the elaborator's structural look
-- recurses once per coordinate of the long axes
set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 14: 12 of 15), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1x18x96x128 .fp8e4m3) (harg2 : arg2.IsWhole) (arg3 : Memref sig .tc .vmem S1x18x96x128 .fp8e4m3) (harg3 : arg3.IsWhole) (arg4 : Memref sig .tc .vmem S1x18x96x128 .f32) (harg4 : arg4.IsWhole) (arg5 : Memref sig .tc .vmem S1x18x128x128 .bf16) (harg5 : arg5.IsWhole) (arg6 : Memref sig .tc .vmem S1x18x128 .f32) (harg6 : arg6.IsWhole) (arg7 : Memref sig .tc .vmem S1x18x128 .f32) (harg7 : arg7.IsWhole) (arg8 : Memref sig .tc .vmem S1x18x128 .f32) (harg8 : arg8.IsWhole) (arg9 : Memref sig .tc .vmem S1x18x96x128 .f32) (harg9 : arg9.IsWhole) (arg10 : Memref sig .tc .vmem S1x128x2304 .bf16) (harg10 : arg10.IsWhole) (arg11 : Memref sig .tc .vmem S1x18x96x128 .f32) (harg11 : arg11.IsWhole) (arg12 : Memref sig .tc .vmem S18x96x128 .f32) (harg12 : arg12.IsWhole) (hc0 : ¬cond0_0 i)
    (x0 : Vec F S1x18x96x128 .fp8e4m3) (x1 : Vec F S1x18x96x128 .fp8e4m3) (x2 : Vec F S1x18x96x128 .f32) (x3 : Vec F S1x18x128x128 .bf16) (x4 : Vec F S1x18x128 .f32) (x5 : Vec F S1x18x128 .f32) (x6 : Vec F S1x18x128 .f32) (x7 : Vec F S1x18x96x128 .f32) (xs0 : Vec F S18x96x128 .f32) :
    Σ' (L8 : List (View.Piece (Elt F) S1x128x2304 .bf16)), Σ' (L9 : List (View.Piece (Elt F) S1x18x96x128 .f32)), { LS0 : List (View.Piece (Elt F) S18x96x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc0_kda i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_kda_eq_skeleton]; unfold cc0_kda_skel
    simp only [k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hfs0
    sl_exec (disch := first | sl_exact hc0)
    unfold kernelRun0_B.sl.r_2 kernelRun0_B.sl.v214
    rw [pb_indep (G_arg10 := f8)]
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    iexists _; iexact HS0

end Cert.KernelIdeal.Own

end
-- ==== Proof.Ideal.Frame.lean ====
module

public import proofs.«01_k».proof.Proof.Ideal.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 8 tile its block (36 stores of `S1x64x128`, checked by the kernel's evaluation: Lib/Ring.lean `Piece.tiledL`, linear in the pieces, through a loop's `@[irreducible]` trip theorem too), so they cover it. -/
theorem cover0_A_8 (c : Dev nD) (i : grid0.Coords) (arg2 : Memref sig .tc .vmem S1x18x96x128 .fp8e4m3) (harg2 : arg2.IsWhole) (arg3 : Memref sig .tc .vmem S1x18x96x128 .fp8e4m3) (harg3 : arg3.IsWhole) (arg4 : Memref sig .tc .vmem S1x18x96x128 .f32) (harg4 : arg4.IsWhole) (arg5 : Memref sig .tc .vmem S1x18x128x128 .bf16) (harg5 : arg5.IsWhole) (arg6 : Memref sig .tc .vmem S1x18x128 .f32) (harg6 : arg6.IsWhole) (arg7 : Memref sig .tc .vmem S1x18x128 .f32) (harg7 : arg7.IsWhole) (arg8 : Memref sig .tc .vmem S1x18x128 .f32) (harg8 : arg8.IsWhole) (arg9 : Memref sig .tc .vmem S1x18x96x128 .f32) (harg9 : arg9.IsWhole) (arg10 : Memref sig .tc .vmem S1x128x2304 .bf16) (harg10 : arg10.IsWhole) (arg11 : Memref sig .tc .vmem S1x18x96x128 .f32) (harg11 : arg11.IsWhole) (arg12 : Memref sig .tc .vmem S18x96x128 .f32) (harg12 : arg12.IsWhole) (hc0 : cond0_0 i)
    (x0 : Vec F S1x18x96x128 .fp8e4m3) (x1 : Vec F S1x18x96x128 .fp8e4m3) (x2 : Vec F S1x18x96x128 .f32) (x3 : Vec F S1x18x128x128 .bf16) (x4 : Vec F S1x18x128 .f32) (x5 : Vec F S1x18x128 .f32) (x6 : Vec F S1x18x128 .f32) (x7 : Vec F S1x18x96x128 .f32) (y : S1x128x2304.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).1 S1x64x128.size (by sl_kernel_rfl) y

/-- What case A leaves in output 8's staging buffer: its pieces read back over junk. -/
def out0_A_8 (c : Dev nD) (i : grid0.Coords) (arg2 : Memref sig .tc .vmem S1x18x96x128 .fp8e4m3) (harg2 : arg2.IsWhole) (arg3 : Memref sig .tc .vmem S1x18x96x128 .fp8e4m3) (harg3 : arg3.IsWhole) (arg4 : Memref sig .tc .vmem S1x18x96x128 .f32) (harg4 : arg4.IsWhole) (arg5 : Memref sig .tc .vmem S1x18x128x128 .bf16) (harg5 : arg5.IsWhole) (arg6 : Memref sig .tc .vmem S1x18x128 .f32) (harg6 : arg6.IsWhole) (arg7 : Memref sig .tc .vmem S1x18x128 .f32) (harg7 : arg7.IsWhole) (arg8 : Memref sig .tc .vmem S1x18x128 .f32) (harg8 : arg8.IsWhole) (arg9 : Memref sig .tc .vmem S1x18x96x128 .f32) (harg9 : arg9.IsWhole) (arg10 : Memref sig .tc .vmem S1x128x2304 .bf16) (harg10 : arg10.IsWhole) (arg11 : Memref sig .tc .vmem S1x18x96x128 .f32) (harg11 : arg11.IsWhole) (arg12 : Memref sig .tc .vmem S18x96x128 .f32) (harg12 : arg12.IsWhole) (hc0 : cond0_0 i)
    (x0 : Vec F S1x18x96x128 .fp8e4m3) (x1 : Vec F S1x18x96x128 .fp8e4m3) (x2 : Vec F S1x18x96x128 .f32) (x3 : Vec F S1x18x128x128 .bf16) (x4 : Vec F S1x18x128 .f32) (x5 : Vec F S1x18x128 .f32) (x6 : Vec F S1x18x128 .f32) (x7 : Vec F S1x18x96x128 .f32) : Vec F S1x128x2304 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).1)

/-- Case A's pieces for output 9 tile its block (1 store of `S1x18x96x128`, checked by the kernel's evaluation: Lib/Ring.lean `Piece.tiledL`, linear in the pieces, through a loop's `@[irreducible]` trip theorem too), so they cover it. -/
theorem cover0_A_9 (c : Dev nD) (i : grid0.Coords) (arg2 : Memref sig .tc .vmem S1x18x96x128 .fp8e4m3) (harg2 : arg2.IsWhole) (arg3 : Memref sig .tc .vmem S1x18x96x128 .fp8e4m3) (harg3 : arg3.IsWhole) (arg4 : Memref sig .tc .vmem S1x18x96x128 .f32) (harg4 : arg4.IsWhole) (arg5 : Memref sig .tc .vmem S1x18x128x128 .bf16) (harg5 : arg5.IsWhole) (arg6 : Memref sig .tc .vmem S1x18x128 .f32) (harg6 : arg6.IsWhole) (arg7 : Memref sig .tc .vmem S1x18x128 .f32) (harg7 : arg7.IsWhole) (arg8 : Memref sig .tc .vmem S1x18x128 .f32) (harg8 : arg8.IsWhole) (arg9 : Memref sig .tc .vmem S1x18x96x128 .f32) (harg9 : arg9.IsWhole) (arg10 : Memref sig .tc .vmem S1x128x2304 .bf16) (harg10 : arg10.IsWhole) (arg11 : Memref sig .tc .vmem S1x18x96x128 .f32) (harg11 : arg11.IsWhole) (arg12 : Memref sig .tc .vmem S18x96x128 .f32) (harg12 : arg12.IsWhole) (hc0 : cond0_0 i)
    (x0 : Vec F S1x18x96x128 .fp8e4m3) (x1 : Vec F S1x18x96x128 .fp8e4m3) (x2 : Vec F S1x18x96x128 .f32) (x3 : Vec F S1x18x128x128 .bf16) (x4 : Vec F S1x18x128 .f32) (x5 : Vec F S1x18x128 .f32) (x6 : Vec F S1x18x128 .f32) (x7 : Vec F S1x18x96x128 .f32) (y : S1x18x96x128.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.1 S1x18x96x128.size (by sl_kernel_rfl) y

/-- What case A leaves in output 9's staging buffer: its pieces read back over junk. -/
def out0_A_9 (c : Dev nD) (i : grid0.Coords) (arg2 : Memref sig .tc .vmem S1x18x96x128 .fp8e4m3) (harg2 : arg2.IsWhole) (arg3 : Memref sig .tc .vmem S1x18x96x128 .fp8e4m3) (harg3 : arg3.IsWhole) (arg4 : Memref sig .tc .vmem S1x18x96x128 .f32) (harg4 : arg4.IsWhole) (arg5 : Memref sig .tc .vmem S1x18x128x128 .bf16) (harg5 : arg5.IsWhole) (arg6 : Memref sig .tc .vmem S1x18x128 .f32) (harg6 : arg6.IsWhole) (arg7 : Memref sig .tc .vmem S1x18x128 .f32) (harg7 : arg7.IsWhole) (arg8 : Memref sig .tc .vmem S1x18x128 .f32) (harg8 : arg8.IsWhole) (arg9 : Memref sig .tc .vmem S1x18x96x128 .f32) (harg9 : arg9.IsWhole) (arg10 : Memref sig .tc .vmem S1x128x2304 .bf16) (harg10 : arg10.IsWhole) (arg11 : Memref sig .tc .vmem S1x18x96x128 .f32) (harg11 : arg11.IsWhole) (arg12 : Memref sig .tc .vmem S18x96x128 .f32) (harg12 : arg12.IsWhole) (hc0 : cond0_0 i)
    (x0 : Vec F S1x18x96x128 .fp8e4m3) (x1 : Vec F S1x18x96x128 .fp8e4m3) (x2 : Vec F S1x18x96x128 .f32) (x3 : Vec F S1x18x128x128 .bf16) (x4 : Vec F S1x18x128 .f32) (x5 : Vec F S1x18x128 .f32) (x6 : Vec F S1x18x128 .f32) (x7 : Vec F S1x18x96x128 .f32) : Vec F S1x18x96x128 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.1)

/-- Case A's pieces for scratch `arg12`, which the kernel carries between points, cover it: one of them a store of the WHOLE buffer (Lib/Ring.lean `sl_whole_mem`). -/
theorem scover0_A_0 (c : Dev nD) (i : grid0.Coords) (arg2 : Memref sig .tc .vmem S1x18x96x128 .fp8e4m3) (harg2 : arg2.IsWhole) (arg3 : Memref sig .tc .vmem S1x18x96x128 .fp8e4m3) (harg3 : arg3.IsWhole) (arg4 : Memref sig .tc .vmem S1x18x96x128 .f32) (harg4 : arg4.IsWhole) (arg5 : Memref sig .tc .vmem S1x18x128x128 .bf16) (harg5 : arg5.IsWhole) (arg6 : Memref sig .tc .vmem S1x18x128 .f32) (harg6 : arg6.IsWhole) (arg7 : Memref sig .tc .vmem S1x18x128 .f32) (harg7 : arg7.IsWhole) (arg8 : Memref sig .tc .vmem S1x18x128 .f32) (harg8 : arg8.IsWhole) (arg9 : Memref sig .tc .vmem S1x18x96x128 .f32) (harg9 : arg9.IsWhole) (arg10 : Memref sig .tc .vmem S1x128x2304 .bf16) (harg10 : arg10.IsWhole) (arg11 : Memref sig .tc .vmem S1x18x96x128 .f32) (harg11 : arg11.IsWhole) (arg12 : Memref sig .tc .vmem S18x96x128 .f32) (harg12 : arg12.IsWhole) (hc0 : cond0_0 i)
    (x0 : Vec F S1x18x96x128 .fp8e4m3) (x1 : Vec F S1x18x96x128 .fp8e4m3) (x2 : Vec F S1x18x96x128 .f32) (x3 : Vec F S1x18x128x128 .bf16) (x4 : Vec F S1x18x128 .f32) (x5 : Vec F S1x18x128 .f32) (x6 : Vec F S1x18x128 .f32) (x7 : Vec F S1x18x96x128 .f32) (y : S18x96x128.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.2.1 (by sl_whole_mem) y

/-- What case A leaves in scratch `arg12`: its pieces read back over junk. -/
def sout0_A_0 (c : Dev nD) (i : grid0.Coords) (arg2 : Memref sig .tc .vmem S1x18x96x128 .fp8e4m3) (harg2 : arg2.IsWhole) (arg3 : Memref sig .tc .vmem S1x18x96x128 .fp8e4m3) (harg3 : arg3.IsWhole) (arg4 : Memref sig .tc .vmem S1x18x96x128 .f32) (harg4 : arg4.IsWhole) (arg5 : Memref sig .tc .vmem S1x18x128x128 .bf16) (harg5 : arg5.IsWhole) (arg6 : Memref sig .tc .vmem S1x18x128 .f32) (harg6 : arg6.IsWhole) (arg7 : Memref sig .tc .vmem S1x18x128 .f32) (harg7 : arg7.IsWhole) (arg8 : Memref sig .tc .vmem S1x18x128 .f32) (harg8 : arg8.IsWhole) (arg9 : Memref sig .tc .vmem S1x18x96x128 .f32) (harg9 : arg9.IsWhole) (arg10 : Memref sig .tc .vmem S1x128x2304 .bf16) (harg10 : arg10.IsWhole) (arg11 : Memref sig .tc .vmem S1x18x96x128 .f32) (harg11 : arg11.IsWhole) (arg12 : Memref sig .tc .vmem S18x96x128 .f32) (harg12 : arg12.IsWhole) (hc0 : cond0_0 i)
    (x0 : Vec F S1x18x96x128 .fp8e4m3) (x1 : Vec F S1x18x96x128 .fp8e4m3) (x2 : Vec F S1x18x96x128 .f32) (x3 : Vec F S1x18x128x128 .bf16) (x4 : Vec F S1x18x128 .f32) (x5 : Vec F S1x18x128 .f32) (x6 : Vec F S1x18x128 .f32) (x7 : Vec F S1x18x96x128 .f32) : Vec F S18x96x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.2.1)

/-- Case B's pieces for output 8 tile its block (36 stores of `S1x64x128`, checked by the kernel's evaluation: Lib/Ring.lean `Piece.tiledL`, linear in the pieces, through a loop's `@[irreducible]` trip theorem too), so they cover it. -/
theorem cover0_B_8 (c : Dev nD) (i : grid0.Coords) (arg2 : Memref sig .tc .vmem S1x18x96x128 .fp8e4m3) (harg2 : arg2.IsWhole) (arg3 : Memref sig .tc .vmem S1x18x96x128 .fp8e4m3) (harg3 : arg3.IsWhole) (arg4 : Memref sig .tc .vmem S1x18x96x128 .f32) (harg4 : arg4.IsWhole) (arg5 : Memref sig .tc .vmem S1x18x128x128 .bf16) (harg5 : arg5.IsWhole) (arg6 : Memref sig .tc .vmem S1x18x128 .f32) (harg6 : arg6.IsWhole) (arg7 : Memref sig .tc .vmem S1x18x128 .f32) (harg7 : arg7.IsWhole) (arg8 : Memref sig .tc .vmem S1x18x128 .f32) (harg8 : arg8.IsWhole) (arg9 : Memref sig .tc .vmem S1x18x96x128 .f32) (harg9 : arg9.IsWhole) (arg10 : Memref sig .tc .vmem S1x128x2304 .bf16) (harg10 : arg10.IsWhole) (arg11 : Memref sig .tc .vmem S1x18x96x128 .f32) (harg11 : arg11.IsWhole) (arg12 : Memref sig .tc .vmem S18x96x128 .f32) (harg12 : arg12.IsWhole) (hc0 : ¬cond0_0 i)
    (x0 : Vec F S1x18x96x128 .fp8e4m3) (x1 : Vec F S1x18x96x128 .fp8e4m3) (x2 : Vec F S1x18x96x128 .f32) (x3 : Vec F S1x18x128x128 .bf16) (x4 : Vec F S1x18x128 .f32) (x5 : Vec F S1x18x128 .f32) (x6 : Vec F S1x18x128 .f32) (x7 : Vec F S1x18x96x128 .f32) (xs0 : Vec F S18x96x128 .f32) (y : S1x128x2304.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xs0).1 S1x64x128.size (by sl_kernel_rfl) y

/-- What case B leaves in output 8's staging buffer: its pieces read back over junk. -/
def out0_B_8 (c : Dev nD) (i : grid0.Coords) (arg2 : Memref sig .tc .vmem S1x18x96x128 .fp8e4m3) (harg2 : arg2.IsWhole) (arg3 : Memref sig .tc .vmem S1x18x96x128 .fp8e4m3) (harg3 : arg3.IsWhole) (arg4 : Memref sig .tc .vmem S1x18x96x128 .f32) (harg4 : arg4.IsWhole) (arg5 : Memref sig .tc .vmem S1x18x128x128 .bf16) (harg5 : arg5.IsWhole) (arg6 : Memref sig .tc .vmem S1x18x128 .f32) (harg6 : arg6.IsWhole) (arg7 : Memref sig .tc .vmem S1x18x128 .f32) (harg7 : arg7.IsWhole) (arg8 : Memref sig .tc .vmem S1x18x128 .f32) (harg8 : arg8.IsWhole) (arg9 : Memref sig .tc .vmem S1x18x96x128 .f32) (harg9 : arg9.IsWhole) (arg10 : Memref sig .tc .vmem S1x128x2304 .bf16) (harg10 : arg10.IsWhole) (arg11 : Memref sig .tc .vmem S1x18x96x128 .f32) (harg11 : arg11.IsWhole) (arg12 : Memref sig .tc .vmem S18x96x128 .f32) (harg12 : arg12.IsWhole) (hc0 : ¬cond0_0 i)
    (x0 : Vec F S1x18x96x128 .fp8e4m3) (x1 : Vec F S1x18x96x128 .fp8e4m3) (x2 : Vec F S1x18x96x128 .f32) (x3 : Vec F S1x18x128x128 .bf16) (x4 : Vec F S1x18x128 .f32) (x5 : Vec F S1x18x128 .f32) (x6 : Vec F S1x18x128 .f32) (x7 : Vec F S1x18x96x128 .f32) (xs0 : Vec F S18x96x128 .f32) : Vec F S1x128x2304 .bf16 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xs0).1)

/-- Case B's pieces for output 9 tile its block (1 store of `S1x18x96x128`, checked by the kernel's evaluation: Lib/Ring.lean `Piece.tiledL`, linear in the pieces, through a loop's `@[irreducible]` trip theorem too), so they cover it. -/
theorem cover0_B_9 (c : Dev nD) (i : grid0.Coords) (arg2 : Memref sig .tc .vmem S1x18x96x128 .fp8e4m3) (harg2 : arg2.IsWhole) (arg3 : Memref sig .tc .vmem S1x18x96x128 .fp8e4m3) (harg3 : arg3.IsWhole) (arg4 : Memref sig .tc .vmem S1x18x96x128 .f32) (harg4 : arg4.IsWhole) (arg5 : Memref sig .tc .vmem S1x18x128x128 .bf16) (harg5 : arg5.IsWhole) (arg6 : Memref sig .tc .vmem S1x18x128 .f32) (harg6 : arg6.IsWhole) (arg7 : Memref sig .tc .vmem S1x18x128 .f32) (harg7 : arg7.IsWhole) (arg8 : Memref sig .tc .vmem S1x18x128 .f32) (harg8 : arg8.IsWhole) (arg9 : Memref sig .tc .vmem S1x18x96x128 .f32) (harg9 : arg9.IsWhole) (arg10 : Memref sig .tc .vmem S1x128x2304 .bf16) (harg10 : arg10.IsWhole) (arg11 : Memref sig .tc .vmem S1x18x96x128 .f32) (harg11 : arg11.IsWhole) (arg12 : Memref sig .tc .vmem S18x96x128 .f32) (harg12 : arg12.IsWhole) (hc0 : ¬cond0_0 i)
    (x0 : Vec F S1x18x96x128 .fp8e4m3) (x1 : Vec F S1x18x96x128 .fp8e4m3) (x2 : Vec F S1x18x96x128 .f32) (x3 : Vec F S1x18x128x128 .bf16) (x4 : Vec F S1x18x128 .f32) (x5 : Vec F S1x18x128 .f32) (x6 : Vec F S1x18x128 .f32) (x7 : Vec F S1x18x96x128 .f32) (xs0 : Vec F S18x96x128 .f32) (y : S1x18x96x128.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xs0).2.1 S1x18x96x128.size (by sl_kernel_rfl) y

/-- What case B leaves in output 9's staging buffer: its pieces read back over junk. -/
def out0_B_9 (c : Dev nD) (i : grid0.Coords) (arg2 : Memref sig .tc .vmem S1x18x96x128 .fp8e4m3) (harg2 : arg2.IsWhole) (arg3 : Memref sig .tc .vmem S1x18x96x128 .fp8e4m3) (harg3 : arg3.IsWhole) (arg4 : Memref sig .tc .vmem S1x18x96x128 .f32) (harg4 : arg4.IsWhole) (arg5 : Memref sig .tc .vmem S1x18x128x128 .bf16) (harg5 : arg5.IsWhole) (arg6 : Memref sig .tc .vmem S1x18x128 .f32) (harg6 : arg6.IsWhole) (arg7 : Memref sig .tc .vmem S1x18x128 .f32) (harg7 : arg7.IsWhole) (arg8 : Memref sig .tc .vmem S1x18x128 .f32) (harg8 : arg8.IsWhole) (arg9 : Memref sig .tc .vmem S1x18x96x128 .f32) (harg9 : arg9.IsWhole) (arg10 : Memref sig .tc .vmem S1x128x2304 .bf16) (harg10 : arg10.IsWhole) (arg11 : Memref sig .tc .vmem S1x18x96x128 .f32) (harg11 : arg11.IsWhole) (arg12 : Memref sig .tc .vmem S18x96x128 .f32) (harg12 : arg12.IsWhole) (hc0 : ¬cond0_0 i)
    (x0 : Vec F S1x18x96x128 .fp8e4m3) (x1 : Vec F S1x18x96x128 .fp8e4m3) (x2 : Vec F S1x18x96x128 .f32) (x3 : Vec F S1x18x128x128 .bf16) (x4 : Vec F S1x18x128 .f32) (x5 : Vec F S1x18x128 .f32) (x6 : Vec F S1x18x128 .f32) (x7 : Vec F S1x18x96x128 .f32) (xs0 : Vec F S18x96x128 .f32) : Vec F S1x18x96x128 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xs0).2.1)

/-- Case B's pieces for scratch `arg12`, which the kernel carries between points, cover it: 36 pieces of `S1x96x128` tiling it (Lib/Ring.lean `Piece.tiledL`). -/
theorem scover0_B_0 (c : Dev nD) (i : grid0.Coords) (arg2 : Memref sig .tc .vmem S1x18x96x128 .fp8e4m3) (harg2 : arg2.IsWhole) (arg3 : Memref sig .tc .vmem S1x18x96x128 .fp8e4m3) (harg3 : arg3.IsWhole) (arg4 : Memref sig .tc .vmem S1x18x96x128 .f32) (harg4 : arg4.IsWhole) (arg5 : Memref sig .tc .vmem S1x18x128x128 .bf16) (harg5 : arg5.IsWhole) (arg6 : Memref sig .tc .vmem S1x18x128 .f32) (harg6 : arg6.IsWhole) (arg7 : Memref sig .tc .vmem S1x18x128 .f32) (harg7 : arg7.IsWhole) (arg8 : Memref sig .tc .vmem S1x18x128 .f32) (harg8 : arg8.IsWhole) (arg9 : Memref sig .tc .vmem S1x18x96x128 .f32) (harg9 : arg9.IsWhole) (arg10 : Memref sig .tc .vmem S1x128x2304 .bf16) (harg10 : arg10.IsWhole) (arg11 : Memref sig .tc .vmem S1x18x96x128 .f32) (harg11 : arg11.IsWhole) (arg12 : Memref sig .tc .vmem S18x96x128 .f32) (harg12 : arg12.IsWhole) (hc0 : ¬cond0_0 i)
    (x0 : Vec F S1x18x96x128 .fp8e4m3) (x1 : Vec F S1x18x96x128 .fp8e4m3) (x2 : Vec F S1x18x96x128 .f32) (x3 : Vec F S1x18x128x128 .bf16) (x4 : Vec F S1x18x128 .f32) (x5 : Vec F S1x18x128 .f32) (x6 : Vec F S1x18x128 .f32) (x7 : Vec F S1x18x96x128 .f32) (xs0 : Vec F S18x96x128 .f32) (y : S18x96x128.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xs0).2.2.1 S1x96x128.size (by sl_kernel_rfl) y

/-- What case B leaves in scratch `arg12`: its pieces read back over junk. -/
def sout0_B_0 (c : Dev nD) (i : grid0.Coords) (arg2 : Memref sig .tc .vmem S1x18x96x128 .fp8e4m3) (harg2 : arg2.IsWhole) (arg3 : Memref sig .tc .vmem S1x18x96x128 .fp8e4m3) (harg3 : arg3.IsWhole) (arg4 : Memref sig .tc .vmem S1x18x96x128 .f32) (harg4 : arg4.IsWhole) (arg5 : Memref sig .tc .vmem S1x18x128x128 .bf16) (harg5 : arg5.IsWhole) (arg6 : Memref sig .tc .vmem S1x18x128 .f32) (harg6 : arg6.IsWhole) (arg7 : Memref sig .tc .vmem S1x18x128 .f32) (harg7 : arg7.IsWhole) (arg8 : Memref sig .tc .vmem S1x18x128 .f32) (harg8 : arg8.IsWhole) (arg9 : Memref sig .tc .vmem S1x18x96x128 .f32) (harg9 : arg9.IsWhole) (arg10 : Memref sig .tc .vmem S1x128x2304 .bf16) (harg10 : arg10.IsWhole) (arg11 : Memref sig .tc .vmem S1x18x96x128 .f32) (harg11 : arg11.IsWhole) (arg12 : Memref sig .tc .vmem S18x96x128 .f32) (harg12 : arg12.IsWhole) (hc0 : ¬cond0_0 i)
    (x0 : Vec F S1x18x96x128 .fp8e4m3) (x1 : Vec F S1x18x96x128 .fp8e4m3) (x2 : Vec F S1x18x96x128 .f32) (x3 : Vec F S1x18x128x128 .bf16) (x4 : Vec F S1x18x128 .f32) (x5 : Vec F S1x18x128 .f32) (x6 : Vec F S1x18x128 .f32) (x7 : Vec F S1x18x96x128 .f32) (xs0 : Vec F S18x96x128 .f32) : Vec F S18x96x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x128x2304 .bf16 × Vec F S1x18x96x128 .f32 × Vec F S18x96x128 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 5 = 0 then
      (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2)

/-- `outsAt0` at a point of case A: that case's contents. -/
theorem outsAt0_A (c : Dev nD) (t : Fin cfg0.N) (h0 : t.val % 5 = 0) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 5 = 0) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ]
  have hN : t.val < 15 := lt_of_lt_of_eq t.isLt (show cfg0.N = 15 from N_0)
  by_cases h0 : t.val % 5 = 0
  · by_cases hz : t.val = 0
    · rw [PhiS_castSucc m c t, PhiS_zero m c _ _ hz, PhiA0_eq]
      rw [outsAt0_A m c t h0]
      unfold out0_A_8 out0_A_9 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      iintro ⟨H0, H1, H2, H3, H4, H5, H6, H7, ⟨%e8, H8⟩, ⟨%e9, H9⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _)
    · rw [PhiS_castSucc m c t, PhiS_pos m c _ _ hz]
      rw [outsAt0_A m c t h0]
      unfold out0_A_8 out0_A_9 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexists _; iexact HS0
      iintro ⟨H0, H1, H2, H3, H4, H5, H6, H7, ⟨%e8, H8⟩, ⟨%e9, H9⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _)
  · by_cases hz : t.val = 0
    · exfalso; have hN : t.val < 15 := lt_of_lt_of_eq t.isLt (show cfg0.N = 15 from N_0); omega
    · rw [PhiS_castSucc m c t, PhiS_pos m c _ _ hz]
      rw [outsAt0_B m c t h0]
      unfold out0_B_8 out0_B_9 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      iintro ⟨H0, H1, H2, H3, H4, H5, H6, H7, ⟨%e8, H8⟩, ⟨%e9, H9⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 15 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Own

end
-- ==== Proof.Ideal.Value.lean ====
module

public import proofs.«01_k».proof.Proof.Ideal.Frame
public import Idealize.ShloMosaic.Lib.Pipeline.Value

@[expose] public section

noncomputable section

namespace Cert.KernelIdeal.Value

open Cert.KernelIdeal Cert.KernelIdeal.Gen Cert.KernelIdeal.Own Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 8's array: the run's contents for that window after the body (`Gen.outsAt0`: its component 0), read through the window's block. -/
theorem flushed8 (c : Dev nD) (t : Fin cfg0.N) :
    (dats m 0 c).flushed 8 t = (cfg0.win 8).cut (grid0.coords t) ((outsAt0 m c t.val t.isLt).1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : t.val % 5 = 0) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  simp only [flushed8, outsAt0_A m c t h0]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : ¬t.val % 5 = 0) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2) := by
  simp only [flushed8, outsAt0_B m c t h0]

/-- The index map sends distinct grid points to distinct block indices (decided over the 15 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S3x640x2304.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the run's contents for that window after the body (`Gen.outsAt0`: its component 1), read through the window's block. -/
theorem flushed9 (c : Dev nD) (t : Fin cfg0.N) :
    (dats m 0 c).flushed 9 t = (cfg0.win 9).cut (grid0.coords t) ((outsAt0 m c t.val t.isLt).2.1) := by
  show (cfg0.win 9).cut (grid0.coords t) ((dats m 0 c).after 9 t) = _
  rw [after0_9]

/-- … so at a point where case A runs, what its write-back would write is that case's NAMED TERM for the window (`Gen.out0_A_9`: the pieces
    its run found, read back) at the point's memrefs and input blocks, and for an output the case reads back what the point before left (`Gen.outsAt0` at `t - 1`) — by the frame's rewriting lemma for the case. -/
theorem flushed9_A (c : Dev nD) (t : Fin cfg0.N) (h0 : t.val % 5 = 0) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  simp only [flushed9, outsAt0_A m c t h0]

/-- … so at a point where case B runs, what its write-back would write is that case's NAMED TERM for the window (`Gen.out0_B_9`: the pieces
    its run found, read back) at the point's memrefs and input blocks, and for an output the case reads back what the point before left (`Gen.outsAt0` at `t - 1`) — by the frame's rewriting lemma for the case. -/
theorem flushed9_B (c : Dev nD) (t : Fin cfg0.N) (h0 : ¬t.val % 5 = 0) :
    (dats m 0 c).flushed 9 t = (cfg0.win 9).cut (grid0.coords t) (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2) := by
  simp only [flushed9, outsAt0_B m c t h0]

-- no `blocks9`: window 9's index map revisits a block index, or its points could not be enumerated here;
-- the final array is still the frame's `arrAt`, to read with Lib/Pipeline/Value.lean's lemmas by hand

/-- An index that no flushing point's block covers keeps output window 9's array contents at region entry. -/
theorem entry9 (c : Dev nD) (i : S3x18x96x128.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v9_0) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v9_1) = (dats m 0 c).arrAt 9 cfg0.N :=
  (h c).1 9

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v9_0) = (dats m 0 c).arrAt 8 cfg0.N
      ∧ r.2.mem ((c : Thread nD τ).loc main_v9_1) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post8 m r h c,
      post9 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the points ≡ 0 (mod 5)
    stores the scratch whole without reading what it held, and `acc` does not enter there (nor where no point meets the
    conditions: `acc`, never read). -/
def scAt0_0 (c : Dev nD) (n : ℕ) (hb : n < cfg0.N) (acc : Vec F S18x96x128 .f32) : Vec F S18x96x128 .f32 :=
  if h0 : n % 5 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc

/-- WHAT CARRIED SCRATCH 0 HOLDS after point `t`: the fold of its run up to `t`, from the reset at the run's first point
    `5·(t / 5)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2 = Pipeline.accAt (fun n h => scAt0_0 m c n h (VS0_0.read (Elt F) VS0_0.junk)) (scAt0_0 m c) (5 * (t.val / 5)) (t.val % 5)
      (by have h1 := t.isLt; have h2 := Nat.div_add_mod t.val 5; omega) :=
  Pipeline.eq_accAt_of_mod (fun n h => (outsAt0 m c n h).2.2) 5 (fun n h => scAt0_0 m c n h (VS0_0.read (Elt F) VS0_0.junk)) (scAt0_0 m c)
    (fun n h hn => by
      have hN := lt_of_lt_of_eq h (show cfg0.N = 15 from N_0)
      by_cases h0 : n % 5 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 15 from N_0)
      by_cases h0 : (n + 1) % 5 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S1x128x2304 .bf16 × Vec F S1x18x96x128 .f32 × Vec F S18x96x128 .f32 :=
  ((VO0_8.read (Elt F) VO0_8.junk, VO0_9.read (Elt F) VO0_9.junk, VS0_0.read (Elt F) VS0_0.junk) : Vec F S1x128x2304 .bf16 × Vec F S1x18x96x128 .f32 × Vec F S18x96x128 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S1x128x2304 .bf16 × Vec F S1x18x96x128 .f32 × Vec F S18x96x128 .f32) : Vec F S1x128x2304 .bf16 × Vec F S1x18x96x128 .f32 × Vec F S18x96x128 .f32 :=
  if h0 : n % 5 = 0 then
    (out0_A_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)), out0_A_9 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)))
  else
    (out0_B_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc.2.2, out0_B_9 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc.2.2)

/-- `stAt0` at a point of case A: that case's contents. -/
theorem stAt0_A (c : Dev nD) (t : Fin cfg0.N) (acc : Vec F S1x128x2304 .bf16 × Vec F S1x18x96x128 .f32 × Vec F S18x96x128 .f32) (h0 : t.val % 5 = 0) :
    stAt0 m c t.val t.isLt acc = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)) :=
  (dif_pos h0).trans rfl

/-- `stAt0` at a point of case B: that case's contents, over `acc`. -/
theorem stAt0_B (c : Dev nD) (t : Fin cfg0.N) (acc : Vec F S1x128x2304 .bf16 × Vec F S1x18x96x128 .f32 × Vec F S18x96x128 .f32) (h0 : ¬t.val % 5 = 0) :
    stAt0 m c t.val t.isLt acc = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) acc.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) acc.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) acc.2.2) :=
  (dif_neg h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 15 from N_0)
  have e := Pipeline.eq_accAt_of_mod (fun n h => outsAt0 m c n h) 15 (fun n h => stAt0 m c n h junk0) (stAt0 m c)
    (fun n h _ => by
      have hN := lt_of_lt_of_eq h (show cfg0.N = 15 from N_0)
      obtain rfl : n = 0 := by omega
      exact outsAt0_zero m c h)
    (fun n h _ => outsAt0_succ m c n h)
    (by decide) n hn (by have := Nat.div_add_mod n 15; omega)
  have hd : n / 15 = 0 := Nat.div_eq_of_lt hN
  have hm : n % 15 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 8 -/

/-- The block of the array that holds index `i`, numbered in the order the points write the blocks back (one per point),
    `i`'s place in it, and the point that writes it back. -/
abbrev run8Of (i : S3x640x2304.Idx) : ℕ := 5 * ((i 0).val / 1 - 0) + 1 * ((i 1).val / 128 - 0) + 1 * ((i 2).val / 2304 - 0)
set_option backward.proofsInPublic true in
abbrev loc8Of (i : S3x640x2304.Idx) : S1x128x2304.Idx := fun a => match a with
  | ⟨0, _⟩ => ⟨(i 0).val % 1, Nat.mod_lt _ (by decide)⟩
  | ⟨1, _⟩ => ⟨(i 1).val % 128, Nat.mod_lt _ (by decide)⟩
  | ⟨2, _⟩ => ⟨(i 2).val % 2304, Nat.mod_lt _ (by decide)⟩
abbrev pt8Of (i : S3x640x2304.Idx) : ℕ := run8Of i

/-- WHAT THE ARRAY ENDS HOLDING at index `i` inside the box the flushing blocks fill: output 8's component of the carried
    state's fold at the point that writes `i`'s block back, at `i`'s place in the block. `G8` states the array's contents
    only inside the box. -/
def G8 (c : Dev nD) : Buf (Elt F) ((c : Thread nD τ).loc main_v9_0) := fun i =>
  if h : pt8Of i < cfg0.N then
    (Pipeline.accAt (fun n h => stAt0 m c n h junk0) (stAt0 m c) 0 (pt8Of i) (by omega)).1 (loc8Of i)
  else V m c (Pipeline.arrRef spec0 8) i

/-- The printed index map, decided over the grid: output window 8's block indices stay in the box, and the block number
    read off them is the point's (`t`). -/
theorem idx_facts8 : ∀ t : Fin cfg0.N, 0 ≤ win0_8.index t (0 : Fin 3) ∧ win0_8.index t (0 : Fin 3) ≤ 2
    ∧ 0 ≤ win0_8.index t (1 : Fin 3) ∧ win0_8.index t (1 : Fin 3) ≤ 4
    ∧ 0 ≤ win0_8.index t (2 : Fin 3) ∧ win0_8.index t (2 : Fin 3) ≤ 0
    ∧ 5 * (win0_8.index t (0 : Fin 3) - 0) + 1 * (win0_8.index t (1 : Fin 3) - 0) + 1 * (win0_8.index t (2 : Fin 3) - 0) = t.val :=
  (by decide +kernel : ∀ t : Fin grid0.N, _)

/-- Every block of the box is SOME flushing point's: `onto8Pt`, the point that writes back the block at place `q` of the box. -/
abbrev onto8Pt (q0 : Fin 3) (q1 : Fin 5) (q2 : Fin 1) : Fin grid0.N :=
  ⟨5 * q0.val + 1 * q1.val + 1 * q2.val, lt_of_lt_of_eq (by omega) N_0.symm⟩
theorem idx_onto8 : ∀ (q0 : Fin 3) (q1 : Fin 5) (q2 : Fin 1), ∃ t : Fin cfg0.N, (cfg0.win 8).flush t = true ∧ win0_8.index t = ![q0.val + 0, q1.val + 0, q2.val + 0] :=
  fun q0 q1 q2 => ⟨onto8Pt q0 q1 q2, (by decide +kernel : ∀ (q0 : Fin 3) (q1 : Fin 5) (q2 : Fin 1), win0_8.flush (onto8Pt q0 q1 q2) = true ∧ win0_8.index (onto8Pt q0 q1 q2) = ![q0.val + 0, q1.val + 0, q2.val + 0]) q0 q1 q2⟩

/-- WHAT A FLUSHING POINT `t` WRITES BACK is block `t` of `G8`: output 8's component of the fold up to `t`. -/
theorem flushed8_eq (c : Dev nD) (t : Fin cfg0.N) (hf : (cfg0.win 8).flush t = true) :
    (dats m 0 c).flushed 8 t = ((cfg0.win 8).blk t).view.read (Elt F) (G8 m c) := by
  show (cfg0.win 8).cut (grid0.coords t) ((dats m 0 c).after 8 t) = _
  rw [after0_8, outsAt0_sweep]
  obtain ⟨e0, e1, e2, e3⟩ := idx_facts8 t
  funext y
  have hy0 : (y 0).val < 1 := (y 0).isLt
  have hy1 : (y 1).val < 128 := (y 1).isLt
  have hy2 : (y 2).val < 2304 := (y 2).isLt
  have hb0 : (((cfg0.win 8).blk t).view.emb y 0).val = win0_8.index t (0 : Fin 3) * 1 + 1 * (y 0).val := rfl
  have hb1 : (((cfg0.win 8).blk t).view.emb y 1).val = win0_8.index t (1 : Fin 3) * 128 + 1 * (y 1).val := rfl
  have hb2 : (((cfg0.win 8).blk t).view.emb y 2).val = win0_8.index t (2 : Fin 3) * 2304 + 1 * (y 2).val := rfl
  have hr : run8Of (((cfg0.win 8).blk t).view.emb y) = t.val := by
    show 5 * ((((cfg0.win 8).blk t).view.emb y 0).val / 1 - 0) + 1 * ((((cfg0.win 8).blk t).view.emb y 1).val / 128 - 0) + 1 * ((((cfg0.win 8).blk t).view.emb y 2).val / 2304 - 0) = _
    rw [hb0, hb1, hb2]
    rw [show (win0_8.index t (0 : Fin 3) * 1 + 1 * (y 0).val) / 1 = win0_8.index t (0 : Fin 3) from by omega]; rw [show (win0_8.index t (1 : Fin 3) * 128 + 1 * (y 1).val) / 128 = win0_8.index t (1 : Fin 3) from by omega]; rw [show (win0_8.index t (2 : Fin 3) * 2304 + 1 * (y 2).val) / 2304 = win0_8.index t (2 : Fin 3) from by omega]
    omega
  have hl : loc8Of (((cfg0.win 8).blk t).view.emb y) = (cfg0.win 8).xinj (grid0.coords t) y := by
    funext a; apply Fin.ext
    match a with
    | ⟨0, _⟩ => show (((cfg0.win 8).blk t).view.emb y 0).val % 1 = (y 0).val; rw [hb0]; omega
    | ⟨1, _⟩ => show (((cfg0.win 8).blk t).view.emb y 1).val % 128 = (y 1).val; rw [hb1]; omega
    | ⟨2, _⟩ => show (((cfg0.win 8).blk t).view.emb y 2).val % 2304 = (y 2).val; rw [hb2]; omega
  have hp : pt8Of (((cfg0.win 8).blk t).view.emb y) = t.val := by
    exact hr
  show (Pipeline.accAt (fun n h => stAt0 m c n h junk0) (stAt0 m c) 0 t.val _).1 ((cfg0.win 8).xinj (grid0.coords t) y) = G8 m c (((cfg0.win 8).blk t).view.emb y)
  unfold G8
  rw [dif_pos (by rw [hp]; exact t.isLt), hl, fold0_congr m c _ _ _ _ hp.symm]

/-- An index of the array is in point `t`'s block iff each coordinate is in the block's range on its axis. -/
theorem mem_blk8 (t : Fin cfg0.N) (i : S3x640x2304.Idx) :
    i ∈ ((cfg0.win 8).blk t).view.set ↔ ∀ a : Fin 3, win0_8.index t a * S1x128x2304.size a ≤ (i a).val ∧ (i a).val < win0_8.index t a * S1x128x2304.size a + S1x128x2304.size a := by
  show i ∈ ((View.whole main_v9_0).slice (win0_8.rect t)).set ↔ _
  rw [View.set_slice_whole, Rect.mem_set_unit]
  exact Iff.rfl

/-- THE COVERED INDICES: in some flushing point's block iff inside the box those blocks fill. -/
theorem covered_iff8 (i : S3x640x2304.Idx) :
    (∃ t : Fin cfg0.N, (cfg0.win 8).flush t = true ∧ i ∈ ((cfg0.win 8).blk t).view.set) ↔ 0 ≤ (i 0).val ∧ (i 0).val < 3 ∧ 0 ≤ (i 1).val ∧ (i 1).val < 640 ∧ 0 ≤ (i 2).val ∧ (i 2).val < 2304 := by
  constructor
  · rintro ⟨t, -, hi⟩
    rw [mem_blk8] at hi
    have b0 : win0_8.index t (0 : Fin 3) * 1 ≤ (i 0).val ∧ (i 0).val < win0_8.index t (0 : Fin 3) * 1 + 1 := hi 0
    have b1 : win0_8.index t (1 : Fin 3) * 128 ≤ (i 1).val ∧ (i 1).val < win0_8.index t (1 : Fin 3) * 128 + 128 := hi 1
    have b2 : win0_8.index t (2 : Fin 3) * 2304 ≤ (i 2).val ∧ (i 2).val < win0_8.index t (2 : Fin 3) * 2304 + 2304 := hi 2
    obtain ⟨e0, e1, e2, e3⟩ := idx_facts8 t
    omega
  · intro h
    have hi0 : (i 0).val < 3 := (i 0).isLt
    have hi1 : (i 1).val < 640 := (i 1).isLt
    have hi2 : (i 2).val < 2304 := (i 2).isLt
    obtain ⟨t, hft, ht⟩ := idx_onto8 ⟨(i 0).val / 1 - 0, by omega⟩ ⟨(i 1).val / 128 - 0, by omega⟩ ⟨(i 2).val / 2304 - 0, by omega⟩
    have q0 : win0_8.index t (0 : Fin 3) = (i 0).val / 1 - 0 + 0 := congrFun ht 0
    have q1 : win0_8.index t (1 : Fin 3) = (i 1).val / 128 - 0 + 0 := congrFun ht 1
    have q2 : win0_8.index t (2 : Fin 3) = (i 2).val / 2304 - 0 + 0 := congrFun ht 2
    refine ⟨t, hft, ?_⟩
    rw [mem_blk8]
    intro a
    match a with
    | ⟨0, _⟩ => show win0_8.index t (0 : Fin 3) * 1 ≤ (i 0).val ∧ (i 0).val < win0_8.index t (0 : Fin 3) * 1 + 1; omega
    | ⟨1, _⟩ => show win0_8.index t (1 : Fin 3) * 128 ≤ (i 1).val ∧ (i 1).val < win0_8.index t (1 : Fin 3) * 128 + 128; omega
    | ⟨2, _⟩ => show win0_8.index t (2 : Fin 3) * 2304 ≤ (i 2).val ∧ (i 2).val < win0_8.index t (2 : Fin 3) * 2304 + 2304; omega

/-- THE ARRAY after the run: `G8` (the flushing blocks tile it). -/
theorem final8 (c : Dev nD) : (dats m 0 c).arrAt 8 cfg0.N = G8 m c :=
  (dats m 0 c).arrAt_eq_of_cover 8 _ (fun t hf => flushed8_eq m c t hf) (fun i => (covered_iff8 i).2 (by
    have h0 : (i 0).val < 3 := (i 0).isLt; have h1 : (i 1).val < 640 := (i 1).isLt; have h2 : (i 2).val < 2304 := (i 2).isLt; omega))

/-! ## Output window 9 -/

/-- The block of the array that holds index `i`, numbered in the order the points write the blocks back (one every 5 points),
    `i`'s place in it, and the point that writes it back (the last of its 5). -/
abbrev run9Of (i : S3x18x96x128.Idx) : ℕ := 1 * ((i 0).val / 1 - 0) + 1 * ((i 1).val / 18 - 0) + 1 * ((i 2).val / 96 - 0) + 1 * ((i 3).val / 128 - 0)
set_option backward.proofsInPublic true in
abbrev loc9Of (i : S3x18x96x128.Idx) : S1x18x96x128.Idx := fun a => match a with
  | ⟨0, _⟩ => ⟨(i 0).val % 1, Nat.mod_lt _ (by decide)⟩
  | ⟨1, _⟩ => ⟨(i 1).val % 18, Nat.mod_lt _ (by decide)⟩
  | ⟨2, _⟩ => ⟨(i 2).val % 96, Nat.mod_lt _ (by decide)⟩
  | ⟨3, _⟩ => ⟨(i 3).val % 128, Nat.mod_lt _ (by decide)⟩
abbrev pt9Of (i : S3x18x96x128.Idx) : ℕ := 5 * run9Of i + 4

/-- WHAT THE ARRAY ENDS HOLDING at index `i` inside the box the flushing blocks fill: output 9's component of the carried
    state's fold at the point that writes `i`'s block back, at `i`'s place in the block. `G9` states the array's contents
    only inside the box. -/
def G9 (c : Dev nD) : Buf (Elt F) ((c : Thread nD τ).loc main_v9_1) := fun i =>
  if h : pt9Of i < cfg0.N then
    (Pipeline.accAt (fun n h => stAt0 m c n h junk0) (stAt0 m c) 0 (pt9Of i) (by omega)).2.1 (loc9Of i)
  else V m c (Pipeline.arrRef spec0 9) i

/-- The printed index map, decided over the grid: output window 9's block indices stay in the box, and the block number
    read off them is the point's (`t / 5`). -/
theorem idx_facts9 : ∀ t : Fin cfg0.N, 0 ≤ win0_9.index t (0 : Fin 4) ∧ win0_9.index t (0 : Fin 4) ≤ 2
    ∧ 0 ≤ win0_9.index t (1 : Fin 4) ∧ win0_9.index t (1 : Fin 4) ≤ 0
    ∧ 0 ≤ win0_9.index t (2 : Fin 4) ∧ win0_9.index t (2 : Fin 4) ≤ 0
    ∧ 0 ≤ win0_9.index t (3 : Fin 4) ∧ win0_9.index t (3 : Fin 4) ≤ 0
    ∧ 1 * (win0_9.index t (0 : Fin 4) - 0) + 1 * (win0_9.index t (1 : Fin 4) - 0) + 1 * (win0_9.index t (2 : Fin 4) - 0) + 1 * (win0_9.index t (3 : Fin 4) - 0) = t.val / 5 :=
  (by decide +kernel : ∀ t : Fin grid0.N, _)

/-- Every block of the box is SOME flushing point's: `onto9Pt`, the point that writes back the block at place `q` of the box (the last point of its run). -/
abbrev onto9Pt (q0 : Fin 3) (q1 : Fin 1) (q2 : Fin 1) (q3 : Fin 1) : Fin grid0.N :=
  ⟨5 * (1 * q0.val + 1 * q1.val + 1 * q2.val + 1 * q3.val) + 4, lt_of_lt_of_eq (by omega) N_0.symm⟩
theorem idx_onto9 : ∀ (q0 : Fin 3) (q1 : Fin 1) (q2 : Fin 1) (q3 : Fin 1), ∃ t : Fin cfg0.N, (cfg0.win 9).flush t = true ∧ win0_9.index t = ![q0.val + 0, q1.val + 0, q2.val + 0, q3.val + 0] :=
  fun q0 q1 q2 q3 => ⟨onto9Pt q0 q1 q2 q3, (by decide +kernel : ∀ (q0 : Fin 3) (q1 : Fin 1) (q2 : Fin 1) (q3 : Fin 1), win0_9.flush (onto9Pt q0 q1 q2 q3) = true ∧ win0_9.index (onto9Pt q0 q1 q2 q3) = ![q0.val + 0, q1.val + 0, q2.val + 0, q3.val + 0]) q0 q1 q2 q3⟩

/-- WHAT A FLUSHING POINT `t` WRITES BACK is block `t` of `G9`: output 9's component of the fold up to `t`. -/
theorem flushed9_eq (c : Dev nD) (t : Fin cfg0.N) (hf : (cfg0.win 9).flush t = true) :
    (dats m 0 c).flushed 9 t = ((cfg0.win 9).blk t).view.read (Elt F) (G9 m c) := by
  show (cfg0.win 9).cut (grid0.coords t) ((dats m 0 c).after 9 t) = _
  rw [after0_9, outsAt0_sweep]
  have hm : t.val % 5 = 4 := (flush0_9 t).mp hf
  obtain ⟨e0, e1, e2, e3, e4⟩ := idx_facts9 t
  funext y
  have hy0 : (y 0).val < 1 := (y 0).isLt
  have hy1 : (y 1).val < 18 := (y 1).isLt
  have hy2 : (y 2).val < 96 := (y 2).isLt
  have hy3 : (y 3).val < 128 := (y 3).isLt
  have hb0 : (((cfg0.win 9).blk t).view.emb y 0).val = win0_9.index t (0 : Fin 4) * 1 + 1 * (y 0).val := rfl
  have hb1 : (((cfg0.win 9).blk t).view.emb y 1).val = win0_9.index t (1 : Fin 4) * 18 + 1 * (y 1).val := rfl
  have hb2 : (((cfg0.win 9).blk t).view.emb y 2).val = win0_9.index t (2 : Fin 4) * 96 + 1 * (y 2).val := rfl
  have hb3 : (((cfg0.win 9).blk t).view.emb y 3).val = win0_9.index t (3 : Fin 4) * 128 + 1 * (y 3).val := rfl
  have hr : run9Of (((cfg0.win 9).blk t).view.emb y) = t.val / 5 := by
    show 1 * ((((cfg0.win 9).blk t).view.emb y 0).val / 1 - 0) + 1 * ((((cfg0.win 9).blk t).view.emb y 1).val / 18 - 0) + 1 * ((((cfg0.win 9).blk t).view.emb y 2).val / 96 - 0) + 1 * ((((cfg0.win 9).blk t).view.emb y 3).val / 128 - 0) = _
    rw [hb0, hb1, hb2, hb3]
    rw [show (win0_9.index t (0 : Fin 4) * 1 + 1 * (y 0).val) / 1 = win0_9.index t (0 : Fin 4) from by omega]; rw [show (win0_9.index t (1 : Fin 4) * 18 + 1 * (y 1).val) / 18 = win0_9.index t (1 : Fin 4) from by omega]; rw [show (win0_9.index t (2 : Fin 4) * 96 + 1 * (y 2).val) / 96 = win0_9.index t (2 : Fin 4) from by omega]; rw [show (win0_9.index t (3 : Fin 4) * 128 + 1 * (y 3).val) / 128 = win0_9.index t (3 : Fin 4) from by omega]
    omega
  have hl : loc9Of (((cfg0.win 9).blk t).view.emb y) = (cfg0.win 9).xinj (grid0.coords t) y := by
    funext a; apply Fin.ext
    match a with
    | ⟨0, _⟩ => show (((cfg0.win 9).blk t).view.emb y 0).val % 1 = (y 0).val; rw [hb0]; omega
    | ⟨1, _⟩ => show (((cfg0.win 9).blk t).view.emb y 1).val % 18 = (y 1).val; rw [hb1]; omega
    | ⟨2, _⟩ => show (((cfg0.win 9).blk t).view.emb y 2).val % 96 = (y 2).val; rw [hb2]; omega
    | ⟨3, _⟩ => show (((cfg0.win 9).blk t).view.emb y 3).val % 128 = (y 3).val; rw [hb3]; omega
  have hp : pt9Of (((cfg0.win 9).blk t).view.emb y) = t.val := by
    show 5 * run9Of (((cfg0.win 9).blk t).view.emb y) + 4 = _
    rw [hr]; have := Nat.div_add_mod t.val 5; omega
  show (Pipeline.accAt (fun n h => stAt0 m c n h junk0) (stAt0 m c) 0 t.val _).2.1 ((cfg0.win 9).xinj (grid0.coords t) y) = G9 m c (((cfg0.win 9).blk t).view.emb y)
  unfold G9
  rw [dif_pos (by rw [hp]; exact t.isLt), hl, fold0_congr m c _ _ _ _ hp.symm]

/-- An index of the array is in point `t`'s block iff each coordinate is in the block's range on its axis. -/
theorem mem_blk9 (t : Fin cfg0.N) (i : S3x18x96x128.Idx) :
    i ∈ ((cfg0.win 9).blk t).view.set ↔ ∀ a : Fin 4, win0_9.index t a * S1x18x96x128.size a ≤ (i a).val ∧ (i a).val < win0_9.index t a * S1x18x96x128.size a + S1x18x96x128.size a := by
  show i ∈ ((View.whole main_v9_1).slice (win0_9.rect t)).set ↔ _
  rw [View.set_slice_whole, Rect.mem_set_unit]
  exact Iff.rfl

/-- THE COVERED INDICES: in some flushing point's block iff inside the box those blocks fill. -/
theorem covered_iff9 (i : S3x18x96x128.Idx) :
    (∃ t : Fin cfg0.N, (cfg0.win 9).flush t = true ∧ i ∈ ((cfg0.win 9).blk t).view.set) ↔ 0 ≤ (i 0).val ∧ (i 0).val < 3 ∧ 0 ≤ (i 1).val ∧ (i 1).val < 18 ∧ 0 ≤ (i 2).val ∧ (i 2).val < 96 ∧ 0 ≤ (i 3).val ∧ (i 3).val < 128 := by
  constructor
  · rintro ⟨t, -, hi⟩
    rw [mem_blk9] at hi
    have b0 : win0_9.index t (0 : Fin 4) * 1 ≤ (i 0).val ∧ (i 0).val < win0_9.index t (0 : Fin 4) * 1 + 1 := hi 0
    have b1 : win0_9.index t (1 : Fin 4) * 18 ≤ (i 1).val ∧ (i 1).val < win0_9.index t (1 : Fin 4) * 18 + 18 := hi 1
    have b2 : win0_9.index t (2 : Fin 4) * 96 ≤ (i 2).val ∧ (i 2).val < win0_9.index t (2 : Fin 4) * 96 + 96 := hi 2
    have b3 : win0_9.index t (3 : Fin 4) * 128 ≤ (i 3).val ∧ (i 3).val < win0_9.index t (3 : Fin 4) * 128 + 128 := hi 3
    obtain ⟨e0, e1, e2, e3, e4⟩ := idx_facts9 t
    omega
  · intro h
    have hi0 : (i 0).val < 3 := (i 0).isLt
    have hi1 : (i 1).val < 18 := (i 1).isLt
    have hi2 : (i 2).val < 96 := (i 2).isLt
    have hi3 : (i 3).val < 128 := (i 3).isLt
    obtain ⟨t, hft, ht⟩ := idx_onto9 ⟨(i 0).val / 1 - 0, by omega⟩ ⟨(i 1).val / 18 - 0, by omega⟩ ⟨(i 2).val / 96 - 0, by omega⟩ ⟨(i 3).val / 128 - 0, by omega⟩
    have q0 : win0_9.index t (0 : Fin 4) = (i 0).val / 1 - 0 + 0 := congrFun ht 0
    have q1 : win0_9.index t (1 : Fin 4) = (i 1).val / 18 - 0 + 0 := congrFun ht 1
    have q2 : win0_9.index t (2 : Fin 4) = (i 2).val / 96 - 0 + 0 := congrFun ht 2
    have q3 : win0_9.index t (3 : Fin 4) = (i 3).val / 128 - 0 + 0 := congrFun ht 3
    refine ⟨t, hft, ?_⟩
    rw [mem_blk9]
    intro a
    match a with
    | ⟨0, _⟩ => show win0_9.index t (0 : Fin 4) * 1 ≤ (i 0).val ∧ (i 0).val < win0_9.index t (0 : Fin 4) * 1 + 1; omega
    | ⟨1, _⟩ => show win0_9.index t (1 : Fin 4) * 18 ≤ (i 1).val ∧ (i 1).val < win0_9.index t (1 : Fin 4) * 18 + 18; omega
    | ⟨2, _⟩ => show win0_9.index t (2 : Fin 4) * 96 ≤ (i 2).val ∧ (i 2).val < win0_9.index t (2 : Fin 4) * 96 + 96; omega
    | ⟨3, _⟩ => show win0_9.index t (3 : Fin 4) * 128 ≤ (i 3).val ∧ (i 3).val < win0_9.index t (3 : Fin 4) * 128 + 128; omega

/-- THE ARRAY after the run: `G9` (the flushing blocks tile it). -/
theorem final9 (c : Dev nD) : (dats m 0 c).arrAt 9 cfg0.N = G9 m c :=
  (dats m 0 c).arrAt_eq_of_cover 9 _ (fun t hf => flushed9_eq m c t hf) (fun i => (covered_iff9 i).2 (by
    have h0 : (i 0).val < 3 := (i 0).isLt; have h1 : (i 1).val < 18 := (i 1).isLt; have h2 : (i 2).val < 96 := (i 2).isLt; have h3 : (i 3).val < 128 := (i 3).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v9_0) = G8 m c
      ∧ r.2.mem ((c : Thread nD τ).loc main_v9_1) = G9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(post8 m r h c).trans (final8 m c),
      (post9 m r h c).trans (final9 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.KernelIdeal.Value

end
-- ==== Proof.Preserves.lean ====
/-
  The rewrites that lead from the kernel to its idealization, each an instance of a rule's own statement: the constant
  `1 / log 2` under its name, and pairs of bf16 numbers packed in one 32-bit word read as the two numbers.
-/
module

public import proofs.«01_k».proof.Defs
public import Idealize.ShloMosaic.Lib.Bf16Pair

@[expose] public section

noncomputable section

namespace Cert.Own

open Idealize.ShloMosaic

/-- Every rewrite of the ledger is an instance of its rule. -/
theorem preserves : Cert.preserves_Kernel_KernelIdeal :=
  ⟨IdealRules.named_const.statement _ _ _ _ _ rfl,
   IdealRules.bf16_pack.statement _,
   IdealRules.bf16_pair.statement _ _,
   IdealRules.bf16_pair.selectZeroStatement _,
   IdealRules.bf16_pack.statement _,
   IdealRules.bf16_pair.statement _ _,
   IdealRules.bf16_pack.statement _,
   IdealRules.bf16_pair.statement _ _⟩

end Cert.Own

end
-- ==== Proof.Value.Head.lean ====
/-
  One head of the kernel's pair of chunks, over the real numbers. `Head` holds the real data of a head's pair: the log
  decays `g`, the codes `kc`, `qc` (channel by token), the scales `ks`, `qs` and `be` (by token), the values `v` (token
  by channel) and the carried state `S` (key channel by value channel). Indices are natural numbers; a pair has tokens
  0..127, chunk 0 the first 64 and chunk 1 the others.
-/
module

public import Mathlib.Analysis.SpecialFunctions.Pow.Real
public import Mathlib.Analysis.SpecialFunctions.Log.Basic

@[expose] public section

noncomputable section

namespace Cert.Own

open Finset

/-- The real data of one head's pair of chunks. -/
structure Head where
  g : ℕ → ℕ → ℝ
  kc : ℕ → ℕ → ℝ
  qc : ℕ → ℕ → ℝ
  ks : ℕ → ℝ
  qs : ℕ → ℝ
  be : ℕ → ℝ
  v : ℕ → ℕ → ℝ

/-- The 0/1 matrix of the two cumulative sums of a chunk: lanes 0..127 sum the tokens up to `t`, lanes 128..255 the
    tokens after `t`. -/
def cum (l t : ℕ) : ℝ :=
  if t < 128 then (if l / 64 = t / 64 ∧ l ≤ t then 1 else 0)
  else (if l / 64 = (t - 128) / 64 ∧ t - 128 < l then 1 else 0)

namespace Head

variable (D : Head)

/-- The two cumulative log decays, in base 2. -/
def gg (k t : ℕ) : ℝ := ∑ l ∈ range 128, D.g k l * (Real.log 2)⁻¹ * cum l t
/-- The decay from the chunk's start to token `t`. -/
def e (k t : ℕ) : ℝ := Real.rpow 2 (D.gg k t)
/-- Decayed key codes, token by channel, zero in the padding channels. -/
def kp (t k : ℕ) : ℝ := if k < 96 then D.kc k t * D.e k t else 0
/-- Decayed query codes, token by channel. -/
def qp (t k : ℕ) : ℝ := if k < 96 then D.qc k t * D.e k t else 0
/-- Key codes with the inverse decay. -/
def kn (k t : ℕ) : ℝ := D.kc k t * Real.rpow 2 (0 - D.gg k t)
/-- Key codes with the decay from `t` to the chunk's end. -/
def kd (k t : ℕ) : ℝ := D.kc k t * Real.rpow 2 (D.gg k (128 + t))
/-- Scores: row `r` of the keys (0..63) or queries (64..127) of lane `l`'s chunk against the key of token `l`. -/
def sc (r l : ℕ) : ℝ :=
  ∑ k ∈ range 96, (if r < 64 then D.kp (r + 64 * (l / 64)) k else D.qp (r - 64 + 64 * (l / 64)) k) * D.kn k l
/-- The row factor of the triangular system. -/
def cc (t : ℕ) : ℝ := D.be t * D.ks t * D.ks t
/-- The factor of the values on its right-hand side. -/
def bk (t : ℕ) : ℝ := D.be t * D.ks t
/-- The strictly lower triangular matrices of both chunks, chunk `c` in lanes `64c..64c+63`. -/
def a (r l : ℕ) : ℝ := if l % 64 < r then D.cc (r + 64 * (l / 64)) * D.sc r l else 0
/-- The causal query scores of both chunks. -/
def qk (r l : ℕ) : ℝ := if l % 64 ≤ r then D.sc (r + 64) l else 0
/-- The four 32-by-32 diagonal blocks of `a`, side by side. -/
def d (r l : ℕ) : ℝ := if l / 32 % 2 = 1 then D.a (r + 32) l else D.a r l

end Head

/-- One step of the elimination: rows from `8 * (j / 8)` on lose column `j` of their block times row `j`. -/
def elim (d : ℕ → ℕ → ℝ) (j : ℕ) (x : ℕ → ℕ → ℝ) (r l : ℕ) : ℝ :=
  if r < j / 8 * 8 then x r l else x r l - d r (32 * (l / 32) + j) * x j l

/-- Four identity matrices side by side. -/
def eye4 (r l : ℕ) : ℝ := if l % 32 = r then 1 else 0

/-- The elimination after `j` steps. -/
def elims (d : ℕ → ℕ → ℝ) : ℕ → ℕ → ℕ → ℝ
  | 0 => eye4
  | j + 1 => elim d j (elims d j)

/-- The f32 constant nearest `96 ^ (-1/2)`. -/
def SC : ℝ := 13698540 / 134217728

namespace Head

variable (D : Head)

/-- The inverses of the four unit lower triangular diagonal blocks, side by side. -/
@[irreducible] def ti : ℕ → ℕ → ℝ := elims D.d 31
theorem ti_eq : D.ti = elims D.d 31 := by unfold ti; rfl
/-- Chunk `c`'s keys (rows 0..63) and queries (rows 64..127) against the carried state `S`. -/
def p (c : ℕ) (S : ℕ → ℕ → ℝ) (r l : ℕ) : ℝ :=
  ∑ x ∈ range 96, (if r < 64 then D.kp (r + 64 * c) x else D.qp (r - 64 + 64 * c) x) * S x l
/-- The right-hand side of chunk `c`'s triangular system. -/
def rr (c : ℕ) (S : ℕ → ℕ → ℝ) (t l : ℕ) : ℝ :=
  D.bk (t + 64 * c) * D.v (t + 64 * c) l - D.cc (t + 64 * c) * D.p c S t l
/-- The solution's first 32 rows. -/
def u1 (c : ℕ) (S : ℕ → ℕ → ℝ) (t l : ℕ) : ℝ := ∑ x ∈ range 32, D.ti t (64 * c + x) * D.rr c S x l
/-- What is left on the right-hand side of the last 32 rows. -/
def r2 (c : ℕ) (S : ℕ → ℕ → ℝ) (t l : ℕ) : ℝ :=
  D.rr c S (t + 32) l - ∑ x ∈ range 32, D.a (t + 32) (64 * c + x) * D.u1 c S x l
/-- The solution's last 32 rows. -/
def u2 (c : ℕ) (S : ℕ → ℕ → ℝ) (t l : ℕ) : ℝ := ∑ x ∈ range 32, D.ti t (64 * c + 32 + x) * D.r2 c S x l
/-- The solution. -/
def u (c : ℕ) (S : ℕ → ℕ → ℝ) (t l : ℕ) : ℝ := if t < 32 then D.u1 c S t l else D.u2 c S (t - 32) l
/-- The causal scores (rows 0..63) and the decayed keys (rows 64..159) times the solution. -/
def w (c : ℕ) (S : ℕ → ℕ → ℝ) (r l : ℕ) : ℝ :=
  ∑ x ∈ range 64, (if r < 64 then D.qk r (64 * c + x) else D.kd (r - 64) (64 * c + x)) * D.u c S x l
/-- The chunk's output. -/
def o (c : ℕ) (S : ℕ → ℕ → ℝ) (t l : ℕ) : ℝ := D.qs (t + 64 * c) * SC * (D.p c S (t + 64) l + D.w c S t l)
/-- The state after the chunk. -/
def s (c : ℕ) (S : ℕ → ℕ → ℝ) (r l : ℕ) : ℝ := D.e r (64 * c + 63) * S r l + D.w c S (r + 64) l

end Head

/-- A block row of the folded product: block `q` of `T` in its own lanes and again three blocks on. -/
def slot (q : ℕ) (T : ℕ → ℕ → ℝ) (r l : ℕ) : ℝ :=
  if l / 32 = q then T r l else if l / 32 = (q + 3) % 4 then T r ((l + 32) % 128) else 0

/-- The right operand of the folded product: `R` in every block of rows but the one three blocks on. -/
def stack (q : ℕ) (R : ℕ → ℕ → ℝ) (x l : ℕ) : ℝ :=
  if l < 128 then (if x / 32 = (q + 3) % 4 then 0 else R (x % 32) l) else 0

/-- The folded product is block `q` of `T` times `R`. -/
theorem fold_slot (q : ℕ) (hq : q < 4) (T R : ℕ → ℕ → ℝ) (r l : ℕ) (hl : l < 128) :
    ∑ x ∈ range 128, slot q T r x * stack q R x l + ∑ x ∈ range 128, slot q T r x * stack q R x (128 + l)
      = ∑ x ∈ range 32, T r (32 * q + x) * R x l := by
  have h0 : ∑ x ∈ range 128, slot q T r x * stack q R x (128 + l) = 0 :=
    Finset.sum_eq_zero fun x _ => by rw [stack, if_neg (by omega), mul_zero]
  have key : ∀ i < 4, ∑ x ∈ range 32, slot q T r (32 * i + x) * stack q R (32 * i + x) l
      = if i = q then ∑ x ∈ range 32, T r (32 * q + x) * R x l else 0 := by
    intro i hi
    split
    · subst i
      refine Finset.sum_congr rfl fun x hx => ?_
      have := Finset.mem_range.1 hx
      rw [slot, stack, if_pos (by omega), if_pos hl, if_neg (by omega), show (32 * q + x) % 32 = x by omega]
    · refine Finset.sum_eq_zero fun x hx => ?_
      have := Finset.mem_range.1 hx
      rw [slot, stack, if_neg (by omega), if_pos hl]
      by_cases h : (32 * i + x) / 32 = (q + 3) % 4
      · rw [if_pos h, if_pos h, mul_zero]
      · rw [if_neg h, zero_mul]
  rw [h0, add_zero, show (128 : ℕ) = 32 + 32 + 32 + 32 from rfl, Finset.sum_range_add, Finset.sum_range_add,
    Finset.sum_range_add]
  have k0 := key 0 (by omega)
  have k1 := key 1 (by omega)
  have k2 := key 2 (by omega)
  have k3 := key 3 (by omega)
  simp only [mul_zero, zero_add] at k0
  rw [k0, show ∀ x, 32 + x = 32 * 1 + x from fun x => rfl]
  simp only [show ∀ x, 32 + x = 32 * 1 + x from fun x => rfl, show ∀ x, 32 + 32 + x = 32 * 2 + x from fun x => rfl,
    show ∀ x, 32 + 32 + 32 + x = 32 * 3 + x from fun x => rfl] at *
  rw [k1, k2, k3]
  have : q = 0 ∨ q = 1 ∨ q = 2 ∨ q = 3 := by omega
  rcases this with rfl | rfl | rfl | rfl <;> simp

/-- The same, with the sums over the index type. -/
theorem fold_slot_fin (q : ℕ) (hq : q < 4) (T R : ℕ → ℕ → ℝ) (r l : ℕ) (hl : l < 128) :
    ∑ x : Fin 128, slot q T r x * stack q R x l + ∑ x : Fin 128, slot q T r x * stack q R x (128 + l)
      = ∑ x ∈ range 32, T r (32 * q + x) * R x l := by
  rw [← fold_slot q hq T R r l hl, Finset.sum_range, Finset.sum_range]

/-- The folded product of chunk 0's scores: only the first 64 lanes of each half of the left operand are there, and the
    second half meets the last piece of the right operand, which is zero. -/
theorem fold_w0 (A : ℕ → ℝ) (U : ℕ → ℕ → ℝ) (l : ℕ) (hl : l < 128) :
    ∑ i : Fin 256, (if i.val % 128 < 64 then A (i.val % 128) else 0) *
        (if l < 128 ∧ ¬(128 ≤ i.val ∧ i.val < 192) then U (i.val % 64) l else 0)
      + ∑ i : Fin 256, (if i.val % 128 < 64 then A (i.val % 128) else 0) *
        (if 128 + l < 128 ∧ ¬(128 ≤ i.val ∧ i.val < 192) then U (i.val % 64) (128 + l) else 0)
      = ∑ x ∈ range 64, A x * U x l := by
  have h0 : ∀ i : Fin 256, (if i.val % 128 < 64 then A (i.val % 128) else 0) *
      (if 128 + l < 128 ∧ ¬(128 ≤ i.val ∧ i.val < 192) then U (i.val % 64) (128 + l) else 0) = 0 := fun i => by
    rw [if_neg (c := 128 + l < 128 ∧ _) (by omega), mul_zero]
  rw [Finset.sum_congr rfl fun i _ => h0 i, Finset.sum_const_zero, add_zero,
    ← Finset.sum_range (fun i => (if i % 128 < 64 then A (i % 128) else 0) *
        (if l < 128 ∧ ¬(128 ≤ i ∧ i < 192) then U (i % 64) l else 0)),
    show (256 : ℕ) = 64 + 192 from rfl, Finset.sum_range_add]
  have h1 : ∀ x ∈ range 192, (if (64 + x) % 128 < 64 then A ((64 + x) % 128) else 0) *
      (if l < 128 ∧ ¬(128 ≤ 64 + x ∧ 64 + x < 192) then U ((64 + x) % 64) l else 0) = 0 := by
    intro x hx
    have := Finset.mem_range.1 hx
    by_cases h : (64 + x) % 128 < 64
    · rw [if_neg (c := l < 128 ∧ _) (by omega), mul_zero]
    · rw [if_neg h, zero_mul]
  rw [Finset.sum_eq_zero h1, add_zero]
  refine Finset.sum_congr rfl fun x hx => ?_
  have := Finset.mem_range.1 hx
  rw [if_pos (by omega), if_pos (by omega), show x % 128 = x by omega, show x % 64 = x by omega]

/-- The folded product of chunk 1's scores. -/
theorem fold_w1 (A : ℕ → ℝ) (U : ℕ → ℕ → ℝ) (l : ℕ) (hl : l < 128) :
    ∑ i : Fin 256, (if i.val % 128 < 64 then 0 else A (i.val % 128)) *
        (if l < 128 ∧ i.val < 192 then U (i.val % 64) l else 0)
      + ∑ i : Fin 256, (if i.val % 128 < 64 then 0 else A (i.val % 128)) *
        (if 128 + l < 128 ∧ i.val < 192 then U (i.val % 64) (128 + l) else 0)
      = ∑ x ∈ range 64, A (64 + x) * U x l := by
  have h0 : ∀ i : Fin 256, (if i.val % 128 < 64 then 0 else A (i.val % 128)) *
      (if 128 + l < 128 ∧ i.val < 192 then U (i.val % 64) (128 + l) else 0) = 0 := fun i => by
    rw [if_neg (c := 128 + l < 128 ∧ _) (by omega), mul_zero]
  rw [Finset.sum_congr rfl fun i _ => h0 i, Finset.sum_const_zero, add_zero,
    ← Finset.sum_range (fun i => (if i % 128 < 64 then 0 else A (i % 128)) *
        (if l < 128 ∧ i < 192 then U (i % 64) l else 0)),
    show (256 : ℕ) = 64 + 64 + 128 from rfl, Finset.sum_range_add, Finset.sum_range_add]
  have h1 : ∀ x ∈ range 128, (if (64 + 64 + x) % 128 < 64 then 0 else A ((64 + 64 + x) % 128)) *
      (if l < 128 ∧ 64 + 64 + x < 192 then U ((64 + 64 + x) % 64) l else 0) = 0 := by
    intro x hx
    have := Finset.mem_range.1 hx
    by_cases h : (64 + 64 + x) % 128 < 64
    · rw [if_pos h, zero_mul]
    · rw [if_neg (c := l < 128 ∧ _) (by omega), mul_zero]
  have h2 : ∀ x ∈ range 64, (if x % 128 < 64 then 0 else A (x % 128)) *
      (if l < 128 ∧ x < 192 then U (x % 64) l else 0) = 0 := by
    intro x hx
    have := Finset.mem_range.1 hx
    rw [if_pos (by omega), zero_mul]
  rw [Finset.sum_eq_zero h1, Finset.sum_eq_zero h2, add_zero, zero_add]
  refine Finset.sum_congr rfl fun x hx => ?_
  have := Finset.mem_range.1 hx
  rw [if_neg (by omega), if_pos (by omega), show (64 + x) % 128 = 64 + x by omega, show (64 + x) % 64 = x by omega]

/-- The folded product with the state: its rows past the 96th and its right half are zero. -/
theorem fold_p (A : ℕ → ℝ) (S : ℕ → ℕ → ℝ) (l : ℕ) (hl : l < 128) :
    ∑ i : Fin 128, A i * (if i.val < 96 ∧ l < 128 then S i l else 0)
        + ∑ i : Fin 128, A i * (if 128 + i.val < 96 ∧ l < 128 then S (128 + i) l else 0)
      + (∑ i : Fin 128, A i * (if i.val < 96 ∧ 128 + l < 128 then S i (128 + l) else 0)
        + ∑ i : Fin 128, A i * (if 128 + i.val < 96 ∧ 128 + l < 128 then S (128 + i) (128 + l) else 0))
      = ∑ x ∈ range 96, A x * S x l := by
  have h1 : ∀ i : Fin 128, A i * (if 128 + i.val < 96 ∧ l < 128 then S (128 + i) l else 0) = 0 := fun i => by
    rw [if_neg (by omega), mul_zero]
  have h2 : ∀ i : Fin 128, A i * (if i.val < 96 ∧ 128 + l < 128 then S i (128 + l) else 0) = 0 := fun i => by
    rw [if_neg (by omega), mul_zero]
  have h3 : ∀ i : Fin 128, A i * (if 128 + i.val < 96 ∧ 128 + l < 128 then S (128 + i) (128 + l) else 0) = 0 :=
    fun i => by rw [if_neg (by omega), mul_zero]
  rw [Finset.sum_congr rfl fun i _ => h1 i, Finset.sum_congr rfl fun i _ => h2 i, Finset.sum_congr rfl fun i _ => h3 i,
    Finset.sum_const_zero, add_zero, add_zero, add_zero,
    ← Finset.sum_range (fun i => A i * (if i < 96 ∧ l < 128 then S i l else 0)),
    show (128 : ℕ) = 96 + 32 from rfl, Finset.sum_range_add]
  have h4 : ∀ x ∈ range 32, A (96 + x) * (if 96 + x < 96 ∧ l < 96 + 32 then S (96 + x) l else 0) = 0 := by
    intro x _
    rw [if_neg (by omega), mul_zero]
  rw [Finset.sum_eq_zero h4, add_zero]
  refine Finset.sum_congr rfl fun x hx => ?_
  have := Finset.mem_range.1 hx
  rw [if_pos (by omega)]

/-- The elements of even and odd rows, put back together. -/
theorem parity (f : ℕ → ℝ) (r : ℕ) : (if r % 2 = 0 then f (2 * (r / 2)) else f (2 * (r / 2) + 1)) = f r := by
  split
  · congr 1; omega
  · congr 1; omega

end Cert.Own

end
-- ==== Proof.Value.Lift.lean ====
/-
  Vectors of real numbers. `R2 f` is the rank-2 float vector whose element at row `r`, lane `l` is the real number
  `f r l`; the index functions take plain natural numbers, so that slices, concatenations and rotations are arithmetic
  on them. The lemmas here move the coercion from the reals outwards through the operations that occur.
-/
module

public import Idealize.ShloMosaic.Lib.Pointwise
public import Idealize.ShloMosaic.PureOps.Ideal

@[expose] public section

noncomputable section

namespace Cert.Own

open Idealize.ShloMosaic

/-- The rank-2 float vector of the real numbers `f r l`. -/
def R2 {m n : ℕ} {φ : FTy} (f : ℕ → ℕ → ℝ) : FVec Ideal ⟨2, ![m, n]⟩ φ := fun i => ((f (i 0).val (i 1).val : ℝ) : EReal)

/-- The rank-2 mask that holds where `p r l` does. -/
def B2 {m n : ℕ} (p : ℕ → ℕ → Prop) [∀ r l, Decidable (p r l)] : IVec ⟨2, ![m, n]⟩ 1 :=
  fun i => if p (i 0).val (i 1).val then 1#1 else 0#1

/-- The rank-2 vector of the 32-bit words `f r l`. -/
def I2 {m n : ℕ} (f : ℕ → ℕ → ℕ) : IVec ⟨2, ![m, n]⟩ 32 := fun i => BitVec.ofNat 32 (f (i 0).val (i 1).val)

@[simp] theorem R2_ix2 {m n : ℕ} {φ : FTy} (f : ℕ → ℕ → ℝ) (r : Fin m) (l : Fin n) :
    R2 (φ := φ) f (ix2 r l) = ((f r.val l.val : ℝ) : EReal) := rfl

@[simp] theorem B2_ix2 {m n : ℕ} (p : ℕ → ℕ → Prop) [∀ r l, Decidable (p r l)] (r : Fin m) (l : Fin n) :
    B2 p (ix2 r l) = if p r.val l.val then 1#1 else 0#1 := rfl

@[simp] theorem I2_ix2 {m n : ℕ} (f : ℕ → ℕ → ℕ) (r : Fin m) (l : Fin n) :
    I2 f (ix2 r l) = BitVec.ofNat 32 (f r.val l.val) := rfl

/-- Two rank-2 vectors are equal when they agree at every row and lane. -/
theorem ext2 {α : Type} {m n : ℕ} {a b : (⟨2, ![m, n]⟩ : Shape).Idx → α}
    (h : ∀ (r : Fin m) (l : Fin n), a (ix2 r l) = b (ix2 r l)) : a = b := by
  funext i
  have := h (i 0) (i 1)
  rwa [ix2_eta] at this

/-- Equal real functions on the indices in range give the same vector. -/
theorem R2_congr {m n : ℕ} {φ : FTy} {f g : ℕ → ℕ → ℝ} (h : ∀ r l, r < m → l < n → f r l = g r l) :
    R2 (m := m) (n := n) (φ := φ) f = R2 g := by
  funext i
  exact congrArg _ (h _ _ (i 0).isLt (i 1).isLt)

theorem exp2_real (φ : FTy) (x : ℝ) : FloatOps.exp2 (F := Ideal) (φ := φ) (x : EReal) = ((Real.rpow 2 x : ℝ) : EReal) := rfl

theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

theorem ite_coe (p : Prop) [Decidable p] (a b : ℝ) :
    (if p then (a : EReal) else (b : EReal)) = ((if p then a else b : ℝ) : EReal) := (apply_ite _ p a b).symm

theorem sel_ite {α : Type} (p : Prop) [Decidable p] (a b : α) :
    Scalar.select (if p then 1#1 else 0#1) a b = if p then a else b := by
  split <;> rfl

theorem xor_ite (p : Prop) [Decidable p] :
    IntOp.xori (if p then 1#1 else 0#1) 1#1 = if ¬p then 1#1 else 0#1 := by
  split <;> simp_all [IntOp.xori]

theorem or_ite (p q : Prop) [Decidable p] [Decidable q] :
    IntOp.ori (if p then 1#1 else 0#1) (if q then 1#1 else 0#1) = if p ∨ q then 1#1 else 0#1 := by
  by_cases p <;> by_cases q <;> simp_all [IntOp.ori]

theorem and_ite (p q : Prop) [Decidable p] [Decidable q] :
    IntOp.andi (if p then 1#1 else 0#1) (if q then 1#1 else 0#1) = if p ∧ q then 1#1 else 0#1 := by
  by_cases p <;> by_cases q <;> simp_all [IntOp.andi]

/-- Comparing two small words for equality compares the numbers. -/
theorem cmp_eq (a b : ℕ) (ha : a < 4294967296) (hb : b < 4294967296) :
    IntOp.cmpi .eq (BitVec.ofNat 32 a) (BitVec.ofNat 32 b) = if a = b then 1#1 else 0#1 := by
  have h : (BitVec.ofNat 32 a = BitVec.ofNat 32 b) ↔ a = b := by
    constructor
    · intro h
      have := congrArg BitVec.toNat h
      simp only [BitVec.toNat_ofNat] at this
      omega
    · rintro rfl; rfl
  by_cases hab : a = b
  · subst hab; simp [IntOp.cmpi]
  · have h' : (BitVec.ofNat 32 a == BitVec.ofNat 32 b) = false := beq_eq_false_iff_ne.2 fun h' => hab (h.1 h')
    rw [if_neg hab]
    unfold IntOp.cmpi
    rw [h']; rfl

/-- A small word is its number, read as signed. -/
theorem toInt_small (a : ℕ) (ha : a < 2147483648) : (BitVec.ofNat 32 a).toInt = a := by
  rw [BitVec.toInt_eq_toNat_cond, BitVec.toNat_ofNat, Nat.mod_eq_of_lt (by omega), if_pos (by omega)]

/-- Comparing two small words as signed compares the numbers. -/
theorem cmp_slt (a b : ℕ) (ha : a < 2147483648) (hb : b < 2147483648) :
    IntOp.cmpi .slt (BitVec.ofNat 32 a) (BitVec.ofNat 32 b) = if a < b then 1#1 else 0#1 := by
  unfold IntOp.cmpi BitVec.slt
  simp only [toInt_small a ha, toInt_small b hb, Nat.cast_lt]
  by_cases hab : a < b <;> simp [hab]

theorem cmp_sle (a b : ℕ) (ha : a < 2147483648) (hb : b < 2147483648) :
    IntOp.cmpi .sle (BitVec.ofNat 32 a) (BitVec.ofNat 32 b) = if a ≤ b then 1#1 else 0#1 := by
  unfold IntOp.cmpi BitVec.sle
  simp only [toInt_small a ha, toInt_small b hb, Nat.cast_le]
  by_cases hab : a ≤ b <;> simp [hab]

theorem cmp_sgt (a b : ℕ) (ha : a < 2147483648) (hb : b < 2147483648) :
    IntOp.cmpi .sgt (BitVec.ofNat 32 a) (BitVec.ofNat 32 b) = if b < a then 1#1 else 0#1 := by
  unfold IntOp.cmpi BitVec.slt
  simp only [toInt_small a ha, toInt_small b hb, Nat.cast_lt]
  by_cases hab : b < a <;> simp [hab]

end Cert.Own

end
-- ==== Proof.Value.Data.lean ====
/-
  The eight arguments as tables of real numbers, and one head's two chunks read off them.
-/
module

public import proofs.«01_k».proof.Proof.Value.Head
public import proofs.«01_k».proof.Proof.Value.Lift

@[expose] public section

noncomputable section

namespace Cert.Own

open Idealize.ShloMosaic

/-- The arguments as real numbers: batch, token, head, then channel or value lane. -/
structure In where
  q : ℕ → ℕ → ℕ → ℕ → ℝ
  qs : ℕ → ℕ → ℕ → ℝ
  k : ℕ → ℕ → ℕ → ℕ → ℝ
  ks : ℕ → ℕ → ℕ → ℝ
  v : ℕ → ℕ → ℕ → ℕ → ℝ
  g : ℕ → ℕ → ℕ → ℕ → ℝ
  be : ℕ → ℕ → ℕ → ℝ
  h0 : ℕ → ℕ → ℕ → ℕ → ℝ

/-- The arrays hold the tables' numbers. -/
structure In.Of (X : In) (a0 : FVec Ideal ⟨4, ![3, 640, 18, 96]⟩ .f32) (a1 : FVec Ideal ⟨3, ![3, 640, 18]⟩ .f32)
    (a2 : FVec Ideal ⟨4, ![3, 640, 18, 96]⟩ .f32) (a3 : FVec Ideal ⟨3, ![3, 640, 18]⟩ .f32)
    (a4 : FVec Ideal ⟨4, ![3, 640, 18, 128]⟩ .bf16) (a5 : FVec Ideal ⟨4, ![3, 640, 18, 96]⟩ .f32)
    (a6 : FVec Ideal ⟨3, ![3, 640, 18]⟩ .f32) (a7 : FVec Ideal ⟨4, ![3, 18, 96, 128]⟩ .f32) : Prop where
  q : ∀ b s h r, a0 (ix4 b s h r) = ((X.q b s h r : ℝ) : EReal)
  qs : ∀ b s h, a1 (ix3 b s h) = ((X.qs b s h : ℝ) : EReal)
  k : ∀ b s h r, a2 (ix4 b s h r) = ((X.k b s h r : ℝ) : EReal)
  ks : ∀ b s h, a3 (ix3 b s h) = ((X.ks b s h : ℝ) : EReal)
  v : ∀ b s h l, a4 (ix4 b s h l) = ((X.v b s h l : ℝ) : EReal)
  g : ∀ b s h r, a5 (ix4 b s h r) = ((X.g b s h r : ℝ) : EReal)
  be : ∀ b s h, a6 (ix3 b s h) = ((X.be b s h : ℝ) : EReal)
  h0 : ∀ b h r l, a7 (ix4 b h r l) = ((X.h0 b h r l : ℝ) : EReal)

/-- The two chunks of pair `i` of head `h` of batch `b`. -/
def In.head (X : In) (b i h : ℕ) : Head where
  g r l := X.g b (128 * i + l) h r
  kc r l := X.k b (128 * i + l) h r
  qc r l := X.q b (128 * i + l) h r
  ks l := X.ks b (128 * i + l) h
  qs l := X.qs b (128 * i + l) h
  be l := X.be b (128 * i + l) h
  v t l := X.v b (128 * i + t) h l

end Cert.Own

end
-- ==== Proof.Math.Finite.lean ====
/-
  The precondition in plain words: every argument that passes the finiteness masks is a table of real numbers.
-/
module

public import proofs.«01_k».proof.Pre_finite
public import proofs.«01_k».proof.Proof.Value.Data

@[expose] public section

noncomputable section

namespace Cert.Own

open Idealize.ShloMosaic Cert.Pre_finite

/-- A number whose absolute value compares below infinity is real. -/
theorem real_of {x y : EReal} (hy : y = ⊤) (h : Ideal.cmp .olt (max x (-x)) y = 1#1) : x = ((x.toReal : ℝ) : EReal) := by
  subst hy
  refine (EReal.coe_toReal ?_ ?_).symm <;> rintro rfl <;> simp [Ideal.cmp] at h

theorem top_f32 : Ideal.ofBits .f32 0x7F800000#32 = ⊤ := by simp [Ideal.ofBits, Ideal.ieee]

theorem top_bf16 : Ideal.ofBits .bf16 0x7F80#16 = ⊤ := by simp [Ideal.ofBits, Ideal.ieee]

/-- The real numbers of an array of rank 4, zero outside it. -/
def tab4 {n0 n1 n2 n3 : ℕ} {φ : FTy} (a : FVec Ideal ⟨4, ![n0, n1, n2, n3]⟩ φ) (i j k l : ℕ) : ℝ :=
  if h : i < n0 ∧ j < n1 ∧ k < n2 ∧ l < n3 then
    EReal.toReal (a (ix4 ⟨i, h.1⟩ ⟨j, h.2.1⟩ ⟨k, h.2.2.1⟩ ⟨l, h.2.2.2⟩)) else 0

/-- The real numbers of an array of rank 3, zero outside it. -/
def tab3 {n0 n1 n2 : ℕ} {φ : FTy} (a : FVec Ideal ⟨3, ![n0, n1, n2]⟩ φ) (i j k : ℕ) : ℝ :=
  if h : i < n0 ∧ j < n1 ∧ k < n2 then EReal.toReal (a (ix3 ⟨i, h.1⟩ ⟨j, h.2.1⟩ ⟨k, h.2.2⟩)) else 0

theorem tab4_val {n0 n1 n2 n3 : ℕ} {φ : FTy} (a : FVec Ideal ⟨4, ![n0, n1, n2, n3]⟩ φ) (i : Fin n0) (j : Fin n1)
    (k : Fin n2) (l : Fin n3) : tab4 a i j k l = EReal.toReal (a (ix4 i j k l)) :=
  dif_pos ⟨i.isLt, j.isLt, k.isLt, l.isLt⟩

theorem tab3_val {n0 n1 n2 : ℕ} {φ : FTy} (a : FVec Ideal ⟨3, ![n0, n1, n2]⟩ φ) (i : Fin n0) (j : Fin n1)
    (k : Fin n2) : tab3 a i j k = EReal.toReal (a (ix3 i j k)) :=
  dif_pos ⟨i.isLt, j.isLt, k.isLt⟩

variable [Facts] (a0 : FVec Ideal S3x640x18x96 .f32) (a1 : FVec Ideal S3x640x18 .f32) (a2 : FVec Ideal S3x640x18x96 .f32)
  (a3 : FVec Ideal S3x640x18 .f32) (a4 : FVec Ideal S3x640x18x128 .bf16) (a5 : FVec Ideal S3x640x18x96 .f32)
  (a6 : FVec Ideal S3x640x18 .f32) (a7 : FVec Ideal S3x18x96x128 .f32)

/-- The tables of eight arrays. -/
def In.of : In where
  q := tab4 a0
  qs := tab3 a1
  k := tab4 a2
  ks := tab3 a3
  v := tab4 a4
  g := tab4 a5
  be := tab3 a6
  h0 := tab4 a7

/-- Arrays that pass the masks hold their tables' numbers. -/
theorem In.of_finite
    (h0 : (fn (F := Ideal) a0 a1 a2 a3 a4 a5 a6 a7).1 = fun _ => 1#1)
    (h1 : (fn (F := Ideal) a0 a1 a2 a3 a4 a5 a6 a7).2.1 = fun _ => 1#1)
    (h2 : (fn (F := Ideal) a0 a1 a2 a3 a4 a5 a6 a7).2.2.1 = fun _ => 1#1)
    (h3 : (fn (F := Ideal) a0 a1 a2 a3 a4 a5 a6 a7).2.2.2.1 = fun _ => 1#1)
    (h4 : (fn (F := Ideal) a0 a1 a2 a3 a4 a5 a6 a7).2.2.2.2.1 = fun _ => 1#1)
    (h5 : (fn (F := Ideal) a0 a1 a2 a3 a4 a5 a6 a7).2.2.2.2.2.1 = fun _ => 1#1)
    (h6 : (fn (F := Ideal) a0 a1 a2 a3 a4 a5 a6 a7).2.2.2.2.2.2.1 = fun _ => 1#1)
    (h7 : (fn (F := Ideal) a0 a1 a2 a3 a4 a5 a6 a7).2.2.2.2.2.2.2 = fun _ => 1#1) :
    (In.of a0 a1 a2 a3 a4 a5 a6 a7).Of a0 a1 a2 a3 a4 a5 a6 a7 where
  q b s h r := (real_of top_f32 (congrFun h0 (ix4 b s h r))).trans (congrArg _ (tab4_val a0 b s h r).symm)
  qs b s h := (real_of top_f32 (congrFun h1 (ix3 b s h))).trans (congrArg _ (tab3_val a1 b s h).symm)
  k b s h r := (real_of top_f32 (congrFun h2 (ix4 b s h r))).trans (congrArg _ (tab4_val a2 b s h r).symm)
  ks b s h := (real_of top_f32 (congrFun h3 (ix3 b s h))).trans (congrArg _ (tab3_val a3 b s h).symm)
  v b s h l := (real_of top_bf16 (congrFun h4 (ix4 b s h l))).trans (congrArg _ (tab4_val a4 b s h l).symm)
  g b s h r := (real_of top_f32 (congrFun h5 (ix4 b s h r))).trans (congrArg _ (tab4_val a5 b s h r).symm)
  be b s h := (real_of top_f32 (congrFun h6 (ix3 b s h))).trans (congrArg _ (tab3_val a6 b s h).symm)
  h0 b h r l := (real_of top_f32 (congrFun h7 (ix4 b h r l))).trans (congrArg _ (tab4_val a7 b h r l).symm)

end Cert.Own

end
-- ==== Proof.Ref.Chunk.lean ====
/-
  The reference's chunk of one head as real numbers: 64 tokens, 96 channels, 128 value lanes. Tables are indexed by
  token first. `T` is the inverse of one plus the strictly causal matrix, as the finite product of powers gives it.
-/
module

public import proofs.«01_k».proof.Proof.Value.Data

@[expose] public section

noncomputable section

namespace Cert.Own

open Finset

/-- One chunk of one head. -/
structure Chunk where
  g : ℕ → ℕ → ℝ
  k : ℕ → ℕ → ℝ
  q : ℕ → ℕ → ℝ
  ks : ℕ → ℝ
  qs : ℕ → ℝ
  be : ℕ → ℝ
  v : ℕ → ℕ → ℝ

namespace Chunk

variable (C : Chunk)

/-- The gates summed up to token `t`: a window of 64 tokens that ends at `t`. -/
def G (t r : ℕ) : ℝ := ∑ w ∈ range 64, if 63 ≤ t + w then C.g (t + w - 63) r else 0
def qp (t r : ℕ) : ℝ := C.q t r * Real.exp (C.G t r)
def kp (t r : ℕ) : ℝ := C.k t r * Real.exp (C.G t r)
def kn (t r : ℕ) : ℝ := C.k t r * Real.exp (-C.G t r)
def kl (t r : ℕ) : ℝ := C.k t r * Real.exp (C.G 63 r - C.G t r)
/-- The strictly causal matrix. -/
def A (t s : ℕ) : ℝ := if s < t then C.be t * C.ks t * C.ks s * ∑ r ∈ range 96, C.kp t r * C.kn s r else 0
/-- The causal scores. -/
def Aq (t s : ℕ) : ℝ := if s ≤ t then C.qs t * C.ks s * ∑ r ∈ range 96, C.qp t r * C.kn s r else 0

/-- The product of two 64×64 matrices. -/
def mul (M N : ℕ → ℕ → ℝ) (t s : ℕ) : ℝ := ∑ x ∈ range 64, M t x * N x s
/-- Repeated squares. -/
def pw : ℕ → ℕ → ℕ → ℝ
  | 0 => C.A
  | j + 1 => mul (pw j) (pw j)
/-- The partial products. -/
def tn : ℕ → ℕ → ℕ → ℝ
  | 0 => fun t s => (if t = s then 1 else 0) - C.A t s
  | j + 1 => fun t s => tn j t s + mul (C.pw (j + 1)) (tn j) t s

theorem pw_succ (j t s : ℕ) : C.pw (j + 1) t s = ∑ x : Fin 64, C.pw j t x * C.pw j x s :=
  Finset.sum_range fun x => C.pw j t x * C.pw j x s

theorem tn_succ (j t s : ℕ) : C.tn (j + 1) t s = C.tn j t s + ∑ x : Fin 64, C.pw (j + 1) t x * C.tn j x s :=
  congrArg (C.tn j t s + ·) (Finset.sum_range fun x => C.pw (j + 1) t x * C.tn j x s)

def T : ℕ → ℕ → ℝ := C.tn 5
def W (t r : ℕ) : ℝ := ∑ x ∈ range 64, C.be x * C.ks x * C.kp x r * C.T t x
def ut (t l : ℕ) : ℝ := ∑ x ∈ range 64, C.be x * C.v x l * C.T t x
def Q (t r : ℕ) : ℝ := C.qs t * C.qp t r
def K (t r : ℕ) : ℝ := C.ks t * C.kl t r
def dec (r : ℕ) : ℝ := Real.exp (C.G 63 r)

/-- The values with the state's part taken off. -/
def U (S : ℕ → ℕ → ℝ) (t l : ℕ) : ℝ := C.ut t l - ∑ r ∈ range 96, S r l * C.W t r
/-- The chunk's result. -/
def o (S : ℕ → ℕ → ℝ) (t l : ℕ) : ℝ :=
  SC * (∑ r ∈ range 96, S r l * C.Q t r + ∑ x ∈ range 64, C.U S x l * C.Aq t x)
/-- The state after the chunk. -/
def st (S : ℕ → ℕ → ℝ) (r l : ℕ) : ℝ := C.dec r * S r l + ∑ x ∈ range 64, C.K x r * C.U S x l

end Chunk

/-- Chunk `n` of head `h` of batch `b`. -/
def In.chunk (X : In) (n b h : ℕ) : Chunk where
  g t r := X.g b (n * 64 + t) h r
  k t r := X.k b (n * 64 + t) h r
  q t r := X.q b (n * 64 + t) h r
  ks t := X.ks b (n * 64 + t) h
  qs t := X.qs b (n * 64 + t) h
  be t := X.be b (n * 64 + t) h
  v t l := X.v b (n * 64 + t) h l

/-- The state before chunk `n`. -/
def In.cS (X : In) (b h : ℕ) : ℕ → ℕ → ℕ → ℝ
  | 0 => X.h0 b h
  | n + 1 => (X.chunk n b h).st (In.cS X b h n)

end Cert.Own

end
-- ==== Proof.Math.Solve.lean ====
/-
  Unit lower triangular systems over the reals: the column elimination solves one, the finite product of powers is an
  inverse, and a solution is unique.
-/
module

public import proofs.«01_k».proof.Proof.Value.Head
public import proofs.«01_k».proof.Proof.Ref.Chunk

@[expose] public section

noncomputable section

namespace Cert.Own

open Finset

/-- A strictly lower triangular system has one solution: two solutions of the same system agree. -/
theorem unique_solution {n : ℕ} {A : ℕ → ℕ → ℝ} (hA : ∀ t < n, ∀ s < n, t ≤ s → A t s = 0) {R y z : ℕ → ℝ}
    (hy : ∀ t < n, y t + ∑ x ∈ range n, A t x * y x = R t) (hz : ∀ t < n, z t + ∑ x ∈ range n, A t x * z x = R t) :
    ∀ t < n, y t = z t := by
  intro t
  induction t using Nat.strong_induction_on with
  | _ t ih =>
    intro ht
    have e : ∑ x ∈ range n, A t x * y x = ∑ x ∈ range n, A t x * z x := by
      refine sum_congr rfl fun x hx => ?_
      have hx' := mem_range.1 hx
      by_cases h : x < t
      · rw [ih x h hx']
      · rw [hA t ht x hx' (by omega), zero_mul, zero_mul]
    have h1 := hy t ht
    have h2 := hz t ht
    rw [e] at h1
    linarith

section Elimination

variable (d : ℕ → ℕ → ℝ) (q : ℕ) (R : ℕ → ℝ)

/-- The first `j` steps of the elimination applied to a right-hand side. -/
def part (j r : ℕ) : ℝ := ∑ x ∈ range 32, elims d j r (32 * q + x) * R x

theorem part_zero (r : ℕ) (hr : r < 32) : part d q R 0 r = R r := by
  unfold part elims eye4
  rw [sum_eq_single r]
  · rw [if_pos (by omega), one_mul]
  · intro x hx hne
    have := mem_range.1 hx
    rw [if_neg (by omega), zero_mul]
  · intro h
    exact absurd (mem_range.2 hr) h

variable (hd : ∀ r < 32, ∀ j < 32, r ≤ j → d r (32 * q + j) = 0)
include hd

theorem part_succ (j r : ℕ) (hj : j < 32) (hr : r < 32) :
    part d q R (j + 1) r = part d q R j r - d r (32 * q + j) * part d q R j j := by
  have e : ∀ x ∈ range 32, elims d (j + 1) r (32 * q + x) * R x
      = elims d j r (32 * q + x) * R x - d r (32 * q + j) * (elims d j j (32 * q + x) * R x) := by
    intro x hx
    have := mem_range.1 hx
    show elim d j (elims d j) r (32 * q + x) * R x = _
    unfold elim
    rw [show (32 * q + x) / 32 = q by omega]
    split
    · rw [hd r hr j hj (by omega)]
      ring
    · ring
  unfold part
  rw [sum_congr rfl e, sum_sub_distrib, mul_sum]

theorem part_eq (J r : ℕ) (hJ : J ≤ 32) (hr : r < 32) :
    part d q R J r = R r - ∑ i ∈ range J, d r (32 * q + i) * part d q R i i := by
  induction J with
  | zero => rw [part_zero d q R r hr, range_zero, sum_empty, sub_zero]
  | succ J ih => rw [part_succ d q R hd J r (by omega) hr, ih (by omega), sum_range_succ]; ring

theorem part_stable (j k : ℕ) (hk : j + k ≤ 32) (hj : j < 32) : part d q R (j + k) j = part d q R j j := by
  induction k with
  | zero => rfl
  | succ k ih =>
    rw [← add_assoc, part_succ d q R hd (j + k) j (by omega) hj, ih (by omega), hd j hj (j + k) (by omega) (by omega)]
    ring

/-- The elimination's result solves the block's system. -/
theorem elims_solve (r : ℕ) (hr : r < 32) :
    (∑ x ∈ range 32, elims d 31 r (32 * q + x) * R x)
      + ∑ i ∈ range 32, d r (32 * q + i) * (∑ x ∈ range 32, elims d 31 i (32 * q + x) * R x) = R r := by
  show part d q R 31 r + ∑ i ∈ range 32, d r (32 * q + i) * part d q R 31 i = R r
  rw [sum_range_succ, hd r hr 31 (by omega) (by omega), zero_mul, add_zero, part_eq d q R hd 31 r (by omega) hr]
  have e : ∀ i ∈ range 31, d r (32 * q + i) * part d q R 31 i = d r (32 * q + i) * part d q R i i := by
    intro i hi
    have := mem_range.1 hi
    have h := part_stable d q R hd i (31 - i) (by omega) (by omega)
    rw [show i + (31 - i) = 31 by omega] at h
    rw [h]
  rw [sum_congr rfl e]
  ring

end Elimination

namespace Chunk

variable (C : Chunk)

/-- A table's first 64 rows and columns as a matrix. -/
def toM (f : ℕ → ℕ → ℝ) : Matrix (Fin 64) (Fin 64) ℝ := Matrix.of fun i j => f i j

theorem toM_mul (f g : ℕ → ℕ → ℝ) : toM (mul f g) = toM f * toM g := by
  ext i j
  rw [Matrix.mul_apply]
  exact sum_range fun x => f i x * g x j

theorem toM_pw : ∀ j, toM (C.pw j) = toM C.A ^ 2 ^ j
  | 0 => by rw [pow_zero, pow_one]; rfl
  | j + 1 => by
    rw [show C.pw (j + 1) = mul (C.pw j) (C.pw j) from rfl, toM_mul, toM_pw j, ← pow_add]
    congr 1
    ring

theorem toM_tn : ∀ j, (1 + toM C.A) * toM (C.tn j) = 1 - toM C.A ^ 2 ^ (j + 1)
  | 0 => by
    have e : toM (C.tn 0) = 1 - toM C.A := by
      ext i j
      rw [Matrix.sub_apply, Matrix.one_apply]
      show (if i.val = j.val then (1 : ℝ) else 0) - C.A i j = _
      simp only [Fin.ext_iff]
      rfl
    rw [e, zero_add, pow_one, pow_two, add_mul, one_mul, mul_sub, mul_one]
    abel
  | j + 1 => by
    have e : toM (C.tn (j + 1)) = toM (C.tn j) + toM C.A ^ 2 ^ (j + 1) * toM (C.tn j) := by
      rw [← toM_pw, ← toM_mul]
      rfl
    have hc : (1 + toM C.A) * toM C.A ^ 2 ^ (j + 1) = toM C.A ^ 2 ^ (j + 1) * (1 + toM C.A) := by
      rw [add_mul, mul_add, one_mul, mul_one, ← pow_succ, ← pow_succ']
    rw [e, mul_add, ← mul_assoc, hc, mul_assoc, toM_tn j, mul_sub, mul_one, ← pow_add,
      show 2 ^ (j + 1) + 2 ^ (j + 1) = 2 ^ (j + 1 + 1) by ring]
    abel

theorem pw_zero : ∀ j t s, t < s + 2 ^ j → C.pw j t s = 0
  | 0, t, s, h => if_neg (by simpa using h)
  | j + 1, t, s, h => by
    show ∑ x ∈ range 64, C.pw j t x * C.pw j x s = 0
    refine sum_eq_zero fun x _ => ?_
    by_cases h1 : t < x + 2 ^ j
    · rw [pw_zero j t x h1, zero_mul]
    · rw [pw_zero j x s (by rw [pow_succ] at h; omega), mul_zero]

/-- `T` inverts one plus the strictly causal matrix. -/
theorem T_inv : (1 + toM C.A) * toM C.T = 1 := by
  have h := toM_tn C 5
  have z : toM C.A ^ 2 ^ (5 + 1) = 0 := by
    rw [← toM_pw]
    ext i j
    exact pw_zero C 6 i j (by have := i.isLt; omega)
  rw [z, sub_zero] at h
  exact h

/-- So `T` applied to a right-hand side solves the system. -/
theorem T_solve (R : ℕ → ℝ) (t : ℕ) (ht : t < 64) :
    (∑ x ∈ range 64, C.T t x * R x) + ∑ s ∈ range 64, C.A t s * (∑ x ∈ range 64, C.T s x * R x) = R t := by
  have h : (1 + toM C.A).mulVec ((toM C.T).mulVec fun x => R x.val) = fun x : Fin 64 => R x.val := by
    rw [Matrix.mulVec_mulVec, T_inv, Matrix.one_mulVec]
  have h' := congrFun h ⟨t, ht⟩
  rw [Matrix.add_mulVec, Matrix.one_mulVec] at h'
  have e : ∀ s : ℕ, (∑ x ∈ range 64, C.T s x * R x) = ∑ x : Fin 64, C.T s x * R x := fun s => sum_range fun x => C.T s x * R x
  rw [sum_range fun s => C.A t s * (∑ x ∈ range 64, C.T s x * R x)]
  simp only [e]
  exact h'

end Chunk

end Cert.Own

end
-- ==== Proof.Math.Equal.lean ====
/-
  One chunk of the kernel against one chunk of the reference: the same decays and scores, the kernel's unknowns are the
  reference's times the key scales, so the outputs and the states agree.
-/
module

public import proofs.«01_k».proof.Proof.Math.Solve

@[expose] public section

noncomputable section

namespace Cert.Own

open Finset

/-- Chunk `c` of the pair `D` is the chunk `C`. -/
structure Same (D : Head) (C : Chunk) (c : ℕ) : Prop where
  hc : c < 2
  g : ∀ t r, D.g r (64 * c + t) = C.g t r
  k : ∀ t r, D.kc r (64 * c + t) = C.k t r
  q : ∀ t r, D.qc r (64 * c + t) = C.q t r
  ks : ∀ t, D.ks (64 * c + t) = C.ks t
  qs : ∀ t, D.qs (64 * c + t) = C.qs t
  be : ∀ t, D.be (64 * c + t) = C.be t
  v : ∀ t l, D.v (64 * c + t) l = C.v t l

/-- Two to the power `x / ln 2` is `exp x`. -/
theorem two_rpow (x : ℝ) : Real.rpow 2 (x * (Real.log 2)⁻¹) = Real.exp x := by
  show (2 : ℝ) ^ (x * (Real.log 2)⁻¹) = _
  rw [Real.rpow_def_of_pos (by norm_num)]
  congr 1
  have : Real.log 2 ≠ 0 := (Real.log_pos (by norm_num)).ne'
  field_simp

/-- The gates up to token `t`. -/
def Chunk.P (C : Chunk) (t r : ℕ) : ℝ := ∑ l ∈ range 64, if l ≤ t then C.g l r else 0

theorem Chunk.G_eq (C : Chunk) (t r : ℕ) (ht : t < 64) : C.G t r = C.P t r := by
  unfold Chunk.G Chunk.P
  rw [← sum_filter, ← sum_filter]
  refine sum_nbij' (fun w => t + w - 63) (fun l => l + 63 - t) ?_ ?_ ?_ ?_ ?_
  · intro w hw
    simp only [mem_filter, mem_range] at hw ⊢
    omega
  · intro l hl
    simp only [mem_filter, mem_range] at hl ⊢
    omega
  · intro w hw
    simp only [mem_filter, mem_range] at hw
    show t + w - 63 + 63 - t = w
    omega
  · intro l hl
    simp only [mem_filter, mem_range] at hl
    show t + (l + 63 - t) - 63 = l
    omega
  · intro w _
    rfl

/-- A sum over the pair's tokens whose terms vanish outside chunk `c`. -/
theorem sum_chunk (c : ℕ) (hc : c < 2) (f : ℕ → ℝ) (hf : ∀ l < 128, l / 64 ≠ c → f l = 0) :
    ∑ l ∈ range 128, f l = ∑ l ∈ range 64, f (64 * c + l) := by
  rw [show (128 : ℕ) = 64 + 64 from rfl, sum_range_add]
  have : c = 0 ∨ c = 1 := by omega
  rcases this with rfl | rfl
  · have z : ∑ x ∈ range 64, f (64 + x) = 0 := sum_eq_zero fun x hx => by
      have := mem_range.1 hx
      exact hf _ (by omega) (by omega)
    rw [z, add_zero]
    simp only [mul_zero, zero_add]
  · have z : ∑ x ∈ range 64, f x = 0 := sum_eq_zero fun x hx => by
      have := mem_range.1 hx
      exact hf _ (by omega) (by omega)
    rw [z, zero_add, mul_one]

namespace Same

variable {D : Head} {C : Chunk} {c : ℕ} (H : Same D C c)
include H

theorem gg_eq (t r : ℕ) (ht : t < 64) : D.gg r (64 * c + t) = C.G t r * (Real.log 2)⁻¹ := by
  have hc := H.hc
  rw [C.G_eq t r ht, Head.gg, Chunk.P, sum_mul, sum_chunk c hc]
  · refine sum_congr rfl fun l hl => ?_
    have := mem_range.1 hl
    rw [H.g, cum, if_pos (by omega)]
    by_cases h : l ≤ t
    · rw [if_pos (by omega), if_pos h, mul_one]
    · rw [if_neg (by omega), if_neg h, mul_zero, zero_mul]
  · intro l hl hne
    rw [cum, if_pos (by omega), if_neg (by omega), mul_zero]

theorem gg_end (t r : ℕ) (ht : t < 64) : D.gg r (128 + (64 * c + t)) = (C.G 63 r - C.G t r) * (Real.log 2)⁻¹ := by
  have hc := H.hc
  rw [C.G_eq t r ht, C.G_eq 63 r (by omega), Head.gg, Chunk.P, Chunk.P, ← sum_sub_distrib, sum_mul, sum_chunk c hc]
  · refine sum_congr rfl fun l hl => ?_
    have := mem_range.1 hl
    rw [H.g, cum, if_neg (by omega), if_pos (c := l ≤ 63) (by omega)]
    by_cases h : l ≤ t
    · rw [if_neg (by omega), if_pos h, mul_zero, sub_self, zero_mul]
    · rw [if_pos (by omega), if_neg h, mul_one, sub_zero]
  · intro l hl hne
    rw [cum, if_neg (by omega), if_neg (by omega), mul_zero]

theorem e_eq (t r : ℕ) (ht : t < 64) : D.e r (64 * c + t) = Real.exp (C.G t r) := by
  rw [Head.e, H.gg_eq t r ht, two_rpow]

theorem kp_eq (t r : ℕ) (ht : t < 64) (hr : r < 96) : D.kp (t + 64 * c) r = C.kp t r := by
  rw [Head.kp, if_pos hr, add_comm, H.k, H.e_eq t r ht, Chunk.kp]
theorem qp_eq (t r : ℕ) (ht : t < 64) (hr : r < 96) : D.qp (t + 64 * c) r = C.qp t r := by
  rw [Head.qp, if_pos hr, add_comm, H.q, H.e_eq t r ht, Chunk.qp]
theorem kn_eq (t r : ℕ) (ht : t < 64) : D.kn r (64 * c + t) = C.kn t r := by
  rw [Head.kn, H.k, H.gg_eq t r ht, show 0 - C.G t r * (Real.log 2)⁻¹ = -C.G t r * (Real.log 2)⁻¹ by ring, two_rpow, Chunk.kn]
theorem kd_eq (t r : ℕ) (ht : t < 64) : D.kd r (64 * c + t) = C.kl t r := by
  rw [Head.kd, H.k, H.gg_end t r ht, two_rpow, Chunk.kl]
theorem cc_eq (t : ℕ) : D.cc (t + 64 * c) = C.be t * C.ks t * C.ks t := by
  rw [Head.cc, add_comm, H.be, H.ks]
theorem bk_eq (t : ℕ) : D.bk (t + 64 * c) = C.be t * C.ks t := by
  rw [Head.bk, add_comm, H.be, H.ks]

theorem sc_k (t x : ℕ) (ht : t < 64) (hx : x < 64) :
    D.sc t (64 * c + x) = ∑ r ∈ range 96, C.kp t r * C.kn x r := by
  rw [Head.sc, show (64 * c + x) / 64 = c by omega]
  refine sum_congr rfl fun r hr => ?_
  rw [if_pos ht, H.kp_eq t r ht (mem_range.1 hr), H.kn_eq x r hx]
theorem sc_q (t x : ℕ) (ht : t < 64) (hx : x < 64) :
    D.sc (t + 64) (64 * c + x) = ∑ r ∈ range 96, C.qp t r * C.kn x r := by
  rw [Head.sc, show (64 * c + x) / 64 = c by omega]
  refine sum_congr rfl fun r hr => ?_
  rw [if_neg (by omega), Nat.add_sub_cancel, H.qp_eq t r ht (mem_range.1 hr), H.kn_eq x r hx]

theorem a_eq (t x : ℕ) (ht : t < 64) (hx : x < 64) :
    D.a t (64 * c + x) = if x < t then C.be t * C.ks t * C.ks t * ∑ r ∈ range 96, C.kp t r * C.kn x r else 0 := by
  rw [Head.a, show (64 * c + x) % 64 = x by omega, show (64 * c + x) / 64 = c by omega, H.cc_eq, H.sc_k t x ht hx]
theorem qk_eq (t x : ℕ) (ht : t < 64) (hx : x < 64) :
    D.qk t (64 * c + x) = if x ≤ t then ∑ r ∈ range 96, C.qp t r * C.kn x r else 0 := by
  rw [Head.qk, show (64 * c + x) % 64 = x by omega, H.sc_q t x ht hx]

omit H in
theorem a_zero (t x : ℕ) (hx : x < 64) (h : t ≤ x) : D.a t (64 * c + x) = 0 := by
  rw [Head.a, if_neg (by omega)]

omit H in
/-- The kernel's unknowns solve its triangular system. -/
theorem u_solve (S : ℕ → ℕ → ℝ) (l t : ℕ) (ht : t < 64) :
    D.u c S t l + ∑ x ∈ range 64, D.a t (64 * c + x) * D.u c S x l = D.rr c S t l := by
  have hd0 : ∀ r < 32, ∀ j < 32, r ≤ j → D.d r (32 * (2 * c) + j) = 0 := by
    intro r hr j hj h
    rw [Head.d, if_neg (by omega), show 32 * (2 * c) + j = 64 * c + j by ring]
    exact a_zero r j (by omega) h
  have hd1 : ∀ r < 32, ∀ j < 32, r ≤ j → D.d r (32 * (2 * c + 1) + j) = 0 := by
    intro r hr j hj h
    rw [Head.d, if_pos (by omega), show 32 * (2 * c + 1) + j = 64 * c + (32 + j) by ring]
    exact a_zero (r + 32) (32 + j) (by omega) (by omega)
  have hu1 : ∀ x ∈ range 32, D.a t (64 * c + x) * D.u c S x l = D.a t (64 * c + x) * D.u1 c S x l := by
    intro x hx
    rw [Head.u, if_pos (mem_range.1 hx)]
  have hu2 : ∀ x ∈ range 32, D.a t (64 * c + (32 + x)) * D.u c S (32 + x) l = D.a t (64 * c + (32 + x)) * D.u2 c S x l := by
    intro x hx
    rw [Head.u, if_neg (by omega), show 32 + x - 32 = x by omega]
  rw [show (64 : ℕ) = 32 + 32 from rfl, sum_range_add, show (32 + 32 : ℕ) = 64 from rfl, sum_congr rfl hu1, sum_congr rfl hu2]
  by_cases h : t < 32
  · have z : ∑ x ∈ range 32, D.a t (64 * c + (32 + x)) * D.u2 c S x l = 0 := sum_eq_zero fun x hx => by
      have := mem_range.1 hx
      rw [a_zero t (32 + x) (by omega) (by omega), zero_mul]
    have key := elims_solve D.d (2 * c) (fun x => D.rr c S x l) hd0 t h
    rw [Head.u, if_pos h, z, add_zero, ← key]
    simp only [Head.u1, D.ti_eq, show 32 * (2 * c) = 64 * c by ring]
    congr 1
    refine sum_congr rfl fun x hx => ?_
    have := mem_range.1 hx
    rw [Head.d, if_neg (by omega)]
  · obtain ⟨s, rfl⟩ : ∃ s, t = s + 32 := ⟨t - 32, by omega⟩
    have hs : s < 32 := by omega
    have key := elims_solve D.d (2 * c + 1) (fun x => D.r2 c S x l) hd1 s hs
    have e : ∀ x ∈ range 32, D.d s (32 * (2 * c + 1) + x) = D.a (s + 32) (64 * c + (32 + x)) := by
      intro x hx
      have := mem_range.1 hx
      rw [Head.d, if_pos (by omega), show 32 * (2 * c + 1) + x = 64 * c + (32 + x) by ring]
    have e' : ∀ i, (∑ x ∈ range 32, elims D.d 31 i (32 * (2 * c + 1) + x) * D.r2 c S x l) = D.u2 c S i l := by
      intro i
      simp only [Head.u2, D.ti_eq, show 32 * (2 * c + 1) = 64 * c + 32 by ring]
    simp only [e'] at key
    rw [sum_congr rfl fun x hx => by rw [e x hx]] at key
    rw [Head.u, if_neg h, Nat.add_sub_cancel]
    have r2e : D.r2 c S s l = D.rr c S (s + 32) l - ∑ x ∈ range 32, D.a (s + 32) (64 * c + x) * D.u1 c S x l := rfl
    rw [r2e] at key
    linarith

variable {S S' : ℕ → ℕ → ℝ} (hS : ∀ r < 96, ∀ l, S r l = S' r l)
include hS

theorem p_k (t l : ℕ) (ht : t < 64) : D.p c S t l = ∑ r ∈ range 96, C.kp t r * S' r l := by
  rw [Head.p]
  refine sum_congr rfl fun r hr => ?_
  rw [if_pos ht, H.kp_eq t r ht (mem_range.1 hr), hS r (mem_range.1 hr)]
theorem p_q (t l : ℕ) (ht : t < 64) : D.p c S (t + 64) l = ∑ r ∈ range 96, C.qp t r * S' r l := by
  rw [Head.p]
  refine sum_congr rfl fun r hr => ?_
  rw [if_neg (by omega), Nat.add_sub_cancel, H.qp_eq t r ht (mem_range.1 hr), hS r (mem_range.1 hr)]

omit H hS in
/-- The reference's unknowns are the inverse applied to one right-hand side. -/
theorem U_eq (l t : ℕ) :
    C.U S' t l = ∑ x ∈ range 64, C.T t x * (C.be x * C.v x l - C.be x * C.ks x * ∑ r ∈ range 96, C.kp x r * S' r l) := by
  have e : ∑ r ∈ range 96, S' r l * C.W t r
      = ∑ x ∈ range 64, C.T t x * (C.be x * C.ks x * ∑ r ∈ range 96, C.kp x r * S' r l) := by
    simp only [Chunk.W, mul_sum]
    rw [sum_comm]
    refine sum_congr rfl fun x _ => sum_congr rfl fun r _ => ?_
    ring
  rw [Chunk.U, e, Chunk.ut, ← sum_sub_distrib]
  refine sum_congr rfl fun x _ => ?_
  ring

omit H hS in
theorem U_solve (l t : ℕ) (ht : t < 64) :
    C.U S' t l + ∑ x ∈ range 64, C.A t x * C.U S' x l
      = C.be t * C.v t l - C.be t * C.ks t * ∑ r ∈ range 96, C.kp t r * S' r l := by
  simp only [U_eq]
  exact C.T_solve (fun x => C.be x * C.v x l - C.be x * C.ks x * ∑ r ∈ range 96, C.kp x r * S' r l) t ht

/-- The kernel's unknowns are the reference's times the key scales. -/
theorem u_eq (l t : ℕ) (ht : t < 64) : D.u c S t l = C.ks t * C.U S' t l := by
  refine unique_solution (n := 64) (A := fun t x => D.a t (64 * c + x)) (R := fun t => D.rr c S t l)
    (y := fun t => D.u c S t l) (z := fun t => C.ks t * C.U S' t l) (fun t _ x hx h => a_zero t x hx h)
    (fun t ht => u_solve S l t ht) (fun t ht => ?_) t ht
  have h := congrArg (C.ks t * ·) (U_solve (C := C) (S' := S') l t ht)
  have e : ∑ x ∈ range 64, D.a t (64 * c + x) * (C.ks x * C.U S' x l)
      = C.ks t * ∑ x ∈ range 64, C.A t x * C.U S' x l := by
    rw [mul_sum]
    refine sum_congr rfl fun x hx => ?_
    rw [H.a_eq t x ht (mem_range.1 hx), Chunk.A]
    split <;> ring
  show C.ks t * C.U S' t l + ∑ x ∈ range 64, D.a t (64 * c + x) * (C.ks x * C.U S' x l) = D.rr c S t l
  rw [e, Head.rr, H.bk_eq, H.cc_eq, H.p_k hS t l ht, add_comm t (64 * c), H.v]
  simp only [mul_add] at h
  rw [h]
  ring

/-- The outputs agree. -/
theorem o_eq (t l : ℕ) (ht : t < 64) : D.o c S t l = C.o S' t l := by
  have e : ∀ x ∈ range 64, (if t < 64 then D.qk t (64 * c + x) else D.kd (t - 64) (64 * c + x)) * D.u c S x l
      = C.U S' x l * (if x ≤ t then C.ks x * ∑ r ∈ range 96, C.qp t r * C.kn x r else 0) := by
    intro x hx
    rw [if_pos ht, H.qk_eq t x ht (mem_range.1 hx), H.u_eq hS l x (mem_range.1 hx)]
    split <;> ring
  have e1 : ∑ r ∈ range 96, S' r l * C.Q t r = C.qs t * ∑ r ∈ range 96, C.qp t r * S' r l := by
    rw [mul_sum]
    refine sum_congr rfl fun r _ => ?_
    rw [Chunk.Q]
    ring
  have e2 : ∑ x ∈ range 64, C.U S' x l * C.Aq t x
      = C.qs t * ∑ x ∈ range 64, C.U S' x l * (if x ≤ t then C.ks x * ∑ r ∈ range 96, C.qp t r * C.kn x r else 0) := by
    rw [mul_sum]
    refine sum_congr rfl fun x _ => ?_
    rw [Chunk.Aq]
    split <;> ring
  rw [Head.o, Head.w, sum_congr rfl e, H.p_q hS t l ht, add_comm t (64 * c), H.qs, Chunk.o, e1, e2]
  ring

/-- The states agree. -/
theorem s_eq (r l : ℕ) (hr : r < 96) : D.s c S r l = C.st S' r l := by
  have e : ∀ x ∈ range 64, (if r + 64 < 64 then D.qk (r + 64) (64 * c + x) else D.kd (r + 64 - 64) (64 * c + x)) * D.u c S x l
      = C.K x r * C.U S' x l := by
    intro x hx
    rw [if_neg (by omega), Nat.add_sub_cancel, H.kd_eq x r (mem_range.1 hx), H.u_eq hS l x (mem_range.1 hx), Chunk.K]
    ring
  rw [Head.s, Head.w, sum_congr rfl e, H.e_eq 63 r (by omega), hS r hr, Chunk.st, Chunk.dec]

end Same

/-- Chunk `c` of pair `i` is chunk `2 * i + c`. -/
theorem In.same (X : In) (b i h c : ℕ) (hc : c < 2) : Same (X.head b i h) (X.chunk (2 * i + c) b h) c := by
  have e : ∀ t, 128 * i + (64 * c + t) = (2 * i + c) * 64 + t := fun t => by ring
  constructor
  · exact hc
  · intro t r
    exact congrArg (fun s => X.g b s h r) (e t)
  · intro t r
    exact congrArg (fun s => X.k b s h r) (e t)
  · intro t r
    exact congrArg (fun s => X.q b s h r) (e t)
  · intro t
    exact congrArg (fun s => X.ks b s h) (e t)
  · intro t
    exact congrArg (fun s => X.qs b s h) (e t)
  · intro t
    exact congrArg (fun s => X.be b s h) (e t)
  · intro t l
    exact congrArg (fun s => X.v b s h l) (e t)

end Cert.Own

end
-- ==== Proof.Value.Scores.lean ====
/-
  The scores of a head's pair, read off the kernel's loop body over the real numbers.
-/
module

public import proofs.«01_k».proof.Proof.Gen.KernelIdeal.Loops
public import proofs.«01_k».proof.Proof.Value.Lift
public import proofs.«01_k».proof.Proof.Value.Head

@[expose] public section

set_option maxRecDepth 16384

noncomputable section

namespace Cert.KernelIdeal.Own

open Idealize.ShloMosaic Finset
open Cert.KernelIdeal Cert.KernelIdeal.Gen Cert.Own

variable (arg2 arg3 : Memref sig .tc .vmem S1x18x96x128 .fp8e4m3) (arg4 : Memref sig .tc .vmem S1x18x96x128 .f32)
  (arg5 : Memref sig .tc .vmem S1x18x128x128 .bf16) (arg6 arg7 arg8 : Memref sig .tc .vmem S1x18x128 .f32)
  (arg12 : Memref sig .tc .vmem S18x96x128 .f32)
  (v66 : FVec Ideal S128x256 .bf16) (v67 : FVec Ideal S256x256 .bf16) (v86 v87 v90 : IVec S64x128 1)
  (v112 : FVec Ideal S32x128 .f32) (v138 v178 v179 : IVec S32x128 32)
  (X_arg2 : BufTy.Contents (Elt Ideal) arg2.view.ty) (X_arg3 : BufTy.Contents (Elt Ideal) arg3.view.ty)
  (X_arg4 : BufTy.Contents (Elt Ideal) arg4.view.ty) (X_arg5 : BufTy.Contents (Elt Ideal) arg5.view.ty)
  (X_arg6 : BufTy.Contents (Elt Ideal) arg6.view.ty) (X_arg7 : BufTy.Contents (Elt Ideal) arg7.view.ty)
  (X_arg8 : BufTy.Contents (Elt Ideal) arg8.view.ty) (k : Fin k0_t1_loop.trips)
  (f_arg12 : BufTy.Contents (Elt Ideal) arg12.view.ty)

/-- The contents the trip's loads find are real numbers, those of `D`, and the loop's constant arguments are the masks
    they are meant to be. -/
structure HeadHyp (D : Head) (S : ℕ → ℕ → ℝ) : Prop where
  h66 : v66 = R2 cum
  h67 : v67 = R2 fun l t => cum (l % 128) t
  h86 : v86 = B2 fun r l => l % 64 < r
  h87 : v87 = B2 fun r l => l % 64 ≤ r
  h90 : v90 = B2 fun _ l => l < 64
  h112 : v112 = R2 eye4
  h138 : v138 = I2 fun _ l => 32 * (l / 32)
  h180 : k0_pay144 v178 v179 = B2 fun _ l => l / 32 % 2 = 1
  hq : ∀ (r : Fin 96) (l : Fin 128), View.readAt (Elt Ideal) arg2.view (Rect.unit (k0_off1 k) S1x1x96x128.size (k0_off1_inb k) : Rect S1x18x96x128).toLoadRect X_arg2 (ix4 0 0 r l) = ((D.qc r l : ℝ) : EReal)
  hk : ∀ (r : Fin 96) (l : Fin 128), View.readAt (Elt Ideal) arg3.view (Rect.unit (k0_off1 k) S1x1x96x128.size (k0_off1_inb k) : Rect S1x18x96x128).toLoadRect X_arg3 (ix4 0 0 r l) = ((D.kc r l : ℝ) : EReal)
  hg : ∀ (r : Fin 96) (l : Fin 128), View.readAt (Elt Ideal) arg4.view (Rect.unit (k0_off1 k) S1x1x96x128.size (k0_off1_inb k) : Rect S1x18x96x128).toLoadRect X_arg4 (ix4 0 0 r l) = ((D.g r l : ℝ) : EReal)
  hqs : ∀ l : Fin 128, View.readAt (Elt Ideal) arg6.view (Rect.unit (k0_off2 k) S1x1x128.size (k0_off2_inb k) : Rect S1x18x128).toLoadRect X_arg6 (ix3 0 0 l) = ((D.qs l : ℝ) : EReal)
  hks : ∀ l : Fin 128, View.readAt (Elt Ideal) arg7.view (Rect.unit (k0_off2 k) S1x1x128.size (k0_off2_inb k) : Rect S1x18x128).toLoadRect X_arg7 (ix3 0 0 l) = ((D.ks l : ℝ) : EReal)
  hbe : ∀ l : Fin 128, View.readAt (Elt Ideal) arg8.view (Rect.unit (k0_off2 k) S1x1x128.size (k0_off2_inb k) : Rect S1x18x128).toLoadRect X_arg8 (ix3 0 0 l) = ((D.be l : ℝ) : EReal)
  hv0 : ∀ (t : Fin 64) (l : Fin 128), View.readAt (Elt Ideal) arg5.view (Rect.unit (k0_off4 k) S1x1x64x128.size (k0_off4_inb k) : Rect S1x18x128x128).toLoadRect X_arg5 (ix4 0 0 t l) = ((D.v t l : ℝ) : EReal)
  hv1 : ∀ (t : Fin 64) (l : Fin 128), View.readAt (Elt Ideal) arg5.view (Rect.unit (k0_off6 k) S1x1x64x128.size (k0_off6_inb k) : Rect S1x18x128x128).toLoadRect X_arg5 (ix4 0 0 t l) = ((D.v (t + 64) l : ℝ) : EReal)
  hS : ∀ (r : Fin 96) (l : Fin 128), View.readAt (Elt Ideal) arg12.view (Rect.unit (k0_off3 k) S1x96x128.size (k0_off3_inb k) : Rect S18x96x128).toLoadRect f_arg12 (ix3 0 r l) = ((S r l : ℝ) : EReal)

/-- The kernel's named constant is `1 / ln 2`. -/
theorem log2e_eq : Named.named (F := Ideal) κ "log2e" (φ := .f32) 0x3FB8AA3B#32 = (((Real.log 2)⁻¹ : ℝ) : EReal) :=
  IdealRules.named_const.ideal_named_scalar _ _ _ _ rfl

variable {D : Head} {S : ℕ → ℕ → ℝ}

/-- The two cumulative sums of the log decays. -/
theorem pay1_eq (v66 : FVec Ideal S128x256 .bf16) (v67 : FVec Ideal S256x256 .bf16) (x : Vec Ideal S1x1x96x128 .f32)
    (h66 : v66 = R2 cum) (h67 : v67 = R2 fun l t => cum (l % 128) t)
    (hx : ∀ (r : Fin 96) (l : Fin 128), x (ix4 0 0 r l) = ((D.g r l : ℝ) : EReal)) :
    k0_pay1 v66 v67 x = R2 D.gg := by
  subst h66 h67
  refine ext2 fun r l => ?_
  pointwise [k0_pay1]
  simp only [hx, log2e_eq, exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  simp only [sub_self, zero_mul, sum_const_zero, add_zero, Head.gg, Finset.sum_range]
  refine Finset.sum_congr rfl fun x _ => ?_
  rw [Nat.mod_eq_of_lt x.isLt]

theorem pay3_eq (v66 : FVec Ideal S128x256 .bf16) (v67 : FVec Ideal S256x256 .bf16) (x : Vec Ideal S1x1x96x128 .f32)
    (h : k0_pay1 v66 v67 x = R2 D.gg) : k0_pay3 v66 v67 x = R2 D.e := by
  refine ext2 fun r l => ?_
  pointwise [k0_pay3, k0_pay2]
  simp only [h, exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  rfl

theorem pay6_eq (v66 : FVec Ideal S128x256 .bf16) (v67 : FVec Ideal S256x256 .bf16) (x : Vec Ideal S1x1x96x128 .f32)
    (y : Vec Ideal S1x1x96x128 .fp8e4m3) (h : k0_pay1 v66 v67 x = R2 D.gg)
    (hy : ∀ (r : Fin 96) (l : Fin 128), y (ix4 0 0 r l) = ((D.kc r l : ℝ) : EReal)) : k0_pay6 v66 v67 x y = R2 D.kn := by
  refine ext2 fun r l => ?_
  pointwise [k0_pay6, k0_pay5, k0_pay2]
  simp only [h, hy, exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  rfl

theorem pay7_eq (v66 : FVec Ideal S128x256 .bf16) (v67 : FVec Ideal S256x256 .bf16) (x : Vec Ideal S1x1x96x128 .f32)
    (y : Vec Ideal S1x1x96x128 .fp8e4m3) (h : k0_pay1 v66 v67 x = R2 D.gg)
    (hy : ∀ (r : Fin 96) (l : Fin 128), y (ix4 0 0 r l) = ((D.kc r l : ℝ) : EReal)) : k0_pay7 v66 v67 x y = R2 D.kd := by
  refine ext2 fun r l => ?_
  pointwise [k0_pay7, k0_pay5, k0_pay2]
  simp only [h, hy, exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  rfl

/-- The zero padding. -/
theorem pay148_eq : k0_pay148 (F := Ideal) = R2 fun _ _ => 0 := by
  refine ext2 fun r l => ?_
  pointwise [k0_pay148]
  simp

theorem pay8_eq (v66 : FVec Ideal S128x256 .bf16) (v67 : FVec Ideal S256x256 .bf16) (x : Vec Ideal S1x1x96x128 .f32)
    (y : Vec Ideal S1x1x96x128 .fp8e4m3) (h : k0_pay3 v66 v67 x = R2 D.e)
    (hy : ∀ (r : Fin 96) (l : Fin 128), y (ix4 0 0 r l) = ((D.kc r l : ℝ) : EReal)) :
    k0_pay8 v66 v67 (R2 fun _ _ => 0) x y = R2 D.kp := by
  refine ext2 fun r l => ?_
  pointwise [k0_pay8, k0_pay4, k0_pay5]
  simp only [h, hy, exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  rfl

theorem pay9_eq (v66 : FVec Ideal S128x256 .bf16) (v67 : FVec Ideal S256x256 .bf16) (x : Vec Ideal S1x1x96x128 .f32)
    (y : Vec Ideal S1x1x96x128 .fp8e4m3) (h : k0_pay3 v66 v67 x = R2 D.e)
    (hy : ∀ (r : Fin 96) (l : Fin 128), y (ix4 0 0 r l) = ((D.qc r l : ℝ) : EReal)) :
    k0_pay9 v66 v67 (R2 fun _ _ => 0) x y = R2 D.qp := by
  refine ext2 fun r l => ?_
  pointwise [k0_pay9, k0_pay4]
  simp only [h, hy, exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  rfl

theorem pay145_eq : k0_pay145 = B2 fun _ l => l < 64 := by
  refine ext2 fun r l => ?_
  pointwise [k0_pay145]
  show _ = if l.val < 64 then 1#1 else 0#1
  clear r; revert l; decide

theorem pay146_eq : k0_pay146 = B2 fun _ l => l < 64 := by
  refine ext2 fun r l => ?_
  pointwise [k0_pay146]
  show _ = if l.val < 64 then 1#1 else 0#1
  clear r; revert l; decide

theorem pay147_eq : k0_pay147 = I2 fun _ l => l / 32 := by
  refine ext2 fun r l => ?_
  pointwise [k0_pay147]
  show _ = BitVec.ofNat 32 (l.val / 32)
  clear r; revert l; decide

end Cert.KernelIdeal.Own

end
-- ==== Proof.Value.Pair.lean ====
/-
  From the scores to the four diagonal blocks of the triangular system, over the real numbers.
-/
module

public import proofs.«01_k».proof.Proof.Value.Scores

@[expose] public section

set_option maxRecDepth 16384

noncomputable section

namespace Cert.KernelIdeal.Own

open Idealize.ShloMosaic Finset
open Cert.KernelIdeal Cert.KernelIdeal.Gen Cert.Own

variable (arg2 arg3 : Memref sig .tc .vmem S1x18x96x128 .fp8e4m3) (arg4 : Memref sig .tc .vmem S1x18x96x128 .f32)
  (arg5 : Memref sig .tc .vmem S1x18x128x128 .bf16) (arg6 arg7 arg8 : Memref sig .tc .vmem S1x18x128 .f32)
  (arg12 : Memref sig .tc .vmem S18x96x128 .f32)
  (v66 : FVec Ideal S128x256 .bf16) (v67 : FVec Ideal S256x256 .bf16) (v86 v87 v90 : IVec S64x128 1)
  (v112 : FVec Ideal S32x128 .f32) (v138 v178 v179 : IVec S32x128 32)
  (X_arg2 : BufTy.Contents (Elt Ideal) arg2.view.ty) (X_arg3 : BufTy.Contents (Elt Ideal) arg3.view.ty)
  (X_arg4 : BufTy.Contents (Elt Ideal) arg4.view.ty) (X_arg5 : BufTy.Contents (Elt Ideal) arg5.view.ty)
  (X_arg6 : BufTy.Contents (Elt Ideal) arg6.view.ty) (X_arg7 : BufTy.Contents (Elt Ideal) arg7.view.ty)
  (X_arg8 : BufTy.Contents (Elt Ideal) arg8.view.ty) (k : Fin k0_t1_loop.trips)
  (f_arg12 : BufTy.Contents (Elt Ideal) arg12.view.ty)

/-- The f32 constant nearest `96 ^ (-1/2)`. -/
def SC : ℝ := 13698540 / 134217728

theorem SC_eq : Ideal.ofBits .f32 0x3DD105EC#32 = ((SC : ℝ) : EReal) := by
  simp [Ideal.ofBits, Ideal.ieee, SC, -EReal.coe_mul]; norm_num

/-- A sum over 256 positions of two 96-wide pieces, each followed by 32 zeros on the right. -/
theorem sum_pad (A B P Q : ℕ → ℝ) :
    ∑ x : Fin 256, (if x.val < 128 then A x.val else B (x.val - 128)) *
      (if x.val < 96 then P x.val else if x.val - 96 < 32 then 0 else if x.val - 96 - 32 < 96 then Q (x.val - 96 - 32) else 0)
      = ∑ k ∈ range 96, A k * P k + ∑ k ∈ range 96, B k * Q k := by
  rw [← Finset.sum_range (fun x => (if x < 128 then A x else B (x - 128)) *
      (if x < 96 then P x else if x - 96 < 32 then 0 else if x - 96 - 32 < 96 then Q (x - 96 - 32) else 0))]
  have h0 : ∀ x ∈ range 96, (if x < 128 then A x else B (x - 128)) *
      (if x < 96 then P x else if x - 96 < 32 then 0 else if x - 96 - 32 < 96 then Q (x - 96 - 32) else 0) = A x * P x := by
    intro x hx
    have := Finset.mem_range.1 hx
    rw [if_pos (by omega), if_pos (by omega)]
  have h1 : ∀ x ∈ range 32, (if 96 + x < 128 then A (96 + x) else B (96 + x - 128)) *
      (if 96 + x < 96 then P (96 + x) else if 96 + x - 96 < 32 then 0 else if 96 + x - 96 - 32 < 96 then Q (96 + x - 96 - 32) else 0) = 0 := by
    intro x hx
    have := Finset.mem_range.1 hx
    rw [if_neg (c := 96 + x < 96) (by omega), if_pos (c := 96 + x - 96 < 32) (by omega), mul_zero]
  have h2 : ∀ x ∈ range 96, (if 96 + 32 + x < 128 then A (96 + 32 + x) else B (96 + 32 + x - 128)) *
      (if 96 + 32 + x < 96 then P (96 + 32 + x) else if 96 + 32 + x - 96 < 32 then 0 else if 96 + 32 + x - 96 - 32 < 96 then Q (96 + 32 + x - 96 - 32) else 0) = B x * Q x := by
    intro x hx
    have := Finset.mem_range.1 hx
    rw [if_neg (by omega), if_neg (by omega), if_neg (by omega), if_pos (by omega),
      show 96 + 32 + x - 128 = x by omega, show 96 + 32 + x - 96 - 32 = x by omega]
  have h3 : ∀ x ∈ range 32, (if 96 + 32 + 96 + x < 128 then A (96 + 32 + 96 + x) else B (96 + 32 + 96 + x - 128)) *
      (if 96 + 32 + 96 + x < 96 then P (96 + 32 + 96 + x) else if 96 + 32 + 96 + x - 96 < 32 then 0 else if 96 + 32 + 96 + x - 96 - 32 < 96 then Q (96 + 32 + 96 + x - 96 - 32) else 0) = 0 := by
    intro x hx
    have := Finset.mem_range.1 hx
    rw [if_neg (c := _ < 96) (by omega), if_neg (c := _ < 32) (by omega), if_neg (c := _ < 96) (by omega), mul_zero]
  rw [show (256 : ℕ) = 96 + 32 + 96 + 32 from rfl, Finset.sum_range_add, Finset.sum_range_add, Finset.sum_range_add,
    Finset.sum_congr rfl h0, Finset.sum_eq_zero h1, Finset.sum_congr rfl h2, Finset.sum_eq_zero h3, add_zero, add_zero]

variable {D : Head} {S : ℕ → ℕ → ℝ}
variable (H : HeadHyp arg2 arg3 arg4 arg5 arg6 arg7 arg8 arg12 v66 v67 v86 v87 v90 v112 v138 v178 v179 X_arg2 X_arg3 X_arg4 X_arg5 X_arg6 X_arg7 X_arg8 k f_arg12 D S)
include H

theorem r_eq : (trip_k0_t1.sl.r (F := Ideal) arg4 v66 v67 X_arg4 k) = R2 D.e := by
  unfold trip_k0_t1.sl.r
  exact pay3_eq _ _ _ (pay1_eq _ _ _ H.h66 H.h67 H.hg)

theorem r_1_eq : (trip_k0_t1.sl.r_1 (F := Ideal) arg3 arg4 v66 v67 X_arg3 X_arg4 k) = R2 D.kn := by
  unfold trip_k0_t1.sl.r_1
  exact pay6_eq _ _ _ _ (pay1_eq _ _ _ H.h66 H.h67 H.hg) H.hk

theorem r_2_eq : (trip_k0_t1.sl.r_2 (F := Ideal) arg3 arg4 v66 v67 X_arg3 X_arg4 k) = R2 D.kd := by
  unfold trip_k0_t1.sl.r_2
  exact pay7_eq _ _ _ _ (pay1_eq _ _ _ H.h66 H.h67 H.hg) H.hk

theorem r_3_eq : (trip_k0_t1.sl.r_3 (F := Ideal) arg3 arg4 v66 v67 X_arg3 X_arg4 k) = R2 D.kp := by
  unfold trip_k0_t1.sl.r_3
  rw [pay148_eq]
  exact pay8_eq _ _ _ _ (pay3_eq _ _ _ (pay1_eq _ _ _ H.h66 H.h67 H.hg)) H.hk

theorem r_4_eq : (trip_k0_t1.sl.r_4 (F := Ideal) arg2 arg4 v66 v67 X_arg2 X_arg4 k) = R2 D.qp := by
  unfold trip_k0_t1.sl.r_4
  rw [pay148_eq]
  exact pay9_eq _ _ _ _ (pay3_eq _ _ _ (pay1_eq _ _ _ H.h66 H.h67 H.hg)) H.hq

/-- The left operand of the scores. -/
theorem v272_eq : (trip_k0_t1.sl.v272 (F := Ideal) arg2 arg3 arg4 v66 v67 X_arg2 X_arg3 X_arg4 k) = R2 fun r x => if x < 128 then (if r < 64 then D.kp r x else D.qp (r - 64) x)
    else (if r < 64 then D.kp (r + 64) (x - 128) else D.qp (r - 64 + 64) (x - 128)) := by
  refine ext2 fun r l => ?_
  pointwise [trip_k0_t1.sl.v266, trip_k0_t1.sl.v267, trip_k0_t1.sl.v268, trip_k0_t1.sl.v269, trip_k0_t1.sl.v270, trip_k0_t1.sl.v271, trip_k0_t1.sl.v272]
  simp only [r_3_eq (H := H), r_4_eq (H := H), exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  by_cases h1 : r.val < 64 <;> by_cases h2 : l.val < 128 <;> simp [h1, h2, add_comm]

/-- The keys of chunk 0 in lanes 0..63, zeros elsewhere. -/
theorem v276_eq : (trip_k0_t1.sl.v276 (F := Ideal) arg3 arg4 v66 v67 X_arg3 X_arg4 k) = R2 fun r l => if l < 64 then D.kn r l else 0 := by
  refine ext2 fun r l => ?_
  pointwise [trip_k0_t1.sl.v273_hi, trip_k0_t1.sl.v273_lo, trip_k0_t1.sl.v274, trip_k0_t1.sl.v275_hi, trip_k0_t1.sl.v275_lo, trip_k0_t1.sl.v276]
  simp only [r_1_eq (H := H), pay145_eq, exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  exact parity (fun r => if l.val < 64 then D.kn r l.val else 0) r

/-- The keys of chunk 1 in lanes 64..127, zeros elsewhere. -/
theorem v281_eq : (trip_k0_t1.sl.v281 (F := Ideal) arg3 arg4 v66 v67 X_arg3 X_arg4 k) = R2 fun r l => if ¬ l < 64 then D.kn r l else 0 := by
  refine ext2 fun r l => ?_
  pointwise [trip_k0_t1.sl.v273_hi, trip_k0_t1.sl.v273_lo, trip_k0_t1.sl.v274, trip_k0_t1.sl.v275_hi, trip_k0_t1.sl.v275_lo, trip_k0_t1.sl.v276, trip_k0_t1.sl.v280_hi, trip_k0_t1.sl.v280_lo, trip_k0_t1.sl.v281, trip_k0_t1.sl.cst_85]
  simp only [r_1_eq (H := H), pay145_eq, exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  exact parity (fun r => if ¬ l.val < 64 then D.kn r l.val else 0) r

/-- The right operand of the scores. -/
theorem v282_eq : (trip_k0_t1.sl.v282 (F := Ideal) arg3 arg4 v66 v67 X_arg3 X_arg4 k) = R2 fun x l => if x < 96 then (if l < 64 then D.kn x l else 0) else
    if x - 96 < 32 then 0 else if x - 96 - 32 < 96 then (if ¬ l < 64 then D.kn (x - 96 - 32) l else 0) else 0 := by
  refine ext2 fun r l => ?_
  pointwise [trip_k0_t1.sl.v282]
  simp only [v276_eq (H := H), v281_eq (H := H), pay148_eq, exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]

/-- The scores. -/
theorem v283_eq : (trip_k0_t1.sl.v283 (F := Ideal) arg2 arg3 arg4 v66 v67 X_arg2 X_arg3 X_arg4 k) = R2 D.sc := by
  refine ext2 fun r l => ?_
  pointwise [trip_k0_t1.sl.v283, trip_k0_t1.sl.cst_87]
  simp only [v272_eq (H := H), v282_eq (H := H), exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  rw [sum_pad (fun x => if r.val < 64 then D.kp r x else D.qp (r - 64) x)
    (fun x => if r.val < 64 then D.kp (r + 64) x else D.qp (r - 64 + 64) x)
    (fun x => if l.val < 64 then D.kn x l else 0) (fun x => if ¬ l.val < 64 then D.kn x l else 0)]
  unfold Head.sc
  by_cases h : l.val < 64
  · have : l.val / 64 = 0 := by omega
    simp [h, this]
  · have : l.val / 64 = 1 := by omega
    simp [h, this]

/-- The row factors, by token. -/
theorem v297_eq : (trip_k0_t1.sl.v297 (F := Ideal) arg7 arg8 X_arg7 X_arg8 k) = R2 fun t _ => D.cc t := by
  refine ext2 fun r l => ?_
  pointwise [trip_k0_t1.sl.v289, trip_k0_t1.sl.v292, trip_k0_t1.sl.v293, trip_k0_t1.sl.v294, trip_k0_t1.sl.v295, trip_k0_t1.sl.v296, trip_k0_t1.sl.v297]
  simp only [H.hks, H.hbe, exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  rfl

theorem v300_eq : (trip_k0_t1.sl.v300 (F := Ideal) arg7 arg8 X_arg7 X_arg8 k) = R2 fun t _ => D.bk t := by
  refine ext2 fun r l => ?_
  pointwise [trip_k0_t1.sl.v289, trip_k0_t1.sl.v292, trip_k0_t1.sl.v293, trip_k0_t1.sl.v294, trip_k0_t1.sl.v295, trip_k0_t1.sl.v296, trip_k0_t1.sl.v297, trip_k0_t1.sl.v298, trip_k0_t1.sl.v299, trip_k0_t1.sl.v300]
  simp only [H.hks, H.hbe, exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  rfl

theorem v305_eq : (trip_k0_t1.sl.v305 (F := Ideal) arg6 X_arg6 k) = R2 fun t _ => D.qs t * SC := by
  refine ext2 fun r l => ?_
  pointwise [trip_k0_t1.sl.v286, trip_k0_t1.sl.v301, trip_k0_t1.sl.v302, trip_k0_t1.sl.v303, trip_k0_t1.sl.v304, trip_k0_t1.sl.v305, trip_k0_t1.sl.cst_94]
  simp only [H.hqs, SC_eq, exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]

/-- The strictly lower triangular matrices of both chunks. -/
theorem v312_eq : (trip_k0_t1.sl.v312 (F := Ideal) arg2 arg3 arg4 arg7 arg8 v66 v67 v86 v90 X_arg2 X_arg3 X_arg4 X_arg7 X_arg8 k) = R2 D.a := by
  refine ext2 fun r l => ?_
  pointwise [trip_k0_t1.sl.v306, trip_k0_t1.sl.v307, trip_k0_t1.sl.v308, trip_k0_t1.sl.v309, trip_k0_t1.sl.v310, trip_k0_t1.sl.v311, trip_k0_t1.sl.v312, trip_k0_t1.sl.cst_95]
  simp only [H.h86, H.h90, v297_eq (H := H), v283_eq (H := H), exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  unfold Head.a
  by_cases h : l.val < 64
  · have : l.val / 64 = 0 := by omega
    simp [h, this]
  · have : l.val / 64 = 1 := by omega
    simp [h, this, add_comm]

theorem v315_eq : (trip_k0_t1.sl.v315 (F := Ideal) arg2 arg3 arg4 v66 v67 v87 X_arg2 X_arg3 X_arg4 k) = R2 D.qk := by
  refine ext2 fun r l => ?_
  pointwise [trip_k0_t1.sl.v311, trip_k0_t1.sl.v313, trip_k0_t1.sl.v315, trip_k0_t1.sl.cst_95]
  simp only [H.h87, v283_eq (H := H), exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  unfold Head.qk
  simp [add_comm]

/-- The four diagonal blocks, side by side. -/
theorem v318_eq : (trip_k0_t1.sl.v318 (F := Ideal) arg2 arg3 arg4 arg7 arg8 v66 v67 v86 v90 v178 v179 X_arg2 X_arg3 X_arg4 X_arg7 X_arg8 k) = R2 D.d := by
  refine ext2 fun r l => ?_
  pointwise [trip_k0_t1.sl.v316, trip_k0_t1.sl.v317, trip_k0_t1.sl.v318]
  simp only [H.h180, v312_eq (H := H), exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  unfold Head.d
  simp [add_comm]

end Cert.KernelIdeal.Own

end
-- ==== Proof.Value.Elim.lean ====
/-
  The elimination: after its 31 steps the four identity matrices have become the inverses of the four unit lower
  triangular diagonal blocks.
-/
module

public import proofs.«01_k».proof.Proof.Value.Pair

@[expose] public section

set_option maxRecDepth 16384

noncomputable section

namespace Cert.KernelIdeal.Own

open Idealize.ShloMosaic Finset
open Cert.KernelIdeal Cert.KernelIdeal.Gen Cert.Own

variable (arg2 arg3 : Memref sig .tc .vmem S1x18x96x128 .fp8e4m3) (arg4 : Memref sig .tc .vmem S1x18x96x128 .f32)
  (arg5 : Memref sig .tc .vmem S1x18x128x128 .bf16) (arg6 arg7 arg8 : Memref sig .tc .vmem S1x18x128 .f32)
  (arg12 : Memref sig .tc .vmem S18x96x128 .f32)
  (v66 : FVec Ideal S128x256 .bf16) (v67 : FVec Ideal S256x256 .bf16) (v86 v87 v90 : IVec S64x128 1)
  (v112 : FVec Ideal S32x128 .f32) (v138 v178 v179 : IVec S32x128 32)
  (X_arg2 : BufTy.Contents (Elt Ideal) arg2.view.ty) (X_arg3 : BufTy.Contents (Elt Ideal) arg3.view.ty)
  (X_arg4 : BufTy.Contents (Elt Ideal) arg4.view.ty) (X_arg5 : BufTy.Contents (Elt Ideal) arg5.view.ty)
  (X_arg6 : BufTy.Contents (Elt Ideal) arg6.view.ty) (X_arg7 : BufTy.Contents (Elt Ideal) arg7.view.ty)
  (X_arg8 : BufTy.Contents (Elt Ideal) arg8.view.ty) (k : Fin k0_t1_loop.trips)
  (f_arg12 : BufTy.Contents (Elt Ideal) arg12.view.ty)

/-- The lane a step gathers its column from. -/
theorem gather_lane (a j : ℕ) (h : a + j < 128) :
    (Scalar.select (IntOp.cmpi .slt (IntOp.addi (BitVec.ofNat 32 a) (BitVec.ofNat 32 j)) 0#32)
      (IntOp.addi (IntOp.addi (BitVec.ofNat 32 a) (BitVec.ofNat 32 j)) 128#32)
      (IntOp.addi (BitVec.ofNat 32 a) (BitVec.ofNat 32 j))).toNat % 128 = a + j := by
  have e : IntOp.addi (BitVec.ofNat 32 a) (BitVec.ofNat 32 j) = BitVec.ofNat 32 (a + j) := by
    unfold IntOp.addi
    rw [← BitVec.ofNat_add]
  rw [e, cmp_slt (a + j) 0 (by omega) (by omega), if_neg (by omega)]
  show (BitVec.ofNat 32 (a + j)).toNat % 128 = a + j
  rw [BitVec.toNat_ofNat]
  omega

variable {D : Head} {S : ℕ → ℕ → ℝ}
variable (H : HeadHyp arg2 arg3 arg4 arg5 arg6 arg7 arg8 arg12 v66 v67 v86 v87 v90 v112 v138 v178 v179 X_arg2 X_arg3 X_arg4 X_arg5 X_arg6 X_arg7 X_arg8 k f_arg12 D S)
include H

theorem v332_eq : (trip_k0_t1.sl.v332 (F := Ideal) arg2 arg3 arg4 arg7 arg8 v66 v67 v86 v90 v112 v138 v178 v179 X_arg2 X_arg3 X_arg4 X_arg7 X_arg8 k) = R2 (elims D.d 1) := by
  refine ext2 fun r l => ?_
  have hl : 32 * (l.val / 32) + 0 < 128 := by omega
  pointwise [trip_k0_t1.sl.v319, trip_k0_t1.sl.v320, trip_k0_t1.sl.v321, trip_k0_t1.sl.v323, trip_k0_t1.sl.v324, trip_k0_t1.sl.v325, trip_k0_t1.sl.v326, trip_k0_t1.sl.v327, trip_k0_t1.sl.v328, trip_k0_t1.sl.v329, trip_k0_t1.sl.v330, trip_k0_t1.sl.v331, trip_k0_t1.sl.v332]
  simp only [v318_eq (H := H)]
  simp only [H.h138, H.h112, I2_ix2, gather_lane _ 0 hl]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  rfl

theorem v346_eq : (trip_k0_t1.sl.v346 (F := Ideal) arg2 arg3 arg4 arg7 arg8 v66 v67 v86 v90 v112 v138 v178 v179 X_arg2 X_arg3 X_arg4 X_arg7 X_arg8 k) = R2 (elims D.d 2) := by
  refine ext2 fun r l => ?_
  have hl : 32 * (l.val / 32) + 1 < 128 := by omega
  pointwise [trip_k0_t1.sl.v320, trip_k0_t1.sl.v324, trip_k0_t1.sl.v333, trip_k0_t1.sl.v334, trip_k0_t1.sl.v335, trip_k0_t1.sl.v337, trip_k0_t1.sl.v339, trip_k0_t1.sl.v340, trip_k0_t1.sl.v341, trip_k0_t1.sl.v342, trip_k0_t1.sl.v343, trip_k0_t1.sl.v344, trip_k0_t1.sl.v345, trip_k0_t1.sl.v346]
  simp only [v318_eq (H := H), v332_eq (H := H)]
  simp only [H.h138, I2_ix2, gather_lane _ 1 hl]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  rfl

theorem v360_eq : (trip_k0_t1.sl.v360 (F := Ideal) arg2 arg3 arg4 arg7 arg8 v66 v67 v86 v90 v112 v138 v178 v179 X_arg2 X_arg3 X_arg4 X_arg7 X_arg8 k) = R2 (elims D.d 3) := by
  refine ext2 fun r l => ?_
  have hl : 32 * (l.val / 32) + 2 < 128 := by omega
  pointwise [trip_k0_t1.sl.v320, trip_k0_t1.sl.v324, trip_k0_t1.sl.v347, trip_k0_t1.sl.v348, trip_k0_t1.sl.v349, trip_k0_t1.sl.v351, trip_k0_t1.sl.v353, trip_k0_t1.sl.v354, trip_k0_t1.sl.v355, trip_k0_t1.sl.v356, trip_k0_t1.sl.v357, trip_k0_t1.sl.v358, trip_k0_t1.sl.v359, trip_k0_t1.sl.v360]
  simp only [v318_eq (H := H), v346_eq (H := H)]
  simp only [H.h138, I2_ix2, gather_lane _ 2 hl]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  rfl

theorem v374_eq : (trip_k0_t1.sl.v374 (F := Ideal) arg2 arg3 arg4 arg7 arg8 v66 v67 v86 v90 v112 v138 v178 v179 X_arg2 X_arg3 X_arg4 X_arg7 X_arg8 k) = R2 (elims D.d 4) := by
  refine ext2 fun r l => ?_
  have hl : 32 * (l.val / 32) + 3 < 128 := by omega
  pointwise [trip_k0_t1.sl.v320, trip_k0_t1.sl.v324, trip_k0_t1.sl.v361, trip_k0_t1.sl.v362, trip_k0_t1.sl.v363, trip_k0_t1.sl.v365, trip_k0_t1.sl.v367, trip_k0_t1.sl.v368, trip_k0_t1.sl.v369, trip_k0_t1.sl.v370, trip_k0_t1.sl.v371, trip_k0_t1.sl.v372, trip_k0_t1.sl.v373, trip_k0_t1.sl.v374]
  simp only [v318_eq (H := H), v360_eq (H := H)]
  simp only [H.h138, I2_ix2, gather_lane _ 3 hl]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  rfl

theorem v388_eq : (trip_k0_t1.sl.v388 (F := Ideal) arg2 arg3 arg4 arg7 arg8 v66 v67 v86 v90 v112 v138 v178 v179 X_arg2 X_arg3 X_arg4 X_arg7 X_arg8 k) = R2 (elims D.d 5) := by
  refine ext2 fun r l => ?_
  have hl : 32 * (l.val / 32) + 4 < 128 := by omega
  pointwise [trip_k0_t1.sl.v320, trip_k0_t1.sl.v324, trip_k0_t1.sl.v375, trip_k0_t1.sl.v376, trip_k0_t1.sl.v377, trip_k0_t1.sl.v379, trip_k0_t1.sl.v381, trip_k0_t1.sl.v382, trip_k0_t1.sl.v383, trip_k0_t1.sl.v384, trip_k0_t1.sl.v385, trip_k0_t1.sl.v386, trip_k0_t1.sl.v387, trip_k0_t1.sl.v388]
  simp only [v318_eq (H := H), v374_eq (H := H)]
  simp only [H.h138, I2_ix2, gather_lane _ 4 hl]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  rfl

theorem v402_eq : (trip_k0_t1.sl.v402 (F := Ideal) arg2 arg3 arg4 arg7 arg8 v66 v67 v86 v90 v112 v138 v178 v179 X_arg2 X_arg3 X_arg4 X_arg7 X_arg8 k) = R2 (elims D.d 6) := by
  refine ext2 fun r l => ?_
  have hl : 32 * (l.val / 32) + 5 < 128 := by omega
  pointwise [trip_k0_t1.sl.v320, trip_k0_t1.sl.v324, trip_k0_t1.sl.v389, trip_k0_t1.sl.v390, trip_k0_t1.sl.v391, trip_k0_t1.sl.v393, trip_k0_t1.sl.v395, trip_k0_t1.sl.v396, trip_k0_t1.sl.v397, trip_k0_t1.sl.v398, trip_k0_t1.sl.v399, trip_k0_t1.sl.v400, trip_k0_t1.sl.v401, trip_k0_t1.sl.v402]
  simp only [v318_eq (H := H), v388_eq (H := H)]
  simp only [H.h138, I2_ix2, gather_lane _ 5 hl]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  rfl

theorem v416_eq : (trip_k0_t1.sl.v416 (F := Ideal) arg2 arg3 arg4 arg7 arg8 v66 v67 v86 v90 v112 v138 v178 v179 X_arg2 X_arg3 X_arg4 X_arg7 X_arg8 k) = R2 (elims D.d 7) := by
  refine ext2 fun r l => ?_
  have hl : 32 * (l.val / 32) + 6 < 128 := by omega
  pointwise [trip_k0_t1.sl.v320, trip_k0_t1.sl.v324, trip_k0_t1.sl.v403, trip_k0_t1.sl.v404, trip_k0_t1.sl.v405, trip_k0_t1.sl.v407, trip_k0_t1.sl.v409, trip_k0_t1.sl.v410, trip_k0_t1.sl.v411, trip_k0_t1.sl.v412, trip_k0_t1.sl.v413, trip_k0_t1.sl.v414, trip_k0_t1.sl.v415, trip_k0_t1.sl.v416]
  simp only [v318_eq (H := H), v402_eq (H := H)]
  simp only [H.h138, I2_ix2, gather_lane _ 6 hl]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  rfl

theorem v430_eq : (trip_k0_t1.sl.v430 (F := Ideal) arg2 arg3 arg4 arg7 arg8 v66 v67 v86 v90 v112 v138 v178 v179 X_arg2 X_arg3 X_arg4 X_arg7 X_arg8 k) = R2 (elims D.d 8) := by
  refine ext2 fun r l => ?_
  have hl : 32 * (l.val / 32) + 7 < 128 := by omega
  pointwise [trip_k0_t1.sl.v320, trip_k0_t1.sl.v324, trip_k0_t1.sl.v417, trip_k0_t1.sl.v418, trip_k0_t1.sl.v419, trip_k0_t1.sl.v421, trip_k0_t1.sl.v423, trip_k0_t1.sl.v424, trip_k0_t1.sl.v425, trip_k0_t1.sl.v426, trip_k0_t1.sl.v427, trip_k0_t1.sl.v428, trip_k0_t1.sl.v429, trip_k0_t1.sl.v430]
  simp only [v318_eq (H := H), v416_eq (H := H)]
  simp only [H.h138, I2_ix2, gather_lane _ 7 hl]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  rfl

theorem v449_eq : (trip_k0_t1.sl.v449 (F := Ideal) arg2 arg3 arg4 arg7 arg8 v66 v67 v86 v90 v112 v138 v178 v179 X_arg2 X_arg3 X_arg4 X_arg7 X_arg8 k) = R2 (elims D.d 9) := by
  refine ext2 fun r l => ?_
  have hl : 32 * (l.val / 32) + 8 < 128 := by omega
  pointwise [trip_k0_t1.sl.v431, trip_k0_t1.sl.v432, trip_k0_t1.sl.v433, trip_k0_t1.sl.v434, trip_k0_t1.sl.v435, trip_k0_t1.sl.v436, trip_k0_t1.sl.v437, trip_k0_t1.sl.v438, trip_k0_t1.sl.v439, trip_k0_t1.sl.v440, trip_k0_t1.sl.v441, trip_k0_t1.sl.v442, trip_k0_t1.sl.v443, trip_k0_t1.sl.v444, trip_k0_t1.sl.v445, trip_k0_t1.sl.v446, trip_k0_t1.sl.v447, trip_k0_t1.sl.v448, trip_k0_t1.sl.v449]
  simp only [v318_eq (H := H), v430_eq (H := H)]
  simp only [H.h138, I2_ix2, gather_lane _ 8 hl]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  show _ = elim D.d 8 (elims D.d 8) r l
  unfold elim
  rw [show 8 / 8 * 8 = 8 from rfl]
  split
  · rfl
  · rw [show 8 + (r.val - 8) = r.val by omega]
    rfl

theorem v468_eq : (trip_k0_t1.sl.v468 (F := Ideal) arg2 arg3 arg4 arg7 arg8 v66 v67 v86 v90 v112 v138 v178 v179 X_arg2 X_arg3 X_arg4 X_arg7 X_arg8 k) = R2 (elims D.d 10) := by
  refine ext2 fun r l => ?_
  have hl : 32 * (l.val / 32) + 9 < 128 := by omega
  pointwise [trip_k0_t1.sl.v432, trip_k0_t1.sl.v433, trip_k0_t1.sl.v436, trip_k0_t1.sl.v438, trip_k0_t1.sl.v450, trip_k0_t1.sl.v453, trip_k0_t1.sl.v454, trip_k0_t1.sl.v456, trip_k0_t1.sl.v458, trip_k0_t1.sl.v459, trip_k0_t1.sl.v460, trip_k0_t1.sl.v461, trip_k0_t1.sl.v462, trip_k0_t1.sl.v463, trip_k0_t1.sl.v464, trip_k0_t1.sl.v465, trip_k0_t1.sl.v466, trip_k0_t1.sl.v467, trip_k0_t1.sl.v468]
  simp only [v318_eq (H := H), v449_eq (H := H)]
  simp only [H.h138, I2_ix2, gather_lane _ 9 hl]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  show _ = elim D.d 9 (elims D.d 9) r l
  unfold elim
  rw [show 9 / 8 * 8 = 8 from rfl]
  split
  · rfl
  · rw [show 8 + (r.val - 8) = r.val by omega]
    rfl

theorem v487_eq : (trip_k0_t1.sl.v487 (F := Ideal) arg2 arg3 arg4 arg7 arg8 v66 v67 v86 v90 v112 v138 v178 v179 X_arg2 X_arg3 X_arg4 X_arg7 X_arg8 k) = R2 (elims D.d 11) := by
  refine ext2 fun r l => ?_
  have hl : 32 * (l.val / 32) + 10 < 128 := by omega
  pointwise [trip_k0_t1.sl.v432, trip_k0_t1.sl.v433, trip_k0_t1.sl.v436, trip_k0_t1.sl.v438, trip_k0_t1.sl.v469, trip_k0_t1.sl.v472, trip_k0_t1.sl.v473, trip_k0_t1.sl.v475, trip_k0_t1.sl.v477, trip_k0_t1.sl.v478, trip_k0_t1.sl.v479, trip_k0_t1.sl.v480, trip_k0_t1.sl.v481, trip_k0_t1.sl.v482, trip_k0_t1.sl.v483, trip_k0_t1.sl.v484, trip_k0_t1.sl.v485, trip_k0_t1.sl.v486, trip_k0_t1.sl.v487]
  simp only [v318_eq (H := H), v468_eq (H := H)]
  simp only [H.h138, I2_ix2, gather_lane _ 10 hl]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  show _ = elim D.d 10 (elims D.d 10) r l
  unfold elim
  rw [show 10 / 8 * 8 = 8 from rfl]
  split
  · rfl
  · rw [show 8 + (r.val - 8) = r.val by omega]
    rfl

theorem v506_eq : (trip_k0_t1.sl.v506 (F := Ideal) arg2 arg3 arg4 arg7 arg8 v66 v67 v86 v90 v112 v138 v178 v179 X_arg2 X_arg3 X_arg4 X_arg7 X_arg8 k) = R2 (elims D.d 12) := by
  refine ext2 fun r l => ?_
  have hl : 32 * (l.val / 32) + 11 < 128 := by omega
  pointwise [trip_k0_t1.sl.v432, trip_k0_t1.sl.v433, trip_k0_t1.sl.v436, trip_k0_t1.sl.v438, trip_k0_t1.sl.v488, trip_k0_t1.sl.v491, trip_k0_t1.sl.v492, trip_k0_t1.sl.v494, trip_k0_t1.sl.v496, trip_k0_t1.sl.v497, trip_k0_t1.sl.v498, trip_k0_t1.sl.v499, trip_k0_t1.sl.v500, trip_k0_t1.sl.v501, trip_k0_t1.sl.v502, trip_k0_t1.sl.v503, trip_k0_t1.sl.v504, trip_k0_t1.sl.v505, trip_k0_t1.sl.v506]
  simp only [v318_eq (H := H), v487_eq (H := H)]
  simp only [H.h138, I2_ix2, gather_lane _ 11 hl]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  show _ = elim D.d 11 (elims D.d 11) r l
  unfold elim
  rw [show 11 / 8 * 8 = 8 from rfl]
  split
  · rfl
  · rw [show 8 + (r.val - 8) = r.val by omega]
    rfl

theorem v525_eq : (trip_k0_t1.sl.v525 (F := Ideal) arg2 arg3 arg4 arg7 arg8 v66 v67 v86 v90 v112 v138 v178 v179 X_arg2 X_arg3 X_arg4 X_arg7 X_arg8 k) = R2 (elims D.d 13) := by
  refine ext2 fun r l => ?_
  have hl : 32 * (l.val / 32) + 12 < 128 := by omega
  pointwise [trip_k0_t1.sl.v432, trip_k0_t1.sl.v433, trip_k0_t1.sl.v436, trip_k0_t1.sl.v438, trip_k0_t1.sl.v507, trip_k0_t1.sl.v510, trip_k0_t1.sl.v511, trip_k0_t1.sl.v513, trip_k0_t1.sl.v515, trip_k0_t1.sl.v516, trip_k0_t1.sl.v517, trip_k0_t1.sl.v518, trip_k0_t1.sl.v519, trip_k0_t1.sl.v520, trip_k0_t1.sl.v521, trip_k0_t1.sl.v522, trip_k0_t1.sl.v523, trip_k0_t1.sl.v524, trip_k0_t1.sl.v525]
  simp only [v318_eq (H := H), v506_eq (H := H)]
  simp only [H.h138, I2_ix2, gather_lane _ 12 hl]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  show _ = elim D.d 12 (elims D.d 12) r l
  unfold elim
  rw [show 12 / 8 * 8 = 8 from rfl]
  split
  · rfl
  · rw [show 8 + (r.val - 8) = r.val by omega]
    rfl

theorem v544_eq : (trip_k0_t1.sl.v544 (F := Ideal) arg2 arg3 arg4 arg7 arg8 v66 v67 v86 v90 v112 v138 v178 v179 X_arg2 X_arg3 X_arg4 X_arg7 X_arg8 k) = R2 (elims D.d 14) := by
  refine ext2 fun r l => ?_
  have hl : 32 * (l.val / 32) + 13 < 128 := by omega
  pointwise [trip_k0_t1.sl.v432, trip_k0_t1.sl.v433, trip_k0_t1.sl.v436, trip_k0_t1.sl.v438, trip_k0_t1.sl.v526, trip_k0_t1.sl.v529, trip_k0_t1.sl.v530, trip_k0_t1.sl.v532, trip_k0_t1.sl.v534, trip_k0_t1.sl.v535, trip_k0_t1.sl.v536, trip_k0_t1.sl.v537, trip_k0_t1.sl.v538, trip_k0_t1.sl.v539, trip_k0_t1.sl.v540, trip_k0_t1.sl.v541, trip_k0_t1.sl.v542, trip_k0_t1.sl.v543, trip_k0_t1.sl.v544]
  simp only [v318_eq (H := H), v525_eq (H := H)]
  simp only [H.h138, I2_ix2, gather_lane _ 13 hl]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  show _ = elim D.d 13 (elims D.d 13) r l
  unfold elim
  rw [show 13 / 8 * 8 = 8 from rfl]
  split
  · rfl
  · rw [show 8 + (r.val - 8) = r.val by omega]
    rfl

theorem v563_eq : (trip_k0_t1.sl.v563 (F := Ideal) arg2 arg3 arg4 arg7 arg8 v66 v67 v86 v90 v112 v138 v178 v179 X_arg2 X_arg3 X_arg4 X_arg7 X_arg8 k) = R2 (elims D.d 15) := by
  refine ext2 fun r l => ?_
  have hl : 32 * (l.val / 32) + 14 < 128 := by omega
  pointwise [trip_k0_t1.sl.v432, trip_k0_t1.sl.v433, trip_k0_t1.sl.v436, trip_k0_t1.sl.v438, trip_k0_t1.sl.v545, trip_k0_t1.sl.v548, trip_k0_t1.sl.v549, trip_k0_t1.sl.v551, trip_k0_t1.sl.v553, trip_k0_t1.sl.v554, trip_k0_t1.sl.v555, trip_k0_t1.sl.v556, trip_k0_t1.sl.v557, trip_k0_t1.sl.v558, trip_k0_t1.sl.v559, trip_k0_t1.sl.v560, trip_k0_t1.sl.v561, trip_k0_t1.sl.v562, trip_k0_t1.sl.v563]
  simp only [v318_eq (H := H), v544_eq (H := H)]
  simp only [H.h138, I2_ix2, gather_lane _ 14 hl]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  show _ = elim D.d 14 (elims D.d 14) r l
  unfold elim
  rw [show 14 / 8 * 8 = 8 from rfl]
  split
  · rfl
  · rw [show 8 + (r.val - 8) = r.val by omega]
    rfl

theorem v582_eq : (trip_k0_t1.sl.v582 (F := Ideal) arg2 arg3 arg4 arg7 arg8 v66 v67 v86 v90 v112 v138 v178 v179 X_arg2 X_arg3 X_arg4 X_arg7 X_arg8 k) = R2 (elims D.d 16) := by
  refine ext2 fun r l => ?_
  have hl : 32 * (l.val / 32) + 15 < 128 := by omega
  pointwise [trip_k0_t1.sl.v432, trip_k0_t1.sl.v433, trip_k0_t1.sl.v436, trip_k0_t1.sl.v438, trip_k0_t1.sl.v564, trip_k0_t1.sl.v567, trip_k0_t1.sl.v568, trip_k0_t1.sl.v570, trip_k0_t1.sl.v572, trip_k0_t1.sl.v573, trip_k0_t1.sl.v574, trip_k0_t1.sl.v575, trip_k0_t1.sl.v576, trip_k0_t1.sl.v577, trip_k0_t1.sl.v578, trip_k0_t1.sl.v579, trip_k0_t1.sl.v580, trip_k0_t1.sl.v581, trip_k0_t1.sl.v582]
  simp only [v318_eq (H := H), v563_eq (H := H)]
  simp only [H.h138, I2_ix2, gather_lane _ 15 hl]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  show _ = elim D.d 15 (elims D.d 15) r l
  unfold elim
  rw [show 15 / 8 * 8 = 8 from rfl]
  split
  · rfl
  · rw [show 8 + (r.val - 8) = r.val by omega]
    rfl

theorem v601_eq : (trip_k0_t1.sl.v601 (F := Ideal) arg2 arg3 arg4 arg7 arg8 v66 v67 v86 v90 v112 v138 v178 v179 X_arg2 X_arg3 X_arg4 X_arg7 X_arg8 k) = R2 (elims D.d 17) := by
  refine ext2 fun r l => ?_
  have hl : 32 * (l.val / 32) + 16 < 128 := by omega
  pointwise [trip_k0_t1.sl.v583, trip_k0_t1.sl.v584, trip_k0_t1.sl.v585, trip_k0_t1.sl.v586, trip_k0_t1.sl.v587, trip_k0_t1.sl.v588, trip_k0_t1.sl.v589, trip_k0_t1.sl.v590, trip_k0_t1.sl.v591, trip_k0_t1.sl.v592, trip_k0_t1.sl.v593, trip_k0_t1.sl.v594, trip_k0_t1.sl.v595, trip_k0_t1.sl.v596, trip_k0_t1.sl.v597, trip_k0_t1.sl.v598, trip_k0_t1.sl.v599, trip_k0_t1.sl.v600, trip_k0_t1.sl.v601]
  simp only [v318_eq (H := H), v582_eq (H := H)]
  simp only [H.h138, I2_ix2, gather_lane _ 16 hl]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  show _ = elim D.d 16 (elims D.d 16) r l
  unfold elim
  rw [show 16 / 8 * 8 = 16 from rfl]
  split
  · rfl
  · rw [show 16 + (r.val - 16) = r.val by omega]
    rfl

theorem v620_eq : (trip_k0_t1.sl.v620 (F := Ideal) arg2 arg3 arg4 arg7 arg8 v66 v67 v86 v90 v112 v138 v178 v179 X_arg2 X_arg3 X_arg4 X_arg7 X_arg8 k) = R2 (elims D.d 18) := by
  refine ext2 fun r l => ?_
  have hl : 32 * (l.val / 32) + 17 < 128 := by omega
  pointwise [trip_k0_t1.sl.v584, trip_k0_t1.sl.v585, trip_k0_t1.sl.v588, trip_k0_t1.sl.v590, trip_k0_t1.sl.v602, trip_k0_t1.sl.v605, trip_k0_t1.sl.v606, trip_k0_t1.sl.v608, trip_k0_t1.sl.v610, trip_k0_t1.sl.v611, trip_k0_t1.sl.v612, trip_k0_t1.sl.v613, trip_k0_t1.sl.v614, trip_k0_t1.sl.v615, trip_k0_t1.sl.v616, trip_k0_t1.sl.v617, trip_k0_t1.sl.v618, trip_k0_t1.sl.v619, trip_k0_t1.sl.v620]
  simp only [v318_eq (H := H), v601_eq (H := H)]
  simp only [H.h138, I2_ix2, gather_lane _ 17 hl]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  show _ = elim D.d 17 (elims D.d 17) r l
  unfold elim
  rw [show 17 / 8 * 8 = 16 from rfl]
  split
  · rfl
  · rw [show 16 + (r.val - 16) = r.val by omega]
    rfl

theorem v639_eq : (trip_k0_t1.sl.v639 (F := Ideal) arg2 arg3 arg4 arg7 arg8 v66 v67 v86 v90 v112 v138 v178 v179 X_arg2 X_arg3 X_arg4 X_arg7 X_arg8 k) = R2 (elims D.d 19) := by
  refine ext2 fun r l => ?_
  have hl : 32 * (l.val / 32) + 18 < 128 := by omega
  pointwise [trip_k0_t1.sl.v584, trip_k0_t1.sl.v585, trip_k0_t1.sl.v588, trip_k0_t1.sl.v590, trip_k0_t1.sl.v621, trip_k0_t1.sl.v624, trip_k0_t1.sl.v625, trip_k0_t1.sl.v627, trip_k0_t1.sl.v629, trip_k0_t1.sl.v630, trip_k0_t1.sl.v631, trip_k0_t1.sl.v632, trip_k0_t1.sl.v633, trip_k0_t1.sl.v634, trip_k0_t1.sl.v635, trip_k0_t1.sl.v636, trip_k0_t1.sl.v637, trip_k0_t1.sl.v638, trip_k0_t1.sl.v639]
  simp only [v318_eq (H := H), v620_eq (H := H)]
  simp only [H.h138, I2_ix2, gather_lane _ 18 hl]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  show _ = elim D.d 18 (elims D.d 18) r l
  unfold elim
  rw [show 18 / 8 * 8 = 16 from rfl]
  split
  · rfl
  · rw [show 16 + (r.val - 16) = r.val by omega]
    rfl

theorem v658_eq : (trip_k0_t1.sl.v658 (F := Ideal) arg2 arg3 arg4 arg7 arg8 v66 v67 v86 v90 v112 v138 v178 v179 X_arg2 X_arg3 X_arg4 X_arg7 X_arg8 k) = R2 (elims D.d 20) := by
  refine ext2 fun r l => ?_
  have hl : 32 * (l.val / 32) + 19 < 128 := by omega
  pointwise [trip_k0_t1.sl.v584, trip_k0_t1.sl.v585, trip_k0_t1.sl.v588, trip_k0_t1.sl.v590, trip_k0_t1.sl.v640, trip_k0_t1.sl.v643, trip_k0_t1.sl.v644, trip_k0_t1.sl.v646, trip_k0_t1.sl.v648, trip_k0_t1.sl.v649, trip_k0_t1.sl.v650, trip_k0_t1.sl.v651, trip_k0_t1.sl.v652, trip_k0_t1.sl.v653, trip_k0_t1.sl.v654, trip_k0_t1.sl.v655, trip_k0_t1.sl.v656, trip_k0_t1.sl.v657, trip_k0_t1.sl.v658]
  simp only [v318_eq (H := H), v639_eq (H := H)]
  simp only [H.h138, I2_ix2, gather_lane _ 19 hl]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  show _ = elim D.d 19 (elims D.d 19) r l
  unfold elim
  rw [show 19 / 8 * 8 = 16 from rfl]
  split
  · rfl
  · rw [show 16 + (r.val - 16) = r.val by omega]
    rfl

theorem v677_eq : (trip_k0_t1.sl.v677 (F := Ideal) arg2 arg3 arg4 arg7 arg8 v66 v67 v86 v90 v112 v138 v178 v179 X_arg2 X_arg3 X_arg4 X_arg7 X_arg8 k) = R2 (elims D.d 21) := by
  refine ext2 fun r l => ?_
  have hl : 32 * (l.val / 32) + 20 < 128 := by omega
  pointwise [trip_k0_t1.sl.v584, trip_k0_t1.sl.v585, trip_k0_t1.sl.v588, trip_k0_t1.sl.v590, trip_k0_t1.sl.v659, trip_k0_t1.sl.v662, trip_k0_t1.sl.v663, trip_k0_t1.sl.v665, trip_k0_t1.sl.v667, trip_k0_t1.sl.v668, trip_k0_t1.sl.v669, trip_k0_t1.sl.v670, trip_k0_t1.sl.v671, trip_k0_t1.sl.v672, trip_k0_t1.sl.v673, trip_k0_t1.sl.v674, trip_k0_t1.sl.v675, trip_k0_t1.sl.v676, trip_k0_t1.sl.v677]
  simp only [v318_eq (H := H), v658_eq (H := H)]
  simp only [H.h138, I2_ix2, gather_lane _ 20 hl]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  show _ = elim D.d 20 (elims D.d 20) r l
  unfold elim
  rw [show 20 / 8 * 8 = 16 from rfl]
  split
  · rfl
  · rw [show 16 + (r.val - 16) = r.val by omega]
    rfl

theorem v696_eq : (trip_k0_t1.sl.v696 (F := Ideal) arg2 arg3 arg4 arg7 arg8 v66 v67 v86 v90 v112 v138 v178 v179 X_arg2 X_arg3 X_arg4 X_arg7 X_arg8 k) = R2 (elims D.d 22) := by
  refine ext2 fun r l => ?_
  have hl : 32 * (l.val / 32) + 21 < 128 := by omega
  pointwise [trip_k0_t1.sl.v584, trip_k0_t1.sl.v585, trip_k0_t1.sl.v588, trip_k0_t1.sl.v590, trip_k0_t1.sl.v678, trip_k0_t1.sl.v681, trip_k0_t1.sl.v682, trip_k0_t1.sl.v684, trip_k0_t1.sl.v686, trip_k0_t1.sl.v687, trip_k0_t1.sl.v688, trip_k0_t1.sl.v689, trip_k0_t1.sl.v690, trip_k0_t1.sl.v691, trip_k0_t1.sl.v692, trip_k0_t1.sl.v693, trip_k0_t1.sl.v694, trip_k0_t1.sl.v695, trip_k0_t1.sl.v696]
  simp only [v318_eq (H := H), v677_eq (H := H)]
  simp only [H.h138, I2_ix2, gather_lane _ 21 hl]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  show _ = elim D.d 21 (elims D.d 21) r l
  unfold elim
  rw [show 21 / 8 * 8 = 16 from rfl]
  split
  · rfl
  · rw [show 16 + (r.val - 16) = r.val by omega]
    rfl

theorem v715_eq : (trip_k0_t1.sl.v715 (F := Ideal) arg2 arg3 arg4 arg7 arg8 v66 v67 v86 v90 v112 v138 v178 v179 X_arg2 X_arg3 X_arg4 X_arg7 X_arg8 k) = R2 (elims D.d 23) := by
  refine ext2 fun r l => ?_
  have hl : 32 * (l.val / 32) + 22 < 128 := by omega
  pointwise [trip_k0_t1.sl.v584, trip_k0_t1.sl.v585, trip_k0_t1.sl.v588, trip_k0_t1.sl.v590, trip_k0_t1.sl.v697, trip_k0_t1.sl.v700, trip_k0_t1.sl.v701, trip_k0_t1.sl.v703, trip_k0_t1.sl.v705, trip_k0_t1.sl.v706, trip_k0_t1.sl.v707, trip_k0_t1.sl.v708, trip_k0_t1.sl.v709, trip_k0_t1.sl.v710, trip_k0_t1.sl.v711, trip_k0_t1.sl.v712, trip_k0_t1.sl.v713, trip_k0_t1.sl.v714, trip_k0_t1.sl.v715]
  simp only [v318_eq (H := H), v696_eq (H := H)]
  simp only [H.h138, I2_ix2, gather_lane _ 22 hl]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  show _ = elim D.d 22 (elims D.d 22) r l
  unfold elim
  rw [show 22 / 8 * 8 = 16 from rfl]
  split
  · rfl
  · rw [show 16 + (r.val - 16) = r.val by omega]
    rfl

theorem v734_eq : (trip_k0_t1.sl.v734 (F := Ideal) arg2 arg3 arg4 arg7 arg8 v66 v67 v86 v90 v112 v138 v178 v179 X_arg2 X_arg3 X_arg4 X_arg7 X_arg8 k) = R2 (elims D.d 24) := by
  refine ext2 fun r l => ?_
  have hl : 32 * (l.val / 32) + 23 < 128 := by omega
  pointwise [trip_k0_t1.sl.v584, trip_k0_t1.sl.v585, trip_k0_t1.sl.v588, trip_k0_t1.sl.v590, trip_k0_t1.sl.v716, trip_k0_t1.sl.v719, trip_k0_t1.sl.v720, trip_k0_t1.sl.v722, trip_k0_t1.sl.v724, trip_k0_t1.sl.v725, trip_k0_t1.sl.v726, trip_k0_t1.sl.v727, trip_k0_t1.sl.v728, trip_k0_t1.sl.v729, trip_k0_t1.sl.v730, trip_k0_t1.sl.v731, trip_k0_t1.sl.v732, trip_k0_t1.sl.v733, trip_k0_t1.sl.v734]
  simp only [v318_eq (H := H), v715_eq (H := H)]
  simp only [H.h138, I2_ix2, gather_lane _ 23 hl]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  show _ = elim D.d 23 (elims D.d 23) r l
  unfold elim
  rw [show 23 / 8 * 8 = 16 from rfl]
  split
  · rfl
  · rw [show 16 + (r.val - 16) = r.val by omega]
    rfl

theorem v753_eq : (trip_k0_t1.sl.v753 (F := Ideal) arg2 arg3 arg4 arg7 arg8 v66 v67 v86 v90 v112 v138 v178 v179 X_arg2 X_arg3 X_arg4 X_arg7 X_arg8 k) = R2 (elims D.d 25) := by
  refine ext2 fun r l => ?_
  have hl : 32 * (l.val / 32) + 24 < 128 := by omega
  pointwise [trip_k0_t1.sl.v735, trip_k0_t1.sl.v736, trip_k0_t1.sl.v737, trip_k0_t1.sl.v738, trip_k0_t1.sl.v739, trip_k0_t1.sl.v740, trip_k0_t1.sl.v741, trip_k0_t1.sl.v742, trip_k0_t1.sl.v743, trip_k0_t1.sl.v744, trip_k0_t1.sl.v745, trip_k0_t1.sl.v746, trip_k0_t1.sl.v747, trip_k0_t1.sl.v748, trip_k0_t1.sl.v749, trip_k0_t1.sl.v750, trip_k0_t1.sl.v751, trip_k0_t1.sl.v752, trip_k0_t1.sl.v753]
  simp only [v318_eq (H := H), v734_eq (H := H)]
  simp only [H.h138, I2_ix2, gather_lane _ 24 hl]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  show _ = elim D.d 24 (elims D.d 24) r l
  unfold elim
  rw [show 24 / 8 * 8 = 24 from rfl]
  split
  · rfl
  · rw [show 24 + (r.val - 24) = r.val by omega]
    rfl

theorem v772_eq : (trip_k0_t1.sl.v772 (F := Ideal) arg2 arg3 arg4 arg7 arg8 v66 v67 v86 v90 v112 v138 v178 v179 X_arg2 X_arg3 X_arg4 X_arg7 X_arg8 k) = R2 (elims D.d 26) := by
  refine ext2 fun r l => ?_
  have hl : 32 * (l.val / 32) + 25 < 128 := by omega
  pointwise [trip_k0_t1.sl.v736, trip_k0_t1.sl.v737, trip_k0_t1.sl.v740, trip_k0_t1.sl.v742, trip_k0_t1.sl.v754, trip_k0_t1.sl.v757, trip_k0_t1.sl.v758, trip_k0_t1.sl.v760, trip_k0_t1.sl.v762, trip_k0_t1.sl.v763, trip_k0_t1.sl.v764, trip_k0_t1.sl.v765, trip_k0_t1.sl.v766, trip_k0_t1.sl.v767, trip_k0_t1.sl.v768, trip_k0_t1.sl.v769, trip_k0_t1.sl.v770, trip_k0_t1.sl.v771, trip_k0_t1.sl.v772]
  simp only [v318_eq (H := H), v753_eq (H := H)]
  simp only [H.h138, I2_ix2, gather_lane _ 25 hl]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  show _ = elim D.d 25 (elims D.d 25) r l
  unfold elim
  rw [show 25 / 8 * 8 = 24 from rfl]
  split
  · rfl
  · rw [show 24 + (r.val - 24) = r.val by omega]
    rfl

theorem v791_eq : (trip_k0_t1.sl.v791 (F := Ideal) arg2 arg3 arg4 arg7 arg8 v66 v67 v86 v90 v112 v138 v178 v179 X_arg2 X_arg3 X_arg4 X_arg7 X_arg8 k) = R2 (elims D.d 27) := by
  refine ext2 fun r l => ?_
  have hl : 32 * (l.val / 32) + 26 < 128 := by omega
  pointwise [trip_k0_t1.sl.v736, trip_k0_t1.sl.v737, trip_k0_t1.sl.v740, trip_k0_t1.sl.v742, trip_k0_t1.sl.v773, trip_k0_t1.sl.v776, trip_k0_t1.sl.v777, trip_k0_t1.sl.v779, trip_k0_t1.sl.v781, trip_k0_t1.sl.v782, trip_k0_t1.sl.v783, trip_k0_t1.sl.v784, trip_k0_t1.sl.v785, trip_k0_t1.sl.v786, trip_k0_t1.sl.v787, trip_k0_t1.sl.v788, trip_k0_t1.sl.v789, trip_k0_t1.sl.v790, trip_k0_t1.sl.v791]
  simp only [v318_eq (H := H), v772_eq (H := H)]
  simp only [H.h138, I2_ix2, gather_lane _ 26 hl]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  show _ = elim D.d 26 (elims D.d 26) r l
  unfold elim
  rw [show 26 / 8 * 8 = 24 from rfl]
  split
  · rfl
  · rw [show 24 + (r.val - 24) = r.val by omega]
    rfl

theorem v810_eq : (trip_k0_t1.sl.v810 (F := Ideal) arg2 arg3 arg4 arg7 arg8 v66 v67 v86 v90 v112 v138 v178 v179 X_arg2 X_arg3 X_arg4 X_arg7 X_arg8 k) = R2 (elims D.d 28) := by
  refine ext2 fun r l => ?_
  have hl : 32 * (l.val / 32) + 27 < 128 := by omega
  pointwise [trip_k0_t1.sl.v736, trip_k0_t1.sl.v737, trip_k0_t1.sl.v740, trip_k0_t1.sl.v742, trip_k0_t1.sl.v792, trip_k0_t1.sl.v795, trip_k0_t1.sl.v796, trip_k0_t1.sl.v798, trip_k0_t1.sl.v800, trip_k0_t1.sl.v801, trip_k0_t1.sl.v802, trip_k0_t1.sl.v803, trip_k0_t1.sl.v804, trip_k0_t1.sl.v805, trip_k0_t1.sl.v806, trip_k0_t1.sl.v807, trip_k0_t1.sl.v808, trip_k0_t1.sl.v809, trip_k0_t1.sl.v810]
  simp only [v318_eq (H := H), v791_eq (H := H)]
  simp only [H.h138, I2_ix2, gather_lane _ 27 hl]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  show _ = elim D.d 27 (elims D.d 27) r l
  unfold elim
  rw [show 27 / 8 * 8 = 24 from rfl]
  split
  · rfl
  · rw [show 24 + (r.val - 24) = r.val by omega]
    rfl

theorem v829_eq : (trip_k0_t1.sl.v829 (F := Ideal) arg2 arg3 arg4 arg7 arg8 v66 v67 v86 v90 v112 v138 v178 v179 X_arg2 X_arg3 X_arg4 X_arg7 X_arg8 k) = R2 (elims D.d 29) := by
  refine ext2 fun r l => ?_
  have hl : 32 * (l.val / 32) + 28 < 128 := by omega
  pointwise [trip_k0_t1.sl.v736, trip_k0_t1.sl.v737, trip_k0_t1.sl.v740, trip_k0_t1.sl.v742, trip_k0_t1.sl.v811, trip_k0_t1.sl.v814, trip_k0_t1.sl.v815, trip_k0_t1.sl.v817, trip_k0_t1.sl.v819, trip_k0_t1.sl.v820, trip_k0_t1.sl.v821, trip_k0_t1.sl.v822, trip_k0_t1.sl.v823, trip_k0_t1.sl.v824, trip_k0_t1.sl.v825, trip_k0_t1.sl.v826, trip_k0_t1.sl.v827, trip_k0_t1.sl.v828, trip_k0_t1.sl.v829]
  simp only [v318_eq (H := H), v810_eq (H := H)]
  simp only [H.h138, I2_ix2, gather_lane _ 28 hl]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  show _ = elim D.d 28 (elims D.d 28) r l
  unfold elim
  rw [show 28 / 8 * 8 = 24 from rfl]
  split
  · rfl
  · rw [show 24 + (r.val - 24) = r.val by omega]
    rfl

theorem v848_eq : (trip_k0_t1.sl.v848 (F := Ideal) arg2 arg3 arg4 arg7 arg8 v66 v67 v86 v90 v112 v138 v178 v179 X_arg2 X_arg3 X_arg4 X_arg7 X_arg8 k) = R2 (elims D.d 30) := by
  refine ext2 fun r l => ?_
  have hl : 32 * (l.val / 32) + 29 < 128 := by omega
  pointwise [trip_k0_t1.sl.v736, trip_k0_t1.sl.v737, trip_k0_t1.sl.v740, trip_k0_t1.sl.v742, trip_k0_t1.sl.v830, trip_k0_t1.sl.v833, trip_k0_t1.sl.v834, trip_k0_t1.sl.v836, trip_k0_t1.sl.v838, trip_k0_t1.sl.v839, trip_k0_t1.sl.v840, trip_k0_t1.sl.v841, trip_k0_t1.sl.v842, trip_k0_t1.sl.v843, trip_k0_t1.sl.v844, trip_k0_t1.sl.v845, trip_k0_t1.sl.v846, trip_k0_t1.sl.v847, trip_k0_t1.sl.v848]
  simp only [v318_eq (H := H), v829_eq (H := H)]
  simp only [H.h138, I2_ix2, gather_lane _ 29 hl]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  show _ = elim D.d 29 (elims D.d 29) r l
  unfold elim
  rw [show 29 / 8 * 8 = 24 from rfl]
  split
  · rfl
  · rw [show 24 + (r.val - 24) = r.val by omega]
    rfl

theorem v867_eq : (trip_k0_t1.sl.v867 (F := Ideal) arg2 arg3 arg4 arg7 arg8 v66 v67 v86 v90 v112 v138 v178 v179 X_arg2 X_arg3 X_arg4 X_arg7 X_arg8 k) = R2 (elims D.d 31) := by
  refine ext2 fun r l => ?_
  have hl : 32 * (l.val / 32) + 30 < 128 := by omega
  pointwise [trip_k0_t1.sl.v736, trip_k0_t1.sl.v737, trip_k0_t1.sl.v740, trip_k0_t1.sl.v742, trip_k0_t1.sl.v849, trip_k0_t1.sl.v852, trip_k0_t1.sl.v853, trip_k0_t1.sl.v855, trip_k0_t1.sl.v857, trip_k0_t1.sl.v858, trip_k0_t1.sl.v859, trip_k0_t1.sl.v860, trip_k0_t1.sl.v861, trip_k0_t1.sl.v862, trip_k0_t1.sl.v863, trip_k0_t1.sl.v864, trip_k0_t1.sl.v865, trip_k0_t1.sl.v866, trip_k0_t1.sl.v867]
  simp only [v318_eq (H := H), v848_eq (H := H)]
  simp only [H.h138, I2_ix2, gather_lane _ 30 hl]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  show _ = elim D.d 30 (elims D.d 30) r l
  unfold elim
  rw [show 30 / 8 * 8 = 24 from rfl]
  split
  · rfl
  · rw [show 24 + (r.val - 24) = r.val by omega]
    rfl

end Cert.KernelIdeal.Own

end
-- ==== Proof.Value.Slots.lean ====
/-
  The three bf16 pieces of the inverses, of the lower left scores and of the causal scores, and the left operands of
  the folded products made of them.  A value that is a real number is its own first piece, and the other two are zero.
-/
module

public import proofs.«01_k».proof.Proof.Value.Elim

@[expose] public section

set_option maxRecDepth 16384

noncomputable section

namespace Cert.KernelIdeal.Own

open Idealize.ShloMosaic Finset
open Cert.KernelIdeal Cert.KernelIdeal.Gen Cert.Own

variable (arg2 arg3 : Memref sig .tc .vmem S1x18x96x128 .fp8e4m3) (arg4 : Memref sig .tc .vmem S1x18x96x128 .f32)
  (arg5 : Memref sig .tc .vmem S1x18x128x128 .bf16) (arg6 arg7 arg8 : Memref sig .tc .vmem S1x18x128 .f32)
  (arg12 : Memref sig .tc .vmem S18x96x128 .f32)
  (v66 : FVec Ideal S128x256 .bf16) (v67 : FVec Ideal S256x256 .bf16) (v86 v87 v90 : IVec S64x128 1)
  (v112 : FVec Ideal S32x128 .f32) (v138 v178 v179 : IVec S32x128 32)
  (X_arg2 : BufTy.Contents (Elt Ideal) arg2.view.ty) (X_arg3 : BufTy.Contents (Elt Ideal) arg3.view.ty)
  (X_arg4 : BufTy.Contents (Elt Ideal) arg4.view.ty) (X_arg5 : BufTy.Contents (Elt Ideal) arg5.view.ty)
  (X_arg6 : BufTy.Contents (Elt Ideal) arg6.view.ty) (X_arg7 : BufTy.Contents (Elt Ideal) arg7.view.ty)
  (X_arg8 : BufTy.Contents (Elt Ideal) arg8.view.ty) (k : Fin k0_t1_loop.trips)
  (f_arg12 : BufTy.Contents (Elt Ideal) arg12.view.ty)

/-- The comparison of a lane's group of 32 with a constant. -/
theorem quarter (l : Fin 128) (b : ℕ) (hb : b < 4) :
    IntOp.cmpi .eq (BitVec.ofNat 32 (l.val / 32)) (BitVec.ofNat 32 b) = if l.val / 32 = b then 1#1 else 0#1 :=
  cmp_eq _ _ (by omega) (by omega)

variable {D : Head} {S : ℕ → ℕ → ℝ}
variable (H : HeadHyp arg2 arg3 arg4 arg5 arg6 arg7 arg8 arg12 v66 v67 v86 v87 v90 v112 v138 v178 v179 X_arg2 X_arg3 X_arg4 X_arg5 X_arg6 X_arg7 X_arg8 k f_arg12 D S)
include H

theorem v878_eq : (trip_k0_t1.sl.v878 (F := Ideal) arg2 arg3 arg4 arg7 arg8 v66 v67 v86 v90 v112 v138 v178 v179 X_arg2 X_arg3 X_arg4 X_arg7 X_arg8 k) = R2 (D.ti) := by
  refine ext2 fun r l => ?_
  rw [Head.ti_eq]
  pointwise [trip_k0_t1.sl.v871, trip_k0_t1.sl.v878]
  simp only [v867_eq (H := H)]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]

theorem v883_eq : (trip_k0_t1.sl.v883 (F := Ideal) arg2 arg3 arg4 arg7 arg8 v66 v67 v86 v90 v112 v138 v178 v179 X_arg2 X_arg3 X_arg4 X_arg7 X_arg8 k) = R2 (fun _ _ => 0) := by
  refine ext2 fun r l => ?_
  pointwise [trip_k0_t1.sl.v871, trip_k0_t1.sl.v872, trip_k0_t1.sl.v876, trip_k0_t1.sl.v879, trip_k0_t1.sl.v881_hi, trip_k0_t1.sl.v881_lo, trip_k0_t1.sl.v882_hi, trip_k0_t1.sl.v882_lo, trip_k0_t1.sl.v883]
  simp only [v867_eq (H := H)]
  rcases Nat.mod_two_eq_zero_or_one r.val with h | h
  · have e : 2 * (r.val / 2) = r.val := by omega
    simp only [h, e, if_true]
    simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
    simp only [sub_self]
  · have e : 2 * (r.val / 2) + 1 = r.val := by omega
    simp only [h, e, Nat.one_ne_zero, if_false]
    simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
    simp only [sub_self]

theorem v886_eq : (trip_k0_t1.sl.v886 (F := Ideal) arg2 arg3 arg4 arg7 arg8 v66 v67 v86 v90 v112 v138 v178 v179 X_arg2 X_arg3 X_arg4 X_arg7 X_arg8 k) = R2 (fun _ _ => 0) := by
  refine ext2 fun r l => ?_
  pointwise [trip_k0_t1.sl.v871, trip_k0_t1.sl.v872, trip_k0_t1.sl.v876, trip_k0_t1.sl.v877, trip_k0_t1.sl.v880, trip_k0_t1.sl.v884_hi, trip_k0_t1.sl.v884_lo, trip_k0_t1.sl.v885_hi, trip_k0_t1.sl.v885_lo, trip_k0_t1.sl.v886]
  simp only [v867_eq (H := H)]
  rcases Nat.mod_two_eq_zero_or_one r.val with h | h
  · have e : 2 * (r.val / 2) = r.val := by omega
    simp only [h, e, if_true]
    simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
    simp only [sub_self]
  · have e : 2 * (r.val / 2) + 1 = r.val := by omega
    simp only [h, e, Nat.one_ne_zero, if_false]
    simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
    simp only [sub_self]

theorem v889_eq : (trip_k0_t1.sl.v889 (F := Ideal) arg2 arg3 arg4 arg7 arg8 v66 v67 v86 v90 v112 v138 v178 v179 X_arg2 X_arg3 X_arg4 X_arg7 X_arg8 k) = R2 (fun r l => D.ti r ((l + 32) % 128)) := by
  refine ext2 fun r l => ?_
  pointwise [trip_k0_t1.sl.v887_hi, trip_k0_t1.sl.v887_lo, trip_k0_t1.sl.v888_hi, trip_k0_t1.sl.v888_lo, trip_k0_t1.sl.v889]
  simp only [v878_eq (H := H)]
  rcases Nat.mod_two_eq_zero_or_one r.val with h | h
  · have e : 2 * (r.val / 2) = r.val := by omega
    simp only [h, e, if_true]
    simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
    rfl
  · have e : 2 * (r.val / 2) + 1 = r.val := by omega
    simp only [h, e, Nat.one_ne_zero, if_false]
    simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
    rfl

theorem v901_eq : (trip_k0_t1.sl.v901 (F := Ideal) arg2 arg3 arg4 arg7 arg8 v66 v67 v86 v90 X_arg2 X_arg3 X_arg4 X_arg7 X_arg8 k) = R2 (fun r l => D.a (r + 32) l) := by
  refine ext2 fun r l => ?_
  pointwise [trip_k0_t1.sl.v316, trip_k0_t1.sl.v894, trip_k0_t1.sl.v901]
  simp only [v312_eq (H := H)]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  rw [Nat.add_comm]

theorem v906_eq : (trip_k0_t1.sl.v906 (F := Ideal) arg2 arg3 arg4 arg7 arg8 v66 v67 v86 v90 X_arg2 X_arg3 X_arg4 X_arg7 X_arg8 k) = R2 (fun _ _ => 0) := by
  refine ext2 fun r l => ?_
  pointwise [trip_k0_t1.sl.v316, trip_k0_t1.sl.v894, trip_k0_t1.sl.v895, trip_k0_t1.sl.v899, trip_k0_t1.sl.v902, trip_k0_t1.sl.v904_hi, trip_k0_t1.sl.v904_lo, trip_k0_t1.sl.v905_hi, trip_k0_t1.sl.v905_lo, trip_k0_t1.sl.v906]
  simp only [v312_eq (H := H)]
  rcases Nat.mod_two_eq_zero_or_one r.val with h | h
  · have e : 2 * (r.val / 2) = r.val := by omega
    simp only [h, e, if_true]
    simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
    simp only [sub_self]
  · have e : 2 * (r.val / 2) + 1 = r.val := by omega
    simp only [h, e, Nat.one_ne_zero, if_false]
    simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
    simp only [sub_self]

theorem v909_eq : (trip_k0_t1.sl.v909 (F := Ideal) arg2 arg3 arg4 arg7 arg8 v66 v67 v86 v90 X_arg2 X_arg3 X_arg4 X_arg7 X_arg8 k) = R2 (fun _ _ => 0) := by
  refine ext2 fun r l => ?_
  pointwise [trip_k0_t1.sl.v316, trip_k0_t1.sl.v894, trip_k0_t1.sl.v895, trip_k0_t1.sl.v899, trip_k0_t1.sl.v900, trip_k0_t1.sl.v903, trip_k0_t1.sl.v907_hi, trip_k0_t1.sl.v907_lo, trip_k0_t1.sl.v908_hi, trip_k0_t1.sl.v908_lo, trip_k0_t1.sl.v909]
  simp only [v312_eq (H := H)]
  rcases Nat.mod_two_eq_zero_or_one r.val with h | h
  · have e : 2 * (r.val / 2) = r.val := by omega
    simp only [h, e, if_true]
    simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
    simp only [sub_self]
  · have e : 2 * (r.val / 2) + 1 = r.val := by omega
    simp only [h, e, Nat.one_ne_zero, if_false]
    simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
    simp only [sub_self]

theorem v912_eq : (trip_k0_t1.sl.v912 (F := Ideal) arg2 arg3 arg4 arg7 arg8 v66 v67 v86 v90 X_arg2 X_arg3 X_arg4 X_arg7 X_arg8 k) = R2 (fun r l => D.a (r + 32) ((l + 32) % 128)) := by
  refine ext2 fun r l => ?_
  pointwise [trip_k0_t1.sl.v910_hi, trip_k0_t1.sl.v910_lo, trip_k0_t1.sl.v911_hi, trip_k0_t1.sl.v911_lo, trip_k0_t1.sl.v912]
  simp only [v901_eq (H := H)]
  rcases Nat.mod_two_eq_zero_or_one r.val with h | h
  · have e : 2 * (r.val / 2) = r.val := by omega
    simp only [h, e, if_true]
    simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
    rfl
  · have e : 2 * (r.val / 2) + 1 = r.val := by omega
    simp only [h, e, Nat.one_ne_zero, if_false]
    simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
    rfl

theorem v923_eq : (trip_k0_t1.sl.v923 (F := Ideal) arg2 arg3 arg4 v66 v67 v87 X_arg2 X_arg3 X_arg4 k) = R2 (D.qk) := by
  refine ext2 fun r l => ?_
  pointwise [trip_k0_t1.sl.v916, trip_k0_t1.sl.v923]
  simp only [v315_eq (H := H)]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]

theorem v928_eq : (trip_k0_t1.sl.v928 (F := Ideal) arg2 arg3 arg4 v66 v67 v87 X_arg2 X_arg3 X_arg4 k) = R2 (fun _ _ => 0) := by
  refine ext2 fun r l => ?_
  pointwise [trip_k0_t1.sl.v916, trip_k0_t1.sl.v917, trip_k0_t1.sl.v921, trip_k0_t1.sl.v924, trip_k0_t1.sl.v926_hi, trip_k0_t1.sl.v926_lo, trip_k0_t1.sl.v927_hi, trip_k0_t1.sl.v927_lo, trip_k0_t1.sl.v928]
  simp only [v315_eq (H := H)]
  rcases Nat.mod_two_eq_zero_or_one r.val with h | h
  · have e : 2 * (r.val / 2) = r.val := by omega
    simp only [h, e, if_true]
    simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
    simp only [sub_self]
  · have e : 2 * (r.val / 2) + 1 = r.val := by omega
    simp only [h, e, Nat.one_ne_zero, if_false]
    simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
    simp only [sub_self]

theorem v931_eq : (trip_k0_t1.sl.v931 (F := Ideal) arg2 arg3 arg4 v66 v67 v87 X_arg2 X_arg3 X_arg4 k) = R2 (fun _ _ => 0) := by
  refine ext2 fun r l => ?_
  pointwise [trip_k0_t1.sl.v916, trip_k0_t1.sl.v917, trip_k0_t1.sl.v921, trip_k0_t1.sl.v922, trip_k0_t1.sl.v925, trip_k0_t1.sl.v929_hi, trip_k0_t1.sl.v929_lo, trip_k0_t1.sl.v930_hi, trip_k0_t1.sl.v930_lo, trip_k0_t1.sl.v931]
  simp only [v315_eq (H := H)]
  rcases Nat.mod_two_eq_zero_or_one r.val with h | h
  · have e : 2 * (r.val / 2) = r.val := by omega
    simp only [h, e, if_true]
    simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
    simp only [sub_self]
  · have e : 2 * (r.val / 2) + 1 = r.val := by omega
    simp only [h, e, Nat.one_ne_zero, if_false]
    simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
    simp only [sub_self]

theorem v992_eq : (trip_k0_t1.sl.v992 (F := Ideal) arg2 arg3 arg4 arg7 arg8 v66 v67 v86 v90 v112 v138 v178 v179 X_arg2 X_arg3 X_arg4 X_arg7 X_arg8 k) = R2 (slot 0 D.ti) := by
  refine ext2 fun r l => ?_
  pointwise [trip_k0_t1.sl.v588, trip_k0_t1.sl.v887_hi, trip_k0_t1.sl.v887_lo, trip_k0_t1.sl.v975_hi, trip_k0_t1.sl.v975_lo, trip_k0_t1.sl.v976_hi, trip_k0_t1.sl.v976_lo, trip_k0_t1.sl.v977, trip_k0_t1.sl.v978, trip_k0_t1.sl.v980_hi, trip_k0_t1.sl.v980_lo, trip_k0_t1.sl.v981_hi, trip_k0_t1.sl.v981_lo, trip_k0_t1.sl.v982_hi, trip_k0_t1.sl.v982_lo, trip_k0_t1.sl.v983, trip_k0_t1.sl.v986, trip_k0_t1.sl.v988, trip_k0_t1.sl.v989_hi, trip_k0_t1.sl.v989_lo, trip_k0_t1.sl.v990_hi, trip_k0_t1.sl.v990_lo, trip_k0_t1.sl.v991_hi, trip_k0_t1.sl.v991_lo, trip_k0_t1.sl.v992]
  simp only [v878_eq (H := H), v883_eq (H := H), v886_eq (H := H), v889_eq (H := H)]
  simp only [pay147_eq, R2_ix2, I2_ix2, quarter l 0 (by omega), quarter l 1 (by omega), quarter l 2 (by omega),
    quarter l 3 (by omega)]
  rcases Nat.mod_two_eq_zero_or_one r.val with h | h
  · have e : 2 * (r.val / 2) = r.val := by omega
    simp only [h, e, if_true]
    simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
    congr 1
    unfold slot
    split_ifs <;> first | rfl | omega
  · have e : 2 * (r.val / 2) + 1 = r.val := by omega
    simp only [h, e, Nat.one_ne_zero, if_false]
    simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
    congr 1
    unfold slot
    split_ifs <;> first | rfl | omega

theorem v1081_eq : (trip_k0_t1.sl.v1081 (F := Ideal) arg2 arg3 arg4 arg7 arg8 v66 v67 v86 v90 v112 v138 v178 v179 X_arg2 X_arg3 X_arg4 X_arg7 X_arg8 k) = R2 (slot 1 D.ti) := by
  refine ext2 fun r l => ?_
  pointwise [trip_k0_t1.sl.v1065_hi, trip_k0_t1.sl.v1065_lo, trip_k0_t1.sl.v1066, trip_k0_t1.sl.v1067, trip_k0_t1.sl.v1071_hi, trip_k0_t1.sl.v1071_lo, trip_k0_t1.sl.v1072, trip_k0_t1.sl.v1077, trip_k0_t1.sl.v1078_hi, trip_k0_t1.sl.v1078_lo, trip_k0_t1.sl.v1079_hi, trip_k0_t1.sl.v1079_lo, trip_k0_t1.sl.v1080_hi, trip_k0_t1.sl.v1080_lo, trip_k0_t1.sl.v1081, trip_k0_t1.sl.v887_hi, trip_k0_t1.sl.v887_lo, trip_k0_t1.sl.v975_hi, trip_k0_t1.sl.v975_lo, trip_k0_t1.sl.v978, trip_k0_t1.sl.v980_hi, trip_k0_t1.sl.v980_lo, trip_k0_t1.sl.v981_hi, trip_k0_t1.sl.v981_lo, trip_k0_t1.sl.v986]
  simp only [v878_eq (H := H), v883_eq (H := H), v886_eq (H := H), v889_eq (H := H)]
  simp only [pay147_eq, R2_ix2, I2_ix2, quarter l 0 (by omega), quarter l 1 (by omega), quarter l 2 (by omega),
    quarter l 3 (by omega)]
  rcases Nat.mod_two_eq_zero_or_one r.val with h | h
  · have e : 2 * (r.val / 2) = r.val := by omega
    simp only [h, e, if_true]
    simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
    congr 1
    unfold slot
    split_ifs <;> first | rfl | omega
  · have e : 2 * (r.val / 2) + 1 = r.val := by omega
    simp only [h, e, Nat.one_ne_zero, if_false]
    simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
    congr 1
    unfold slot
    split_ifs <;> first | rfl | omega

theorem v1224_eq : (trip_k0_t1.sl.v1224 (F := Ideal) arg2 arg3 arg4 arg7 arg8 v66 v67 v86 v90 v112 v138 v178 v179 X_arg2 X_arg3 X_arg4 X_arg7 X_arg8 k) = R2 (slot 2 D.ti) := by
  refine ext2 fun r l => ?_
  pointwise [trip_k0_t1.sl.v1067, trip_k0_t1.sl.v1208_hi, trip_k0_t1.sl.v1208_lo, trip_k0_t1.sl.v1209, trip_k0_t1.sl.v1214_hi, trip_k0_t1.sl.v1214_lo, trip_k0_t1.sl.v1215, trip_k0_t1.sl.v1220, trip_k0_t1.sl.v1221_hi, trip_k0_t1.sl.v1221_lo, trip_k0_t1.sl.v1222_hi, trip_k0_t1.sl.v1222_lo, trip_k0_t1.sl.v1223_hi, trip_k0_t1.sl.v1223_lo, trip_k0_t1.sl.v1224, trip_k0_t1.sl.v588, trip_k0_t1.sl.v887_hi, trip_k0_t1.sl.v887_lo, trip_k0_t1.sl.v975_hi, trip_k0_t1.sl.v975_lo, trip_k0_t1.sl.v978, trip_k0_t1.sl.v980_hi, trip_k0_t1.sl.v980_lo, trip_k0_t1.sl.v981_hi, trip_k0_t1.sl.v981_lo]
  simp only [v878_eq (H := H), v883_eq (H := H), v886_eq (H := H), v889_eq (H := H)]
  simp only [pay147_eq, R2_ix2, I2_ix2, quarter l 0 (by omega), quarter l 1 (by omega), quarter l 2 (by omega),
    quarter l 3 (by omega)]
  rcases Nat.mod_two_eq_zero_or_one r.val with h | h
  · have e : 2 * (r.val / 2) = r.val := by omega
    simp only [h, e, if_true]
    simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
    congr 1
    unfold slot
    split_ifs <;> first | rfl | omega
  · have e : 2 * (r.val / 2) + 1 = r.val := by omega
    simp only [h, e, Nat.one_ne_zero, if_false]
    simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
    congr 1
    unfold slot
    split_ifs <;> first | rfl | omega

theorem v1313_eq : (trip_k0_t1.sl.v1313 (F := Ideal) arg2 arg3 arg4 arg7 arg8 v66 v67 v86 v90 v112 v138 v178 v179 X_arg2 X_arg3 X_arg4 X_arg7 X_arg8 k) = R2 (slot 3 D.ti) := by
  refine ext2 fun r l => ?_
  pointwise [trip_k0_t1.sl.v1067, trip_k0_t1.sl.v1297_hi, trip_k0_t1.sl.v1297_lo, trip_k0_t1.sl.v1298, trip_k0_t1.sl.v1303_hi, trip_k0_t1.sl.v1303_lo, trip_k0_t1.sl.v1304, trip_k0_t1.sl.v1309, trip_k0_t1.sl.v1310_hi, trip_k0_t1.sl.v1310_lo, trip_k0_t1.sl.v1311_hi, trip_k0_t1.sl.v1311_lo, trip_k0_t1.sl.v1312_hi, trip_k0_t1.sl.v1312_lo, trip_k0_t1.sl.v1313, trip_k0_t1.sl.v588, trip_k0_t1.sl.v887_hi, trip_k0_t1.sl.v887_lo, trip_k0_t1.sl.v975_hi, trip_k0_t1.sl.v975_lo, trip_k0_t1.sl.v980_hi, trip_k0_t1.sl.v980_lo, trip_k0_t1.sl.v981_hi, trip_k0_t1.sl.v981_lo, trip_k0_t1.sl.v986]
  simp only [v878_eq (H := H), v883_eq (H := H), v886_eq (H := H), v889_eq (H := H)]
  simp only [pay147_eq, R2_ix2, I2_ix2, quarter l 0 (by omega), quarter l 1 (by omega), quarter l 2 (by omega),
    quarter l 3 (by omega)]
  rcases Nat.mod_two_eq_zero_or_one r.val with h | h
  · have e : 2 * (r.val / 2) = r.val := by omega
    simp only [h, e, if_true]
    simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
    congr 1
    unfold slot
    split_ifs <;> first | rfl | omega
  · have e : 2 * (r.val / 2) + 1 = r.val := by omega
    simp only [h, e, Nat.one_ne_zero, if_false]
    simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
    congr 1
    unfold slot
    split_ifs <;> first | rfl | omega

theorem v1037_eq : (trip_k0_t1.sl.v1037 (F := Ideal) arg2 arg3 arg4 arg7 arg8 v66 v67 v86 v90 X_arg2 X_arg3 X_arg4 X_arg7 X_arg8 k) = R2 (slot 0 (fun r l => D.a (r + 32) l)) := by
  refine ext2 fun r l => ?_
  pointwise [trip_k0_t1.sl.v1020_hi, trip_k0_t1.sl.v1020_lo, trip_k0_t1.sl.v1021_hi, trip_k0_t1.sl.v1021_lo, trip_k0_t1.sl.v1022, trip_k0_t1.sl.v1025_hi, trip_k0_t1.sl.v1025_lo, trip_k0_t1.sl.v1026_hi, trip_k0_t1.sl.v1026_lo, trip_k0_t1.sl.v1027_hi, trip_k0_t1.sl.v1027_lo, trip_k0_t1.sl.v1028, trip_k0_t1.sl.v1034_hi, trip_k0_t1.sl.v1034_lo, trip_k0_t1.sl.v1035_hi, trip_k0_t1.sl.v1035_lo, trip_k0_t1.sl.v1036_hi, trip_k0_t1.sl.v1036_lo, trip_k0_t1.sl.v1037, trip_k0_t1.sl.v588, trip_k0_t1.sl.v910_hi, trip_k0_t1.sl.v910_lo, trip_k0_t1.sl.v978, trip_k0_t1.sl.v986, trip_k0_t1.sl.v988]
  simp only [v901_eq (H := H), v906_eq (H := H), v909_eq (H := H), v912_eq (H := H)]
  simp only [pay147_eq, R2_ix2, I2_ix2, quarter l 0 (by omega), quarter l 1 (by omega), quarter l 2 (by omega),
    quarter l 3 (by omega)]
  rcases Nat.mod_two_eq_zero_or_one r.val with h | h
  · have e : 2 * (r.val / 2) = r.val := by omega
    simp only [h, e, if_true]
    simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
    congr 1
    unfold slot
    split_ifs <;> first | rfl | omega
  · have e : 2 * (r.val / 2) + 1 = r.val := by omega
    simp only [h, e, Nat.one_ne_zero, if_false]
    simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
    congr 1
    unfold slot
    split_ifs <;> first | rfl | omega

theorem v1269_eq : (trip_k0_t1.sl.v1269 (F := Ideal) arg2 arg3 arg4 arg7 arg8 v66 v67 v86 v90 X_arg2 X_arg3 X_arg4 X_arg7 X_arg8 k) = R2 (slot 2 (fun r l => D.a (r + 32) l)) := by
  refine ext2 fun r l => ?_
  pointwise [trip_k0_t1.sl.v1020_hi, trip_k0_t1.sl.v1020_lo, trip_k0_t1.sl.v1025_hi, trip_k0_t1.sl.v1025_lo, trip_k0_t1.sl.v1026_hi, trip_k0_t1.sl.v1026_lo, trip_k0_t1.sl.v1067, trip_k0_t1.sl.v1220, trip_k0_t1.sl.v1253_hi, trip_k0_t1.sl.v1253_lo, trip_k0_t1.sl.v1254, trip_k0_t1.sl.v1259_hi, trip_k0_t1.sl.v1259_lo, trip_k0_t1.sl.v1260, trip_k0_t1.sl.v1266_hi, trip_k0_t1.sl.v1266_lo, trip_k0_t1.sl.v1267_hi, trip_k0_t1.sl.v1267_lo, trip_k0_t1.sl.v1268_hi, trip_k0_t1.sl.v1268_lo, trip_k0_t1.sl.v1269, trip_k0_t1.sl.v588, trip_k0_t1.sl.v910_hi, trip_k0_t1.sl.v910_lo, trip_k0_t1.sl.v978]
  simp only [v901_eq (H := H), v906_eq (H := H), v909_eq (H := H), v912_eq (H := H)]
  simp only [pay147_eq, R2_ix2, I2_ix2, quarter l 0 (by omega), quarter l 1 (by omega), quarter l 2 (by omega),
    quarter l 3 (by omega)]
  rcases Nat.mod_two_eq_zero_or_one r.val with h | h
  · have e : 2 * (r.val / 2) = r.val := by omega
    simp only [h, e, if_true]
    simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
    congr 1
    unfold slot
    split_ifs <;> first | rfl | omega
  · have e : 2 * (r.val / 2) + 1 = r.val := by omega
    simp only [h, e, Nat.one_ne_zero, if_false]
    simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
    congr 1
    unfold slot
    split_ifs <;> first | rfl | omega
-- ==== Proof.Value.Chunk0.lean ====
/-
  Chunk 0 of the step over the real numbers: the right-hand side of its triangular system, the solution by two
  blocks of rows, the output and the new state.
-/
module

public import proofs.«01_k».proof.Proof.Value.Slots

@[expose] public section

set_option maxRecDepth 16384

noncomputable section

namespace Cert.KernelIdeal.Own

open Idealize.ShloMosaic Finset
open Cert.KernelIdeal Cert.KernelIdeal.Gen Cert.Own

variable (arg2 arg3 : Memref sig .tc .vmem S1x18x96x128 .fp8e4m3) (arg4 : Memref sig .tc .vmem S1x18x96x128 .f32)
  (arg5 : Memref sig .tc .vmem S1x18x128x128 .bf16) (arg6 arg7 arg8 : Memref sig .tc .vmem S1x18x128 .f32)
  (arg12 : Memref sig .tc .vmem S18x96x128 .f32)
  (v66 : FVec Ideal S128x256 .bf16) (v67 : FVec Ideal S256x256 .bf16) (v86 v87 v90 : IVec S64x128 1)
  (v112 : FVec Ideal S32x128 .f32) (v138 v178 v179 : IVec S32x128 32)
  (X_arg2 : BufTy.Contents (Elt Ideal) arg2.view.ty) (X_arg3 : BufTy.Contents (Elt Ideal) arg3.view.ty)
  (X_arg4 : BufTy.Contents (Elt Ideal) arg4.view.ty) (X_arg5 : BufTy.Contents (Elt Ideal) arg5.view.ty)
  (X_arg6 : BufTy.Contents (Elt Ideal) arg6.view.ty) (X_arg7 : BufTy.Contents (Elt Ideal) arg7.view.ty)
  (X_arg8 : BufTy.Contents (Elt Ideal) arg8.view.ty) (k : Fin k0_t1_loop.trips)
  (f_arg12 : BufTy.Contents (Elt Ideal) arg12.view.ty)

variable {D : Head} {S : ℕ → ℕ → ℝ}
variable (H : HeadHyp arg2 arg3 arg4 arg5 arg6 arg7 arg8 arg12 v66 v67 v86 v87 v90 v112 v138 v178 v179 X_arg2 X_arg3 X_arg4 X_arg5 X_arg6 X_arg7 X_arg8 k f_arg12 D S)
include H

/-- The carried state. -/
theorem v934_eq : (trip_k0_t1.sl.v934 (F := Ideal) arg12 k f_arg12) = R2 S := by
  refine ext2 fun r l => ?_
  pointwise [trip_k0_t1.sl.v934]
  exact H.hS r l

theorem v953_eq : (trip_k0_t1.sl.v953 (F := Ideal) arg12 k f_arg12) = R2 (fun x l => if x < 96 ∧ l < 128 then S x l else 0) := by
  refine ext2 fun r l => ?_
  pointwise [trip_k0_t1.sl.cst_179, trip_k0_t1.sl.v938, trip_k0_t1.sl.v939, trip_k0_t1.sl.v943, trip_k0_t1.sl.v944, trip_k0_t1.sl.v945, trip_k0_t1.sl.v946, trip_k0_t1.sl.v947, trip_k0_t1.sl.v948, trip_k0_t1.sl.v949, trip_k0_t1.sl.v950, trip_k0_t1.sl.v951, trip_k0_t1.sl.v953]
  simp only [v934_eq (H := H), pay148_eq]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  simp only [sub_self]
  split_ifs <;> first | rfl | omega | (congr 1; omega) | (congr 2 <;> omega)

theorem v956_eq : (trip_k0_t1.sl.v956 (F := Ideal) arg2 arg3 arg4 v66 v67 X_arg2 X_arg3 X_arg4 k) = R2 (fun r x => if r < 64 then D.kp (r + 0) x else D.qp (r - 64 + 0) x) := by
  refine ext2 fun r l => ?_
  pointwise [trip_k0_t1.sl.v266, trip_k0_t1.sl.v269, trip_k0_t1.sl.v956]
  simp only [r_3_eq (H := H), r_4_eq (H := H)]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]

/-- The keys and the queries against the carried state. -/
theorem v961_eq : (trip_k0_t1.sl.v961 (F := Ideal) arg2 arg3 arg4 arg12 v66 v67 X_arg2 X_arg3 X_arg4 k f_arg12) = R2 (D.p 0 S) := by
  refine ext2 fun r l => ?_
  pointwise [trip_k0_t1.sl.cst_180, trip_k0_t1.sl.v957, trip_k0_t1.sl.v958, trip_k0_t1.sl.v959, trip_k0_t1.sl.v960, trip_k0_t1.sl.v961]
  simp only [v953_eq (H := H), v956_eq (H := H)]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  exact congrArg _ (fold_p (fun x => if r.val < 64 then D.kp (r + 0) x else D.qp (r - 64 + 0) x) _ _ (by omega))

/-- The right-hand side. -/
theorem v971_eq : (trip_k0_t1.sl.v971 (F := Ideal) arg2 arg3 arg4 arg5 arg7 arg8 arg12 v66 v67 X_arg2 X_arg3 X_arg4 X_arg5 X_arg7 X_arg8 k f_arg12) = R2 (D.rr 0 S) := by
  refine ext2 fun r l => ?_
  pointwise [trip_k0_t1.sl.v306, trip_k0_t1.sl.v962, trip_k0_t1.sl.v965, trip_k0_t1.sl.v966, trip_k0_t1.sl.v967, trip_k0_t1.sl.v969, trip_k0_t1.sl.v970, trip_k0_t1.sl.v971]
  simp only [v297_eq (H := H), v300_eq (H := H), v961_eq (H := H), H.hv0]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  rfl

theorem v1011_eq : (trip_k0_t1.sl.v1011 (F := Ideal) arg2 arg3 arg4 arg5 arg7 arg8 arg12 v66 v67 X_arg2 X_arg3 X_arg4 X_arg5 X_arg7 X_arg8 k f_arg12) = R2 (stack 0 (D.rr 0 S)) := by
  refine ext2 fun r l => ?_
  pointwise [trip_k0_t1.sl.cst_179, trip_k0_t1.sl.v1002, trip_k0_t1.sl.v1003, trip_k0_t1.sl.v1004, trip_k0_t1.sl.v1005, trip_k0_t1.sl.v1006, trip_k0_t1.sl.v1007, trip_k0_t1.sl.v1008, trip_k0_t1.sl.v1009, trip_k0_t1.sl.v1010, trip_k0_t1.sl.v1011, trip_k0_t1.sl.v993, trip_k0_t1.sl.v997, trip_k0_t1.sl.v998]
  simp only [v971_eq (H := H)]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  unfold stack
  simp only [sub_self]
  split_ifs <;> first | rfl | omega | (congr 1; omega) | (congr 2 <;> omega)

/-- The solution's first 32 rows. -/
theorem v1015_eq : (trip_k0_t1.sl.v1015 (F := Ideal) arg2 arg3 arg4 arg5 arg7 arg8 arg12 v66 v67 v86 v90 v112 v138 v178 v179 X_arg2 X_arg3 X_arg4 X_arg5 X_arg7 X_arg8 k f_arg12) = R2 (D.u1 0 S) := by
  refine ext2 fun r l => ?_
  pointwise [trip_k0_t1.sl.cst_191, trip_k0_t1.sl.v1012, trip_k0_t1.sl.v1013, trip_k0_t1.sl.v1014, trip_k0_t1.sl.v1015]
  simp only [v1011_eq (H := H), v992_eq (H := H)]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  exact congrArg _ (fold_slot_fin 0 (by omega) _ _ _ _ (by omega))

theorem v1055_eq : (trip_k0_t1.sl.v1055 (F := Ideal) arg2 arg3 arg4 arg5 arg7 arg8 arg12 v66 v67 v86 v90 v112 v138 v178 v179 X_arg2 X_arg3 X_arg4 X_arg5 X_arg7 X_arg8 k f_arg12) = R2 (stack 0 (D.u1 0 S)) := by
  refine ext2 fun r l => ?_
  pointwise [trip_k0_t1.sl.cst_179, trip_k0_t1.sl.v1007, trip_k0_t1.sl.v1041, trip_k0_t1.sl.v1042, trip_k0_t1.sl.v1046, trip_k0_t1.sl.v1047, trip_k0_t1.sl.v1048, trip_k0_t1.sl.v1049, trip_k0_t1.sl.v1050, trip_k0_t1.sl.v1052, trip_k0_t1.sl.v1053, trip_k0_t1.sl.v1054, trip_k0_t1.sl.v1055]
  simp only [v1015_eq (H := H)]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  unfold stack
  simp only [sub_self]
  split_ifs <;> first | rfl | omega | (congr 1; omega) | (congr 2 <;> omega)

theorem v1060_eq : (trip_k0_t1.sl.v1060 (F := Ideal) arg2 arg3 arg4 arg5 arg7 arg8 arg12 v66 v67 v86 v90 v112 v138 v178 v179 X_arg2 X_arg3 X_arg4 X_arg5 X_arg7 X_arg8 k f_arg12) = R2 (D.r2 0 S) := by
  refine ext2 fun r l => ?_
  pointwise [trip_k0_t1.sl.cst_191, trip_k0_t1.sl.v1016, trip_k0_t1.sl.v1056, trip_k0_t1.sl.v1057, trip_k0_t1.sl.v1058, trip_k0_t1.sl.v1059, trip_k0_t1.sl.v1060]
  simp only [v1037_eq (H := H), v1055_eq (H := H), v971_eq (H := H)]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  rw [fold_slot_fin 0 (by omega) _ _ _ _ (by omega), Nat.add_comm 32]
  rfl

theorem v1099_eq : (trip_k0_t1.sl.v1099 (F := Ideal) arg2 arg3 arg4 arg5 arg7 arg8 arg12 v66 v67 v86 v90 v112 v138 v178 v179 X_arg2 X_arg3 X_arg4 X_arg5 X_arg7 X_arg8 k f_arg12) = R2 (stack 1 (D.r2 0 S)) := by
  refine ext2 fun r l => ?_
  pointwise [trip_k0_t1.sl.cst_179, trip_k0_t1.sl.v1007, trip_k0_t1.sl.v1085, trip_k0_t1.sl.v1086, trip_k0_t1.sl.v1090, trip_k0_t1.sl.v1091, trip_k0_t1.sl.v1092, trip_k0_t1.sl.v1093, trip_k0_t1.sl.v1094, trip_k0_t1.sl.v1096, trip_k0_t1.sl.v1097, trip_k0_t1.sl.v1098, trip_k0_t1.sl.v1099]
  simp only [v1060_eq (H := H)]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  unfold stack
  simp only [sub_self]
  split_ifs <;> first | rfl | omega | (congr 1; omega) | (congr 2 <;> omega)

/-- The solution. -/
theorem v1104_eq : (trip_k0_t1.sl.v1104 (F := Ideal) arg2 arg3 arg4 arg5 arg7 arg8 arg12 v66 v67 v86 v90 v112 v138 v178 v179 X_arg2 X_arg3 X_arg4 X_arg5 X_arg7 X_arg8 k f_arg12) = R2 (D.u 0 S) := by
  refine ext2 fun r l => ?_
  pointwise [trip_k0_t1.sl.cst_191, trip_k0_t1.sl.v1100, trip_k0_t1.sl.v1101, trip_k0_t1.sl.v1102, trip_k0_t1.sl.v1103, trip_k0_t1.sl.v1104]
  simp only [v1015_eq (H := H), v1081_eq (H := H), v1099_eq (H := H)]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  rw [fold_slot_fin 1 (by omega) _ _ _ _ (by omega)]
  rfl

theorem v1131_eq : (trip_k0_t1.sl.v1131 (F := Ideal) arg2 arg3 arg4 arg5 arg7 arg8 arg12 v66 v67 v86 v90 v112 v138 v178 v179 X_arg2 X_arg3 X_arg4 X_arg5 X_arg7 X_arg8 k f_arg12) = R2 (fun x l => if l < 128 ∧ ¬(128 ≤ x ∧ x < 192) then D.u 0 S (x % 64) l else 0) := by
  refine ext2 fun r l => ?_
  pointwise [trip_k0_t1.sl.cst_179, trip_k0_t1.sl.v1108, trip_k0_t1.sl.v1109, trip_k0_t1.sl.v1113, trip_k0_t1.sl.v1114, trip_k0_t1.sl.v1115, trip_k0_t1.sl.v1116, trip_k0_t1.sl.v1117, trip_k0_t1.sl.v1118, trip_k0_t1.sl.v1119, trip_k0_t1.sl.v1120, trip_k0_t1.sl.v1121, trip_k0_t1.sl.v1131]
  simp only [v1104_eq (H := H)]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  simp only [sub_self]
  split_ifs <;> first | rfl | omega | (congr 1; omega) | (congr 2 <;> omega)

theorem v1137_eq : (trip_k0_t1.sl.v1137 (F := Ideal) arg2 arg3 arg4 v66 v67 v87 X_arg2 X_arg3 X_arg4 k) = R2 (fun r x => if x % 128 < 64 then (if r < 64 then D.qk r (x % 128) else D.kd (r - 64) (x % 128)) else 0) := by
  refine ext2 fun r l => ?_
  pointwise [trip_k0_t1.sl.v1122_hi, trip_k0_t1.sl.v1122_lo, trip_k0_t1.sl.v1123_hi, trip_k0_t1.sl.v1123_lo, trip_k0_t1.sl.v1124_hi, trip_k0_t1.sl.v1124_lo, trip_k0_t1.sl.v1125, trip_k0_t1.sl.v1127_hi, trip_k0_t1.sl.v1127_lo, trip_k0_t1.sl.v1128_hi, trip_k0_t1.sl.v1128_lo, trip_k0_t1.sl.v1129, trip_k0_t1.sl.v1130, trip_k0_t1.sl.v1132_hi, trip_k0_t1.sl.v1132_lo, trip_k0_t1.sl.v1134_hi, trip_k0_t1.sl.v1134_lo, trip_k0_t1.sl.v1135, trip_k0_t1.sl.v1136, trip_k0_t1.sl.v1137]
  simp only [r_2_eq (H := H), v923_eq (H := H), v928_eq (H := H), v931_eq (H := H)]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  simp only [pay146_eq, pay145_eq, B2_ix2]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  split_ifs <;> first | rfl | omega | (congr 1; omega) | (congr 2 <;> omega)

/-- The scores and the decayed keys times the solution. -/
theorem v1141_eq : (trip_k0_t1.sl.v1141 (F := Ideal) arg2 arg3 arg4 arg5 arg7 arg8 arg12 v66 v67 v86 v87 v90 v112 v138 v178 v179 X_arg2 X_arg3 X_arg4 X_arg5 X_arg7 X_arg8 k f_arg12) = R2 (D.w 0 S) := by
  refine ext2 fun r l => ?_
  pointwise [trip_k0_t1.sl.cst_212, trip_k0_t1.sl.v1138, trip_k0_t1.sl.v1139, trip_k0_t1.sl.v1140, trip_k0_t1.sl.v1141]
  simp only [v1131_eq (H := H), v1137_eq (H := H)]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  exact congrArg _ (fold_w0 (fun x => if r.val < 64 then D.qk r x else D.kd (r - 64) x) _ _ (by omega))

/-- The output. -/
theorem v1147_eq : (trip_k0_t1.sl.v1147 (F := Ideal) arg2 arg3 arg4 arg5 arg6 arg7 arg8 arg12 v66 v67 v86 v87 v90 v112 v138 v178 v179 X_arg2 X_arg3 X_arg4 X_arg5 X_arg6 X_arg7 X_arg8 k f_arg12) = R2 (D.o 0 S) := by
  refine ext2 fun r l => ?_
  pointwise [trip_k0_t1.sl.v1142, trip_k0_t1.sl.v1143, trip_k0_t1.sl.v1144, trip_k0_t1.sl.v1145, trip_k0_t1.sl.v1146, trip_k0_t1.sl.v1147]
  simp only [v1141_eq (H := H), v305_eq (H := H), v961_eq (H := H)]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  rw [Nat.add_comm 64 r.val]
  rfl

/-- The new state. -/
theorem v1159_eq : (trip_k0_t1.sl.v1159 (F := Ideal) arg2 arg3 arg4 arg5 arg7 arg8 arg12 v66 v67 v86 v87 v90 v112 v138 v178 v179 X_arg2 X_arg3 X_arg4 X_arg5 X_arg7 X_arg8 k f_arg12) = R2 (D.s 0 S) := by
  refine ext2 fun r l => ?_
  pointwise [trip_k0_t1.sl.v1154, trip_k0_t1.sl.v1155, trip_k0_t1.sl.v1156, trip_k0_t1.sl.v1157, trip_k0_t1.sl.v1158, trip_k0_t1.sl.v1159]
  simp only [r_eq (H := H), v1141_eq (H := H), v934_eq (H := H)]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  rw [Nat.add_comm 64 r.val]
  rfl
-- ==== Proof.Value.Chunk1.lean ====
/-
  Chunk 1 of the step over the real numbers: the right-hand side of its triangular system, the solution by two
  blocks of rows, the output and the new state.
-/
module

public import proofs.«01_k».proof.Proof.Value.Chunk0

@[expose] public section

set_option maxRecDepth 16384

noncomputable section

namespace Cert.KernelIdeal.Own

open Idealize.ShloMosaic Finset
open Cert.KernelIdeal Cert.KernelIdeal.Gen Cert.Own

variable (arg2 arg3 : Memref sig .tc .vmem S1x18x96x128 .fp8e4m3) (arg4 : Memref sig .tc .vmem S1x18x96x128 .f32)
  (arg5 : Memref sig .tc .vmem S1x18x128x128 .bf16) (arg6 arg7 arg8 : Memref sig .tc .vmem S1x18x128 .f32)
  (arg12 : Memref sig .tc .vmem S18x96x128 .f32)
  (v66 : FVec Ideal S128x256 .bf16) (v67 : FVec Ideal S256x256 .bf16) (v86 v87 v90 : IVec S64x128 1)
  (v112 : FVec Ideal S32x128 .f32) (v138 v178 v179 : IVec S32x128 32)
  (X_arg2 : BufTy.Contents (Elt Ideal) arg2.view.ty) (X_arg3 : BufTy.Contents (Elt Ideal) arg3.view.ty)
  (X_arg4 : BufTy.Contents (Elt Ideal) arg4.view.ty) (X_arg5 : BufTy.Contents (Elt Ideal) arg5.view.ty)
  (X_arg6 : BufTy.Contents (Elt Ideal) arg6.view.ty) (X_arg7 : BufTy.Contents (Elt Ideal) arg7.view.ty)
  (X_arg8 : BufTy.Contents (Elt Ideal) arg8.view.ty) (k : Fin k0_t1_loop.trips)
  (f_arg12 : BufTy.Contents (Elt Ideal) arg12.view.ty)

variable {D : Head} {S : ℕ → ℕ → ℝ}
variable (H : HeadHyp arg2 arg3 arg4 arg5 arg6 arg7 arg8 arg12 v66 v67 v86 v87 v90 v112 v138 v178 v179 X_arg2 X_arg3 X_arg4 X_arg5 X_arg6 X_arg7 X_arg8 k f_arg12 D S)
include H

/-- The state that chunk 0 stored and chunk 1 loads again. -/
theorem v1166_eq : (trip_k0_t1.sl.v1166 (F := Ideal) arg2 arg3 arg4 arg5 arg7 arg8 arg12 v66 v67 v86 v87 v90 v112 v138 v178 v179 X_arg2 X_arg3 X_arg4 X_arg5 X_arg7 X_arg8 k f_arg12) = R2 (D.s 0 S) := by
  refine ext2 fun r l => ?_
  have e : (trip_k0_t1.sl.v1165 (F := Ideal) arg2 arg3 arg4 arg5 arg7 arg8 arg12 v66 v67 v86 v87 v90 v112 v138 v178 v179 X_arg2 X_arg3 X_arg4 X_arg5 X_arg7 X_arg8 k f_arg12) = (trip_k0_t1.sl.v1163 (F := Ideal) arg2 arg3 arg4 arg5 arg7 arg8 arg12 v66 v67 v86 v87 v90 v112 v138 v178 v179 X_arg2 X_arg3 X_arg4 X_arg5 X_arg7 X_arg8 k f_arg12) := by
    unfold trip_k0_t1.sl.v1165
    unfold trip_k0_t1.sl.HW_arg12_1
    exact View.readCov_cons_toLoadRect _ _ _ _
  pointwise [trip_k0_t1.sl.v1166]
  rw [e]
  pointwise [trip_k0_t1.sl.v1163]
  simp only [v1159_eq (H := H), exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]

theorem v1185_eq : (trip_k0_t1.sl.v1185 (F := Ideal) arg2 arg3 arg4 arg5 arg7 arg8 arg12 v66 v67 v86 v87 v90 v112 v138 v178 v179 X_arg2 X_arg3 X_arg4 X_arg5 X_arg7 X_arg8 k f_arg12) = R2 (fun x l => if x < 96 ∧ l < 128 then (D.s 0 S) x l else 0) := by
  refine ext2 fun r l => ?_
  pointwise [trip_k0_t1.sl.cst_179, trip_k0_t1.sl.v1170, trip_k0_t1.sl.v1171, trip_k0_t1.sl.v1175, trip_k0_t1.sl.v1176, trip_k0_t1.sl.v1177, trip_k0_t1.sl.v1178, trip_k0_t1.sl.v1179, trip_k0_t1.sl.v1181, trip_k0_t1.sl.v1183, trip_k0_t1.sl.v1185, trip_k0_t1.sl.v948, trip_k0_t1.sl.v950]
  simp only [v1166_eq (H := H), pay148_eq]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  simp only [sub_self]
  split_ifs <;> first | rfl | omega | (congr 1; omega) | (congr 2 <;> omega)

theorem v1188_eq : (trip_k0_t1.sl.v1188 (F := Ideal) arg2 arg3 arg4 v66 v67 X_arg2 X_arg3 X_arg4 k) = R2 (fun r x => if r < 64 then D.kp (r + 64) x else D.qp (r - 64 + 64) x) := by
  refine ext2 fun r l => ?_
  pointwise [trip_k0_t1.sl.v1188, trip_k0_t1.sl.v267, trip_k0_t1.sl.v270]
  simp only [r_3_eq (H := H), r_4_eq (H := H)]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  split_ifs <;> first | rfl | omega | (congr 1; omega) | (congr 2 <;> omega)

/-- The keys and the queries against the carried state. -/
theorem v1193_eq : (trip_k0_t1.sl.v1193 (F := Ideal) arg2 arg3 arg4 arg5 arg7 arg8 arg12 v66 v67 v86 v87 v90 v112 v138 v178 v179 X_arg2 X_arg3 X_arg4 X_arg5 X_arg7 X_arg8 k f_arg12) = R2 (D.p 1 (D.s 0 S)) := by
  refine ext2 fun r l => ?_
  pointwise [trip_k0_t1.sl.cst_180, trip_k0_t1.sl.v1189, trip_k0_t1.sl.v1190, trip_k0_t1.sl.v1191, trip_k0_t1.sl.v1192, trip_k0_t1.sl.v1193]
  simp only [v1185_eq (H := H), v1188_eq (H := H)]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  exact congrArg _ (fold_p (fun x => if r.val < 64 then D.kp (r + 64) x else D.qp (r - 64 + 64) x) _ _ (by omega))

/-- The right-hand side. -/
theorem v1203_eq : (trip_k0_t1.sl.v1203 (F := Ideal) arg2 arg3 arg4 arg5 arg7 arg8 arg12 v66 v67 v86 v87 v90 v112 v138 v178 v179 X_arg2 X_arg3 X_arg4 X_arg5 X_arg7 X_arg8 k f_arg12) = R2 (D.rr 1 (D.s 0 S)) := by
  refine ext2 fun r l => ?_
  pointwise [trip_k0_t1.sl.v1194, trip_k0_t1.sl.v1197, trip_k0_t1.sl.v1198, trip_k0_t1.sl.v1199, trip_k0_t1.sl.v1201, trip_k0_t1.sl.v1202, trip_k0_t1.sl.v1203, trip_k0_t1.sl.v307]
  simp only [v1193_eq (H := H), v297_eq (H := H), v300_eq (H := H), H.hv1]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  rw [Nat.add_comm 64 r.val]
  rfl

theorem v1243_eq : (trip_k0_t1.sl.v1243 (F := Ideal) arg2 arg3 arg4 arg5 arg7 arg8 arg12 v66 v67 v86 v87 v90 v112 v138 v178 v179 X_arg2 X_arg3 X_arg4 X_arg5 X_arg7 X_arg8 k f_arg12) = R2 (stack 2 (D.rr 1 (D.s 0 S))) := by
  refine ext2 fun r l => ?_
  pointwise [trip_k0_t1.sl.cst_179, trip_k0_t1.sl.v1007, trip_k0_t1.sl.v1225, trip_k0_t1.sl.v1229, trip_k0_t1.sl.v1230, trip_k0_t1.sl.v1234, trip_k0_t1.sl.v1235, trip_k0_t1.sl.v1236, trip_k0_t1.sl.v1237, trip_k0_t1.sl.v1238, trip_k0_t1.sl.v1240, trip_k0_t1.sl.v1241, trip_k0_t1.sl.v1242, trip_k0_t1.sl.v1243]
  simp only [v1203_eq (H := H)]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  unfold stack
  simp only [sub_self]
  split_ifs <;> first | rfl | omega | (congr 1; omega) | (congr 2 <;> omega)

/-- The solution's first 32 rows. -/
theorem v1247_eq : (trip_k0_t1.sl.v1247 (F := Ideal) arg2 arg3 arg4 arg5 arg7 arg8 arg12 v66 v67 v86 v87 v90 v112 v138 v178 v179 X_arg2 X_arg3 X_arg4 X_arg5 X_arg7 X_arg8 k f_arg12) = R2 (D.u1 1 (D.s 0 S)) := by
  refine ext2 fun r l => ?_
  pointwise [trip_k0_t1.sl.cst_191, trip_k0_t1.sl.v1244, trip_k0_t1.sl.v1245, trip_k0_t1.sl.v1246, trip_k0_t1.sl.v1247]
  simp only [v1224_eq (H := H), v1243_eq (H := H)]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  exact congrArg _ (fold_slot_fin 2 (by omega) _ _ _ _ (by omega))

theorem v1287_eq : (trip_k0_t1.sl.v1287 (F := Ideal) arg2 arg3 arg4 arg5 arg7 arg8 arg12 v66 v67 v86 v87 v90 v112 v138 v178 v179 X_arg2 X_arg3 X_arg4 X_arg5 X_arg7 X_arg8 k f_arg12) = R2 (stack 2 (D.u1 1 (D.s 0 S))) := by
  refine ext2 fun r l => ?_
  pointwise [trip_k0_t1.sl.cst_179, trip_k0_t1.sl.v1007, trip_k0_t1.sl.v1273, trip_k0_t1.sl.v1274, trip_k0_t1.sl.v1278, trip_k0_t1.sl.v1279, trip_k0_t1.sl.v1280, trip_k0_t1.sl.v1281, trip_k0_t1.sl.v1282, trip_k0_t1.sl.v1284, trip_k0_t1.sl.v1285, trip_k0_t1.sl.v1286, trip_k0_t1.sl.v1287]
  simp only [v1247_eq (H := H)]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  unfold stack
  simp only [sub_self]
  split_ifs <;> first | rfl | omega | (congr 1; omega) | (congr 2 <;> omega)

theorem v1292_eq : (trip_k0_t1.sl.v1292 (F := Ideal) arg2 arg3 arg4 arg5 arg7 arg8 arg12 v66 v67 v86 v87 v90 v112 v138 v178 v179 X_arg2 X_arg3 X_arg4 X_arg5 X_arg7 X_arg8 k f_arg12) = R2 (D.r2 1 (D.s 0 S)) := by
  refine ext2 fun r l => ?_
  pointwise [trip_k0_t1.sl.cst_191, trip_k0_t1.sl.v1248, trip_k0_t1.sl.v1288, trip_k0_t1.sl.v1289, trip_k0_t1.sl.v1290, trip_k0_t1.sl.v1291, trip_k0_t1.sl.v1292]
  simp only [v1203_eq (H := H), v1269_eq (H := H), v1287_eq (H := H)]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  rw [fold_slot_fin 2 (by omega) _ _ _ _ (by omega), Nat.add_comm 32]
  rfl

theorem v1331_eq : (trip_k0_t1.sl.v1331 (F := Ideal) arg2 arg3 arg4 arg5 arg7 arg8 arg12 v66 v67 v86 v87 v90 v112 v138 v178 v179 X_arg2 X_arg3 X_arg4 X_arg5 X_arg7 X_arg8 k f_arg12) = R2 (stack 3 (D.r2 1 (D.s 0 S))) := by
  refine ext2 fun r l => ?_
  pointwise [trip_k0_t1.sl.cst_179, trip_k0_t1.sl.v1007, trip_k0_t1.sl.v1317, trip_k0_t1.sl.v1318, trip_k0_t1.sl.v1322, trip_k0_t1.sl.v1323, trip_k0_t1.sl.v1324, trip_k0_t1.sl.v1325, trip_k0_t1.sl.v1326, trip_k0_t1.sl.v1328, trip_k0_t1.sl.v1329, trip_k0_t1.sl.v1330, trip_k0_t1.sl.v1331]
  simp only [v1292_eq (H := H)]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  unfold stack
  simp only [sub_self]
  split_ifs <;> first | rfl | omega | (congr 1; omega) | (congr 2 <;> omega)

/-- The solution. -/
theorem v1336_eq : (trip_k0_t1.sl.v1336 (F := Ideal) arg2 arg3 arg4 arg5 arg7 arg8 arg12 v66 v67 v86 v87 v90 v112 v138 v178 v179 X_arg2 X_arg3 X_arg4 X_arg5 X_arg7 X_arg8 k f_arg12) = R2 (D.u 1 (D.s 0 S)) := by
  refine ext2 fun r l => ?_
  pointwise [trip_k0_t1.sl.cst_191, trip_k0_t1.sl.v1332, trip_k0_t1.sl.v1333, trip_k0_t1.sl.v1334, trip_k0_t1.sl.v1335, trip_k0_t1.sl.v1336]
  simp only [v1247_eq (H := H), v1313_eq (H := H), v1331_eq (H := H)]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  rw [fold_slot_fin 3 (by omega) _ _ _ _ (by omega)]
  rfl

theorem v1363_eq : (trip_k0_t1.sl.v1363 (F := Ideal) arg2 arg3 arg4 arg5 arg7 arg8 arg12 v66 v67 v86 v87 v90 v112 v138 v178 v179 X_arg2 X_arg3 X_arg4 X_arg5 X_arg7 X_arg8 k f_arg12) = R2 (fun x l => if l < 128 ∧ x < 192 then D.u 1 (D.s 0 S) (x % 64) l else 0) := by
  refine ext2 fun r l => ?_
  pointwise [trip_k0_t1.sl.cst_179, trip_k0_t1.sl.v1118, trip_k0_t1.sl.v1340, trip_k0_t1.sl.v1341, trip_k0_t1.sl.v1345, trip_k0_t1.sl.v1346, trip_k0_t1.sl.v1347, trip_k0_t1.sl.v1348, trip_k0_t1.sl.v1349, trip_k0_t1.sl.v1351, trip_k0_t1.sl.v1352, trip_k0_t1.sl.v1353, trip_k0_t1.sl.v1363]
  simp only [v1336_eq (H := H)]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  simp only [sub_self]
  split_ifs <;> first | rfl | omega | (congr 1; omega) | (congr 2 <;> omega)

theorem v1370_eq : (trip_k0_t1.sl.v1370 (F := Ideal) arg2 arg3 arg4 v66 v67 v87 X_arg2 X_arg3 X_arg4 k) = R2 (fun r x => if x % 128 < 64 then 0 else (if r < 64 then D.qk r (x % 128) else D.kd (r - 64) (x % 128))) := by
  refine ext2 fun r l => ?_
  pointwise [trip_k0_t1.sl.cst_85, trip_k0_t1.sl.v1122_hi, trip_k0_t1.sl.v1122_lo, trip_k0_t1.sl.v1123_hi, trip_k0_t1.sl.v1123_lo, trip_k0_t1.sl.v1127_hi, trip_k0_t1.sl.v1127_lo, trip_k0_t1.sl.v1132_hi, trip_k0_t1.sl.v1132_lo, trip_k0_t1.sl.v1356_hi, trip_k0_t1.sl.v1356_lo, trip_k0_t1.sl.v1357, trip_k0_t1.sl.v1360_hi, trip_k0_t1.sl.v1360_lo, trip_k0_t1.sl.v1361, trip_k0_t1.sl.v1362, trip_k0_t1.sl.v1367_hi, trip_k0_t1.sl.v1367_lo, trip_k0_t1.sl.v1368, trip_k0_t1.sl.v1369, trip_k0_t1.sl.v1370]
  simp only [r_2_eq (H := H), v923_eq (H := H), v928_eq (H := H), v931_eq (H := H)]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  simp only [pay146_eq, pay145_eq, B2_ix2]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  split_ifs <;> first | rfl | omega | (congr 1; omega) | (congr 2 <;> omega)

/-- The scores and the decayed keys times the solution. -/
theorem v1374_eq : (trip_k0_t1.sl.v1374 (F := Ideal) arg2 arg3 arg4 arg5 arg7 arg8 arg12 v66 v67 v86 v87 v90 v112 v138 v178 v179 X_arg2 X_arg3 X_arg4 X_arg5 X_arg7 X_arg8 k f_arg12) = R2 (D.w 1 (D.s 0 S)) := by
  refine ext2 fun r l => ?_
  pointwise [trip_k0_t1.sl.cst_212, trip_k0_t1.sl.v1371, trip_k0_t1.sl.v1372, trip_k0_t1.sl.v1373, trip_k0_t1.sl.v1374]
  simp only [v1363_eq (H := H), v1370_eq (H := H)]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  exact congrArg _ (fold_w1 (fun x => if r.val < 64 then D.qk r x else D.kd (r - 64) x) _ _ (by omega))

/-- The output. -/
theorem v1380_eq : (trip_k0_t1.sl.v1380 (F := Ideal) arg2 arg3 arg4 arg5 arg6 arg7 arg8 arg12 v66 v67 v86 v87 v90 v112 v138 v178 v179 X_arg2 X_arg3 X_arg4 X_arg5 X_arg6 X_arg7 X_arg8 k f_arg12) = R2 (D.o 1 (D.s 0 S)) := by
  refine ext2 fun r l => ?_
  pointwise [trip_k0_t1.sl.v1375, trip_k0_t1.sl.v1376, trip_k0_t1.sl.v1377, trip_k0_t1.sl.v1378, trip_k0_t1.sl.v1379, trip_k0_t1.sl.v1380]
  simp only [v1193_eq (H := H), v1374_eq (H := H), v305_eq (H := H)]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  rw [Nat.add_comm 64 r.val]
  rfl

/-- The new state. -/
theorem v1392_eq : (trip_k0_t1.sl.v1392 (F := Ideal) arg2 arg3 arg4 arg5 arg7 arg8 arg12 v66 v67 v86 v87 v90 v112 v138 v178 v179 X_arg2 X_arg3 X_arg4 X_arg5 X_arg7 X_arg8 k f_arg12) = R2 (D.s 1 (D.s 0 S)) := by
  refine ext2 fun r l => ?_
  pointwise [trip_k0_t1.sl.v1387, trip_k0_t1.sl.v1388, trip_k0_t1.sl.v1389, trip_k0_t1.sl.v1390, trip_k0_t1.sl.v1391, trip_k0_t1.sl.v1392]
  simp only [r_eq (H := H), v1166_eq (H := H), v1374_eq (H := H)]
  simp only [exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  congr 1
  rw [Nat.add_comm 64 r.val]
  rfl
-- ==== Proof.Value.Trip.lean ====
/-
  One trip of the head loop, and all of them: what the 18 trips leave in the output block and in the carried states.
-/
module

public import proofs.«01_k».proof.Proof.Value.Chunk1
public import Idealize.ShloMosaic.Lib.WritesUnit

@[expose] public section

set_option maxRecDepth 16384

noncomputable section

namespace Cert.KernelIdeal.Own

open Idealize.ShloMosaic Finset
open Cert.KernelIdeal Cert.KernelIdeal.Gen Cert.Own

variable (arg2 arg3 : Memref sig .tc .vmem S1x18x96x128 .fp8e4m3) (arg4 : Memref sig .tc .vmem S1x18x96x128 .f32)
  (arg5 : Memref sig .tc .vmem S1x18x128x128 .bf16) (arg6 arg7 arg8 : Memref sig .tc .vmem S1x18x128 .f32)
  (arg12 : Memref sig .tc .vmem S18x96x128 .f32)
  (v66 : FVec Ideal S128x256 .bf16) (v67 : FVec Ideal S256x256 .bf16) (v86 v87 v90 : IVec S64x128 1)
  (v112 : FVec Ideal S32x128 .f32) (v138 v178 v179 : IVec S32x128 32)
  (X_arg2 : BufTy.Contents (Elt Ideal) arg2.view.ty) (X_arg3 : BufTy.Contents (Elt Ideal) arg3.view.ty)
  (X_arg4 : BufTy.Contents (Elt Ideal) arg4.view.ty) (X_arg5 : BufTy.Contents (Elt Ideal) arg5.view.ty)
  (X_arg6 : BufTy.Contents (Elt Ideal) arg6.view.ty) (X_arg7 : BufTy.Contents (Elt Ideal) arg7.view.ty)
  (X_arg8 : BufTy.Contents (Elt Ideal) arg8.view.ty) (k : Fin k0_t1_loop.trips)
  (f_arg12 : BufTy.Contents (Elt Ideal) arg12.view.ty)

/-- The pair's output: chunk 0's rows, then chunk 1's from the state chunk 0 leaves. -/
def _root_.Cert.Own.Head.out (D : Head) (S : ℕ → ℕ → ℝ) (t l : ℕ) : ℝ :=
  if t < 64 then D.o 0 S t l else D.o 1 (D.s 0 S) (t - 64) l
/-- The state after the pair. -/
def _root_.Cert.Own.Head.st (D : Head) (S : ℕ → ℕ → ℝ) : ℕ → ℕ → ℝ := D.s 1 (D.s 0 S)

theorem off1_eq (k : Fin k0_t1_loop.trips) : k0_off1 k = ![0, k.val, 0, 0] := by revert k; decide
theorem off2_eq (k : Fin k0_t1_loop.trips) : k0_off2 k = ![0, k.val, 0] := by revert k; decide
theorem off3_eq (k : Fin k0_t1_loop.trips) : k0_off3 k = ![k.val, 0, 0] := by revert k; decide
theorem off4_eq (k : Fin k0_t1_loop.trips) : k0_off4 k = ![0, k.val, 0, 0] := by revert k; decide
theorem off5_eq (k : Fin k0_t1_loop.trips) : k0_off5 k = ![0, 0, 128 * k.val] := by revert k; decide
theorem off6_eq (k : Fin k0_t1_loop.trips) : k0_off6 k = ![0, k.val, 64, 0] := by revert k; decide
theorem off7_eq (k : Fin k0_t1_loop.trips) : k0_off7 k = ![0, 64, 128 * k.val] := by revert k; decide

section Trip
variable {D : Head} {S : ℕ → ℕ → ℝ}
variable (H : HeadHyp arg2 arg3 arg4 arg5 arg6 arg7 arg8 arg12 v66 v67 v86 v87 v90 v112 v138 v178 v179 X_arg2 X_arg3 X_arg4 X_arg5 X_arg6 X_arg7 X_arg8 k f_arg12 D S)
include H

theorem v1153_at (t : Fin 64) (l : Fin 128) : (trip_k0_t1.sl.v1153 (F := Ideal) arg2 arg3 arg4 arg5 arg6 arg7 arg8 arg12 v66 v67 v86 v87 v90 v112 v138 v178 v179 X_arg2 X_arg3 X_arg4 X_arg5 X_arg6 X_arg7 X_arg8 k f_arg12) (ix3 0 t l) = ((D.o 0 S t l : ℝ) : EReal) := by
  pointwise [trip_k0_t1.sl.v1153]
  simp only [v1147_eq (H := H), exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]

theorem v1386_at (t : Fin 64) (l : Fin 128) : (trip_k0_t1.sl.v1386 (F := Ideal) arg2 arg3 arg4 arg5 arg6 arg7 arg8 arg12 v66 v67 v86 v87 v90 v112 v138 v178 v179 X_arg2 X_arg3 X_arg4 X_arg5 X_arg6 X_arg7 X_arg8 k f_arg12) (ix3 0 t l) = ((D.o 1 (D.s 0 S) t l : ℝ) : EReal) := by
  pointwise [trip_k0_t1.sl.v1386]
  simp only [v1380_eq (H := H), exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]

theorem v1396_at (r : Fin 96) (l : Fin 128) : (trip_k0_t1.sl.v1396 (F := Ideal) arg2 arg3 arg4 arg5 arg7 arg8 arg12 v66 v67 v86 v87 v90 v112 v138 v178 v179 X_arg2 X_arg3 X_arg4 X_arg5 X_arg7 X_arg8 k f_arg12) (ix3 0 r l) = ((D.st S r l : ℝ) : EReal) := by
  pointwise [trip_k0_t1.sl.v1396]
  simp only [v1392_eq (H := H), exp2_real, R2_ix2, B2_ix2, I2_ix2, sel_ite, xor_ite, or_ite, and_ite, dite_eq_ite, ite_coe, ← EReal.coe_zero, ← EReal.coe_one, ← EReal.coe_mul, ← EReal.coe_add, ← EReal.coe_sub, ← coe_sum]
  rfl

end Trip

section Trips

variable (𝒱 : Variants) (c : Dev nD) (bd : Option 𝒱.V) (i : grid0.Coords) (arg9 : Memref sig .tc .vmem S1x18x96x128 .f32)
  (arg10 : Memref sig .tc .vmem S1x128x2304 .bf16) (arg11 : Memref sig .tc .vmem S1x18x96x128 .f32)
  (harg2 : arg2.IsWhole) (harg3 : arg3.IsWhole) (harg4 : arg4.IsWhole) (harg5 : arg5.IsWhole) (harg6 : arg6.IsWhole)
  (harg7 : arg7.IsWhole) (harg8 : arg8.IsWhole) (harg9 : arg9.IsWhole) (harg10 : arg10.IsWhole) (harg11 : arg11.IsWhole)
  (harg12 : arg12.IsWhole) (f_arg10 G10 : BufTy.Contents (Elt Ideal) arg10.view.ty)
  (G12 : BufTy.Contents (Elt Ideal) arg12.view.ty)

/-- The pieces one trip stores: two into the output block, two into its head's state, the last first. -/
theorem trip_eq : tripL_k0_t1 (F := Ideal) 𝒱 c bd i arg2 harg2 arg3 harg3 arg4 harg4 arg5 harg5 arg6 harg6 arg7 harg7 arg8 harg8 arg9 harg9 arg10 harg10 arg11 harg11 arg12 harg12 v66 v67 v86 v87 v90 v112 v138 v178 v179 X_arg2 X_arg3 X_arg4 X_arg5 X_arg6 X_arg7 X_arg8 k f_arg10 f_arg12
    = ([⟨(Rect.unit (k0_off7 k) S1x64x128.size (k0_off7_inb k) : Rect S1x128x2304), (trip_k0_t1.sl.v1386 (F := Ideal) arg2 arg3 arg4 arg5 arg6 arg7 arg8 arg12 v66 v67 v86 v87 v90 v112 v138 v178 v179 X_arg2 X_arg3 X_arg4 X_arg5 X_arg6 X_arg7 X_arg8 k f_arg12)⟩,
        ⟨(Rect.unit (k0_off5 k) S1x64x128.size (k0_off5_inb k) : Rect S1x128x2304), (trip_k0_t1.sl.v1153 (F := Ideal) arg2 arg3 arg4 arg5 arg6 arg7 arg8 arg12 v66 v67 v86 v87 v90 v112 v138 v178 v179 X_arg2 X_arg3 X_arg4 X_arg5 X_arg6 X_arg7 X_arg8 k f_arg12)⟩],
       [⟨(Rect.unit (k0_off3 k) S1x96x128.size (k0_off3_inb k) : Rect S18x96x128), (trip_k0_t1.sl.v1396 (F := Ideal) arg2 arg3 arg4 arg5 arg7 arg8 arg12 v66 v67 v86 v87 v90 v112 v138 v178 v179 X_arg2 X_arg3 X_arg4 X_arg5 X_arg7 X_arg8 k f_arg12)⟩,
        ⟨(Rect.unit (k0_off3 k) S1x96x128.size (k0_off3_inb k) : Rect S18x96x128), (trip_k0_t1.sl.v1163 (F := Ideal) arg2 arg3 arg4 arg5 arg7 arg8 arg12 v66 v67 v86 v87 v90 v112 v138 v178 v179 X_arg2 X_arg3 X_arg4 X_arg5 X_arg7 X_arg8 k f_arg12)⟩]) := by
  unfold tripL_k0_t1 trip_k0_t1
  rfl

/-- What the pieces of the first `n` trips hold: the first `n` heads' new states and outputs; the other states are not
    touched.  `v` is any view of the pieces' shape. -/
structure Trips (D : ℕ → Head) (S0 : ℕ → ℕ → ℕ → ℝ) (n : ℕ)
    (P : List (View.Piece (Elt Ideal) S1x128x2304 .bf16) × List (View.Piece (Elt Ideal) S18x96x128 .f32)) : Prop where
  st : ∀ (v : View sig .tc .vmem S18x96x128 .f32) (f : v.ty.Contents (Elt Ideal)) (h : Fin 18) (r : Fin 96) (l : Fin 128),
    h.val < n → v.read (Elt Ideal) (v.writes (Elt Ideal) f P.2) (ix3 h r l) = (((D h).st (S0 h) r l : ℝ) : EReal)
  keep : ∀ (v : View sig .tc .vmem S18x96x128 .f32) (f : v.ty.Contents (Elt Ideal)) (h : Fin 18) (r : Fin 96) (l : Fin 128),
    n ≤ h.val → v.read (Elt Ideal) (v.writes (Elt Ideal) f P.2) (ix3 h r l) = v.read (Elt Ideal) f (ix3 h r l)
  out : ∀ (v : View sig .tc .vmem S1x128x2304 .bf16) (f : v.ty.Contents (Elt Ideal)) (h : Fin 18) (t : Fin 128) (l : Fin 128),
    h.val < n → v.read (Elt Ideal) (v.writes (Elt Ideal) f P.1) (ix3 0 t ⟨128 * h.val + l.val, by omega⟩)
      = (((D h).out (S0 h) t l : ℝ) : EReal)

theorem trips (D : ℕ → Head) (S0 : ℕ → ℕ → ℕ → ℝ)
    (HH : ∀ (k : Fin k0_t1_loop.trips) (f_arg12 : BufTy.Contents (Elt Ideal) arg12.view.ty) (S : ℕ → ℕ → ℝ),
      (∀ (r : Fin 96) (l : Fin 128), arg12.view.read (Elt Ideal) f_arg12 (ix3 (⟨k.val, k.isLt⟩ : Fin 18) r l) = ((S r l : ℝ) : EReal)) →
      HeadHyp arg2 arg3 arg4 arg5 arg6 arg7 arg8 arg12 v66 v67 v86 v87 v90 v112 v138 v178 v179 X_arg2 X_arg3 X_arg4 X_arg5 X_arg6 X_arg7 X_arg8 k f_arg12 (D k) S)
    (hG : ∀ (h : Fin 18) (r : Fin 96) (l : Fin 128), arg12.view.read (Elt Ideal) G12 (ix3 h r l) = ((S0 h r l : ℝ) : EReal)) :
    ∀ n ≤ 18, Trips D S0 n (pb_k0_t1 (F := Ideal) 𝒱 c bd i arg2 harg2 arg3 harg3 arg4 harg4 arg5 harg5 arg6 harg6 arg7 harg7 arg8 harg8 arg9 harg9 arg10 harg10 arg11 harg11 arg12 harg12 v66 v67 v86 v87 v90 v112 v138 v178 v179 X_arg2 X_arg3 X_arg4 X_arg5 X_arg6 X_arg7 X_arg8 G10 G12 n)
  | 0, _ => ⟨fun _ _ _ _ _ h => absurd h (Nat.not_lt_zero _), fun _ _ _ _ _ _ => rfl,
      fun _ _ _ _ _ h => absurd h (Nat.not_lt_zero _)⟩
  | n + 1, hn => by
    have ih := trips D S0 HH hG n (by omega)
    have e := pb_k0_t1_succ (F := Ideal) 𝒱 c bd i arg2 harg2 arg3 harg3 arg4 harg4 arg5 harg5 arg6 harg6 arg7 harg7 arg8 harg8 arg9 harg9 arg10 harg10 arg11 harg11 arg12 harg12 v66 v67 v86 v87 v90 v112 v138 v178 v179 X_arg2 X_arg3 X_arg4 X_arg5 X_arg6 X_arg7 X_arg8 G10 G12 ⟨n, hn⟩
    rw [trip_eq] at e
    have H := HH ⟨n, hn⟩ (arg12.view.writes (Elt Ideal) G12 (pb_k0_t1 (F := Ideal) 𝒱 c bd i arg2 harg2 arg3 harg3 arg4 harg4 arg5 harg5 arg6 harg6 arg7 harg7 arg8 harg8 arg9 harg9 arg10 harg10 arg11 harg11 arg12 harg12 v66 v67 v86 v87 v90 v112 v138 v178 v179 X_arg2 X_arg3 X_arg4 X_arg5 X_arg6 X_arg7 X_arg8 G10 G12 n).2) (S0 n) fun r l =>
      (ih.keep arg12.view G12 ⟨n, hn⟩ r l le_rfl).trans (hG ⟨n, hn⟩ r l)
    rw [show pb_k0_t1 (F := Ideal) 𝒱 c bd i arg2 harg2 arg3 harg3 arg4 harg4 arg5 harg5 arg6 harg6 arg7 harg7 arg8 harg8 arg9 harg9 arg10 harg10 arg11 harg11 arg12 harg12 v66 v67 v86 v87 v90 v112 v138 v178 v179 X_arg2 X_arg3 X_arg4 X_arg5 X_arg6 X_arg7 X_arg8 G10 G12 (n + 1) = _ from e]
    refine ⟨fun v f h r l hh => ?_, fun v f h r l hh => ?_, fun v f h t l hh => ?_⟩
    · rcases Nat.lt_succ_iff_lt_or_eq.1 hh with hlt | heq
      · refine (View.read_writes_cons_unit_of_not_mem v f _ _ _ _ (off3_eq _) 0 (Or.inl hlt)).trans ?_
        refine (View.read_writes_cons_unit_of_not_mem v f _ _ _ _ (off3_eq _) 0 (Or.inl hlt)).trans ?_
        exact ih.st v f h r l hlt
      · refine (View.read_writes_cons_unit_of_mem v f _ _ _ _ (ix3 0 r l) (off3_eq _) ?_).trans ?_
        · intro a
          fin_cases a
          · exact heq
          · exact (Nat.zero_add _).symm
          · exact (Nat.zero_add _).symm
        · rw [heq]
          exact v1396_at (H := H) (r := r) (l := l)
    · refine (View.read_writes_cons_unit_of_not_mem v f _ _ _ _ (off3_eq _) 0 (Or.inr hh)).trans ?_
      refine (View.read_writes_cons_unit_of_not_mem v f _ _ _ _ (off3_eq _) 0 (Or.inr hh)).trans ?_
      exact ih.keep v f h r l (by omega)
    · rcases Nat.lt_succ_iff_lt_or_eq.1 hh with hlt | heq
      · refine (View.read_writes_cons_unit_of_not_mem v f _ _ _ _ (off7_eq _) 2 (Or.inl (show 128 * h.val + l.val < 128 * n by omega))).trans ?_
        refine (View.read_writes_cons_unit_of_not_mem v f _ _ _ _ (off5_eq _) 2 (Or.inl (show 128 * h.val + l.val < 128 * n by omega))).trans ?_
        exact ih.out v f h t l hlt
      · by_cases ht : t.val < 64
        · refine (View.read_writes_cons_unit_of_not_mem v f _ _ _ _ (off7_eq _) 1 (Or.inl ht)).trans ?_
          refine (View.read_writes_cons_unit_of_mem v f _ _ _ _ (ix3 0 ⟨t.val, ht⟩ l) (off5_eq _) ?_).trans ?_
          · intro a
            fin_cases a
            · rfl
            · exact (Nat.zero_add _).symm
            · exact congrArg (fun x => 128 * x + l.val) heq
          · rw [heq, Head.out, if_pos ht]
            exact v1153_at (H := H) (t := ⟨t.val, ht⟩) (l := l)
        · refine (View.read_writes_cons_unit_of_mem v f _ _ _ _ (ix3 0 ⟨t.val - 64, by omega⟩ l) (off7_eq _) ?_).trans ?_
          · intro a
            fin_cases a
            · rfl
            · show t.val = 64 + (t.val - 64)
              omega
            · exact congrArg (fun x => 128 * x + l.val) heq
          · rw [heq, Head.out, if_neg ht]
            exact v1386_at (H := H) (t := ⟨t.val - 64, by omega⟩) (l := l)

end Trips

end Cert.KernelIdeal.Own

end
-- ==== Proof.Value.Masks.lean ====
/-
  The loop's constant arguments: the cumulative-sum matrix, the masks and the lane numbers.
-/
module

public import proofs.«01_k».proof.Proof.Value.Trip
public import proofs.«01_k».proof.Proof.Ideal.Frame

@[expose] public section

set_option maxRecDepth 16384

noncomputable section

namespace Cert.KernelIdeal.Own

open Idealize.ShloMosaic Finset
open Cert.KernelIdeal Cert.KernelIdeal.Gen Cert.Own

/-- The chunk of a row. -/
theorem pay127_eq : k0_pay127 = I2 fun r _ => r / 64 := by
  refine ext2 fun r l => ?_
  pointwise [k0_pay127]
  show _ = BitVec.ofNat 32 (r.val / 64)
  clear l; revert r; decide

/-- The chunk of a lane: the division that rounds down, written from the one that rounds to zero. -/
theorem chunk_lane : ∀ l : Fin 128,
    Scalar.select (IntOp.andi (IntOp.cmpi .ne (IntOp.subi (BitVec.setWidth 32 (IntOp.cmpi .sgt (BitVec.ofNat 32 l.val) 0#32)) (BitVec.setWidth 32 (IntOp.cmpi .slt (BitVec.ofNat 32 l.val) 0#32))) 1#32)
      (IntOp.cmpi .ne (IntOp.remsi .vector (BitVec.ofNat 32 l.val) 64#32) 0#32))
      (IntOp.subi (IntOp.divsi .vector (BitVec.ofNat 32 l.val) 64#32) 1#32) (IntOp.divsi .vector (BitVec.ofNat 32 l.val) 64#32) = BitVec.ofNat 32 (l.val / 64) := by
  decide

/-- The lane within its chunk. -/
theorem pay132_eq : k0_pay132 = I2 fun _ l => l % 64 := by
  refine ext2 fun r l => ?_
  pointwise [k0_pay132]
  show _ = BitVec.ofNat 32 (l.val % 64)
  clear r; revert l; decide

theorem m86 : k0_pay133 = B2 fun r l => l % 64 < r := by
  refine ext2 fun r l => ?_
  have hr := r.isLt
  have hl := l.isLt
  pointwise [k0_pay133, pay132_eq]
  simp only [I2_ix2, B2_ix2]
  exact cmp_slt _ _ (by omega) (by omega)

theorem m87 : k0_pay134 = B2 fun r l => l % 64 ≤ r := by
  refine ext2 fun r l => ?_
  have hr := r.isLt
  have hl := l.isLt
  pointwise [k0_pay134, pay132_eq]
  simp only [I2_ix2, B2_ix2]
  exact cmp_sle _ _ (by omega) (by omega)

/-- The lane within its tile. -/
theorem tile_lane : ∀ l : Fin 128,
    Scalar.select (IntOp.andi (IntOp.xori (IntOp.cmpi .slt (IntOp.remsi .vector (BitVec.ofNat 32 l.val) (Scalar.select (Scalar.cmpi .eq 32#32 0#32) 1#32 32#32)) 0#32) (Scalar.cmpi .slt (Scalar.select (Scalar.cmpi .eq 32#32 0#32) 1#32 32#32) 0#32))
      (IntOp.cmpi .ne (IntOp.remsi .vector (BitVec.ofNat 32 l.val) (Scalar.select (Scalar.cmpi .eq 32#32 0#32) 1#32 32#32)) 0#32))
      (IntOp.addi (IntOp.remsi .vector (BitVec.ofNat 32 l.val) (Scalar.select (Scalar.cmpi .eq 32#32 0#32) 1#32 32#32)) (Scalar.select (Scalar.cmpi .eq 32#32 0#32) 1#32 32#32))
      (IntOp.remsi .vector (BitVec.ofNat 32 l.val) (Scalar.select (Scalar.cmpi .eq 32#32 0#32) 1#32 32#32)) = BitVec.ofNat 32 (l.val % 32) := by
  decide

theorem m112 : k0_pay137 (F := Ideal) = R2 eye4 := by
  refine ext2 fun r l => ?_
  have hr := r.isLt
  have hl := l.isLt
  pointwise [k0_pay137]
  rw [tile_lane, cmp_eq _ _ (by omega) (by omega), sel_ite]
  simp only [← EReal.coe_zero, ← EReal.coe_one, ite_coe]
  rfl

theorem m138 : (k0_pay141 k0_pay138 k0_pay139 k0_pay140) = I2 fun _ l => 32 * (l / 32) := by
  refine ext2 fun r l => ?_
  pointwise [k0_pay141, k0_pay138, k0_pay139, k0_pay140]
  show _ = BitVec.ofNat 32 (32 * (l.val / 32))
  clear r; revert l; decide

theorem m66A : kernelRun0_A.sl.r (F := Ideal) = R2 cum := by
  refine ext2 fun r l => ?_
  have hr := r.isLt
  have hl := l.isLt
  pointwise [kernelRun0_A.sl.r, k0_pay130, pay127_eq, k0_pay128, k0_pay129, kernelRun0_A.sl.v3, kernelRun0_A.sl.v4]
  simp only [I2_ix2, R2_ix2]
  unfold cum
  by_cases h : l.val < 128
  · have e := chunk_lane ⟨l.val, h⟩
    dsimp only at e
    rw [dif_pos h, if_pos h, e, cmp_eq _ _ (by omega) (by omega), cmp_sle _ _ (by omega) (by omega), and_ite, sel_ite]
    simp only [← EReal.coe_zero, ← EReal.coe_one, ite_coe]
  · have e := chunk_lane ⟨l.val - 128, by omega⟩
    dsimp only at e
    rw [dif_neg h, if_neg h, e, cmp_eq _ _ (by omega) (by omega), cmp_sgt _ _ (by omega) (by omega), and_ite, sel_ite]
    simp only [← EReal.coe_zero, ← EReal.coe_one, ite_coe]

theorem m67A : kernelRun0_A.sl.r_1 (F := Ideal) = R2 fun l t => cum (l % 128) t := by
  have e : kernelRun0_A.sl.r_1 (F := Ideal) = concatenate S256x256 0 [⟨S128x256, kernelRun0_A.sl.r⟩, ⟨S128x256, kernelRun0_A.sl.r⟩] concatenates_S128x256_S128x256_S256x256_d0 := rfl
  rw [e, m66A]
  refine ext2 fun r l => ?_
  have hr := r.isLt
  have hl := l.isLt
  pointwise []
  simp only [R2_ix2]
  split_ifs
  · rw [Nat.mod_eq_of_lt (by omega)]
  · congr 2; omega

theorem m90A : k0_pay136 kernelRun0_A.sl.v88 k0_pay135 = B2 fun r l => l < 64 := by
  refine ext2 fun r l => ?_
  have hr := r.isLt
  have hl := l.isLt
  pointwise [k0_pay136, k0_pay135, kernelRun0_A.sl.v88]
  exact cmp_slt _ 64 (by omega) (by omega)

theorem m180A : k0_pay144 (k0_pay142 kernelRun0_A.sl.v92) k0_pay143 = B2 fun _ l => l / 32 % 2 = 1 := by
  refine ext2 fun r l => ?_
  pointwise [k0_pay144, k0_pay142, k0_pay143, kernelRun0_A.sl.v92]
  show _ = if l.val / 32 % 2 = 1 then 1#1 else 0#1
  clear r; revert l; decide

theorem m66B : kernelRun0_B.sl.r (F := Ideal) = R2 cum := by
  refine ext2 fun r l => ?_
  have hr := r.isLt
  have hl := l.isLt
  pointwise [kernelRun0_B.sl.r, k0_pay130, pay127_eq, k0_pay128, k0_pay129, kernelRun0_B.sl.v3, kernelRun0_B.sl.v4]
  simp only [I2_ix2, R2_ix2]
  unfold cum
  by_cases h : l.val < 128
  · have e := chunk_lane ⟨l.val, h⟩
    dsimp only at e
    rw [dif_pos h, if_pos h, e, cmp_eq _ _ (by omega) (by omega), cmp_sle _ _ (by omega) (by omega), and_ite, sel_ite]
    simp only [← EReal.coe_zero, ← EReal.coe_one, ite_coe]
  · have e := chunk_lane ⟨l.val - 128, by omega⟩
    dsimp only at e
    rw [dif_neg h, if_neg h, e, cmp_eq _ _ (by omega) (by omega), cmp_sgt _ _ (by omega) (by omega), and_ite, sel_ite]
    simp only [← EReal.coe_zero, ← EReal.coe_one, ite_coe]

theorem m67B : kernelRun0_B.sl.r_1 (F := Ideal) = R2 fun l t => cum (l % 128) t := by
  have e : kernelRun0_B.sl.r_1 (F := Ideal) = concatenate S256x256 0 [⟨S128x256, kernelRun0_B.sl.r⟩, ⟨S128x256, kernelRun0_B.sl.r⟩] concatenates_S128x256_S128x256_S256x256_d0 := rfl
  rw [e, m66B]
  refine ext2 fun r l => ?_
  have hr := r.isLt
  have hl := l.isLt
  pointwise []
  simp only [R2_ix2]
  split_ifs
  · rw [Nat.mod_eq_of_lt (by omega)]
  · congr 2; omega

theorem m90B : k0_pay136 kernelRun0_B.sl.v88 k0_pay135 = B2 fun r l => l < 64 := by
  refine ext2 fun r l => ?_
  have hr := r.isLt
  have hl := l.isLt
  pointwise [k0_pay136, k0_pay135, kernelRun0_B.sl.v88]
  exact cmp_slt _ 64 (by omega) (by omega)

theorem m180B : k0_pay144 (k0_pay142 kernelRun0_B.sl.v92) k0_pay143 = B2 fun _ l => l / 32 % 2 = 1 := by
  refine ext2 fun r l => ?_
  pointwise [k0_pay144, k0_pay142, k0_pay143, kernelRun0_B.sl.v92]
  show _ = if l.val / 32 % 2 = 1 then 1#1 else 0#1
  clear r; revert l; decide

end Cert.KernelIdeal.Own

end
-- ==== Proof.Value.Cases.lean ====
/-
  One grid step: from blocks of real numbers, the output block, the state block and the carried state.
-/
module

public import proofs.«01_k».proof.Proof.Value.Masks

@[expose] public section

set_option maxRecDepth 16384

noncomputable section

namespace Cert.KernelIdeal.Own

open Idealize.ShloMosaic Finset
open Cert.KernelIdeal Cert.KernelIdeal.Gen Cert.Own

/-- A load through a unit-stride box reads the entry the box's offset moves the index to. -/
theorem readAt_unit_at {sg : RefSig} {κ : Kind} {sp : Space} {s : Shape} {e : EltTy} {Val : EltTy → Type} (v : View sg κ sp s e)
    (f : v.ty.Contents Val) {off off' size : Fin s.rank → ℕ} (inb : ∀ a, off a + size a ≤ s.size a) (h : off = off')
    (x : (Rect.unit off size inb).toLoadRect.shape.Idx) (y : s.Idx) (hy : ∀ a, (y a).val = off' a + (x a).val) :
    v.readAt Val (Rect.unit off size inb).toLoadRect f x = v.read Val f y := by
  subst h
  show v.read Val f ((Rect.unit off size inb).toLoadRect.idx x) = _
  congr 1
  funext a
  refine Fin.ext ?_
  show off a + 1 * (x a).val = _
  rw [hy, one_mul]

/-- The input blocks of a grid step hold the heads' real numbers. -/
structure Blk (x0 x1 : Vec Ideal S1x18x96x128 .fp8e4m3) (x2 : Vec Ideal S1x18x96x128 .f32) (x3 : Vec Ideal S1x18x128x128 .bf16)
    (x4 x5 x6 : Vec Ideal S1x18x128 .f32) (D : ℕ → Head) : Prop where
  q : ∀ (h : Fin 18) (r : Fin 96) (l : Fin 128), x0 (ix4 0 h r l) = (((D h).qc r l : ℝ) : EReal)
  k : ∀ (h : Fin 18) (r : Fin 96) (l : Fin 128), x1 (ix4 0 h r l) = (((D h).kc r l : ℝ) : EReal)
  g : ∀ (h : Fin 18) (r : Fin 96) (l : Fin 128), x2 (ix4 0 h r l) = (((D h).g r l : ℝ) : EReal)
  v : ∀ (h : Fin 18) (t l : Fin 128), x3 (ix4 0 h t l) = (((D h).v t l : ℝ) : EReal)
  qs : ∀ (h : Fin 18) (l : Fin 128), x4 (ix3 0 h l) = (((D h).qs l : ℝ) : EReal)
  ks : ∀ (h : Fin 18) (l : Fin 128), x5 (ix3 0 h l) = (((D h).ks l : ℝ) : EReal)
  be : ∀ (h : Fin 18) (l : Fin 128), x6 (ix3 0 h l) = (((D h).be l : ℝ) : EReal)

variable (c : Dev nD) (i : grid0.Coords)
  (arg2 : Memref sig .tc .vmem S1x18x96x128 .fp8e4m3) (harg2 : arg2.IsWhole)
  (arg3 : Memref sig .tc .vmem S1x18x96x128 .fp8e4m3) (harg3 : arg3.IsWhole)
  (arg4 : Memref sig .tc .vmem S1x18x96x128 .f32) (harg4 : arg4.IsWhole)
  (arg5 : Memref sig .tc .vmem S1x18x128x128 .bf16) (harg5 : arg5.IsWhole)
  (arg6 : Memref sig .tc .vmem S1x18x128 .f32) (harg6 : arg6.IsWhole)
  (arg7 : Memref sig .tc .vmem S1x18x128 .f32) (harg7 : arg7.IsWhole)
  (arg8 : Memref sig .tc .vmem S1x18x128 .f32) (harg8 : arg8.IsWhole)
  (arg9 : Memref sig .tc .vmem S1x18x96x128 .f32) (harg9 : arg9.IsWhole)
  (arg10 : Memref sig .tc .vmem S1x128x2304 .bf16) (harg10 : arg10.IsWhole)
  (arg11 : Memref sig .tc .vmem S1x18x96x128 .f32) (harg11 : arg11.IsWhole)
  (arg12 : Memref sig .tc .vmem S18x96x128 .f32) (harg12 : arg12.IsWhole)
  (x0 x1 : Vec Ideal S1x18x96x128 .fp8e4m3) (x2 : Vec Ideal S1x18x96x128 .f32) (x3 : Vec Ideal S1x18x128x128 .bf16)
  (x4 x5 x6 : Vec Ideal S1x18x128 .f32) (x7 : Vec Ideal S1x18x96x128 .f32) (xs : Vec Ideal S18x96x128 .f32) (D : ℕ → Head)

/-- The blocks' real numbers are the loop's loads, head by head. -/
theorem headHyp (B : Blk x0 x1 x2 x3 x4 x5 x6 D) (v66 : FVec Ideal S128x256 .bf16) (v67 : FVec Ideal S256x256 .bf16)
    (v86 v87 v90 : IVec S64x128 1) (v112 : FVec Ideal S32x128 .f32) (v138 v178 v179 : IVec S32x128 32)
    (h66 : v66 = R2 cum) (h67 : v67 = R2 fun l t => cum (l % 128) t) (h86 : v86 = B2 fun r l => l % 64 < r)
    (h87 : v87 = B2 fun r l => l % 64 ≤ r) (h90 : v90 = B2 fun _ l => l < 64) (h112 : v112 = R2 eye4)
    (h138 : v138 = I2 fun _ l => 32 * (l / 32)) (h180 : k0_pay144 v178 v179 = B2 fun _ l => l / 32 % 2 = 1)
    (k : Fin k0_t1_loop.trips) (f : BufTy.Contents (Elt Ideal) arg12.view.ty) (S : ℕ → ℕ → ℝ)
    (hS : ∀ (r : Fin 96) (l : Fin 128), arg12.view.read (Elt Ideal) f (ix3 (⟨k.val, k.isLt⟩ : Fin 18) r l) = ((S r l : ℝ) : EReal)) :
    HeadHyp arg2 arg3 arg4 arg5 arg6 arg7 arg8 arg12 v66 v67 v86 v87 v90 v112 v138 v178 v179 (harg2.unread x0) (harg3.unread x1)
      (harg4.unread x2) (harg5.unread x3) (harg6.unread x4) (harg7.unread x5) (harg8.unread x6) k f (D k) S where
  h66 := h66
  h67 := h67
  h86 := h86
  h87 := h87
  h90 := h90
  h112 := h112
  h138 := h138
  h180 := h180
  hq := fun r l => by
    refine (readAt_unit_at arg2.view _ _ (off1_eq k) _ (ix4 0 (⟨k.val, k.isLt⟩ : Fin 18) r l) ?_).trans ?_
    · intro a
      fin_cases a <;> first | rfl | exact (Nat.zero_add _).symm | exact Nat.add_comm _ _
    · rw [harg2.read_unread]
      exact B.q (⟨k.val, k.isLt⟩ : Fin 18) r l
  hk := fun r l => by
    refine (readAt_unit_at arg3.view _ _ (off1_eq k) _ (ix4 0 (⟨k.val, k.isLt⟩ : Fin 18) r l) ?_).trans ?_
    · intro a
      fin_cases a <;> first | rfl | exact (Nat.zero_add _).symm | exact Nat.add_comm _ _
    · rw [harg3.read_unread]
      exact B.k (⟨k.val, k.isLt⟩ : Fin 18) r l
  hg := fun r l => by
    refine (readAt_unit_at arg4.view _ _ (off1_eq k) _ (ix4 0 (⟨k.val, k.isLt⟩ : Fin 18) r l) ?_).trans ?_
    · intro a
      fin_cases a <;> first | rfl | exact (Nat.zero_add _).symm | exact Nat.add_comm _ _
    · rw [harg4.read_unread]
      exact B.g (⟨k.val, k.isLt⟩ : Fin 18) r l
  hqs := fun l => by
    refine (readAt_unit_at arg6.view _ _ (off2_eq k) _ (ix3 0 (⟨k.val, k.isLt⟩ : Fin 18) l) ?_).trans ?_
    · intro a
      fin_cases a <;> first | rfl | exact (Nat.zero_add _).symm | exact Nat.add_comm _ _
    · rw [harg6.read_unread]
      exact B.qs (⟨k.val, k.isLt⟩ : Fin 18) l
  hks := fun l => by
    refine (readAt_unit_at arg7.view _ _ (off2_eq k) _ (ix3 0 (⟨k.val, k.isLt⟩ : Fin 18) l) ?_).trans ?_
    · intro a
      fin_cases a <;> first | rfl | exact (Nat.zero_add _).symm | exact Nat.add_comm _ _
    · rw [harg7.read_unread]
      exact B.ks (⟨k.val, k.isLt⟩ : Fin 18) l
  hbe := fun l => by
    refine (readAt_unit_at arg8.view _ _ (off2_eq k) _ (ix3 0 (⟨k.val, k.isLt⟩ : Fin 18) l) ?_).trans ?_
    · intro a
      fin_cases a <;> first | rfl | exact (Nat.zero_add _).symm | exact Nat.add_comm _ _
    · rw [harg8.read_unread]
      exact B.be (⟨k.val, k.isLt⟩ : Fin 18) l
  hv0 := fun t l => by
    refine (readAt_unit_at arg5.view _ _ (off4_eq k) _ (ix4 0 (⟨k.val, k.isLt⟩ : Fin 18) ⟨t.val, by omega⟩ l) ?_).trans ?_
    · intro a
      fin_cases a <;> first | rfl | exact (Nat.zero_add _).symm | exact Nat.add_comm _ _
    · rw [harg5.read_unread]
      exact B.v (⟨k.val, k.isLt⟩ : Fin 18) ⟨t.val, by omega⟩ l
  hv1 := fun t l => by
    refine (readAt_unit_at arg5.view _ _ (off6_eq k) _ (ix4 0 (⟨k.val, k.isLt⟩ : Fin 18) ⟨t.val + 64, by omega⟩ l) ?_).trans ?_
    · intro a
      fin_cases a <;> first | rfl | exact (Nat.zero_add _).symm | exact Nat.add_comm _ _
    · rw [harg5.read_unread]
      exact B.v (⟨k.val, k.isLt⟩ : Fin 18) ⟨t.val + 64, by omega⟩ l
  hS := fun r l => by
    refine (readAt_unit_at arg12.view _ _ (off3_eq k) _ (ix3 (⟨k.val, k.isLt⟩ : Fin 18) r l) ?_).trans (hS r l)
    intro a
    fin_cases a <;> first | rfl | exact (Nat.zero_add _).symm

/-- The scratch at the loop's entry of case A: the state block of the input. -/
theorem entryA (S0 : ℕ → ℕ → ℕ → ℝ) (hS0 : ∀ (h : Fin 18) (r : Fin 96) (l : Fin 128), x7 (ix4 0 h r l) = ((S0 h r l : ℝ) : EReal))
    (h : Fin 18) (r : Fin 96) (l : Fin 128) :
    arg12.view.read (Elt Ideal) (arg12.view.writes (Elt Ideal) arg12.view.junk (kernelRun0_A.sl.HS0_1 c arg9 harg9 x7)) (ix3 h r l) = ((S0 h r l : ℝ) : EReal) := by
  unfold kernelRun0_A.sl.HS0_1
  refine (View.read_writes_cons_unit_of_mem arg12.view _ _ _ _ (ix3 h r l) (ix3 h r l) rfl ?_).trans ?_
  · intro a
    fin_cases a <;> exact (Nat.zero_add _).symm
  pointwise [k0_pay126]
  refine (readAt_unit_at arg9.view _ _ rfl _ (ix4 0 h r l) ?_).trans ?_
  · intro a
    fin_cases a <;> exact (Nat.zero_add _).symm
  · rw [harg9.read_unread]
    exact hS0 h r l

section CaseA
variable (hc0 : cond0_0 i) (S0 : ℕ → ℕ → ℕ → ℝ) (B : Blk x0 x1 x2 x3 x4 x5 x6 D) (hS0 : ∀ (h : Fin 18) (r : Fin 96) (l : Fin 128), x7 (ix4 0 h r l) = ((S0 h r l : ℝ) : EReal))
include B hS0

/-- All 18 trips of case A. -/
theorem tripsA : Trips D S0 18 (pb_k0_t1 (F := Ideal) Variants.none c none i arg2 harg2 arg3 harg3 arg4 harg4 arg5 harg5 arg6 harg6 arg7 harg7 arg8 harg8 arg9 harg9 arg10 harg10 arg11 harg11 arg12 harg12 kernelRun0_A.sl.r kernelRun0_A.sl.r_1 k0_pay133 k0_pay134 (k0_pay136 kernelRun0_A.sl.v88 k0_pay135) k0_pay137 (k0_pay141 k0_pay138 k0_pay139 k0_pay140) (k0_pay142 kernelRun0_A.sl.v92) k0_pay143 (harg2.unread x0) (harg3.unread x1) (harg4.unread x2) (harg5.unread x3) (harg6.unread x4) (harg7.unread x5) (harg8.unread x6) arg10.view.junk (arg12.view.writes (Elt Ideal) arg12.view.junk (kernelRun0_A.sl.HS0_1 c arg9 harg9 x7)) 18) :=
  trips (HH := fun k f S hS => headHyp (B := B) (h66 := m66A) (h67 := m67A) (h86 := m86) (h87 := m87) (h90 := m90A) (h112 := m112) (h138 := m138) (h180 := m180A) (hS := hS) ..)
    (hG := entryA c arg9 harg9 arg12 x7 S0 hS0) (𝒱 := Variants.none) (c := c) (bd := none) (i := i) (arg2 := arg2) (arg3 := arg3) (arg4 := arg4) (arg5 := arg5) (arg6 := arg6) (arg7 := arg7) (arg8 := arg8) (arg9 := arg9) (arg10 := arg10) (arg11 := arg11) (arg12 := arg12) (harg2 := harg2) (harg3 := harg3) (harg4 := harg4) (harg5 := harg5) (harg6 := harg6) (harg7 := harg7) (harg8 := harg8) (harg9 := harg9) (harg10 := harg10) (harg11 := harg11) (harg12 := harg12) (G10 := arg10.view.junk) _ _ _ _ _ _ _ _ _ _ _ _ _ _ _ _ (arg12.view.writes (Elt Ideal) arg12.view.junk (kernelRun0_A.sl.HS0_1 c arg9 harg9 x7)) D S0 18 le_rfl

/-- Case A's output block. -/
theorem outA8 (h : Fin 18) (t l : Fin 128) :
    out0_A_8 c i arg2 harg2 arg3 harg3 arg4 harg4 arg5 harg5 arg6 harg6 arg7 harg7 arg8 harg8 arg9 harg9 arg10 harg10 arg11 harg11 arg12 harg12 hc0 x0 x1 x2 x3 x4 x5 x6 x7 (ix3 0 t ⟨128 * h.val + l.val, by omega⟩) = (((D h).out (S0 h) t l : ℝ) : EReal) :=
  (tripsA (B := B) (hS0 := hS0) ..).out VO0_8 VO0_8.junk h t l h.isLt

/-- The state case A leaves in the scratch. -/
theorem soutA (h : Fin 18) (r : Fin 96) (l : Fin 128) :
    sout0_A_0 c i arg2 harg2 arg3 harg3 arg4 harg4 arg5 harg5 arg6 harg6 arg7 harg7 arg8 harg8 arg9 harg9 arg10 harg10 arg11 harg11 arg12 harg12 hc0 x0 x1 x2 x3 x4 x5 x6 x7 (ix3 h r l) = (((D h).st (S0 h) r l : ℝ) : EReal) := by
  have T := (tripsA (c := c) (i := i) (arg2 := arg2) (arg3 := arg3) (arg4 := arg4) (arg5 := arg5) (arg6 := arg6) (arg7 := arg7) (arg8 := arg8) (arg9 := arg9) (arg10 := arg10) (arg11 := arg11) (arg12 := arg12) (harg2 := harg2) (harg3 := harg3) (harg4 := harg4) (harg5 := harg5) (harg6 := harg6) (harg7 := harg7) (harg8 := harg8) (harg9 := harg9) (harg10 := harg10) (harg11 := harg11) (harg12 := harg12) (B := B) (hS0 := hS0)).st
  refine Eq.trans ?_ (T VS0_0 (VS0_0.writes (Elt Ideal) VS0_0.junk (kernelRun0_A.sl.HS0_1 c arg9 harg9 x7)) h r l h.isLt)
  rw [← View.writes_append]
  rfl

/-- The state block case A writes. -/
theorem outA9 (h : Fin 18) (r : Fin 96) (l : Fin 128) :
    out0_A_9 c i arg2 harg2 arg3 harg3 arg4 harg4 arg5 harg5 arg6 harg6 arg7 harg7 arg8 harg8 arg9 harg9 arg10 harg10 arg11 harg11 arg12 harg12 hc0 x0 x1 x2 x3 x4 x5 x6 x7 (ix4 0 h r l) = (((D h).st (S0 h) r l : ℝ) : EReal) := by
  have T := (tripsA (c := c) (i := i) (arg2 := arg2) (arg3 := arg3) (arg4 := arg4) (arg5 := arg5) (arg6 := arg6) (arg7 := arg7) (arg8 := arg8) (arg9 := arg9) (arg10 := arg10) (arg11 := arg11) (arg12 := arg12) (harg2 := harg2) (harg3 := harg3) (harg4 := harg4) (harg5 := harg5) (harg6 := harg6) (harg7 := harg7) (harg8 := harg8) (harg9 := harg9) (harg10 := harg10) (harg11 := harg11) (harg12 := harg12) (B := B) (hS0 := hS0)).st arg12.view
  unfold out0_A_9 kernelRun0_A
  dsimp only
  refine (View.read_writes_cons_unit_of_mem VO0_9 _ _ _ _ (ix4 0 h r l) (ix4 0 h r l) rfl ?_).trans ?_
  · intro a
    fin_cases a <;> exact (Nat.zero_add _).symm
  pointwise [k0_pay149]
  show View.readAt (Elt Ideal) arg12.view (Rect.unit ![0, 0, 0] S18x96x128.size inb_S18x96x128_S18x96x128_0_0_0 : Rect S18x96x128).toLoadRect (arg12.view.writes (Elt Ideal) arg12.view.junk _) _ = _
  refine (readAt_unit_at arg12.view _ _ rfl _ (ix3 h r l) ?_).trans ?_
  · intro a
    fin_cases a <;> exact (Nat.zero_add _).symm
  · rw [View.writes_append]
    exact T _ h r l h.isLt

end CaseA

section CaseB
variable (hc0 : ¬cond0_0 i) (S0 : ℕ → ℕ → ℕ → ℝ) (B : Blk x0 x1 x2 x3 x4 x5 x6 D) (hS0 : ∀ (h : Fin 18) (r : Fin 96) (l : Fin 128), xs (ix3 h r l) = ((S0 h r l : ℝ) : EReal))
include B hS0

/-- All 18 trips of case B. -/
theorem tripsB : Trips D S0 18 (pb_k0_t1 (F := Ideal) Variants.none c none i arg2 harg2 arg3 harg3 arg4 harg4 arg5 harg5 arg6 harg6 arg7 harg7 arg8 harg8 arg9 harg9 arg10 harg10 arg11 harg11 arg12 harg12 kernelRun0_B.sl.r kernelRun0_B.sl.r_1 k0_pay133 k0_pay134 (k0_pay136 kernelRun0_B.sl.v88 k0_pay135) k0_pay137 (k0_pay141 k0_pay138 k0_pay139 k0_pay140) (k0_pay142 kernelRun0_B.sl.v92) k0_pay143 (harg2.unread x0) (harg3.unread x1) (harg4.unread x2) (harg5.unread x3) (harg6.unread x4) (harg7.unread x5) (harg8.unread x6) arg10.view.junk (harg12.unread xs) 18) :=
  trips (HH := fun k f S hS => headHyp (B := B) (h66 := m66B) (h67 := m67B) (h86 := m86) (h87 := m87) (h90 := m90B) (h112 := m112) (h138 := m138) (h180 := m180B) (hS := hS) ..)
    (hG := fun h r l => by rw [harg12.read_unread]; exact hS0 h r l) (𝒱 := Variants.none) (c := c) (bd := none) (i := i) (arg2 := arg2) (arg3 := arg3) (arg4 := arg4) (arg5 := arg5) (arg6 := arg6) (arg7 := arg7) (arg8 := arg8) (arg9 := arg9) (arg10 := arg10) (arg11 := arg11) (arg12 := arg12) (harg2 := harg2) (harg3 := harg3) (harg4 := harg4) (harg5 := harg5) (harg6 := harg6) (harg7 := harg7) (harg8 := harg8) (harg9 := harg9) (harg10 := harg10) (harg11 := harg11) (harg12 := harg12) (G10 := arg10.view.junk) _ _ _ _ _ _ _ _ _ _ _ _ _ _ _ _ (harg12.unread xs) D S0 18 le_rfl

/-- Case B's output block. -/
theorem outB8 (h : Fin 18) (t l : Fin 128) :
    out0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xs (ix3 0 t ⟨128 * h.val + l.val, by omega⟩) = (((D h).out (S0 h) t l : ℝ) : EReal) :=
  (tripsB (B := B) (hS0 := hS0) ..).out VO0_8 VO0_8.junk h t l h.isLt

/-- The state case B leaves in the scratch. -/
theorem soutB (h : Fin 18) (r : Fin 96) (l : Fin 128) :
    sout0_B_0 c i arg2 harg2 arg3 harg3 arg4 harg4 arg5 harg5 arg6 harg6 arg7 harg7 arg8 harg8 arg9 harg9 arg10 harg10 arg11 harg11 arg12 harg12 hc0 x0 x1 x2 x3 x4 x5 x6 x7 xs (ix3 h r l) = (((D h).st (S0 h) r l : ℝ) : EReal) := by
  have T := (tripsB (c := c) (i := i) (arg2 := arg2) (arg3 := arg3) (arg4 := arg4) (arg5 := arg5) (arg6 := arg6) (arg7 := arg7) (arg8 := arg8) (arg9 := arg9) (arg10 := arg10) (arg11 := arg11) (arg12 := arg12) (harg2 := harg2) (harg3 := harg3) (harg4 := harg4) (harg5 := harg5) (harg6 := harg6) (harg7 := harg7) (harg8 := harg8) (harg9 := harg9) (harg10 := harg10) (harg11 := harg11) (harg12 := harg12) (B := B) (hS0 := hS0)).st
  exact T VS0_0 VS0_0.junk h r l h.isLt

/-- The state block case B writes. -/
theorem outB9 (h : Fin 18) (r : Fin 96) (l : Fin 128) :
    out0_B_9 c i arg2 harg2 arg3 harg3 arg4 harg4 arg5 harg5 arg6 harg6 arg7 harg7 arg8 harg8 arg9 harg9 arg10 harg10 arg11 harg11 arg12 harg12 hc0 x0 x1 x2 x3 x4 x5 x6 x7 xs (ix4 0 h r l) = (((D h).st (S0 h) r l : ℝ) : EReal) := by
  have T := (tripsB (c := c) (i := i) (arg2 := arg2) (arg3 := arg3) (arg4 := arg4) (arg5 := arg5) (arg6 := arg6) (arg7 := arg7) (arg8 := arg8) (arg9 := arg9) (arg10 := arg10) (arg11 := arg11) (arg12 := arg12) (harg2 := harg2) (harg3 := harg3) (harg4 := harg4) (harg5 := harg5) (harg6 := harg6) (harg7 := harg7) (harg8 := harg8) (harg9 := harg9) (harg10 := harg10) (harg11 := harg11) (harg12 := harg12) (B := B) (hS0 := hS0)).st arg12.view
  unfold out0_B_9 kernelRun0_B
  dsimp only
  refine (View.read_writes_cons_unit_of_mem VO0_9 _ _ _ _ (ix4 0 h r l) (ix4 0 h r l) rfl ?_).trans ?_
  · intro a
    fin_cases a <;> exact (Nat.zero_add _).symm
  pointwise [k0_pay149]
  refine (readAt_unit_at arg12.view _ _ rfl _ (ix3 h r l) ?_).trans ?_
  · intro a
    fin_cases a <;> exact (Nat.zero_add _).symm
  · exact T _ h r l h.isLt

end CaseB

end Cert.KernelIdeal.Own

end
-- ==== Proof.Value.Blocks.lean ====
/-
  The input blocks of every grid step, read off the arguments.
-/
module

public import proofs.«01_k».proof.Proof.Value.Cases
public import proofs.«01_k».proof.Proof.Value.Data
public import proofs.«01_k».proof.Proof.Ideal.Value
public import Idealize.ShloMosaic.Lib.Pipeline.ValueKit

@[expose] public section

set_option maxRecDepth 16384

noncomputable section

namespace Cert.Own

/-- The state of every head of batch `b` after `i` pairs. -/
def In.S (X : In) (b : ℕ) : ℕ → ℕ → ℕ → ℕ → ℝ
  | 0 => X.h0 b
  | i + 1 => fun h => (X.head b i h).st (In.S X b i h)

end Cert.Own

namespace Cert.KernelIdeal.Own

open Idealize.ShloMosaic Idealize.ShloMosaic.TcCoe Finset
open Cert.KernelIdeal Cert.KernelIdeal.Gen Cert.KernelIdeal.Value Cert.Own

/-- The block every input window is at, at every grid point. -/
theorem idx_in : ∀ t : Fin cfg0.N, win0_0.index t = ![t.val / 5, 0, 0, t.val % 5] ∧ win0_1.index t = ![t.val / 5, 0, 0, t.val % 5]
    ∧ win0_2.index t = ![t.val / 5, 0, 0, t.val % 5] ∧ win0_3.index t = ![t.val / 5, 0, t.val % 5, 0]
    ∧ win0_4.index t = ![t.val / 5, 0, t.val % 5] ∧ win0_5.index t = ![t.val / 5, 0, t.val % 5]
    ∧ win0_6.index t = ![t.val / 5, 0, t.val % 5] ∧ win0_7.index t = ![t.val / 5, 0, 0, 0] :=
  (by decide +kernel : ∀ t : Fin grid0.N, _)

/-- The arguments in memory hold the tables' numbers. -/
abbrev Holds (m : (ℓ : Loc nD τ sig) → Buf (Elt Ideal) ℓ) (c : Dev nD) (X : In) : Prop :=
  X.Of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

variable (m : (ℓ : Loc nD τ sig) → Buf (Elt Ideal) ℓ) (c : Dev nD) (X : In) (HX : Holds m c X)

theorem V2 (b h r s) : (V m c main_v2 : FVec Ideal S3x18x96x640 .fp8e4m3) (ix4 b h r s) = m ((c : Thread nD τ).loc main_arg0) (ix4 b s h r) := by
  entry_read
  pointwise []

theorem i0 (t : Fin cfg0.N) (h : Fin 18) (r : Fin 96) (l : Fin 128) (hb : t.val / 5 < 3) :
    (iblk m c 0 t : Vec Ideal S1x18x96x128 .fp8e4m3) (ix4 0 h r l) = m ((c : Thread nD τ).loc main_arg0) (ix4 ⟨t.val / 5, hb⟩ ⟨128 * (t.val % 5) + l.val, by omega⟩ h r) := by
  refine Eq.trans ?_ (V2 m c ⟨t.val / 5, hb⟩ h r ⟨128 * (t.val % 5) + l.val, by omega⟩)
  blk_ext [iblk, idx_in t]

theorem V3 (b h r s) : (V m c main_v3 : FVec Ideal S3x18x96x640 .fp8e4m3) (ix4 b h r s) = m ((c : Thread nD τ).loc main_arg2) (ix4 b s h r) := by
  entry_read
  pointwise []

theorem i1 (t : Fin cfg0.N) (h : Fin 18) (r : Fin 96) (l : Fin 128) (hb : t.val / 5 < 3) :
    (iblk m c 1 t : Vec Ideal S1x18x96x128 .fp8e4m3) (ix4 0 h r l) = m ((c : Thread nD τ).loc main_arg2) (ix4 ⟨t.val / 5, hb⟩ ⟨128 * (t.val % 5) + l.val, by omega⟩ h r) := by
  refine Eq.trans ?_ (V3 m c ⟨t.val / 5, hb⟩ h r ⟨128 * (t.val % 5) + l.val, by omega⟩)
  blk_ext [iblk, idx_in t]

theorem V4 (b h r s) : (V m c main_v4 : FVec Ideal S3x18x96x640 .f32) (ix4 b h r s) = m ((c : Thread nD τ).loc main_arg5) (ix4 b s h r) := by
  entry_read
  pointwise []

theorem i2 (t : Fin cfg0.N) (h : Fin 18) (r : Fin 96) (l : Fin 128) (hb : t.val / 5 < 3) :
    (iblk m c 2 t : Vec Ideal S1x18x96x128 .f32) (ix4 0 h r l) = m ((c : Thread nD τ).loc main_arg5) (ix4 ⟨t.val / 5, hb⟩ ⟨128 * (t.val % 5) + l.val, by omega⟩ h r) := by
  refine Eq.trans ?_ (V4 m c ⟨t.val / 5, hb⟩ h r ⟨128 * (t.val % 5) + l.val, by omega⟩)
  blk_ext [iblk, idx_in t]

theorem V5 (b h s l) : (V m c main_v5 : FVec Ideal S3x18x640x128 .bf16) (ix4 b h s l) = m ((c : Thread nD τ).loc main_arg4) (ix4 b s h l) := by
  entry_read
  pointwise []

theorem i3 (t : Fin cfg0.N) (h : Fin 18) (s l : Fin 128) (hb : t.val / 5 < 3) :
    (iblk m c 3 t : Vec Ideal S1x18x128x128 .bf16) (ix4 0 h s l) = m ((c : Thread nD τ).loc main_arg4) (ix4 ⟨t.val / 5, hb⟩ ⟨128 * (t.val % 5) + s.val, by omega⟩ h l) := by
  refine Eq.trans ?_ (V5 m c ⟨t.val / 5, hb⟩ h ⟨128 * (t.val % 5) + s.val, by omega⟩ l)
  blk_ext [iblk, idx_in t]

theorem V6 (b h s) : (V m c main_v6 : FVec Ideal S3x18x640 .f32) (ix3 b h s) = m ((c : Thread nD τ).loc main_arg1) (ix3 b s h) := by
  entry_read
  pointwise []

theorem i4 (t : Fin cfg0.N) (h : Fin 18) (l : Fin 128) (hb : t.val / 5 < 3) :
    (iblk m c 4 t : Vec Ideal S1x18x128 .f32) (ix3 0 h l) = m ((c : Thread nD τ).loc main_arg1) (ix3 ⟨t.val / 5, hb⟩ ⟨128 * (t.val % 5) + l.val, by omega⟩ h) := by
  refine Eq.trans ?_ (V6 m c ⟨t.val / 5, hb⟩ h ⟨128 * (t.val % 5) + l.val, by omega⟩)
  blk_ext [iblk, idx_in t]

theorem V7 (b h s) : (V m c main_v7 : FVec Ideal S3x18x640 .f32) (ix3 b h s) = m ((c : Thread nD τ).loc main_arg3) (ix3 b s h) := by
  entry_read
  pointwise []

theorem i5 (t : Fin cfg0.N) (h : Fin 18) (l : Fin 128) (hb : t.val / 5 < 3) :
    (iblk m c 5 t : Vec Ideal S1x18x128 .f32) (ix3 0 h l) = m ((c : Thread nD τ).loc main_arg3) (ix3 ⟨t.val / 5, hb⟩ ⟨128 * (t.val % 5) + l.val, by omega⟩ h) := by
  refine Eq.trans ?_ (V7 m c ⟨t.val / 5, hb⟩ h ⟨128 * (t.val % 5) + l.val, by omega⟩)
  blk_ext [iblk, idx_in t]

theorem V8 (b h s) : (V m c main_v8 : FVec Ideal S3x18x640 .f32) (ix3 b h s) = m ((c : Thread nD τ).loc main_arg6) (ix3 b s h) := by
  entry_read
  pointwise []

theorem i6 (t : Fin cfg0.N) (h : Fin 18) (l : Fin 128) (hb : t.val / 5 < 3) :
    (iblk m c 6 t : Vec Ideal S1x18x128 .f32) (ix3 0 h l) = m ((c : Thread nD τ).loc main_arg6) (ix3 ⟨t.val / 5, hb⟩ ⟨128 * (t.val % 5) + l.val, by omega⟩ h) := by
  refine Eq.trans ?_ (V8 m c ⟨t.val / 5, hb⟩ h ⟨128 * (t.val % 5) + l.val, by omega⟩)
  blk_ext [iblk, idx_in t]

theorem i7 (t : Fin cfg0.N) (h : Fin 18) (r : Fin 96) (l : Fin 128) (hb : t.val / 5 < 3) :
    (iblk m c 7 t : Vec Ideal S1x18x96x128 .f32) (ix4 0 h r l) = m ((c : Thread nD τ).loc main_arg7) (ix4 ⟨t.val / 5, hb⟩ h r l) := by
  have e : m ((c : Thread nD τ).loc main_arg7) = V m c main_arg7 := (V_main_arg7 m c).symm
  rw [e]
  blk_ext [iblk, idx_in t]

theorem lt3 (t : Fin cfg0.N) : t.val / 5 < 3 := by
  have : t.val < 15 := lt_of_lt_of_eq t.isLt N_0
  omega

include HX

/-- A grid step's blocks are its pair's numbers. -/
theorem blk (t : Fin cfg0.N) : Blk (iblk m c 0 t) (iblk m c 1 t) (iblk m c 2 t) (iblk m c 3 t) (iblk m c 4 t) (iblk m c 5 t) (iblk m c 6 t)
    (X.head (t.val / 5) (t.val % 5)) where
  q h r l := (i0 m c t h r l (lt3 t)).trans (HX.q _ _ _ _)
  k h r l := (i1 m c t h r l (lt3 t)).trans (HX.k _ _ _ _)
  g h r l := (i2 m c t h r l (lt3 t)).trans (HX.g _ _ _ _)
  v h s l := (i3 m c t h s l (lt3 t)).trans (HX.v _ _ _ _)
  qs h l := (i4 m c t h l (lt3 t)).trans (HX.qs _ _ _)
  ks h l := (i5 m c t h l (lt3 t)).trans (HX.ks _ _ _)
  be h l := (i6 m c t h l (lt3 t)).trans (HX.be _ _ _)

theorem blk7 (t : Fin cfg0.N) (h : Fin 18) (r : Fin 96) (l : Fin 128) :
    (iblk m c 7 t : Vec Ideal S1x18x96x128 .f32) (ix4 0 h r l) = ((X.h0 (t.val / 5) h r l : ℝ) : EReal) :=
  (i7 m c t h r l (lt3 t)).trans (HX.h0 _ _ _ _)

omit HX

/-- What a grid step leaves: the pair's output rows, the state block and the carried state. -/
structure Left (X : In) (n : ℕ) (a : Vec Ideal S1x128x2304 .bf16 × Vec Ideal S1x18x96x128 .f32 × Vec Ideal S18x96x128 .f32) : Prop where
  o : ∀ (h : Fin 18) (t l : Fin 128), a.1 (ix3 0 t ⟨128 * h.val + l.val, by omega⟩)
    = (((X.head (n / 5) (n % 5) h).out (X.S (n / 5) (n % 5) h) t l : ℝ) : EReal)
  b : ∀ (h : Fin 18) (r : Fin 96) (l : Fin 128), a.2.1 (ix4 0 h r l) = ((X.S (n / 5) (n % 5 + 1) h r l : ℝ) : EReal)
  s : ∀ (h : Fin 18) (r : Fin 96) (l : Fin 128), a.2.2 (ix3 h r l) = ((X.S (n / 5) (n % 5 + 1) h r l : ℝ) : EReal)

include HX

theorem leftA (t : Fin cfg0.N) (acc : Vec Ideal S1x128x2304 .bf16 × Vec Ideal S1x18x96x128 .f32 × Vec Ideal S18x96x128 .f32) (h0 : t.val % 5 = 0) : Left X t.val (stAt0 m c t.val t.isLt acc) := by
  rw [stAt0_A m c t acc h0]
  have e : X.S (t.val / 5) (t.val % 5) = X.h0 (t.val / 5) := by rw [h0]; rfl
  refine ⟨fun h s l => ?_, fun h r l => ?_, fun h r l => ?_⟩
  · rw [e]
    exact outA8 (D := X.head (t.val / 5) (t.val % 5)) (S0 := X.h0 (t.val / 5)) (B := blk m c X HX t) (hS0 := blk7 m c X HX t) (h := h) (t := s) (l := l) ..
  · show _ = (((X.head (t.val / 5) (t.val % 5) h).st (X.S (t.val / 5) (t.val % 5) h) r l : ℝ) : EReal)
    rw [e]
    have z := outA9 (c := c) (i := grid0.coords t) (D := X.head (t.val / 5) (t.val % 5)) (S0 := X.h0 (t.val / 5)) (B := blk m c X HX t) (hS0 := blk7 m c X HX t) (h := h) (r := r) (l := l) (arg2 := ms0_0 t) (arg3 := ms0_1 t) (arg4 := ms0_2 t) (arg5 := ms0_3 t) (arg6 := ms0_4 t) (arg7 := ms0_5 t) (arg8 := ms0_6 t) (arg9 := ms0_7 t) (arg10 := ms0_8 t) (arg11 := ms0_9 t) (arg12 := scM0_0) (harg2 := hs0_0 t) (harg3 := hs0_1 t) (harg4 := hs0_2 t) (harg5 := hs0_3 t) (harg6 := hs0_4 t) (harg7 := hs0_5 t) (harg8 := hs0_6 t) (harg9 := hs0_7 t) (harg10 := hs0_8 t) (harg11 := hs0_9 t) (harg12 := Memref.isWhole_whole _) (hc0 := (hcond0_0 t).mpr h0)
    dsimp only
    exact z
  · show _ = (((X.head (t.val / 5) (t.val % 5) h).st (X.S (t.val / 5) (t.val % 5) h) r l : ℝ) : EReal)
    rw [e]
    exact soutA (D := X.head (t.val / 5) (t.val % 5)) (S0 := X.h0 (t.val / 5)) (B := blk m c X HX t) (hS0 := blk7 m c X HX t) (h := h) (r := r) (l := l) ..

theorem leftB (t : Fin cfg0.N) (acc : Vec Ideal S1x128x2304 .bf16 × Vec Ideal S1x18x96x128 .f32 × Vec Ideal S18x96x128 .f32) (h0 : ¬t.val % 5 = 0) (hs : ∀ (h : Fin 18) (r : Fin 96) (l : Fin 128), acc.2.2 (ix3 h r l) = ((X.S (t.val / 5) (t.val % 5) h r l : ℝ) : EReal)) :
    Left X t.val (stAt0 m c t.val t.isLt acc) := by
  rw [stAt0_B m c t acc h0]
  refine ⟨fun h s l => ?_, fun h r l => ?_, fun h r l => ?_⟩
  · exact outB8 (D := X.head (t.val / 5) (t.val % 5)) (S0 := X.S (t.val / 5) (t.val % 5)) (B := blk m c X HX t) (hS0 := hs) (h := h) (t := s) (l := l) ..
  · have z := outB9 (c := c) (i := grid0.coords t) (D := X.head (t.val / 5) (t.val % 5)) (S0 := X.S (t.val / 5) (t.val % 5)) (B := blk m c X HX t) (hS0 := hs) (h := h) (r := r) (l := l) (arg2 := ms0_0 t) (arg3 := ms0_1 t) (arg4 := ms0_2 t) (arg5 := ms0_3 t) (arg6 := ms0_4 t) (arg7 := ms0_5 t) (arg8 := ms0_6 t) (arg9 := ms0_7 t) (arg10 := ms0_8 t) (arg11 := ms0_9 t) (arg12 := scM0_0) (harg2 := hs0_0 t) (harg3 := hs0_1 t) (harg4 := hs0_2 t) (harg5 := hs0_3 t) (harg6 := hs0_4 t) (harg7 := hs0_5 t) (harg8 := hs0_6 t) (harg9 := hs0_7 t) (harg10 := hs0_8 t) (harg11 := hs0_9 t) (harg12 := Memref.isWhole_whole _) (hc0 := fun h => h0 ((hcond0_0 t).mp h))
    dsimp only
    exact z _
  · exact soutB (D := X.head (t.val / 5) (t.val % 5)) (S0 := X.S (t.val / 5) (t.val % 5)) (B := blk m c X HX t) (hS0 := hs) (h := h) (r := r) (l := l) ..

/-- Every grid step leaves its pair's values. -/
theorem left : ∀ (n : ℕ) (hn : 0 + n < cfg0.N), Left X n (Pipeline.accAt (fun n h => stAt0 m c n h junk0) (stAt0 m c) 0 n hn)
  | 0, hn => leftA m c X HX ⟨0, by omega⟩ junk0 rfl
  | n + 1, hn => by
    have ih := left n (by omega)
    rw [Pipeline.accAt_succ]
    have et : ∀ (k : ℕ) (hk : k < cfg0.N) (acc), k = n + 1 → Left X k (stAt0 m c k hk acc) → Left X (n + 1) (stAt0 m c k hk acc) := by
      intro k hk acc e L
      rw [← e]
      exact L
    refine et _ _ _ (by omega) ?_
    by_cases h0 : (0 + (n + 1)) % 5 = 0
    · exact leftA m c X HX ⟨0 + (n + 1), hn⟩ _ h0
    · refine leftB m c X HX ⟨0 + (n + 1), hn⟩ _ h0 fun h r l => (ih.s h r l).trans ?_
      have e1 : n / 5 = (0 + (n + 1)) / 5 := by omega
      have e2 : n % 5 + 1 = (0 + (n + 1)) % 5 := by omega
      rw [e1, e2]

/-- The kernel's first result. -/
theorem res8 (b : Fin 3) (s : Fin 640) (h : Fin 18) (l : Fin 128) :
    (G8 m c : FVec Ideal S3x640x2304 .bf16) (ix3 b s ⟨128 * h.val + l.val, by omega⟩)
      = (((X.head b (s / 128) h).out (X.S b (s / 128) h) (s % 128) l : ℝ) : EReal) := by
  have e : pt8Of (ix3 b s ⟨128 * h.val + l.val, by omega⟩) = 5 * b.val + s.val / 128 := by
    show 5 * (b.val / 1 - 0) + 1 * (s.val / 128 - 0) + 1 * ((128 * h.val + l.val) / 2304 - 0) = _
    omega
  have hN : cfg0.N = 15 := N_0
  unfold G8
  rw [dif_pos (by rw [e]; omega)]
  have L := (left m c X HX (pt8Of (ix3 b s ⟨128 * h.val + l.val, by omega⟩)) (by rw [e]; omega)).o h ⟨s.val % 128, by omega⟩ l
  rw [show (5 * b.val + s.val / 128) = pt8Of (ix3 b s ⟨128 * h.val + l.val, by omega⟩) from e.symm] at *
  have e1 : pt8Of (ix3 b s ⟨128 * h.val + l.val, by omega⟩) / 5 = b.val := by omega
  have e2 : pt8Of (ix3 b s ⟨128 * h.val + l.val, by omega⟩) % 5 = s.val / 128 := by omega
  rw [e1, e2] at L
  refine (congrArg _ ?_).trans L
  funext a
  fin_cases a
  · exact Fin.ext (by show b.val % 1 = 0; omega)
  · rfl
  · exact Fin.ext (by show (128 * h.val + l.val) % 2304 = 128 * h.val + l.val; omega)

/-- The kernel's second result. -/
theorem res9 (b : Fin 3) (h : Fin 18) (r : Fin 96) (l : Fin 128) :
    (G9 m c : FVec Ideal S3x18x96x128 .f32) (ix4 b h r l) = ((X.S b 5 h r l : ℝ) : EReal) := by
  have e : pt9Of (ix4 b h r l) = 5 * b.val + 4 := by
    show 5 * (1 * (b.val / 1 - 0) + 1 * (h.val / 18 - 0) + 1 * (r.val / 96 - 0) + 1 * (l.val / 128 - 0)) + 4 = _
    omega
  have hN : cfg0.N = 15 := N_0
  unfold G9
  rw [dif_pos (by rw [e]; omega)]
  have L := (left m c X HX (pt9Of (ix4 b h r l)) (by rw [e]; omega)).b h r l
  have e1 : pt9Of (ix4 b h r l) / 5 = b.val := by omega
  have e2 : pt9Of (ix4 b h r l) % 5 + 1 = 5 := by omega
  rw [e1, e2] at L
  refine (congrArg _ ?_).trans L
  funext a
  fin_cases a
  · exact Fin.ext (by show b.val % 1 = 0; omega)
  · exact Fin.ext (by show h.val % 18 = h.val; omega)
  · exact Fin.ext (by show r.val % 96 = r.val; omega)
  · exact Fin.ext (by show l.val % 128 = l.val; omega)

end Cert.KernelIdeal.Own

end
-- ==== Proof.Math.States.lean ====
/-
  All pairs: the kernel's state after `i` pairs is the reference's after `2 * i` chunks, and the outputs agree.
-/
module

public import proofs.«01_k».proof.Proof.Math.Equal
public import proofs.«01_k».proof.Proof.Value.Blocks

@[expose] public section

noncomputable section

namespace Cert.Own

variable (X : In) (b h : ℕ)

theorem In.half {i : ℕ} (hS : ∀ r < 96, ∀ l, X.S b i h r l = X.cS b h (2 * i) r l) :
    ∀ r < 96, ∀ l, (X.head b i h).s 0 (X.S b i h) r l = X.cS b h (2 * i + 1) r l := fun r hr l =>
  (X.same b i h 0 (by omega)).s_eq hS r l hr

theorem In.states : ∀ i, ∀ r < 96, ∀ l, X.S b i h r l = X.cS b h (2 * i) r l
  | 0 => fun _ _ _ => rfl
  | i + 1 => fun r hr l => (X.same b i h 1 (by omega)).s_eq (X.half b h (In.states i)) r l hr

theorem In.outs (s l : ℕ) :
    (X.head b (s / 128) h).out (X.S b (s / 128) h) (s % 128) l = (X.chunk (s / 64) b h).o (X.cS b h (s / 64)) (s % 64) l := by
  unfold Head.out
  by_cases c : s % 128 < 64
  · rw [if_pos c, (X.same b (s / 128) h 0 (by omega)).o_eq (X.states b h (s / 128)) (s % 128) l c,
      show s / 64 = 2 * (s / 128) + 0 by omega, show s % 64 = s % 128 by omega]
    rfl
  · rw [if_neg c, (X.same b (s / 128) h 1 (by omega)).o_eq (X.half b h (X.states b h (s / 128))) (s % 128 - 64) l (by omega),
      show s / 64 = 2 * (s / 128) + 1 by omega, show s % 64 = s % 128 - 64 by omega]

end Cert.Own

end
-- ==== Proof.Ref.Eqs.lean ====
/-
  The reference's host operations before its loop, one equation per operation: every buffer is written once, so after the
  whole line of operations a buffer holds its operation's result of what the operand buffers hold then.
-/
module

public import proofs.«01_k».proof.Proof.Gen.ReferenceIdeal.Run
public import Idealize.ShloMosaic.PureOps.Ideal

@[expose] public section

set_option maxRecDepth 16384

noncomputable section

namespace Cert.ReferenceIdeal.Own

open Cert.ReferenceIdeal Cert.ReferenceIdeal.Gen
open Idealize.ShloMosaic Idealize.ShloMosaic.TcCoe Idealize.ShloMosaic.StableHlo

section
variable {W : List (Ref sig .tc)} (ops : List (HloOp τ sig (Elt Ideal)))
  (hW : ops.map HloOp.writes = W.map fun r => {Proc.devRef (τ := τ) .tc r}) (i : ℕ) (V : Valuation τ sig (Elt Ideal))
  {rest : List (HloOp τ sig (Elt Ideal))}
include hW

theorem drop_eq : (ops.drop i).map HloOp.writes = (W.drop i).map fun r => {Proc.devRef (τ := τ) .tc r} := by
  rw [List.map_drop, List.map_drop, hW]

/-- A buffer not written from the `i`-th operation on holds at the end what it holds before that operation. -/
theorem keep {r : Ref sig .tc} (hr : r ∉ W.drop i) :
    after ops V (Proc.devRef .tc r) = after (ops.take i) V (Proc.devRef .tc r) := by
  conv_lhs => rw [← List.take_append_drop i ops, after_append]
  exact after_of_writes_sub _ _ (forall_writes_sub_of_map (drop_eq ops hW i)) hr

/-- The `i`-th operation's result is what its buffer holds at the end. -/
theorem at_op {op : HloOp τ sig (Elt Ideal)} (h : ops.drop i = op :: rest) {r : Ref sig .tc} (hr : r ∉ W.drop (i + 1)) :
    after ops V (Proc.devRef .tc r) = op.result (after (ops.take i) V) (Proc.devRef .tc r) := by
  conv_lhs => rw [← List.take_append_drop i ops, after_append, h, after_cons]
  refine after_of_writes_sub rest _ (forall_writes_sub_of_map (W := W.drop (i + 1)) ?_) hr
  have := drop_eq ops hW (i + 1)
  rwa [← List.drop_drop, h] at this

theorem at_nullary {y : Ref sig .tc} {v : y.ty.Contents (Elt Ideal)} {hy} (h : ops.drop i = nullary y v hy :: rest)
    (hr : y ∉ W.drop (i + 1)) : after ops V (Proc.devRef .tc y) = v :=
  (at_op ops hW i V h hr).trans (nullary_result y v hy _)

theorem at_unary {x y : Ref sig .tc} {f : x.ty.Contents (Elt Ideal) → y.ty.Contents (Elt Ideal)} {hx hy}
    (h : ops.drop i = unary x y f hx hy :: rest) (hr : y ∉ W.drop (i + 1)) (h1 : x ∉ W.drop i) :
    after ops V (Proc.devRef .tc y) = f (after ops V (Proc.devRef .tc x)) := by
  rw [keep ops hW i V h1]
  exact (at_op ops hW i V h hr).trans (unary_result x y f hx hy _)

theorem at_binary {a b y : Ref sig .tc} {f : a.ty.Contents (Elt Ideal) → b.ty.Contents (Elt Ideal) → y.ty.Contents (Elt Ideal)} {ha hb hy}
    (h : ops.drop i = binary a b y f ha hb hy :: rest) (hr : y ∉ W.drop (i + 1)) (h1 : a ∉ W.drop i) (h2 : b ∉ W.drop i) :
    after ops V (Proc.devRef .tc y) = f (after ops V (Proc.devRef .tc a)) (after ops V (Proc.devRef .tc b)) := by
  rw [keep ops hW i V h1, keep ops hW i V h2]
  exact (at_op ops hW i V h hr).trans (binary_result a b y f ha hb hy _)

theorem at_ternary {c a b y : Ref sig .tc} {f : c.ty.Contents (Elt Ideal) → a.ty.Contents (Elt Ideal) → b.ty.Contents (Elt Ideal) → y.ty.Contents (Elt Ideal)} {hc ha hb hy}
    (h : ops.drop i = ternary c a b y f hc ha hb hy :: rest) (hr : y ∉ W.drop (i + 1)) (h0 : c ∉ W.drop i) (h1 : a ∉ W.drop i)
    (h2 : b ∉ W.drop i) :
    after ops V (Proc.devRef .tc y) = f (after ops V (Proc.devRef .tc c)) (after ops V (Proc.devRef .tc a)) (after ops V (Proc.devRef .tc b)) := by
  rw [keep ops hW i V h0, keep ops hW i V h1, keep ops hW i V h2]
  exact (at_op ops hW i V h hr).trans (ternary_result c a b y f hc ha hb hy _)

theorem at_reshape {x y : Ref sig .tc} {he : x.ty.elt = y.ty.elt} {hn : x.ty.shape.ShapeCasts y.ty.shape} {hx hy}
    (h : ops.drop i = reshape x y he hn hx hy :: rest) (hr : y ∉ W.drop (i + 1)) (h1 : x ∉ W.drop i) :
    after ops V (Proc.devRef .tc y) = fun j => he ▸ shapeCast y.ty.shape (after ops V (Proc.devRef .tc x)) hn j := by
  rw [keep ops hW i V h1]
  exact (at_op ops hW i V h hr).trans (reshape_result x y he hn hx hy _)
end

/-- The operations before the loop. -/
abbrev L : List (HloOp τ sig (Elt Ideal)) := (preI (F := Ideal)).flatten

/-- The buffers they write, in order. -/
abbrev LW : List (Ref sig .tc) :=
  [main_v3, main_v4, main_v5, main_v6, main_v7, main_v8, main_v9, main_v10, main_v11, main_v12, main_v13, main_v14, main_v15, main_v16, main_call0_cst, main_call0_v0, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_cst, main_call1_v0, main_call1_v1, main_call1_v2, main_v53, main_v54, main_v55, main_v56, main_v57, main_v58, main_v59, main_v60, main_cst_0, main_call2_v0, main_call2_v1, main_call2_v2, main_v61, main_v62, main_v63, main_c, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_cst_1, main_v108, main_c_2, main_v109_0, main_v109_1, main_v109_2, main_v109_3, main_v109_4, main_v109_5, main_v109_6, main_v109_7, main_v109_8]

theorem W_eq : L.map HloOp.writes = LW.map fun r => {Proc.devRef (τ := τ) .tc r} := rfl

/-- The contents at the loop's entry. -/
theorem went_eq (m : (ℓ : Loc nD τ sig) → Buf (Elt Ideal) ℓ) (ρ : Dev nD → PrngReg) (c : Dev nD) :
    Gen.Went m ρ c = after L (W2 m ρ c) := afterL_eq_after_flatten _ _

variable (V : Valuation τ sig (Elt Ideal))

theorem e_v3 : after L V (Proc.devRef .tc main_v3) = shapeCast S3x10x64x18x96 (after L V (Proc.devRef .tc main_v2_0)) shapeCasts_S3x640x18x96_S3x10x64x18x96 :=
  at_reshape L W_eq 0 V rfl (by decide) (by decide)
theorem e_v4 : after L V (Proc.devRef .tc main_v4) = ((transpose S10x3x64x18x96 [1, 0, 2, 3, 4] · transposes_S3x10x64x18x96_S10x3x64x18x96_1_0_2_3_4) : (⟨S3x10x64x18x96, .bf16⟩ : BufTy).Contents (Elt Ideal) → (⟨S10x3x64x18x96, .bf16⟩ : BufTy).Contents (Elt Ideal)) (after L V (Proc.devRef .tc main_v3)) :=
  at_unary L W_eq 1 V rfl (by decide) (by decide)
theorem e_v5 : after L V (Proc.devRef .tc main_v5) = shapeCast S3x10x64x18x96 (after L V (Proc.devRef .tc main_v2_1)) shapeCasts_S3x640x18x96_S3x10x64x18x96 :=
  at_reshape L W_eq 2 V rfl (by decide) (by decide)
theorem e_v6 : after L V (Proc.devRef .tc main_v6) = ((transpose S10x3x64x18x96 [1, 0, 2, 3, 4] · transposes_S3x10x64x18x96_S10x3x64x18x96_1_0_2_3_4) : (⟨S3x10x64x18x96, .bf16⟩ : BufTy).Contents (Elt Ideal) → (⟨S10x3x64x18x96, .bf16⟩ : BufTy).Contents (Elt Ideal)) (after L V (Proc.devRef .tc main_v5)) :=
  at_unary L W_eq 3 V rfl (by decide) (by decide)
theorem e_v7 : after L V (Proc.devRef .tc main_v7) = shapeCast S3x10x64x18 (after L V (Proc.devRef .tc main_arg1)) shapeCasts_S3x640x18_S3x10x64x18 :=
  at_reshape L W_eq 4 V rfl (by decide) (by decide)
theorem e_v8 : after L V (Proc.devRef .tc main_v8) = ((transpose S10x3x64x18 [1, 0, 2, 3] · transposes_S3x10x64x18_S10x3x64x18_1_0_2_3) : (⟨S3x10x64x18, .f32⟩ : BufTy).Contents (Elt Ideal) → (⟨S10x3x64x18, .f32⟩ : BufTy).Contents (Elt Ideal)) (after L V (Proc.devRef .tc main_v7)) :=
  at_unary L W_eq 5 V rfl (by decide) (by decide)
theorem e_v9 : after L V (Proc.devRef .tc main_v9) = shapeCast S3x10x64x18 (after L V (Proc.devRef .tc main_arg3)) shapeCasts_S3x640x18_S3x10x64x18 :=
  at_reshape L W_eq 6 V rfl (by decide) (by decide)
theorem e_v10 : after L V (Proc.devRef .tc main_v10) = ((transpose S10x3x64x18 [1, 0, 2, 3] · transposes_S3x10x64x18_S10x3x64x18_1_0_2_3) : (⟨S3x10x64x18, .f32⟩ : BufTy).Contents (Elt Ideal) → (⟨S10x3x64x18, .f32⟩ : BufTy).Contents (Elt Ideal)) (after L V (Proc.devRef .tc main_v9)) :=
  at_unary L W_eq 7 V rfl (by decide) (by decide)
theorem e_v11 : after L V (Proc.devRef .tc main_v11) = shapeCast S3x10x64x18x128 (after L V (Proc.devRef .tc main_arg4)) shapeCasts_S3x640x18x128_S3x10x64x18x128 :=
  at_reshape L W_eq 8 V rfl (by decide) (by decide)
theorem e_v12 : after L V (Proc.devRef .tc main_v12) = ((transpose S10x3x64x18x128 [1, 0, 2, 3, 4] · transposes_S3x10x64x18x128_S10x3x64x18x128_1_0_2_3_4) : (⟨S3x10x64x18x128, .bf16⟩ : BufTy).Contents (Elt Ideal) → (⟨S10x3x64x18x128, .bf16⟩ : BufTy).Contents (Elt Ideal)) (after L V (Proc.devRef .tc main_v11)) :=
  at_unary L W_eq 9 V rfl (by decide) (by decide)
theorem e_v13 : after L V (Proc.devRef .tc main_v13) = shapeCast S3x10x64x18x96 (after L V (Proc.devRef .tc main_arg5)) shapeCasts_S3x640x18x96_S3x10x64x18x96 :=
  at_reshape L W_eq 10 V rfl (by decide) (by decide)
theorem e_v14 : after L V (Proc.devRef .tc main_v14) = ((transpose S10x3x64x18x96 [1, 0, 2, 3, 4] · transposes_S3x10x64x18x96_S10x3x64x18x96_1_0_2_3_4) : (⟨S3x10x64x18x96, .f32⟩ : BufTy).Contents (Elt Ideal) → (⟨S10x3x64x18x96, .f32⟩ : BufTy).Contents (Elt Ideal)) (after L V (Proc.devRef .tc main_v13)) :=
  at_unary L W_eq 11 V rfl (by decide) (by decide)
theorem e_v15 : after L V (Proc.devRef .tc main_v15) = shapeCast S3x10x64x18 (after L V (Proc.devRef .tc main_arg6)) shapeCasts_S3x640x18_S3x10x64x18 :=
  at_reshape L W_eq 12 V rfl (by decide) (by decide)
theorem e_v16 : after L V (Proc.devRef .tc main_v16) = ((transpose S10x3x64x18 [1, 0, 2, 3] · transposes_S3x10x64x18_S10x3x64x18_1_0_2_3) : (⟨S3x10x64x18, .f32⟩ : BufTy).Contents (Elt Ideal) → (⟨S10x3x64x18, .f32⟩ : BufTy).Contents (Elt Ideal)) (after L V (Proc.devRef .tc main_v15)) :=
  at_unary L W_eq 13 V rfl (by decide) (by decide)
theorem e_call0_cst : after L V (Proc.devRef .tc main_call0_cst) = (constant (F := Ideal) S_ .f32 0x00000000#32) :=
  at_nullary L W_eq 14 V rfl (by decide)
theorem e_call0_v0 : after L V (Proc.devRef .tc main_call0_v0) = (broadcastInDim S_ ![] bcast_S_S_) (after L V (Proc.devRef .tc main_call0_cst)) :=
  at_unary L W_eq 15 V rfl (by decide) (by decide)
theorem e_v17 : after L V (Proc.devRef .tc main_v17) = (fun x v => Host.reduceWindowAdd (F := Ideal) (φ := .f32) ![1, 1, 64, 1, 1] ![1, 1, 1, 1, 1] ![0, 0, 63, 0, 0] ![0, 0, 0, 0, 0] x v reduceWindows_S10x3x64x18x96_S10x3x64x18x96_w1s1p0_0_w1s1p0_0_w64s1p63_0_w1s1p0_0_w1s1p0_0 h_S_) (after L V (Proc.devRef .tc main_v14)) (after L V (Proc.devRef .tc main_call0_v0)) :=
  at_binary L W_eq 16 V rfl (by decide) (by decide) (by decide)
theorem e_v18 : after L V (Proc.devRef .tc main_v18) = ((extractStridedSlice S10x3x1x18x96 ![0, 0, 63, 0, 0] · slices_S10x3x64x18x96_S10x3x1x18x96_0_0_63_0_0) : (⟨S10x3x64x18x96, .f32⟩ : BufTy).Contents (Elt Ideal) → (⟨S10x3x1x18x96, .f32⟩ : BufTy).Contents (Elt Ideal)) (after L V (Proc.devRef .tc main_v17)) :=
  at_unary L W_eq 17 V rfl (by decide) (by decide)
theorem e_v19 : after L V (Proc.devRef .tc main_v19) = (Host.exp (F := Ideal) (φ := .f32) : (⟨S10x3x64x18x96, .f32⟩ : BufTy).Contents (Elt Ideal) → (⟨S10x3x64x18x96, .f32⟩ : BufTy).Contents (Elt Ideal)) (after L V (Proc.devRef .tc main_v17)) :=
  at_unary L W_eq 18 V rfl (by decide) (by decide)
theorem e_v20 : after L V (Proc.devRef .tc main_v20) = ((truncf (F := Ideal) (φ := .f32) .bf16 · bitsLt_bf16_f32) : (⟨S10x3x64x18x96, .f32⟩ : BufTy).Contents (Elt Ideal) → (⟨S10x3x64x18x96, .bf16⟩ : BufTy).Contents (Elt Ideal)) (after L V (Proc.devRef .tc main_v19)) :=
  at_unary L W_eq 19 V rfl (by decide) (by decide)
theorem e_v21 : after L V (Proc.devRef .tc main_v21) = (mulf (F := Ideal) (φ := .bf16) : (⟨S10x3x64x18x96, .bf16⟩ : BufTy).Contents (Elt Ideal) → (⟨S10x3x64x18x96, .bf16⟩ : BufTy).Contents (Elt Ideal) → (⟨S10x3x64x18x96, .bf16⟩ : BufTy).Contents (Elt Ideal)) (after L V (Proc.devRef .tc main_v4)) (after L V (Proc.devRef .tc main_v20)) :=
  at_binary L W_eq 20 V rfl (by decide) (by decide) (by decide)
theorem e_v22 : after L V (Proc.devRef .tc main_v22) = (mulf (F := Ideal) (φ := .bf16) : (⟨S10x3x64x18x96, .bf16⟩ : BufTy).Contents (Elt Ideal) → (⟨S10x3x64x18x96, .bf16⟩ : BufTy).Contents (Elt Ideal) → (⟨S10x3x64x18x96, .bf16⟩ : BufTy).Contents (Elt Ideal)) (after L V (Proc.devRef .tc main_v6)) (after L V (Proc.devRef .tc main_v20)) :=
  at_binary L W_eq 21 V rfl (by decide) (by decide) (by decide)
theorem e_v23 : after L V (Proc.devRef .tc main_v23) = (Host.negf (F := Ideal) (φ := .f32) : (⟨S10x3x64x18x96, .f32⟩ : BufTy).Contents (Elt Ideal) → (⟨S10x3x64x18x96, .f32⟩ : BufTy).Contents (Elt Ideal)) (after L V (Proc.devRef .tc main_v17)) :=
  at_unary L W_eq 22 V rfl (by decide) (by decide)
theorem e_v24 : after L V (Proc.devRef .tc main_v24) = (Host.exp (F := Ideal) (φ := .f32) : (⟨S10x3x64x18x96, .f32⟩ : BufTy).Contents (Elt Ideal) → (⟨S10x3x64x18x96, .f32⟩ : BufTy).Contents (Elt Ideal)) (after L V (Proc.devRef .tc main_v23)) :=
  at_unary L W_eq 23 V rfl (by decide) (by decide)
theorem e_v25 : after L V (Proc.devRef .tc main_v25) = ((truncf (F := Ideal) (φ := .f32) .bf16 · bitsLt_bf16_f32) : (⟨S10x3x64x18x96, .f32⟩ : BufTy).Contents (Elt Ideal) → (⟨S10x3x64x18x96, .bf16⟩ : BufTy).Contents (Elt Ideal)) (after L V (Proc.devRef .tc main_v24)) :=
  at_unary L W_eq 24 V rfl (by decide) (by decide)
theorem e_v26 : after L V (Proc.devRef .tc main_v26) = (mulf (F := Ideal) (φ := .bf16) : (⟨S10x3x64x18x96, .bf16⟩ : BufTy).Contents (Elt Ideal) → (⟨S10x3x64x18x96, .bf16⟩ : BufTy).Contents (Elt Ideal) → (⟨S10x3x64x18x96, .bf16⟩ : BufTy).Contents (Elt Ideal)) (after L V (Proc.devRef .tc main_v6)) (after L V (Proc.devRef .tc main_v25)) :=
  at_binary L W_eq 25 V rfl (by decide) (by decide) (by decide)
theorem e_v27 : after L V (Proc.devRef .tc main_v27) = (broadcastInDim S10x3x64x18x96 ![0, 1, 2, 3, 4] bcast_S10x3x1x18x96_S10x3x64x18x96_0_1_2_3_4 : (⟨S10x3x1x18x96, .f32⟩ : BufTy).Contents (Elt Ideal) → (⟨S10x3x64x18x96, .f32⟩ : BufTy).Contents (Elt Ideal)) (after L V (Proc.devRef .tc main_v18)) :=
  at_unary L W_eq 26 V rfl (by decide) (by decide)
theorem e_v28 : after L V (Proc.devRef .tc main_v28) = (subf (F := Ideal) (φ := .f32) : (⟨S10x3x64x18x96, .f32⟩ : BufTy).Contents (Elt Ideal) → (⟨S10x3x64x18x96, .f32⟩ : BufTy).Contents (Elt Ideal) → (⟨S10x3x64x18x96, .f32⟩ : BufTy).Contents (Elt Ideal)) (after L V (Proc.devRef .tc main_v27)) (after L V (Proc.devRef .tc main_v17)) :=
  at_binary L W_eq 27 V rfl (by decide) (by decide) (by decide)
theorem e_v29 : after L V (Proc.devRef .tc main_v29) = (Host.exp (F := Ideal) (φ := .f32) : (⟨S10x3x64x18x96, .f32⟩ : BufTy).Contents (Elt Ideal) → (⟨S10x3x64x18x96, .f32⟩ : BufTy).Contents (Elt Ideal)) (after L V (Proc.devRef .tc main_v28)) :=
  at_unary L W_eq 28 V rfl (by decide) (by decide)
theorem e_v30 : after L V (Proc.devRef .tc main_v30) = ((truncf (F := Ideal) (φ := .f32) .bf16 · bitsLt_bf16_f32) : (⟨S10x3x64x18x96, .f32⟩ : BufTy).Contents (Elt Ideal) → (⟨S10x3x64x18x96, .bf16⟩ : BufTy).Contents (Elt Ideal)) (after L V (Proc.devRef .tc main_v29)) :=
  at_unary L W_eq 29 V rfl (by decide) (by decide)
theorem e_v31 : after L V (Proc.devRef .tc main_v31) = (mulf (F := Ideal) (φ := .bf16) : (⟨S10x3x64x18x96, .bf16⟩ : BufTy).Contents (Elt Ideal) → (⟨S10x3x64x18x96, .bf16⟩ : BufTy).Contents (Elt Ideal) → (⟨S10x3x64x18x96, .bf16⟩ : BufTy).Contents (Elt Ideal)) (after L V (Proc.devRef .tc main_v6)) (after L V (Proc.devRef .tc main_v30)) :=
  at_binary L W_eq 30 V rfl (by decide) (by decide) (by decide)
theorem e_v32 : after L V (Proc.devRef .tc main_v32) = (iotaInDim S64 32 0) :=
  at_nullary L W_eq 31 V rfl (by decide)
theorem e_v33 : after L V (Proc.devRef .tc main_v33) = (broadcastInDim S64x1 ![0] bcast_S64_S64x1_0 : (⟨S64, .i32⟩ : BufTy).Contents (Elt Ideal) → (⟨S64x1, .i32⟩ : BufTy).Contents (Elt Ideal)) (after L V (Proc.devRef .tc main_v32)) :=
  at_unary L W_eq 32 V rfl (by decide) (by decide)
theorem e_v34 : after L V (Proc.devRef .tc main_v34) = (iotaInDim S64 32 0) :=
  at_nullary L W_eq 33 V rfl (by decide)
theorem e_v35 : after L V (Proc.devRef .tc main_v35) = (broadcastInDim S1x64 ![1] bcast_S64_S1x64_1 : (⟨S64, .i32⟩ : BufTy).Contents (Elt Ideal) → (⟨S1x64, .i32⟩ : BufTy).Contents (Elt Ideal)) (after L V (Proc.devRef .tc main_v34)) :=
  at_unary L W_eq 34 V rfl (by decide) (by decide)
theorem e_v36 : after L V (Proc.devRef .tc main_v36) = (broadcastInDim S64x64 ![0, 1] bcast_S1x64_S64x64_0_1 : (⟨S1x64, .i32⟩ : BufTy).Contents (Elt Ideal) → (⟨S64x64, .i32⟩ : BufTy).Contents (Elt Ideal)) (after L V (Proc.devRef .tc main_v35)) :=
  at_unary L W_eq 35 V rfl (by decide) (by decide)
theorem e_v37 : after L V (Proc.devRef .tc main_v37) = (broadcastInDim S64x64 ![0, 1] bcast_S64x1_S64x64_0_1 : (⟨S64x1, .i32⟩ : BufTy).Contents (Elt Ideal) → (⟨S64x64, .i32⟩ : BufTy).Contents (Elt Ideal)) (after L V (Proc.devRef .tc main_v33)) :=
  at_unary L W_eq 36 V rfl (by decide) (by decide)
theorem e_v38 : after L V (Proc.devRef .tc main_v38) = (cmpi .slt : (⟨S64x64, .i32⟩ : BufTy).Contents (Elt Ideal) → (⟨S64x64, .i32⟩ : BufTy).Contents (Elt Ideal) → (⟨S64x64, .i1⟩ : BufTy).Contents (Elt Ideal)) (after L V (Proc.devRef .tc main_v36)) (after L V (Proc.devRef .tc main_v37)) :=
  at_binary L W_eq 37 V rfl (by decide) (by decide) (by decide)
theorem e_v39 : after L V (Proc.devRef .tc main_v39) = (broadcastInDim S64x64 ![0, 1] bcast_S1x64_S64x64_0_1 : (⟨S1x64, .i32⟩ : BufTy).Contents (Elt Ideal) → (⟨S64x64, .i32⟩ : BufTy).Contents (Elt Ideal)) (after L V (Proc.devRef .tc main_v35)) :=
  at_unary L W_eq 38 V rfl (by decide) (by decide)
theorem e_v40 : after L V (Proc.devRef .tc main_v40) = (broadcastInDim S64x64 ![0, 1] bcast_S64x1_S64x64_0_1 : (⟨S64x1, .i32⟩ : BufTy).Contents (Elt Ideal) → (⟨S64x64, .i32⟩ : BufTy).Contents (Elt Ideal)) (after L V (Proc.devRef .tc main_v33)) :=
  at_unary L W_eq 39 V rfl (by decide) (by decide)
theorem e_v41 : after L V (Proc.devRef .tc main_v41) = (cmpi .sle : (⟨S64x64, .i32⟩ : BufTy).Contents (Elt Ideal) → (⟨S64x64, .i32⟩ : BufTy).Contents (Elt Ideal) → (⟨S64x64, .i1⟩ : BufTy).Contents (Elt Ideal)) (after L V (Proc.devRef .tc main_v39)) (after L V (Proc.devRef .tc main_v40)) :=
  at_binary L W_eq 40 V rfl (by decide) (by decide) (by decide)
theorem e_v42 : after L V (Proc.devRef .tc main_v42) = (mulf (F := Ideal) (φ := .f32) : (⟨S10x3x64x18, .f32⟩ : BufTy).Contents (Elt Ideal) → (⟨S10x3x64x18, .f32⟩ : BufTy).Contents (Elt Ideal) → (⟨S10x3x64x18, .f32⟩ : BufTy).Contents (Elt Ideal)) (after L V (Proc.devRef .tc main_v16)) (after L V (Proc.devRef .tc main_v10)) :=
  at_binary L W_eq 41 V rfl (by decide) (by decide) (by decide)
theorem e_v43 : after L V (Proc.devRef .tc main_v43) = ((transpose S10x3x18x64 [0, 1, 3, 2] · transposes_S10x3x64x18_S10x3x18x64_0_1_3_2) : (⟨S10x3x64x18, .f32⟩ : BufTy).Contents (Elt Ideal) → (⟨S10x3x18x64, .f32⟩ : BufTy).Contents (Elt Ideal)) (after L V (Proc.devRef .tc main_v10)) :=
  at_unary L W_eq 42 V rfl (by decide) (by decide)
theorem e_v44 : after L V (Proc.devRef .tc main_v44) = ((transpose S10x3x18x64 [0, 1, 3, 2] · transposes_S10x3x64x18_S10x3x18x64_0_1_3_2) : (⟨S10x3x64x18, .f32⟩ : BufTy).Contents (Elt Ideal) → (⟨S10x3x18x64, .f32⟩ : BufTy).Contents (Elt Ideal)) (after L V (Proc.devRef .tc main_v42)) :=
  at_unary L W_eq 43 V rfl (by decide) (by decide)
theorem e_v45 : after L V (Proc.devRef .tc main_v45) = ((transpose S10x3x18x64 [0, 1, 3, 2] · transposes_S10x3x64x18_S10x3x18x64_0_1_3_2) : (⟨S10x3x64x18, .f32⟩ : BufTy).Contents (Elt Ideal) → (⟨S10x3x18x64, .f32⟩ : BufTy).Contents (Elt Ideal)) (after L V (Proc.devRef .tc main_v8)) :=
  at_unary L W_eq 44 V rfl (by decide) (by decide)
theorem e_v46 : after L V (Proc.devRef .tc main_v46) = ((fun l r => Host.dotGeneral (F := Ideal) (φ₁ := .bf16) (φ₂ := .bf16) dot_S10x3x64x18x96_S10x3x64x18x96_S10x3x18x64x64_4_4_2_2_013_013 none l r) : (⟨S10x3x64x18x96, .bf16⟩ : BufTy).Contents (Elt Ideal) → (⟨S10x3x64x18x96, .bf16⟩ : BufTy).Contents (Elt Ideal) → (⟨S10x3x18x64x64, .f32⟩ : BufTy).Contents (Elt Ideal)) (after L V (Proc.devRef .tc main_v22)) (after L V (Proc.devRef .tc main_v26)) :=
  at_binary L W_eq 45 V rfl (by decide) (by decide) (by decide)
theorem e_v47 : after L V (Proc.devRef .tc main_v47) = (broadcastInDim S10x3x18x64x1 ![0, 1, 2, 3] bcast_S10x3x18x64_S10x3x18x64x1_0_1_2_3 : (⟨S10x3x18x64, .f32⟩ : BufTy).Contents (Elt Ideal) → (⟨S10x3x18x64x1, .f32⟩ : BufTy).Contents (Elt Ideal)) (after L V (Proc.devRef .tc main_v44)) :=
  at_unary L W_eq 46 V rfl (by decide) (by decide)
theorem e_v48 : after L V (Proc.devRef .tc main_v48) = (broadcastInDim S10x3x18x1x64 ![0, 1, 2, 4] bcast_S10x3x18x64_S10x3x18x1x64_0_1_2_4 : (⟨S10x3x18x64, .f32⟩ : BufTy).Contents (Elt Ideal) → (⟨S10x3x18x1x64, .f32⟩ : BufTy).Contents (Elt Ideal)) (after L V (Proc.devRef .tc main_v43)) :=
  at_unary L W_eq 47 V rfl (by decide) (by decide)
theorem e_v49 : after L V (Proc.devRef .tc main_v49) = (broadcastInDim S10x3x18x64x64 ![0, 1, 2, 3, 4] bcast_S10x3x18x64x1_S10x3x18x64x64_0_1_2_3_4 : (⟨S10x3x18x64x1, .f32⟩ : BufTy).Contents (Elt Ideal) → (⟨S10x3x18x64x64, .f32⟩ : BufTy).Contents (Elt Ideal)) (after L V (Proc.devRef .tc main_v47)) :=
  at_unary L W_eq 48 V rfl (by decide) (by decide)
theorem e_v50 : after L V (Proc.devRef .tc main_v50) = (broadcastInDim S10x3x18x64x64 ![0, 1, 2, 3, 4] bcast_S10x3x18x1x64_S10x3x18x64x64_0_1_2_3_4 : (⟨S10x3x18x1x64, .f32⟩ : BufTy).Contents (Elt Ideal) → (⟨S10x3x18x64x64, .f32⟩ : BufTy).Contents (Elt Ideal)) (after L V (Proc.devRef .tc main_v48)) :=
  at_unary L W_eq 49 V rfl (by decide) (by decide)
theorem e_v51 : after L V (Proc.devRef .tc main_v51) = (mulf (F := Ideal) (φ := .f32) : (⟨S10x3x18x64x64, .f32⟩ : BufTy).Contents (Elt Ideal) → (⟨S10x3x18x64x64, .f32⟩ : BufTy).Contents (Elt Ideal) → (⟨S10x3x18x64x64, .f32⟩ : BufTy).Contents (Elt Ideal)) (after L V (Proc.devRef .tc main_v49)) (after L V (Proc.devRef .tc main_v50)) :=
  at_binary L W_eq 50 V rfl (by decide) (by decide) (by decide)
theorem e_v52 : after L V (Proc.devRef .tc main_v52) = (mulf (F := Ideal) (φ := .f32) : (⟨S10x3x18x64x64, .f32⟩ : BufTy).Contents (Elt Ideal) → (⟨S10x3x18x64x64, .f32⟩ : BufTy).Contents (Elt Ideal) → (⟨S10x3x18x64x64, .f32⟩ : BufTy).Contents (Elt Ideal)) (after L V (Proc.devRef .tc main_v51)) (after L V (Proc.devRef .tc main_v46)) :=
  at_binary L W_eq 51 V rfl (by decide) (by decide) (by decide)
theorem e_cst : after L V (Proc.devRef .tc main_cst) = (constant (F := Ideal) S_ .f32 0x00000000#32) :=
  at_nullary L W_eq 52 V rfl (by decide)
theorem e_call1_v0 : after L V (Proc.devRef .tc main_call1_v0) = id (after L V (Proc.devRef .tc main_cst)) :=
  at_unary L W_eq 53 V rfl (by decide) (by decide)
theorem e_call1_v1 : after L V (Proc.devRef .tc main_call1_v1) = (broadcastInDim S10x3x18x64x64 ![3, 4] bcast_S64x64_S10x3x18x64x64_3_4) (after L V (Proc.devRef .tc main_v38)) :=
  at_unary L W_eq 54 V rfl (by decide) (by decide)
theorem e_call1_v2 : after L V (Proc.devRef .tc main_call1_v2) = (broadcastInDim S10x3x18x64x64 ![] bcast_S_S10x3x18x64x64) (after L V (Proc.devRef .tc main_call1_v0)) :=
  at_unary L W_eq 55 V rfl (by decide) (by decide)
theorem e_v53 : after L V (Proc.devRef .tc main_v53) = select (after L V (Proc.devRef .tc main_call1_v1)) (after L V (Proc.devRef .tc main_v52)) (after L V (Proc.devRef .tc main_call1_v2)) :=
  at_ternary L W_eq 56 V rfl (by decide) (by decide) (by decide) (by decide)
theorem e_v54 : after L V (Proc.devRef .tc main_v54) = ((fun l r => Host.dotGeneral (F := Ideal) (φ₁ := .bf16) (φ₂ := .bf16) dot_S10x3x64x18x96_S10x3x64x18x96_S10x3x18x64x64_4_4_2_2_013_013 none l r) : (⟨S10x3x64x18x96, .bf16⟩ : BufTy).Contents (Elt Ideal) → (⟨S10x3x64x18x96, .bf16⟩ : BufTy).Contents (Elt Ideal) → (⟨S10x3x18x64x64, .f32⟩ : BufTy).Contents (Elt Ideal)) (after L V (Proc.devRef .tc main_v21)) (after L V (Proc.devRef .tc main_v26)) :=
  at_binary L W_eq 57 V rfl (by decide) (by decide) (by decide)
theorem e_v55 : after L V (Proc.devRef .tc main_v55) = (broadcastInDim S10x3x18x64x1 ![0, 1, 2, 3] bcast_S10x3x18x64_S10x3x18x64x1_0_1_2_3 : (⟨S10x3x18x64, .f32⟩ : BufTy).Contents (Elt Ideal) → (⟨S10x3x18x64x1, .f32⟩ : BufTy).Contents (Elt Ideal)) (after L V (Proc.devRef .tc main_v45)) :=
  at_unary L W_eq 58 V rfl (by decide) (by decide)
theorem e_v56 : after L V (Proc.devRef .tc main_v56) = (broadcastInDim S10x3x18x1x64 ![0, 1, 2, 4] bcast_S10x3x18x64_S10x3x18x1x64_0_1_2_4 : (⟨S10x3x18x64, .f32⟩ : BufTy).Contents (Elt Ideal) → (⟨S10x3x18x1x64, .f32⟩ : BufTy).Contents (Elt Ideal)) (after L V (Proc.devRef .tc main_v43)) :=
  at_unary L W_eq 59 V rfl (by decide) (by decide)
theorem e_v57 : after L V (Proc.devRef .tc main_v57) = (broadcastInDim S10x3x18x64x64 ![0, 1, 2, 3, 4] bcast_S10x3x18x64x1_S10x3x18x64x64_0_1_2_3_4 : (⟨S10x3x18x64x1, .f32⟩ : BufTy).Contents (Elt Ideal) → (⟨S10x3x18x64x64, .f32⟩ : BufTy).Contents (Elt Ideal)) (after L V (Proc.devRef .tc main_v55)) :=
  at_unary L W_eq 60 V rfl (by decide) (by decide)
theorem e_v58 : after L V (Proc.devRef .tc main_v58) = (broadcastInDim S10x3x18x64x64 ![0, 1, 2, 3, 4] bcast_S10x3x18x1x64_S10x3x18x64x64_0_1_2_3_4 : (⟨S10x3x18x1x64, .f32⟩ : BufTy).Contents (Elt Ideal) → (⟨S10x3x18x64x64, .f32⟩ : BufTy).Contents (Elt Ideal)) (after L V (Proc.devRef .tc main_v56)) :=
  at_unary L W_eq 61 V rfl (by decide) (by decide)
theorem e_v59 : after L V (Proc.devRef .tc main_v59) = (mulf (F := Ideal) (φ := .f32) : (⟨S10x3x18x64x64, .f32⟩ : BufTy).Contents (Elt Ideal) → (⟨S10x3x18x64x64, .f32⟩ : BufTy).Contents (Elt Ideal) → (⟨S10x3x18x64x64, .f32⟩ : BufTy).Contents (Elt Ideal)) (after L V (Proc.devRef .tc main_v57)) (after L V (Proc.devRef .tc main_v58)) :=
  at_binary L W_eq 62 V rfl (by decide) (by decide) (by decide)
theorem e_v60 : after L V (Proc.devRef .tc main_v60) = (mulf (F := Ideal) (φ := .f32) : (⟨S10x3x18x64x64, .f32⟩ : BufTy).Contents (Elt Ideal) → (⟨S10x3x18x64x64, .f32⟩ : BufTy).Contents (Elt Ideal) → (⟨S10x3x18x64x64, .f32⟩ : BufTy).Contents (Elt Ideal)) (after L V (Proc.devRef .tc main_v59)) (after L V (Proc.devRef .tc main_v54)) :=
  at_binary L W_eq 63 V rfl (by decide) (by decide) (by decide)
theorem e_cst_0 : after L V (Proc.devRef .tc main_cst_0) = (constant (F := Ideal) S_ .f32 0x00000000#32) :=
  at_nullary L W_eq 64 V rfl (by decide)
theorem e_call2_v0 : after L V (Proc.devRef .tc main_call2_v0) = id (after L V (Proc.devRef .tc main_cst_0)) :=
  at_unary L W_eq 65 V rfl (by decide) (by decide)
theorem e_call2_v1 : after L V (Proc.devRef .tc main_call2_v1) = (broadcastInDim S10x3x18x64x64 ![3, 4] bcast_S64x64_S10x3x18x64x64_3_4) (after L V (Proc.devRef .tc main_v41)) :=
  at_unary L W_eq 66 V rfl (by decide) (by decide)
theorem e_call2_v2 : after L V (Proc.devRef .tc main_call2_v2) = (broadcastInDim S10x3x18x64x64 ![] bcast_S_S10x3x18x64x64) (after L V (Proc.devRef .tc main_call2_v0)) :=
  at_unary L W_eq 67 V rfl (by decide) (by decide)
theorem e_v61 : after L V (Proc.devRef .tc main_v61) = select (after L V (Proc.devRef .tc main_call2_v1)) (after L V (Proc.devRef .tc main_v60)) (after L V (Proc.devRef .tc main_call2_v2)) :=
  at_ternary L W_eq 68 V rfl (by decide) (by decide) (by decide) (by decide)
theorem e_v62 : after L V (Proc.devRef .tc main_v62) = (iotaInDim S64x64 32 0) :=
  at_nullary L W_eq 69 V rfl (by decide)
theorem e_v63 : after L V (Proc.devRef .tc main_v63) = (iotaInDim S64x64 32 1) :=
  at_nullary L W_eq 70 V rfl (by decide)
theorem e_c : after L V (Proc.devRef .tc main_c) = (constantI S_ 32 0#32) :=
  at_nullary L W_eq 71 V rfl (by decide)
theorem e_v64 : after L V (Proc.devRef .tc main_v64) = (broadcastInDim S64x64 ![] bcast_S_S64x64 : (⟨S_, .i32⟩ : BufTy).Contents (Elt Ideal) → (⟨S64x64, .i32⟩ : BufTy).Contents (Elt Ideal)) (after L V (Proc.devRef .tc main_c)) :=
  at_unary L W_eq 72 V rfl (by decide) (by decide)
theorem e_v65 : after L V (Proc.devRef .tc main_v65) = (addi : (⟨S64x64, .i32⟩ : BufTy).Contents (Elt Ideal) → (⟨S64x64, .i32⟩ : BufTy).Contents (Elt Ideal) → (⟨S64x64, .i32⟩ : BufTy).Contents (Elt Ideal)) (after L V (Proc.devRef .tc main_v62)) (after L V (Proc.devRef .tc main_v64)) :=
  at_binary L W_eq 73 V rfl (by decide) (by decide) (by decide)
theorem e_v66 : after L V (Proc.devRef .tc main_v66) = (cmpi .eq : (⟨S64x64, .i32⟩ : BufTy).Contents (Elt Ideal) → (⟨S64x64, .i32⟩ : BufTy).Contents (Elt Ideal) → (⟨S64x64, .i1⟩ : BufTy).Contents (Elt Ideal)) (after L V (Proc.devRef .tc main_v65)) (after L V (Proc.devRef .tc main_v63)) :=
  at_binary L W_eq 74 V rfl (by decide) (by decide) (by decide)
theorem e_v67 : after L V (Proc.devRef .tc main_v67) = (uitofp (F := Ideal) .f32 : (⟨S64x64, .i1⟩ : BufTy).Contents (Elt Ideal) → (⟨S64x64, .f32⟩ : BufTy).Contents (Elt Ideal)) (after L V (Proc.devRef .tc main_v66)) :=
  at_unary L W_eq 75 V rfl (by decide) (by decide)
theorem e_v68 : after L V (Proc.devRef .tc main_v68) = (broadcastInDim S1x1x1x64x64 ![3, 4] bcast_S64x64_S1x1x1x64x64_3_4 : (⟨S64x64, .f32⟩ : BufTy).Contents (Elt Ideal) → (⟨S1x1x1x64x64, .f32⟩ : BufTy).Contents (Elt Ideal)) (after L V (Proc.devRef .tc main_v67)) :=
  at_unary L W_eq 76 V rfl (by decide) (by decide)
theorem e_v69 : after L V (Proc.devRef .tc main_v69) = (broadcastInDim S10x3x18x64x64 ![0, 1, 2, 3, 4] bcast_S1x1x1x64x64_S10x3x18x64x64_0_1_2_3_4 : (⟨S1x1x1x64x64, .f32⟩ : BufTy).Contents (Elt Ideal) → (⟨S10x3x18x64x64, .f32⟩ : BufTy).Contents (Elt Ideal)) (after L V (Proc.devRef .tc main_v68)) :=
  at_unary L W_eq 77 V rfl (by decide) (by decide)
theorem e_v70 : after L V (Proc.devRef .tc main_v70) = (subf (F := Ideal) (φ := .f32) : (⟨S10x3x18x64x64, .f32⟩ : BufTy).Contents (Elt Ideal) → (⟨S10x3x18x64x64, .f32⟩ : BufTy).Contents (Elt Ideal) → (⟨S10x3x18x64x64, .f32⟩ : BufTy).Contents (Elt Ideal)) (after L V (Proc.devRef .tc main_v69)) (after L V (Proc.devRef .tc main_v53)) :=
  at_binary L W_eq 78 V rfl (by decide) (by decide) (by decide)
theorem e_v71 : after L V (Proc.devRef .tc main_v71) = ((fun l r => Host.dotGeneral (F := Ideal) (φ₁ := .f32) (φ₂ := .f32) dot_S10x3x18x64x64_S10x3x18x64x64_S10x3x18x64x64_4_3_3_4_012_012 (some .fp32) l r) : (⟨S10x3x18x64x64, .f32⟩ : BufTy).Contents (Elt Ideal) → (⟨S10x3x18x64x64, .f32⟩ : BufTy).Contents (Elt Ideal) → (⟨S10x3x18x64x64, .f32⟩ : BufTy).Contents (Elt Ideal)) (after L V (Proc.devRef .tc main_v53)) (after L V (Proc.devRef .tc main_v53)) :=
  at_binary L W_eq 79 V rfl (by decide) (by decide) (by decide)
theorem e_v72 : after L V (Proc.devRef .tc main_v72) = ((fun l r => Host.dotGeneral (F := Ideal) (φ₁ := .f32) (φ₂ := .f32) dot_S10x3x18x64x64_S10x3x18x64x64_S10x3x18x64x64_4_3_3_4_012_012 (some .fp32) l r) : (⟨S10x3x18x64x64, .f32⟩ : BufTy).Contents (Elt Ideal) → (⟨S10x3x18x64x64, .f32⟩ : BufTy).Contents (Elt Ideal) → (⟨S10x3x18x64x64, .f32⟩ : BufTy).Contents (Elt Ideal)) (after L V (Proc.devRef .tc main_v71)) (after L V (Proc.devRef .tc main_v70)) :=
  at_binary L W_eq 80 V rfl (by decide) (by decide) (by decide)
theorem e_v73 : after L V (Proc.devRef .tc main_v73) = (addf (F := Ideal) (φ := .f32) : (⟨S10x3x18x64x64, .f32⟩ : BufTy).Contents (Elt Ideal) → (⟨S10x3x18x64x64, .f32⟩ : BufTy).Contents (Elt Ideal) → (⟨S10x3x18x64x64, .f32⟩ : BufTy).Contents (Elt Ideal)) (after L V (Proc.devRef .tc main_v70)) (after L V (Proc.devRef .tc main_v72)) :=
  at_binary L W_eq 81 V rfl (by decide) (by decide) (by decide)
theorem e_v74 : after L V (Proc.devRef .tc main_v74) = ((fun l r => Host.dotGeneral (F := Ideal) (φ₁ := .f32) (φ₂ := .f32) dot_S10x3x18x64x64_S10x3x18x64x64_S10x3x18x64x64_4_3_3_4_012_012 (some .fp32) l r) : (⟨S10x3x18x64x64, .f32⟩ : BufTy).Contents (Elt Ideal) → (⟨S10x3x18x64x64, .f32⟩ : BufTy).Contents (Elt Ideal) → (⟨S10x3x18x64x64, .f32⟩ : BufTy).Contents (Elt Ideal)) (after L V (Proc.devRef .tc main_v71)) (after L V (Proc.devRef .tc main_v71)) :=
  at_binary L W_eq 82 V rfl (by decide) (by decide) (by decide)
theorem e_v75 : after L V (Proc.devRef .tc main_v75) = ((fun l r => Host.dotGeneral (F := Ideal) (φ₁ := .f32) (φ₂ := .f32) dot_S10x3x18x64x64_S10x3x18x64x64_S10x3x18x64x64_4_3_3_4_012_012 (some .fp32) l r) : (⟨S10x3x18x64x64, .f32⟩ : BufTy).Contents (Elt Ideal) → (⟨S10x3x18x64x64, .f32⟩ : BufTy).Contents (Elt Ideal) → (⟨S10x3x18x64x64, .f32⟩ : BufTy).Contents (Elt Ideal)) (after L V (Proc.devRef .tc main_v74)) (after L V (Proc.devRef .tc main_v73)) :=
  at_binary L W_eq 83 V rfl (by decide) (by decide) (by decide)
theorem e_v76 : after L V (Proc.devRef .tc main_v76) = (addf (F := Ideal) (φ := .f32) : (⟨S10x3x18x64x64, .f32⟩ : BufTy).Contents (Elt Ideal) → (⟨S10x3x18x64x64, .f32⟩ : BufTy).Contents (Elt Ideal) → (⟨S10x3x18x64x64, .f32⟩ : BufTy).Contents (Elt Ideal)) (after L V (Proc.devRef .tc main_v73)) (after L V (Proc.devRef .tc main_v75)) :=
  at_binary L W_eq 84 V rfl (by decide) (by decide) (by decide)
theorem e_v77 : after L V (Proc.devRef .tc main_v77) = ((fun l r => Host.dotGeneral (F := Ideal) (φ₁ := .f32) (φ₂ := .f32) dot_S10x3x18x64x64_S10x3x18x64x64_S10x3x18x64x64_4_3_3_4_012_012 (some .fp32) l r) : (⟨S10x3x18x64x64, .f32⟩ : BufTy).Contents (Elt Ideal) → (⟨S10x3x18x64x64, .f32⟩ : BufTy).Contents (Elt Ideal) → (⟨S10x3x18x64x64, .f32⟩ : BufTy).Contents (Elt Ideal)) (after L V (Proc.devRef .tc main_v74)) (after L V (Proc.devRef .tc main_v74)) :=
  at_binary L W_eq 85 V rfl (by decide) (by decide) (by decide)
theorem e_v78 : after L V (Proc.devRef .tc main_v78) = ((fun l r => Host.dotGeneral (F := Ideal) (φ₁ := .f32) (φ₂ := .f32) dot_S10x3x18x64x64_S10x3x18x64x64_S10x3x18x64x64_4_3_3_4_012_012 (some .fp32) l r) : (⟨S10x3x18x64x64, .f32⟩ : BufTy).Contents (Elt Ideal) → (⟨S10x3x18x64x64, .f32⟩ : BufTy).Contents (Elt Ideal) → (⟨S10x3x18x64x64, .f32⟩ : BufTy).Contents (Elt Ideal)) (after L V (Proc.devRef .tc main_v77)) (after L V (Proc.devRef .tc main_v76)) :=
  at_binary L W_eq 86 V rfl (by decide) (by decide) (by decide)
theorem e_v79 : after L V (Proc.devRef .tc main_v79) = (addf (F := Ideal) (φ := .f32) : (⟨S10x3x18x64x64, .f32⟩ : BufTy).Contents (Elt Ideal) → (⟨S10x3x18x64x64, .f32⟩ : BufTy).Contents (Elt Ideal) → (⟨S10x3x18x64x64, .f32⟩ : BufTy).Contents (Elt Ideal)) (after L V (Proc.devRef .tc main_v76)) (after L V (Proc.devRef .tc main_v78)) :=
  at_binary L W_eq 87 V rfl (by decide) (by decide) (by decide)
theorem e_v80 : after L V (Proc.devRef .tc main_v80) = ((fun l r => Host.dotGeneral (F := Ideal) (φ₁ := .f32) (φ₂ := .f32) dot_S10x3x18x64x64_S10x3x18x64x64_S10x3x18x64x64_4_3_3_4_012_012 (some .fp32) l r) : (⟨S10x3x18x64x64, .f32⟩ : BufTy).Contents (Elt Ideal) → (⟨S10x3x18x64x64, .f32⟩ : BufTy).Contents (Elt Ideal) → (⟨S10x3x18x64x64, .f32⟩ : BufTy).Contents (Elt Ideal)) (after L V (Proc.devRef .tc main_v77)) (after L V (Proc.devRef .tc main_v77)) :=
  at_binary L W_eq 88 V rfl (by decide) (by decide) (by decide)
theorem e_v81 : after L V (Proc.devRef .tc main_v81) = ((fun l r => Host.dotGeneral (F := Ideal) (φ₁ := .f32) (φ₂ := .f32) dot_S10x3x18x64x64_S10x3x18x64x64_S10x3x18x64x64_4_3_3_4_012_012 (some .fp32) l r) : (⟨S10x3x18x64x64, .f32⟩ : BufTy).Contents (Elt Ideal) → (⟨S10x3x18x64x64, .f32⟩ : BufTy).Contents (Elt Ideal) → (⟨S10x3x18x64x64, .f32⟩ : BufTy).Contents (Elt Ideal)) (after L V (Proc.devRef .tc main_v80)) (after L V (Proc.devRef .tc main_v79)) :=
  at_binary L W_eq 89 V rfl (by decide) (by decide) (by decide)
theorem e_v82 : after L V (Proc.devRef .tc main_v82) = (addf (F := Ideal) (φ := .f32) : (⟨S10x3x18x64x64, .f32⟩ : BufTy).Contents (Elt Ideal) → (⟨S10x3x18x64x64, .f32⟩ : BufTy).Contents (Elt Ideal) → (⟨S10x3x18x64x64, .f32⟩ : BufTy).Contents (Elt Ideal)) (after L V (Proc.devRef .tc main_v79)) (after L V (Proc.devRef .tc main_v81)) :=
  at_binary L W_eq 90 V rfl (by decide) (by decide) (by decide)
theorem e_v83 : after L V (Proc.devRef .tc main_v83) = ((fun l r => Host.dotGeneral (F := Ideal) (φ₁ := .f32) (φ₂ := .f32) dot_S10x3x18x64x64_S10x3x18x64x64_S10x3x18x64x64_4_3_3_4_012_012 (some .fp32) l r) : (⟨S10x3x18x64x64, .f32⟩ : BufTy).Contents (Elt Ideal) → (⟨S10x3x18x64x64, .f32⟩ : BufTy).Contents (Elt Ideal) → (⟨S10x3x18x64x64, .f32⟩ : BufTy).Contents (Elt Ideal)) (after L V (Proc.devRef .tc main_v80)) (after L V (Proc.devRef .tc main_v80)) :=
  at_binary L W_eq 91 V rfl (by decide) (by decide) (by decide)
theorem e_v84 : after L V (Proc.devRef .tc main_v84) = ((fun l r => Host.dotGeneral (F := Ideal) (φ₁ := .f32) (φ₂ := .f32) dot_S10x3x18x64x64_S10x3x18x64x64_S10x3x18x64x64_4_3_3_4_012_012 (some .fp32) l r) : (⟨S10x3x18x64x64, .f32⟩ : BufTy).Contents (Elt Ideal) → (⟨S10x3x18x64x64, .f32⟩ : BufTy).Contents (Elt Ideal) → (⟨S10x3x18x64x64, .f32⟩ : BufTy).Contents (Elt Ideal)) (after L V (Proc.devRef .tc main_v83)) (after L V (Proc.devRef .tc main_v82)) :=
  at_binary L W_eq 92 V rfl (by decide) (by decide) (by decide)
theorem e_v85 : after L V (Proc.devRef .tc main_v85) = (addf (F := Ideal) (φ := .f32) : (⟨S10x3x18x64x64, .f32⟩ : BufTy).Contents (Elt Ideal) → (⟨S10x3x18x64x64, .f32⟩ : BufTy).Contents (Elt Ideal) → (⟨S10x3x18x64x64, .f32⟩ : BufTy).Contents (Elt Ideal)) (after L V (Proc.devRef .tc main_v82)) (after L V (Proc.devRef .tc main_v84)) :=
  at_binary L W_eq 93 V rfl (by decide) (by decide) (by decide)
theorem e_v86 : after L V (Proc.devRef .tc main_v86) = (broadcastInDim S10x3x64x18x1 ![0, 1, 2, 3] bcast_S10x3x64x18_S10x3x64x18x1_0_1_2_3 : (⟨S10x3x64x18, .f32⟩ : BufTy).Contents (Elt Ideal) → (⟨S10x3x64x18x1, .f32⟩ : BufTy).Contents (Elt Ideal)) (after L V (Proc.devRef .tc main_v42)) :=
  at_unary L W_eq 94 V rfl (by decide) (by decide)
theorem e_v87 : after L V (Proc.devRef .tc main_v87) = ((extf (F := Ideal) (φ := .bf16) .f32 · bitsLt_bf16_f32) : (⟨S10x3x64x18x96, .bf16⟩ : BufTy).Contents (Elt Ideal) → (⟨S10x3x64x18x96, .f32⟩ : BufTy).Contents (Elt Ideal)) (after L V (Proc.devRef .tc main_v22)) :=
  at_unary L W_eq 95 V rfl (by decide) (by decide)
theorem e_v88 : after L V (Proc.devRef .tc main_v88) = (broadcastInDim S10x3x64x18x96 ![0, 1, 2, 3, 4] bcast_S10x3x64x18x1_S10x3x64x18x96_0_1_2_3_4 : (⟨S10x3x64x18x1, .f32⟩ : BufTy).Contents (Elt Ideal) → (⟨S10x3x64x18x96, .f32⟩ : BufTy).Contents (Elt Ideal)) (after L V (Proc.devRef .tc main_v86)) :=
  at_unary L W_eq 96 V rfl (by decide) (by decide)
theorem e_v89 : after L V (Proc.devRef .tc main_v89) = (mulf (F := Ideal) (φ := .f32) : (⟨S10x3x64x18x96, .f32⟩ : BufTy).Contents (Elt Ideal) → (⟨S10x3x64x18x96, .f32⟩ : BufTy).Contents (Elt Ideal) → (⟨S10x3x64x18x96, .f32⟩ : BufTy).Contents (Elt Ideal)) (after L V (Proc.devRef .tc main_v88)) (after L V (Proc.devRef .tc main_v87)) :=
  at_binary L W_eq 97 V rfl (by decide) (by decide) (by decide)
theorem e_v90 : after L V (Proc.devRef .tc main_v90) = ((fun l r => Host.dotGeneral (F := Ideal) (φ₁ := .f32) (φ₂ := .f32) dot_S10x3x64x18x96_S10x3x18x64x64_S10x3x18x96x64_2_4_4_3_013_012 (some .fp32) l r) : (⟨S10x3x64x18x96, .f32⟩ : BufTy).Contents (Elt Ideal) → (⟨S10x3x18x64x64, .f32⟩ : BufTy).Contents (Elt Ideal) → (⟨S10x3x18x96x64, .f32⟩ : BufTy).Contents (Elt Ideal)) (after L V (Proc.devRef .tc main_v89)) (after L V (Proc.devRef .tc main_v85)) :=
  at_binary L W_eq 98 V rfl (by decide) (by decide) (by decide)
theorem e_v91 : after L V (Proc.devRef .tc main_v91) = ((transpose S10x3x64x18x96 [0, 1, 4, 2, 3] · transposes_S10x3x18x96x64_S10x3x64x18x96_0_1_4_2_3) : (⟨S10x3x18x96x64, .f32⟩ : BufTy).Contents (Elt Ideal) → (⟨S10x3x64x18x96, .f32⟩ : BufTy).Contents (Elt Ideal)) (after L V (Proc.devRef .tc main_v90)) :=
  at_unary L W_eq 99 V rfl (by decide) (by decide)
theorem e_v92 : after L V (Proc.devRef .tc main_v92) = (broadcastInDim S10x3x64x18x1 ![0, 1, 2, 3] bcast_S10x3x64x18_S10x3x64x18x1_0_1_2_3 : (⟨S10x3x64x18, .f32⟩ : BufTy).Contents (Elt Ideal) → (⟨S10x3x64x18x1, .f32⟩ : BufTy).Contents (Elt Ideal)) (after L V (Proc.devRef .tc main_v16)) :=
  at_unary L W_eq 100 V rfl (by decide) (by decide)
theorem e_v93 : after L V (Proc.devRef .tc main_v93) = ((extf (F := Ideal) (φ := .bf16) .f32 · bitsLt_bf16_f32) : (⟨S10x3x64x18x128, .bf16⟩ : BufTy).Contents (Elt Ideal) → (⟨S10x3x64x18x128, .f32⟩ : BufTy).Contents (Elt Ideal)) (after L V (Proc.devRef .tc main_v12)) :=
  at_unary L W_eq 101 V rfl (by decide) (by decide)
theorem e_v94 : after L V (Proc.devRef .tc main_v94) = (broadcastInDim S10x3x64x18x128 ![0, 1, 2, 3, 4] bcast_S10x3x64x18x1_S10x3x64x18x128_0_1_2_3_4 : (⟨S10x3x64x18x1, .f32⟩ : BufTy).Contents (Elt Ideal) → (⟨S10x3x64x18x128, .f32⟩ : BufTy).Contents (Elt Ideal)) (after L V (Proc.devRef .tc main_v92)) :=
  at_unary L W_eq 102 V rfl (by decide) (by decide)
theorem e_v95 : after L V (Proc.devRef .tc main_v95) = (mulf (F := Ideal) (φ := .f32) : (⟨S10x3x64x18x128, .f32⟩ : BufTy).Contents (Elt Ideal) → (⟨S10x3x64x18x128, .f32⟩ : BufTy).Contents (Elt Ideal) → (⟨S10x3x64x18x128, .f32⟩ : BufTy).Contents (Elt Ideal)) (after L V (Proc.devRef .tc main_v94)) (after L V (Proc.devRef .tc main_v93)) :=
  at_binary L W_eq 103 V rfl (by decide) (by decide) (by decide)
theorem e_v96 : after L V (Proc.devRef .tc main_v96) = ((fun l r => Host.dotGeneral (F := Ideal) (φ₁ := .f32) (φ₂ := .f32) dot_S10x3x64x18x128_S10x3x18x64x64_S10x3x18x128x64_2_4_4_3_013_012 (some .fp32) l r) : (⟨S10x3x64x18x128, .f32⟩ : BufTy).Contents (Elt Ideal) → (⟨S10x3x18x64x64, .f32⟩ : BufTy).Contents (Elt Ideal) → (⟨S10x3x18x128x64, .f32⟩ : BufTy).Contents (Elt Ideal)) (after L V (Proc.devRef .tc main_v95)) (after L V (Proc.devRef .tc main_v85)) :=
  at_binary L W_eq 104 V rfl (by decide) (by decide) (by decide)
theorem e_v97 : after L V (Proc.devRef .tc main_v97) = ((transpose S10x3x64x18x128 [0, 1, 4, 2, 3] · transposes_S10x3x18x128x64_S10x3x64x18x128_0_1_4_2_3) : (⟨S10x3x18x128x64, .f32⟩ : BufTy).Contents (Elt Ideal) → (⟨S10x3x64x18x128, .f32⟩ : BufTy).Contents (Elt Ideal)) (after L V (Proc.devRef .tc main_v96)) :=
  at_unary L W_eq 105 V rfl (by decide) (by decide)
theorem e_v98 : after L V (Proc.devRef .tc main_v98) = (broadcastInDim S10x3x64x18x1 ![0, 1, 2, 3] bcast_S10x3x64x18_S10x3x64x18x1_0_1_2_3 : (⟨S10x3x64x18, .f32⟩ : BufTy).Contents (Elt Ideal) → (⟨S10x3x64x18x1, .f32⟩ : BufTy).Contents (Elt Ideal)) (after L V (Proc.devRef .tc main_v8)) :=
  at_unary L W_eq 106 V rfl (by decide) (by decide)
theorem e_v99 : after L V (Proc.devRef .tc main_v99) = ((extf (F := Ideal) (φ := .bf16) .f32 · bitsLt_bf16_f32) : (⟨S10x3x64x18x96, .bf16⟩ : BufTy).Contents (Elt Ideal) → (⟨S10x3x64x18x96, .f32⟩ : BufTy).Contents (Elt Ideal)) (after L V (Proc.devRef .tc main_v21)) :=
  at_unary L W_eq 107 V rfl (by decide) (by decide)
theorem e_v100 : after L V (Proc.devRef .tc main_v100) = (broadcastInDim S10x3x64x18x96 ![0, 1, 2, 3, 4] bcast_S10x3x64x18x1_S10x3x64x18x96_0_1_2_3_4 : (⟨S10x3x64x18x1, .f32⟩ : BufTy).Contents (Elt Ideal) → (⟨S10x3x64x18x96, .f32⟩ : BufTy).Contents (Elt Ideal)) (after L V (Proc.devRef .tc main_v98)) :=
  at_unary L W_eq 108 V rfl (by decide) (by decide)
theorem e_v101 : after L V (Proc.devRef .tc main_v101) = (mulf (F := Ideal) (φ := .f32) : (⟨S10x3x64x18x96, .f32⟩ : BufTy).Contents (Elt Ideal) → (⟨S10x3x64x18x96, .f32⟩ : BufTy).Contents (Elt Ideal) → (⟨S10x3x64x18x96, .f32⟩ : BufTy).Contents (Elt Ideal)) (after L V (Proc.devRef .tc main_v100)) (after L V (Proc.devRef .tc main_v99)) :=
  at_binary L W_eq 109 V rfl (by decide) (by decide) (by decide)
theorem e_v102 : after L V (Proc.devRef .tc main_v102) = (broadcastInDim S10x3x64x18x1 ![0, 1, 2, 3] bcast_S10x3x64x18_S10x3x64x18x1_0_1_2_3 : (⟨S10x3x64x18, .f32⟩ : BufTy).Contents (Elt Ideal) → (⟨S10x3x64x18x1, .f32⟩ : BufTy).Contents (Elt Ideal)) (after L V (Proc.devRef .tc main_v10)) :=
  at_unary L W_eq 110 V rfl (by decide) (by decide)
theorem e_v103 : after L V (Proc.devRef .tc main_v103) = ((extf (F := Ideal) (φ := .bf16) .f32 · bitsLt_bf16_f32) : (⟨S10x3x64x18x96, .bf16⟩ : BufTy).Contents (Elt Ideal) → (⟨S10x3x64x18x96, .f32⟩ : BufTy).Contents (Elt Ideal)) (after L V (Proc.devRef .tc main_v31)) :=
  at_unary L W_eq 111 V rfl (by decide) (by decide)
theorem e_v104 : after L V (Proc.devRef .tc main_v104) = (broadcastInDim S10x3x64x18x96 ![0, 1, 2, 3, 4] bcast_S10x3x64x18x1_S10x3x64x18x96_0_1_2_3_4 : (⟨S10x3x64x18x1, .f32⟩ : BufTy).Contents (Elt Ideal) → (⟨S10x3x64x18x96, .f32⟩ : BufTy).Contents (Elt Ideal)) (after L V (Proc.devRef .tc main_v102)) :=
  at_unary L W_eq 112 V rfl (by decide) (by decide)
theorem e_v105 : after L V (Proc.devRef .tc main_v105) = (mulf (F := Ideal) (φ := .f32) : (⟨S10x3x64x18x96, .f32⟩ : BufTy).Contents (Elt Ideal) → (⟨S10x3x64x18x96, .f32⟩ : BufTy).Contents (Elt Ideal) → (⟨S10x3x64x18x96, .f32⟩ : BufTy).Contents (Elt Ideal)) (after L V (Proc.devRef .tc main_v104)) (after L V (Proc.devRef .tc main_v103)) :=
  at_binary L W_eq 113 V rfl (by decide) (by decide) (by decide)
theorem e_v106 : after L V (Proc.devRef .tc main_v106) = shapeCast S10x3x18x96 (after L V (Proc.devRef .tc main_v18)) shapeCasts_S10x3x1x18x96_S10x3x18x96 :=
  at_reshape L W_eq 114 V rfl (by decide) (by decide)
theorem e_v107 : after L V (Proc.devRef .tc main_v107) = (Host.exp (F := Ideal) (φ := .f32) : (⟨S10x3x18x96, .f32⟩ : BufTy).Contents (Elt Ideal) → (⟨S10x3x18x96, .f32⟩ : BufTy).Contents (Elt Ideal)) (after L V (Proc.devRef .tc main_v106)) :=
  at_unary L W_eq 115 V rfl (by decide) (by decide)
theorem e_cst_1 : after L V (Proc.devRef .tc main_cst_1) = (constant (F := Ideal) S_ .f32 0x00000000#32) :=
  at_nullary L W_eq 116 V rfl (by decide)
theorem e_v108 : after L V (Proc.devRef .tc main_v108) = (broadcastInDim S10x3x64x18x128 ![] bcast_S_S10x3x64x18x128 : (⟨S_, .f32⟩ : BufTy).Contents (Elt Ideal) → (⟨S10x3x64x18x128, .f32⟩ : BufTy).Contents (Elt Ideal)) (after L V (Proc.devRef .tc main_cst_1)) :=
  at_unary L W_eq 117 V rfl (by decide) (by decide)
theorem e_c_2 : after L V (Proc.devRef .tc main_c_2) = (constantI S_ 32 0#32) :=
  at_nullary L W_eq 118 V rfl (by decide)
theorem e_v109_0 : after L V (Proc.devRef .tc main_v109_0) = id (after L V (Proc.devRef .tc main_v97)) :=
  at_unary L W_eq 119 V rfl (by decide) (by decide)
theorem e_v109_1 : after L V (Proc.devRef .tc main_v109_1) = id (after L V (Proc.devRef .tc main_v91)) :=
  at_unary L W_eq 120 V rfl (by decide) (by decide)
theorem e_v109_2 : after L V (Proc.devRef .tc main_v109_2) = id (after L V (Proc.devRef .tc main_v101)) :=
  at_unary L W_eq 121 V rfl (by decide) (by decide)
theorem e_v109_3 : after L V (Proc.devRef .tc main_v109_3) = id (after L V (Proc.devRef .tc main_v61)) :=
  at_unary L W_eq 122 V rfl (by decide) (by decide)
theorem e_v109_4 : after L V (Proc.devRef .tc main_v109_4) = id (after L V (Proc.devRef .tc main_v105)) :=
  at_unary L W_eq 123 V rfl (by decide) (by decide)
theorem e_v109_5 : after L V (Proc.devRef .tc main_v109_5) = id (after L V (Proc.devRef .tc main_v107)) :=
  at_unary L W_eq 124 V rfl (by decide) (by decide)
theorem e_v109_6 : after L V (Proc.devRef .tc main_v109_6) = id (after L V (Proc.devRef .tc main_c_2)) :=
  at_unary L W_eq 125 V rfl (by decide) (by decide)
theorem e_v109_7 : after L V (Proc.devRef .tc main_v109_7) = id (after L V (Proc.devRef .tc main_arg7)) :=
  at_unary L W_eq 126 V rfl (by decide) (by decide)
theorem e_v109_8 : after L V (Proc.devRef .tc main_v109_8) = id (after L V (Proc.devRef .tc main_v108)) :=
  at_unary L W_eq 127 V rfl (by decide) (by decide)

end Cert.ReferenceIdeal.Own

end
-- ==== Proof.Ref.Lift5.lean ====
/-
  Arrays of real numbers of ranks 3, 4 and 5: an array whose element at an index is the real number a table of plain
  natural numbers gives there.
-/
module

public import proofs.«01_k».proof.Proof.Value.Lift

@[expose] public section

noncomputable section

namespace Cert.Own

open Idealize.ShloMosaic

/-- The rank-3 array of the real numbers `f a b c`. -/
def R3 {m n o : ℕ} {φ : FTy} (f : ℕ → ℕ → ℕ → ℝ) : FVec Ideal ⟨3, ![m, n, o]⟩ φ :=
  fun i => ((f (i 0).val (i 1).val (i 2).val : ℝ) : EReal)

/-- The rank-4 array of the real numbers `f a b c d`. -/
def R4 {m n o p : ℕ} {φ : FTy} (f : ℕ → ℕ → ℕ → ℕ → ℝ) : FVec Ideal ⟨4, ![m, n, o, p]⟩ φ :=
  fun i => ((f (i 0).val (i 1).val (i 2).val (i 3).val : ℝ) : EReal)

/-- The rank-5 array of the real numbers `f a b c d e`. -/
def R5 {m n o p q : ℕ} {φ : FTy} (f : ℕ → ℕ → ℕ → ℕ → ℕ → ℝ) : FVec Ideal ⟨5, ![m, n, o, p, q]⟩ φ :=
  fun i => ((f (i 0).val (i 1).val (i 2).val (i 3).val (i 4).val : ℝ) : EReal)

@[simp] theorem R3_ix3 {m n o : ℕ} {φ : FTy} (f : ℕ → ℕ → ℕ → ℝ) (a : Fin m) (b : Fin n) (c : Fin o) :
    R3 (φ := φ) f (ix3 a b c) = ((f a.val b.val c.val : ℝ) : EReal) := rfl

@[simp] theorem R4_ix4 {m n o p : ℕ} {φ : FTy} (f : ℕ → ℕ → ℕ → ℕ → ℝ) (a : Fin m) (b : Fin n) (c : Fin o) (d : Fin p) :
    R4 (φ := φ) f (ix4 a b c d) = ((f a.val b.val c.val d.val : ℝ) : EReal) := rfl

@[simp] theorem R5_ix5 {m n o p q : ℕ} {φ : FTy} (f : ℕ → ℕ → ℕ → ℕ → ℕ → ℝ) (a : Fin m) (b : Fin n) (c : Fin o) (d : Fin p)
    (e : Fin q) : R5 (φ := φ) f (ix5 a b c d e) = ((f a.val b.val c.val d.val e.val : ℝ) : EReal) := rfl

theorem ext4 {α : Type} {m n o p : ℕ} {x y : (⟨4, ![m, n, o, p]⟩ : Shape).Idx → α}
    (h : ∀ (a : Fin m) (b : Fin n) (c : Fin o) (d : Fin p), x (ix4 a b c d) = y (ix4 a b c d)) : x = y := by
  funext i
  have := h (i 0) (i 1) (i 2) (i 3)
  rwa [ix4_eta] at this

theorem ext5 {α : Type} {m n o p q : ℕ} {x y : (⟨5, ![m, n, o, p, q]⟩ : Shape).Idx → α}
    (h : ∀ (a : Fin m) (b : Fin n) (c : Fin o) (d : Fin p) (e : Fin q), x (ix5 a b c d e) = y (ix5 a b c d e)) : x = y := by
  funext i
  have := h (i 0) (i 1) (i 2) (i 3) (i 4)
  rwa [ix5_eta] at this

theorem ext3 {α : Type} {m n o : ℕ} {x y : (⟨3, ![m, n, o]⟩ : Shape).Idx → α}
    (h : ∀ (a : Fin m) (b : Fin n) (c : Fin o), x (ix3 a b c) = y (ix3 a b c)) : x = y := by
  funext i
  have := h (i 0) (i 1) (i 2)
  rwa [ix3_eta] at this

/-- A sum of products of real numbers over the positions of an axis. -/
theorem sum_mul_coe {n : ℕ} (f g : ℕ → ℝ) :
    (∑ x : Fin n, ((f x.val : ℝ) : EReal) * ((g x.val : ℝ) : EReal)) = ((∑ x ∈ Finset.range n, f x * g x : ℝ) : EReal) := by
  rw [← Fin.sum_univ_eq_sum_range (fun x => f x * g x) n, coe_sum]
  simp only [EReal.coe_mul]

/-- Positions counted from a left end, added one after another, are the start plus their sum. -/
theorem foldl_add {N : ℕ} (z : EReal) (f : Fin N → EReal) :
    (List.finRange N).foldl (fun r n => r + f n) z = z + ∑ n, f n := by
  have : ∀ (l : List (Fin N)) (z : EReal), l.foldl (fun r n => r + f n) z = z + (l.map f).sum := by
    intro l
    induction l with
    | nil => intro z; simp
    | cons a l ih => intro z; rw [List.foldl_cons, ih, List.map_cons, List.sum_cons, add_assoc]
  rw [this, ← List.ofFn_eq_map, List.sum_ofFn]

end Cert.Own

end
-- ==== Proof.Ref.Anchors.lean ====
/-
  What the reference's arrays are before its loop: the tables of each chunk of each head.
-/
module

public import proofs.«01_k».proof.Proof.Ref.Eqs
public import proofs.«01_k».proof.Proof.Ref.Lift5
public import proofs.«01_k».proof.Proof.Ref.Chunk

@[expose] public section

set_option maxRecDepth 16384

noncomputable section

namespace Cert.ReferenceIdeal.Own

open Cert.ReferenceIdeal Cert.ReferenceIdeal.Gen Cert.Own
open Idealize.ShloMosaic Idealize.ShloMosaic.TcCoe Idealize.ShloMosaic.StableHlo

/-- The loop's preparation starts from the tables' numbers. -/
structure From (V : Valuation τ sig (Elt Ideal)) (X : In) : Prop where
  q : ∀ b s h r, (V (Proc.devRef .tc main_v2_0) : FVec Ideal S3x640x18x96 .bf16) (ix4 b s h r) = ((X.q b s h r : ℝ) : EReal)
  qs : ∀ b s h, (V (Proc.devRef .tc main_arg1) : FVec Ideal S3x640x18 .f32) (ix3 b s h) = ((X.qs b s h : ℝ) : EReal)
  k : ∀ b s h r, (V (Proc.devRef .tc main_v2_1) : FVec Ideal S3x640x18x96 .bf16) (ix4 b s h r) = ((X.k b s h r : ℝ) : EReal)
  ks : ∀ b s h, (V (Proc.devRef .tc main_arg3) : FVec Ideal S3x640x18 .f32) (ix3 b s h) = ((X.ks b s h : ℝ) : EReal)
  v : ∀ b s h l, (V (Proc.devRef .tc main_arg4) : FVec Ideal S3x640x18x128 .bf16) (ix4 b s h l) = ((X.v b s h l : ℝ) : EReal)
  g : ∀ b s h r, (V (Proc.devRef .tc main_arg5) : FVec Ideal S3x640x18x96 .f32) (ix4 b s h r) = ((X.g b s h r : ℝ) : EReal)
  be : ∀ b s h, (V (Proc.devRef .tc main_arg6) : FVec Ideal S3x640x18 .f32) (ix3 b s h) = ((X.be b s h : ℝ) : EReal)
  h0 : ∀ b h r l, (V (Proc.devRef .tc main_arg7) : FVec Ideal S3x18x96x128 .f32) (ix4 b h r l) = ((X.h0 b h r l : ℝ) : EReal)

variable {V : Valuation τ sig (Elt Ideal)} {X : In} (HX : From V X)

/-- A buffer none of the operations writes. -/
theorem kept (V : Valuation τ sig (Elt Ideal)) {r : Ref sig .tc} (hr : r ∉ LW) :
    after L V (Proc.devRef .tc r) = V (Proc.devRef .tc r) := keep L W_eq 0 V hr

theorem const0 : (constant (F := Ideal) S_ .f32 0x00000000#32 : FVec Ideal S_ .f32) ix0 = ((0 : ℝ) : EReal) := by
  pointwise
  simp

theorem exp_real (x : ℝ) : FloatOps.hostUnary (F := Ideal) .exp (φ := .f32) (x : EReal) = ((Real.exp x : ℝ) : EReal) := rfl
theorem one_f32 : FloatOps.uitofp (F := Ideal) .f32 1#1 = ((1 : ℝ) : EReal) := by
  show (((1#1 : BitVec 1).toNat : ℝ) : EReal) = _
  norm_num
theorem zero_f32 : FloatOps.uitofp (F := Ideal) .f32 0#1 = ((0 : ℝ) : EReal) := by
  show (((0#1 : BitVec 1).toNat : ℝ) : EReal) = _
  norm_num
theorem neg_real (x : ℝ) : FloatOps.hostNegf (F := Ideal) (φ := .f32) (x : EReal) = ((-x : ℝ) : EReal) := rfl

theorem cmp_slt' (a b : Fin 64) : IntOp.cmpi .slt (BitVec.ofNat 32 a.val) (BitVec.ofNat 32 b.val) = if a.val < b.val then 1#1 else 0#1 :=
  cmp_slt _ _ (by omega) (by omega)
theorem cmp_sle' (a b : Fin 64) : IntOp.cmpi .sle (BitVec.ofNat 32 a.val) (BitVec.ofNat 32 b.val) = if a.val ≤ b.val then 1#1 else 0#1 :=
  cmp_sle _ _ (by omega) (by omega)
theorem cmp_eq' (a b : Fin 64) : IntOp.cmpi .eq (BitVec.ofNat 32 a.val) (BitVec.ofNat 32 b.val) = if a.val = b.val then 1#1 else 0#1 :=
  cmp_eq _ _ (by omega) (by omega)

/-- The window's positions. -/
theorem numel_win : (⟨5, ![1, 1, 64, 1, 1]⟩ : Shape).numel = 64 := by decide

theorem symm_win (w : Fin (⟨5, ![1, 1, 64, 1, 1]⟩ : Shape).numel) :
    (⟨5, ![1, 1, 64, 1, 1]⟩ : Shape).rowMajor.symm w
      = ix5 (0 : Fin 1) (0 : Fin 1) (⟨w.val, lt_of_lt_of_eq w.isLt numel_win⟩ : Fin 64) (0 : Fin 1) (0 : Fin 1) :=
  ((⟨5, ![1, 1, 64, 1, 1]⟩ : Shape).rowMajor.symm_apply_eq).2 (Fin.ext (by
    rw [Shape.rowMajor_val_five]
    show w.val = (((0 * 1 + 0) * 64 + w.val) * 1 + 0) * 1 + 0
    omega))

/-- The running sum over a chunk's tokens, as it prints: a window of 64 tokens, padded low by 63. -/
theorem cumsum5 (f : ℕ → ℕ → ℕ → ℕ → ℕ → ℝ) (init : FVec Ideal S_ .f32) (hinit : init (Shape.Idx.first h_S_) = ((0 : ℝ) : EReal))
    (n : Fin 10) (b : Fin 3) (t : Fin 64) (h : Fin 18) (r : Fin 96) :
    Host.reduceWindowAdd (F := Ideal) (φ := .f32) ![1, 1, 64, 1, 1] ![1, 1, 1, 1, 1] ![0, 0, 63, 0, 0] ![0, 0, 0, 0, 0]
      (R5 (φ := .f32) f : FVec Ideal S10x3x64x18x96 .f32) init
      reduceWindows_S10x3x64x18x96_S10x3x64x18x96_w1s1p0_0_w1s1p0_0_w64s1p63_0_w1s1p0_0_w1s1p0_0 h_S_ (ix5 n b t h r)
      = ((∑ w ∈ Finset.range 64, if 63 ≤ t.val + w then f n b (t.val + w - 63) h r else 0 : ℝ) : EReal) := by
  change Ideal.hostReduceWindowAdd ![1, 1, 64, 1, 1] ![1, 1, 1, 1, 1] ![0, 0, 63, 0, 0] ![0, 0, 0, 0, 0]
    reduceWindows_S10x3x64x18x96_S10x3x64x18x96_w1s1p0_0_w1s1p0_0_w64s1p63_0_w1s1p0_0_w1s1p0_0
    (R5 (φ := .f32) f : FVec Ideal S10x3x64x18x96 .f32) (init (Shape.Idx.first h_S_)) (ix5 n b t h r) = _
  rw [hinit]
  unfold Ideal.hostReduceWindowAdd Host.reduceWindow
  have ht := t.isLt
  have hn := n.isLt
  have hb := b.isLt
  have hh := h.isLt
  have hr := r.isLt
  refine (foldl_add _ _).trans ?_
  rw [EReal.coe_zero, zero_add, ← Fin.sum_univ_eq_sum_range (fun w => if 63 ≤ t.val + w then f n b (t.val + w - 63) h r else 0) 64, coe_sum]
  refine Fintype.sum_equiv (finCongr numel_win) _ _ fun w => ?_
  have hw : w.val < 64 := lt_of_lt_of_eq w.isLt numel_win
  have q0 : ((⟨5, ![1, 1, 64, 1, 1]⟩ : Shape).rowMajor.symm w 0).val = 0 := by rw [symm_win]; rfl
  have q1 : ((⟨5, ![1, 1, 64, 1, 1]⟩ : Shape).rowMajor.symm w 1).val = 0 := by rw [symm_win]; rfl
  have q2 : ((⟨5, ![1, 1, 64, 1, 1]⟩ : Shape).rowMajor.symm w 2).val = w.val := by rw [symm_win]; rfl
  have q3 : ((⟨5, ![1, 1, 64, 1, 1]⟩ : Shape).rowMajor.symm w 3).val = 0 := by rw [symm_win]; rfl
  have q4 : ((⟨5, ![1, 1, 64, 1, 1]⟩ : Shape).rowMajor.symm w 4).val = 0 := by rw [symm_win]; rfl
  dsimp only
  split
  · next hin =>
    have h2 : 63 ≤ t.val * 1 + ((⟨5, ![1, 1, 64, 1, 1]⟩ : Shape).rowMajor.symm w 2).val := (hin (2 : Fin 5)).1
    rw [q2] at h2
    show ((f (n.val * 1 + ((⟨5, ![1, 1, 64, 1, 1]⟩ : Shape).rowMajor.symm w 0).val - 0)
        (b.val * 1 + ((⟨5, ![1, 1, 64, 1, 1]⟩ : Shape).rowMajor.symm w 1).val - 0)
        (t.val * 1 + ((⟨5, ![1, 1, 64, 1, 1]⟩ : Shape).rowMajor.symm w 2).val - 63)
        (h.val * 1 + ((⟨5, ![1, 1, 64, 1, 1]⟩ : Shape).rowMajor.symm w 3).val - 0)
        (r.val * 1 + ((⟨5, ![1, 1, 64, 1, 1]⟩ : Shape).rowMajor.symm w 4).val - 0) : ℝ) : EReal)
      = (((if 63 ≤ t.val + w.val then f n b (t.val + w.val - 63) h r else 0 : ℝ)) : EReal)
    rw [q0, q1, q2, q3, q4, if_pos (by omega)]
    simp only [Nat.mul_one, Nat.add_zero, Nat.sub_zero]
  · next hin =>
    show ((0 : ℝ) : EReal) = (((if 63 ≤ t.val + w.val then f n b (t.val + w.val - 63) h r else 0 : ℝ)) : EReal)
    rw [if_neg fun h63 => hin fun a => by
      match a with
      | ⟨0, _⟩ =>
        show 0 ≤ n.val * 1 + ((⟨5, ![1, 1, 64, 1, 1]⟩ : Shape).rowMajor.symm w 0).val
          ∧ n.val * 1 + ((⟨5, ![1, 1, 64, 1, 1]⟩ : Shape).rowMajor.symm w 0).val - 0 < 10
        omega
      | ⟨1, _⟩ =>
        show 0 ≤ b.val * 1 + ((⟨5, ![1, 1, 64, 1, 1]⟩ : Shape).rowMajor.symm w 1).val
          ∧ b.val * 1 + ((⟨5, ![1, 1, 64, 1, 1]⟩ : Shape).rowMajor.symm w 1).val - 0 < 3
        omega
      | ⟨2, _⟩ =>
        show 63 ≤ t.val * 1 + ((⟨5, ![1, 1, 64, 1, 1]⟩ : Shape).rowMajor.symm w 2).val
          ∧ t.val * 1 + ((⟨5, ![1, 1, 64, 1, 1]⟩ : Shape).rowMajor.symm w 2).val - 63 < 64
        omega
      | ⟨3, _⟩ =>
        show 0 ≤ h.val * 1 + ((⟨5, ![1, 1, 64, 1, 1]⟩ : Shape).rowMajor.symm w 3).val
          ∧ h.val * 1 + ((⟨5, ![1, 1, 64, 1, 1]⟩ : Shape).rowMajor.symm w 3).val - 0 < 18
        omega
      | ⟨4, _⟩ =>
        show 0 ≤ r.val * 1 + ((⟨5, ![1, 1, 64, 1, 1]⟩ : Shape).rowMajor.symm w 4).val
          ∧ r.val * 1 + ((⟨5, ![1, 1, 64, 1, 1]⟩ : Shape).rowMajor.symm w 4).val - 0 < 96
        omega]

include HX

theorem a_v4 : (after L V (Proc.devRef .tc main_v4) : FVec Ideal S10x3x64x18x96 .bf16) = R5 (φ := .bf16) fun n b t h r => (X.chunk n b h).q t r := by
  rw [e_v4, e_v3, kept V (r := main_v2_0) (by decide)]
  refine ext5 fun n b t h r => ?_
  pointwise
  exact HX.q _ _ _ _

theorem a_v6 : (after L V (Proc.devRef .tc main_v6) : FVec Ideal S10x3x64x18x96 .bf16) = R5 (φ := .bf16) fun n b t h r => (X.chunk n b h).k t r := by
  rw [e_v6, e_v5, kept V (r := main_v2_1) (by decide)]
  refine ext5 fun n b t h r => ?_
  pointwise
  exact HX.k _ _ _ _

theorem a_v8 : (after L V (Proc.devRef .tc main_v8) : FVec Ideal S10x3x64x18 .f32) = R4 (φ := .f32) fun n b t h => (X.chunk n b h).qs t := by
  rw [e_v8, e_v7, kept V (r := main_arg1) (by decide)]
  refine ext4 fun n b t h => ?_
  pointwise
  exact HX.qs _ _ _

theorem a_v10 : (after L V (Proc.devRef .tc main_v10) : FVec Ideal S10x3x64x18 .f32) = R4 (φ := .f32) fun n b t h => (X.chunk n b h).ks t := by
  rw [e_v10, e_v9, kept V (r := main_arg3) (by decide)]
  refine ext4 fun n b t h => ?_
  pointwise
  exact HX.ks _ _ _

theorem a_v12 : (after L V (Proc.devRef .tc main_v12) : FVec Ideal S10x3x64x18x128 .bf16) = R5 (φ := .bf16) fun n b t h l => (X.chunk n b h).v t l := by
  rw [e_v12, e_v11, kept V (r := main_arg4) (by decide)]
  refine ext5 fun n b t h l => ?_
  pointwise
  exact HX.v _ _ _ _

theorem a_v14 : (after L V (Proc.devRef .tc main_v14) : FVec Ideal S10x3x64x18x96 .f32) = R5 (φ := .f32) fun n b t h r => (X.chunk n b h).g t r := by
  rw [e_v14, e_v13, kept V (r := main_arg5) (by decide)]
  refine ext5 fun n b t h r => ?_
  pointwise
  exact HX.g _ _ _ _

theorem a_v16 : (after L V (Proc.devRef .tc main_v16) : FVec Ideal S10x3x64x18 .f32) = R4 (φ := .f32) fun n b t h => (X.chunk n b h).be t := by
  rw [e_v16, e_v15, kept V (r := main_arg6) (by decide)]
  refine ext4 fun n b t h => ?_
  pointwise
  exact HX.be _ _ _

theorem a_v17 : (after L V (Proc.devRef .tc main_v17) : FVec Ideal S10x3x64x18x96 .f32) = R5 (φ := .f32) fun n b t h r => (X.chunk n b h).G t r := by
  rw [e_v17, e_call0_v0, e_call0_cst, a_v14 HX]
  refine ext5 fun n b t h r => ?_
  exact cumsum5 _ _ (by pointwise; simp) n b t h r

theorem a_v20 : (after L V (Proc.devRef .tc main_v20) : FVec Ideal S10x3x64x18x96 .bf16) = R5 (φ := .bf16) fun n b t h r => Real.exp ((X.chunk n b h).G t r) := by
  rw [e_v20, e_v19, a_v17 HX]
  refine ext5 fun n b t h r => ?_
  pointwise
  simp only [exp_real, neg_real, const0, id_eq, R3_ix3, R4_ix4, R5_ix5, cmp_slt', cmp_sle', cmp_eq', sel_ite, ite_coe, ← EReal.coe_mul, ← EReal.coe_add, ← EReal.coe_sub, ← EReal.coe_neg, ← EReal.coe_one, ← EReal.coe_zero, ← coe_sum]
  rfl

theorem a_v21 : (after L V (Proc.devRef .tc main_v21) : FVec Ideal S10x3x64x18x96 .bf16) = R5 (φ := .bf16) fun n b t h r => (X.chunk n b h).qp t r := by
  rw [e_v21, a_v4 HX, a_v20 HX]
  refine ext5 fun n b t h r => ?_
  pointwise
  simp only [exp_real, neg_real, const0, id_eq, R3_ix3, R4_ix4, R5_ix5, cmp_slt', cmp_sle', cmp_eq', sel_ite, ite_coe, ← EReal.coe_mul, ← EReal.coe_add, ← EReal.coe_sub, ← EReal.coe_neg, ← EReal.coe_one, ← EReal.coe_zero, ← coe_sum]
  rfl

theorem a_v22 : (after L V (Proc.devRef .tc main_v22) : FVec Ideal S10x3x64x18x96 .bf16) = R5 (φ := .bf16) fun n b t h r => (X.chunk n b h).kp t r := by
  rw [e_v22, a_v6 HX, a_v20 HX]
  refine ext5 fun n b t h r => ?_
  pointwise
  simp only [exp_real, neg_real, const0, id_eq, R3_ix3, R4_ix4, R5_ix5, cmp_slt', cmp_sle', cmp_eq', sel_ite, ite_coe, ← EReal.coe_mul, ← EReal.coe_add, ← EReal.coe_sub, ← EReal.coe_neg, ← EReal.coe_one, ← EReal.coe_zero, ← coe_sum]
  rfl

theorem a_v26 : (after L V (Proc.devRef .tc main_v26) : FVec Ideal S10x3x64x18x96 .bf16) = R5 (φ := .bf16) fun n b t h r => (X.chunk n b h).kn t r := by
  rw [e_v26, e_v25, e_v24, e_v23, a_v6 HX, a_v17 HX]
  refine ext5 fun n b t h r => ?_
  pointwise
  simp only [exp_real, neg_real, const0, id_eq, R3_ix3, R4_ix4, R5_ix5, cmp_slt', cmp_sle', cmp_eq', sel_ite, ite_coe, ← EReal.coe_mul, ← EReal.coe_add, ← EReal.coe_sub, ← EReal.coe_neg, ← EReal.coe_one, ← EReal.coe_zero, ← coe_sum]
  rfl

theorem a_v31 : (after L V (Proc.devRef .tc main_v31) : FVec Ideal S10x3x64x18x96 .bf16) = R5 (φ := .bf16) fun n b t h r => (X.chunk n b h).kl t r := by
  rw [e_v31, e_v30, e_v29, e_v28, e_v27, e_v18, a_v6 HX, a_v17 HX]
  refine ext5 fun n b t h r => ?_
  pointwise
  simp only [exp_real, neg_real, const0, id_eq, R3_ix3, R4_ix4, R5_ix5, cmp_slt', cmp_sle', cmp_eq', sel_ite, ite_coe, ← EReal.coe_mul, ← EReal.coe_add, ← EReal.coe_sub, ← EReal.coe_neg, ← EReal.coe_one, ← EReal.coe_zero, ← coe_sum]
  rfl

theorem a_v42 : (after L V (Proc.devRef .tc main_v42) : FVec Ideal S10x3x64x18 .f32) = R4 (φ := .f32) fun n b t h => (X.chunk n b h).be t * (X.chunk n b h).ks t := by
  rw [e_v42, a_v16 HX, a_v10 HX]
  refine ext4 fun n b t h => ?_
  pointwise
  simp only [exp_real, neg_real, const0, id_eq, R3_ix3, R4_ix4, R5_ix5, cmp_slt', cmp_sle', cmp_eq', sel_ite, ite_coe, ← EReal.coe_mul, ← EReal.coe_add, ← EReal.coe_sub, ← EReal.coe_neg, ← EReal.coe_one, ← EReal.coe_zero, ← coe_sum]

theorem a_v53 : (after L V (Proc.devRef .tc main_v53) : FVec Ideal S10x3x18x64x64 .f32) = R5 (φ := .f32) fun n b h t s => (X.chunk n b h).A t s := by
  rw [e_v53, e_call1_v1, e_v38, e_v36, e_v35, e_v34, e_v37, e_v33, e_v32, e_v52, e_call1_v2, e_call1_v0, e_cst, e_v51, e_v49, e_v50, e_v47, e_v48, e_v44, e_v43, e_v46, a_v42 HX, a_v10 HX, a_v22 HX, a_v26 HX]
  refine ext5 fun n b h t s => ?_
  pointwise
  simp only [exp_real, neg_real, const0, id_eq, R3_ix3, R4_ix4, R5_ix5, cmp_slt', cmp_sle', cmp_eq', sel_ite, ite_coe, ← EReal.coe_mul, ← EReal.coe_add, ← EReal.coe_sub, ← EReal.coe_neg, ← EReal.coe_one, ← EReal.coe_zero, ← coe_sum]
  rw [Chunk.A, Finset.sum_range]
  exact ite_coe _ _ _

theorem a_v61 : (after L V (Proc.devRef .tc main_v61) : FVec Ideal S10x3x18x64x64 .f32) = R5 (φ := .f32) fun n b h t s => (X.chunk n b h).Aq t s := by
  rw [e_v61, e_call2_v1, e_v41, e_v39, e_v35, e_v34, e_v40, e_v33, e_v32, e_v60, e_call2_v2, e_call2_v0, e_cst_0, e_v59, e_v57, e_v58, e_v55, e_v56, e_v45, e_v43, e_v54, a_v8 HX, a_v10 HX, a_v21 HX, a_v26 HX]
  refine ext5 fun n b h t s => ?_
  pointwise
  simp only [exp_real, neg_real, const0, id_eq, R3_ix3, R4_ix4, R5_ix5, cmp_slt', cmp_sle', cmp_eq', sel_ite, ite_coe, ← EReal.coe_mul, ← EReal.coe_add, ← EReal.coe_sub, ← EReal.coe_neg, ← EReal.coe_one, ← EReal.coe_zero, ← coe_sum]
  rw [Chunk.Aq, Finset.sum_range]
  exact ite_coe _ _ _

theorem a_v69 : (after L V (Proc.devRef .tc main_v69) : FVec Ideal S10x3x18x64x64 .f32) = R5 (φ := .f32) fun n b h t s => (if t = s then 1 else 0) := by
  rw [e_v69, e_v68, e_v67, e_v66, e_v65, e_v64, e_v63, e_v62, e_c]
  refine ext5 fun n b h t s => ?_
  pointwise
  rw [show ∀ x : BitVec 32, IntOp.addi x 0#32 = x from fun x => BitVec.add_zero x]
  simp only [exp_real, neg_real, const0, id_eq, R3_ix3, R4_ix4, R5_ix5, cmp_slt', cmp_sle', cmp_eq', sel_ite, ite_coe, ← EReal.coe_mul, ← EReal.coe_add, ← EReal.coe_sub, ← EReal.coe_neg, ← EReal.coe_one, ← EReal.coe_zero, ← coe_sum]
  by_cases e : t.val = s.val
  · rw [if_pos e, if_pos e]; exact one_f32
  · rw [if_neg e, if_neg e]; exact zero_f32

theorem a_v70 : (after L V (Proc.devRef .tc main_v70) : FVec Ideal S10x3x18x64x64 .f32) = R5 (φ := .f32) fun n b h t s => (X.chunk n b h).tn 0 t s := by
  rw [e_v70, a_v69 HX, a_v53 HX]
  refine ext5 fun n b h t s => ?_
  pointwise
  simp only [exp_real, neg_real, const0, id_eq, R3_ix3, R4_ix4, R5_ix5, cmp_slt', cmp_sle', cmp_eq', sel_ite, ite_coe, ← EReal.coe_mul, ← EReal.coe_add, ← EReal.coe_sub, ← EReal.coe_neg, ← EReal.coe_one, ← EReal.coe_zero, ← coe_sum]
  rfl

theorem a_v71 : (after L V (Proc.devRef .tc main_v71) : FVec Ideal S10x3x18x64x64 .f32) = R5 (φ := .f32) fun n b h t s => (X.chunk n b h).pw 1 t s := by
  rw [e_v71, a_v53 HX]
  refine ext5 fun n b h t s => ?_
  pointwise
  simp only [exp_real, neg_real, const0, id_eq, R3_ix3, R4_ix4, R5_ix5, cmp_slt', cmp_sle', cmp_eq', sel_ite, ite_coe, ← EReal.coe_mul, ← EReal.coe_add, ← EReal.coe_sub, ← EReal.coe_neg, ← EReal.coe_one, ← EReal.coe_zero, ← coe_sum]
  exact congrArg _ (Chunk.pw_succ _ 0 _ _).symm

theorem a_v73 : (after L V (Proc.devRef .tc main_v73) : FVec Ideal S10x3x18x64x64 .f32) = R5 (φ := .f32) fun n b h t s => (X.chunk n b h).tn 1 t s := by
  rw [e_v73, e_v72, a_v70 HX, a_v71 HX]
  refine ext5 fun n b h t s => ?_
  pointwise
  simp only [exp_real, neg_real, const0, id_eq, R3_ix3, R4_ix4, R5_ix5, cmp_slt', cmp_sle', cmp_eq', sel_ite, ite_coe, ← EReal.coe_mul, ← EReal.coe_add, ← EReal.coe_sub, ← EReal.coe_neg, ← EReal.coe_one, ← EReal.coe_zero, ← coe_sum]
  exact congrArg _ (Chunk.tn_succ _ 0 _ _).symm

theorem a_v74 : (after L V (Proc.devRef .tc main_v74) : FVec Ideal S10x3x18x64x64 .f32) = R5 (φ := .f32) fun n b h t s => (X.chunk n b h).pw 2 t s := by
  rw [e_v74, a_v71 HX]
  refine ext5 fun n b h t s => ?_
  pointwise
  simp only [exp_real, neg_real, const0, id_eq, R3_ix3, R4_ix4, R5_ix5, cmp_slt', cmp_sle', cmp_eq', sel_ite, ite_coe, ← EReal.coe_mul, ← EReal.coe_add, ← EReal.coe_sub, ← EReal.coe_neg, ← EReal.coe_one, ← EReal.coe_zero, ← coe_sum]
  exact congrArg _ (Chunk.pw_succ _ 1 _ _).symm

theorem a_v76 : (after L V (Proc.devRef .tc main_v76) : FVec Ideal S10x3x18x64x64 .f32) = R5 (φ := .f32) fun n b h t s => (X.chunk n b h).tn 2 t s := by
  rw [e_v76, e_v75, a_v73 HX, a_v74 HX]
  refine ext5 fun n b h t s => ?_
  pointwise
  simp only [exp_real, neg_real, const0, id_eq, R3_ix3, R4_ix4, R5_ix5, cmp_slt', cmp_sle', cmp_eq', sel_ite, ite_coe, ← EReal.coe_mul, ← EReal.coe_add, ← EReal.coe_sub, ← EReal.coe_neg, ← EReal.coe_one, ← EReal.coe_zero, ← coe_sum]
  exact congrArg _ (Chunk.tn_succ _ 1 _ _).symm

theorem a_v77 : (after L V (Proc.devRef .tc main_v77) : FVec Ideal S10x3x18x64x64 .f32) = R5 (φ := .f32) fun n b h t s => (X.chunk n b h).pw 3 t s := by
  rw [e_v77, a_v74 HX]
  refine ext5 fun n b h t s => ?_
  pointwise
  simp only [exp_real, neg_real, const0, id_eq, R3_ix3, R4_ix4, R5_ix5, cmp_slt', cmp_sle', cmp_eq', sel_ite, ite_coe, ← EReal.coe_mul, ← EReal.coe_add, ← EReal.coe_sub, ← EReal.coe_neg, ← EReal.coe_one, ← EReal.coe_zero, ← coe_sum]
  exact congrArg _ (Chunk.pw_succ _ 2 _ _).symm

theorem a_v79 : (after L V (Proc.devRef .tc main_v79) : FVec Ideal S10x3x18x64x64 .f32) = R5 (φ := .f32) fun n b h t s => (X.chunk n b h).tn 3 t s := by
  rw [e_v79, e_v78, a_v76 HX, a_v77 HX]
  refine ext5 fun n b h t s => ?_
  pointwise
  simp only [exp_real, neg_real, const0, id_eq, R3_ix3, R4_ix4, R5_ix5, cmp_slt', cmp_sle', cmp_eq', sel_ite, ite_coe, ← EReal.coe_mul, ← EReal.coe_add, ← EReal.coe_sub, ← EReal.coe_neg, ← EReal.coe_one, ← EReal.coe_zero, ← coe_sum]
  exact congrArg _ (Chunk.tn_succ _ 2 _ _).symm

theorem a_v80 : (after L V (Proc.devRef .tc main_v80) : FVec Ideal S10x3x18x64x64 .f32) = R5 (φ := .f32) fun n b h t s => (X.chunk n b h).pw 4 t s := by
  rw [e_v80, a_v77 HX]
  refine ext5 fun n b h t s => ?_
  pointwise
  simp only [exp_real, neg_real, const0, id_eq, R3_ix3, R4_ix4, R5_ix5, cmp_slt', cmp_sle', cmp_eq', sel_ite, ite_coe, ← EReal.coe_mul, ← EReal.coe_add, ← EReal.coe_sub, ← EReal.coe_neg, ← EReal.coe_one, ← EReal.coe_zero, ← coe_sum]
  exact congrArg _ (Chunk.pw_succ _ 3 _ _).symm

theorem a_v82 : (after L V (Proc.devRef .tc main_v82) : FVec Ideal S10x3x18x64x64 .f32) = R5 (φ := .f32) fun n b h t s => (X.chunk n b h).tn 4 t s := by
  rw [e_v82, e_v81, a_v79 HX, a_v80 HX]
  refine ext5 fun n b h t s => ?_
  pointwise
  simp only [exp_real, neg_real, const0, id_eq, R3_ix3, R4_ix4, R5_ix5, cmp_slt', cmp_sle', cmp_eq', sel_ite, ite_coe, ← EReal.coe_mul, ← EReal.coe_add, ← EReal.coe_sub, ← EReal.coe_neg, ← EReal.coe_one, ← EReal.coe_zero, ← coe_sum]
  exact congrArg _ (Chunk.tn_succ _ 3 _ _).symm

theorem a_v83 : (after L V (Proc.devRef .tc main_v83) : FVec Ideal S10x3x18x64x64 .f32) = R5 (φ := .f32) fun n b h t s => (X.chunk n b h).pw 5 t s := by
  rw [e_v83, a_v80 HX]
  refine ext5 fun n b h t s => ?_
  pointwise
  simp only [exp_real, neg_real, const0, id_eq, R3_ix3, R4_ix4, R5_ix5, cmp_slt', cmp_sle', cmp_eq', sel_ite, ite_coe, ← EReal.coe_mul, ← EReal.coe_add, ← EReal.coe_sub, ← EReal.coe_neg, ← EReal.coe_one, ← EReal.coe_zero, ← coe_sum]
  exact congrArg _ (Chunk.pw_succ _ 4 _ _).symm

theorem a_v85 : (after L V (Proc.devRef .tc main_v85) : FVec Ideal S10x3x18x64x64 .f32) = R5 (φ := .f32) fun n b h t s => (X.chunk n b h).tn 5 t s := by
  rw [e_v85, e_v84, a_v82 HX, a_v83 HX]
  refine ext5 fun n b h t s => ?_
  pointwise
  simp only [exp_real, neg_real, const0, id_eq, R3_ix3, R4_ix4, R5_ix5, cmp_slt', cmp_sle', cmp_eq', sel_ite, ite_coe, ← EReal.coe_mul, ← EReal.coe_add, ← EReal.coe_sub, ← EReal.coe_neg, ← EReal.coe_one, ← EReal.coe_zero, ← coe_sum]
  exact congrArg _ (Chunk.tn_succ _ 4 _ _).symm

theorem a_v91 : (after L V (Proc.devRef .tc main_v91) : FVec Ideal S10x3x64x18x96 .f32) = R5 (φ := .f32) fun n b t h r => (X.chunk n b h).W t r := by
  rw [e_v91, e_v90, e_v89, e_v88, e_v86, e_v87, a_v42 HX, a_v22 HX, a_v85 HX]
  refine ext5 fun n b t h r => ?_
  pointwise
  simp only [exp_real, neg_real, const0, id_eq, R3_ix3, R4_ix4, R5_ix5, cmp_slt', cmp_sle', cmp_eq', sel_ite, ite_coe, ← EReal.coe_mul, ← EReal.coe_add, ← EReal.coe_sub, ← EReal.coe_neg, ← EReal.coe_one, ← EReal.coe_zero, ← coe_sum]
  rw [Chunk.W, Finset.sum_range]
  rfl

theorem a_v97 : (after L V (Proc.devRef .tc main_v97) : FVec Ideal S10x3x64x18x128 .f32) = R5 (φ := .f32) fun n b t h l => (X.chunk n b h).ut t l := by
  rw [e_v97, e_v96, e_v95, e_v94, e_v92, e_v93, a_v16 HX, a_v12 HX, a_v85 HX]
  refine ext5 fun n b t h l => ?_
  pointwise
  simp only [exp_real, neg_real, const0, id_eq, R3_ix3, R4_ix4, R5_ix5, cmp_slt', cmp_sle', cmp_eq', sel_ite, ite_coe, ← EReal.coe_mul, ← EReal.coe_add, ← EReal.coe_sub, ← EReal.coe_neg, ← EReal.coe_one, ← EReal.coe_zero, ← coe_sum]
  rw [Chunk.ut, Finset.sum_range]
  rfl

theorem a_v101 : (after L V (Proc.devRef .tc main_v101) : FVec Ideal S10x3x64x18x96 .f32) = R5 (φ := .f32) fun n b t h r => (X.chunk n b h).Q t r := by
  rw [e_v101, e_v100, e_v98, e_v99, a_v8 HX, a_v21 HX]
  refine ext5 fun n b t h r => ?_
  pointwise
  simp only [exp_real, neg_real, const0, id_eq, R3_ix3, R4_ix4, R5_ix5, cmp_slt', cmp_sle', cmp_eq', sel_ite, ite_coe, ← EReal.coe_mul, ← EReal.coe_add, ← EReal.coe_sub, ← EReal.coe_neg, ← EReal.coe_one, ← EReal.coe_zero, ← coe_sum]
  rfl

theorem a_v105 : (after L V (Proc.devRef .tc main_v105) : FVec Ideal S10x3x64x18x96 .f32) = R5 (φ := .f32) fun n b t h r => (X.chunk n b h).K t r := by
  rw [e_v105, e_v104, e_v102, e_v103, a_v10 HX, a_v31 HX]
  refine ext5 fun n b t h r => ?_
  pointwise
  simp only [exp_real, neg_real, const0, id_eq, R3_ix3, R4_ix4, R5_ix5, cmp_slt', cmp_sle', cmp_eq', sel_ite, ite_coe, ← EReal.coe_mul, ← EReal.coe_add, ← EReal.coe_sub, ← EReal.coe_neg, ← EReal.coe_one, ← EReal.coe_zero, ← coe_sum]
  rfl

theorem a_v107 : (after L V (Proc.devRef .tc main_v107) : FVec Ideal S10x3x18x96 .f32) = R4 (φ := .f32) fun n b h r => (X.chunk n b h).dec r := by
  rw [e_v107, e_v106, e_v18, a_v17 HX]
  refine ext4 fun n b h r => ?_
  pointwise
  simp only [exp_real, neg_real, const0, id_eq, R3_ix3, R4_ix4, R5_ix5, cmp_slt', cmp_sle', cmp_eq', sel_ite, ite_coe, ← EReal.coe_mul, ← EReal.coe_add, ← EReal.coe_sub, ← EReal.coe_neg, ← EReal.coe_one, ← EReal.coe_zero, ← coe_sum]
  rfl

end Cert.ReferenceIdeal.Own

end
-- ==== Proof.Ref.Loop.lean ====
/-
  The reference's loop over the chunks: before chunk `n` the carried state is `In.cS` and the result array holds the
  chunks already done.
-/
module

public import proofs.«01_k».proof.Proof.Ref.Anchors
public import proofs.«01_k».proof.Proof.Value.Pair
public import Idealize.ShloMosaic.Lib.DynamicIndex

@[expose] public section

set_option maxRecDepth 16384

noncomputable section

namespace Cert.ReferenceIdeal.Own

open Cert.ReferenceIdeal Cert.ReferenceIdeal.Gen Cert.ReferenceIdeal.Value Cert.Own
open Idealize.ShloMosaic Idealize.ShloMosaic.TcCoe Idealize.ShloMosaic.StableHlo

/-- The loop's buffers before chunk `n`. -/
structure At (X : In) (n : ℕ) (V : Valuation τ sig (Elt Ideal)) : Prop where
  ut : (V (Proc.devRef .tc main_v109_0) : FVec Ideal S10x3x64x18x128 .f32) = R5 (φ := .f32) fun n b t h l => (X.chunk n b h).ut t l
  W : (V (Proc.devRef .tc main_v109_1) : FVec Ideal S10x3x64x18x96 .f32) = R5 (φ := .f32) fun n b t h r => (X.chunk n b h).W t r
  Q : (V (Proc.devRef .tc main_v109_2) : FVec Ideal S10x3x64x18x96 .f32) = R5 (φ := .f32) fun n b t h r => (X.chunk n b h).Q t r
  Aq : (V (Proc.devRef .tc main_v109_3) : FVec Ideal S10x3x18x64x64 .f32) = R5 (φ := .f32) fun n b h t s => (X.chunk n b h).Aq t s
  K : (V (Proc.devRef .tc main_v109_4) : FVec Ideal S10x3x64x18x96 .f32) = R5 (φ := .f32) fun n b t h r => (X.chunk n b h).K t r
  dec : (V (Proc.devRef .tc main_v109_5) : FVec Ideal S10x3x18x96 .f32) = R4 (φ := .f32) fun n b h r => (X.chunk n b h).dec r
  ctr : (V (Proc.devRef .tc main_v109_6) : IVec S_ 32) = fun _ => BitVec.ofNat 32 n
  S : (V (Proc.devRef .tc main_v109_7) : FVec Ideal S3x18x96x128 .f32) = R4 (φ := .f32) fun b h r l => X.cS b h n r l
  out : ∀ (i : Fin 10) (b : Fin 3) (t : Fin 64) (h : Fin 18) (l : Fin 128), i.val < n →
    (V (Proc.devRef .tc main_v109_8) : FVec Ideal S10x3x64x18x128 .f32) (ix5 i b t h l)
      = (((X.chunk i b h).o (X.cS b h i) t l : ℝ) : EReal)

/-- The slices' starts. -/
theorem starts5 (n : ℕ) (hn : n < 10) (w : IVec S_ 32) (hw : w = fun _ => BitVec.ofNat 32 n) : ∀ k : Fin 5,
    (((![w, constantI S_ 32 0#32, constantI S_ 32 0#32, constantI S_ 32 0#32, constantI S_ 32 0#32] : Fin 5 → IVec S_ 32) k (Shape.Idx.first h_S_)).toInt)
      = (![(n : ℤ), 0, 0, 0, 0] : Fin 5 → ℤ) k := fun k => by
  subst hw
  match k with
  | ⟨0, _⟩ => exact toInt_small n (by omega)
  | ⟨1, _⟩ => rfl
  | ⟨2, _⟩ => rfl
  | ⟨3, _⟩ => rfl
  | ⟨4, _⟩ => rfl

theorem starts4 (n : ℕ) (hn : n < 10) (w : IVec S_ 32) (hw : w = fun _ => BitVec.ofNat 32 n) : ∀ k : Fin 4,
    (((![w, constantI S_ 32 0#32, constantI S_ 32 0#32, constantI S_ 32 0#32] : Fin 4 → IVec S_ 32) k (Shape.Idx.first h_S_)).toInt)
      = (![(n : ℤ), 0, 0, 0] : Fin 4 → ℤ) k := fun k => by
  subst hw
  match k with
  | ⟨0, _⟩ => exact toInt_small n (by omega)
  | ⟨1, _⟩ => rfl
  | ⟨2, _⟩ => rfl
  | ⟨3, _⟩ => rfl

/-- Block `n` of an array of one block per chunk. -/
theorem slice128 (f : ℕ → ℕ → ℕ → ℕ → ℕ → ℝ) (n : ℕ) (hn : n < 10) :
    shapeCast S3x64x18x128 (Host.dynamicSlice S1x3x64x18x128 (R5 (φ := .f32) f : FVec Ideal S10x3x64x18x128 .f32) (![(n : ℤ), 0, 0, 0, 0] : Fin 5 → ℤ)
      sliceFits_S10x3x64x18x128_S1x3x64x18x128) shapeCasts_S1x3x64x18x128_S3x64x18x128 = R4 (φ := .f32) (f n) := by
  have hoff : S10x3x64x18x128.Slices (![n, 0, 0, 0, 0] : Fin 5 → ℕ) S1x3x64x18x128 := ⟨rfl, fun a => by
    match a with
    | ⟨0, _⟩ => exact (by show n + 1 ≤ 10; omega)
    | ⟨1, _⟩ => exact le_refl _
    | ⟨2, _⟩ => exact le_refl _
    | ⟨3, _⟩ => exact le_refl _
    | ⟨4, _⟩ => exact le_refl _⟩
  rw [Host.dynamicSlice_eq_extractStridedSlice S1x3x64x18x128 _ _ (![n, 0, 0, 0, 0] : Fin 5 → ℕ) sliceFits_S10x3x64x18x128_S1x3x64x18x128 hoff (fun a => by
    match a with
    | ⟨0, _⟩ => rfl
    | ⟨1, _⟩ => rfl
    | ⟨2, _⟩ => rfl
    | ⟨3, _⟩ => rfl
    | ⟨4, _⟩ => rfl)]
  refine ext4 fun b t h l => ?_
  pointwise
  simp only [R5_ix5, R4_ix4, Nat.add_zero, Nat.zero_add]

/-- Block `n` of an array of one block per chunk. -/
theorem slice96 (f : ℕ → ℕ → ℕ → ℕ → ℕ → ℝ) (n : ℕ) (hn : n < 10) :
    shapeCast S3x64x18x96 (Host.dynamicSlice S1x3x64x18x96 (R5 (φ := .f32) f : FVec Ideal S10x3x64x18x96 .f32) (![(n : ℤ), 0, 0, 0, 0] : Fin 5 → ℤ)
      sliceFits_S10x3x64x18x96_S1x3x64x18x96) shapeCasts_S1x3x64x18x96_S3x64x18x96 = R4 (φ := .f32) (f n) := by
  have hoff : S10x3x64x18x96.Slices (![n, 0, 0, 0, 0] : Fin 5 → ℕ) S1x3x64x18x96 := ⟨rfl, fun a => by
    match a with
    | ⟨0, _⟩ => exact (by show n + 1 ≤ 10; omega)
    | ⟨1, _⟩ => exact le_refl _
    | ⟨2, _⟩ => exact le_refl _
    | ⟨3, _⟩ => exact le_refl _
    | ⟨4, _⟩ => exact le_refl _⟩
  rw [Host.dynamicSlice_eq_extractStridedSlice S1x3x64x18x96 _ _ (![n, 0, 0, 0, 0] : Fin 5 → ℕ) sliceFits_S10x3x64x18x96_S1x3x64x18x96 hoff (fun a => by
    match a with
    | ⟨0, _⟩ => rfl
    | ⟨1, _⟩ => rfl
    | ⟨2, _⟩ => rfl
    | ⟨3, _⟩ => rfl
    | ⟨4, _⟩ => rfl)]
  refine ext4 fun b t h l => ?_
  pointwise
  simp only [R5_ix5, R4_ix4, Nat.add_zero, Nat.zero_add]

/-- Block `n` of an array of one block per chunk. -/
theorem slice64 (f : ℕ → ℕ → ℕ → ℕ → ℕ → ℝ) (n : ℕ) (hn : n < 10) :
    shapeCast S3x18x64x64 (Host.dynamicSlice S1x3x18x64x64 (R5 (φ := .f32) f : FVec Ideal S10x3x18x64x64 .f32) (![(n : ℤ), 0, 0, 0, 0] : Fin 5 → ℤ)
      sliceFits_S10x3x18x64x64_S1x3x18x64x64) shapeCasts_S1x3x18x64x64_S3x18x64x64 = R4 (φ := .f32) (f n) := by
  have hoff : S10x3x18x64x64.Slices (![n, 0, 0, 0, 0] : Fin 5 → ℕ) S1x3x18x64x64 := ⟨rfl, fun a => by
    match a with
    | ⟨0, _⟩ => exact (by show n + 1 ≤ 10; omega)
    | ⟨1, _⟩ => exact le_refl _
    | ⟨2, _⟩ => exact le_refl _
    | ⟨3, _⟩ => exact le_refl _
    | ⟨4, _⟩ => exact le_refl _⟩
  rw [Host.dynamicSlice_eq_extractStridedSlice S1x3x18x64x64 _ _ (![n, 0, 0, 0, 0] : Fin 5 → ℕ) sliceFits_S10x3x18x64x64_S1x3x18x64x64 hoff (fun a => by
    match a with
    | ⟨0, _⟩ => rfl
    | ⟨1, _⟩ => rfl
    | ⟨2, _⟩ => rfl
    | ⟨3, _⟩ => rfl
    | ⟨4, _⟩ => rfl)]
  refine ext4 fun b t h l => ?_
  pointwise
  simp only [R5_ix5, R4_ix4, Nat.add_zero, Nat.zero_add]

/-- Block `n` of an array of one block per chunk. -/
theorem slice4 (f : ℕ → ℕ → ℕ → ℕ → ℝ) (n : ℕ) (hn : n < 10) :
    shapeCast S3x18x96 (Host.dynamicSlice S1x3x18x96 (R4 (φ := .f32) f : FVec Ideal S10x3x18x96 .f32) (![(n : ℤ), 0, 0, 0] : Fin 4 → ℤ)
      sliceFits_S10x3x18x96_S1x3x18x96) shapeCasts_S1x3x18x96_S3x18x96 = R3 (φ := .f32) (f n) := by
  have hoff : S10x3x18x96.Slices (![n, 0, 0, 0] : Fin 4 → ℕ) S1x3x18x96 := ⟨rfl, fun a => by
    match a with
    | ⟨0, _⟩ => exact (by show n + 1 ≤ 10; omega)
    | ⟨1, _⟩ => exact le_refl _
    | ⟨2, _⟩ => exact le_refl _
    | ⟨3, _⟩ => exact le_refl _⟩
  rw [Host.dynamicSlice_eq_extractStridedSlice S1x3x18x96 _ _ (![n, 0, 0, 0] : Fin 4 → ℕ) sliceFits_S10x3x18x96_S1x3x18x96 hoff (fun a => by
    match a with
    | ⟨0, _⟩ => rfl
    | ⟨1, _⟩ => rfl
    | ⟨2, _⟩ => rfl
    | ⟨3, _⟩ => rfl)]
  refine ext3 fun b h r => ?_
  pointwise
  simp only [R4_ix4, R3_ix3, Nat.add_zero, Nat.zero_add]

/-- The right-hand sides left after the state's part is taken off, from slices that begin at `st5`. -/
def uOf (st5 : Fin 5 → ℤ) (a0 : FVec Ideal S10x3x64x18x128 .f32) (a1 : FVec Ideal S10x3x64x18x96 .f32)
    (a7 : FVec Ideal S3x18x96x128 .f32) : FVec Ideal S3x64x18x128 .f32 :=
  subf (F := Ideal) (φ := .f32) (shapeCast S3x64x18x128 (Host.dynamicSlice S1x3x64x18x128 (a0) st5 sliceFits_S10x3x64x18x128_S1x3x64x18x128) shapeCasts_S1x3x64x18x128_S3x64x18x128) (transpose S3x64x18x128 [0, 3, 1, 2] (Host.dotGeneral (F := Ideal) (φ₁ := .f32) (φ₂ := .f32) dot_S3x18x96x128_S3x64x18x96_S3x18x128x64_2_3_3_1_01_02 (some .fp32) (a7) (shapeCast S3x64x18x96 (Host.dynamicSlice S1x3x64x18x96 (a1) st5 sliceFits_S10x3x64x18x96_S1x3x64x18x96) shapeCasts_S1x3x64x18x96_S3x64x18x96)) transposes_S3x18x128x64_S3x64x18x128_0_3_1_2)

/-- The next state. -/
def sOf (st4 : Fin 4 → ℤ) (st5 : Fin 5 → ℤ) (u : FVec Ideal S3x64x18x128 .f32) (a4 : FVec Ideal S10x3x64x18x96 .f32)
    (a5 : FVec Ideal S10x3x18x96 .f32) (a7 : FVec Ideal S3x18x96x128 .f32) : FVec Ideal S3x18x96x128 .f32 :=
  addf (F := Ideal) (φ := .f32) (mulf (F := Ideal) (φ := .f32) (broadcastInDim S3x18x96x128 ![0, 1, 2, 3] bcast_S3x18x96x1_S3x18x96x128_0_1_2_3 (broadcastInDim S3x18x96x1 ![0, 1, 2] bcast_S3x18x96_S3x18x96x1_0_1_2 (shapeCast S3x18x96 (Host.dynamicSlice S1x3x18x96 (a5) st4 sliceFits_S10x3x18x96_S1x3x18x96) shapeCasts_S1x3x18x96_S3x18x96))) (a7)) (Host.dotGeneral (F := Ideal) (φ₁ := .f32) (φ₂ := .f32) dot_S3x64x18x96_S3x64x18x128_S3x18x96x128_1_1_3_3_02_02 (some .fp32) (shapeCast S3x64x18x96 (Host.dynamicSlice S1x3x64x18x96 (a4) st5 sliceFits_S10x3x64x18x96_S1x3x64x18x96) shapeCasts_S1x3x64x18x96_S3x64x18x96) (u))

/-- The chunk's result. -/
def oOf (st5 : Fin 5 → ℤ) (u : FVec Ideal S3x64x18x128 .f32) (a2 : FVec Ideal S10x3x64x18x96 .f32)
    (a3 : FVec Ideal S10x3x18x64x64 .f32) (a7 : FVec Ideal S3x18x96x128 .f32) : FVec Ideal S3x64x18x128 .f32 :=
  mulf (F := Ideal) (φ := .f32) (broadcastInDim S3x64x18x128 ![] bcast_S_S3x64x18x128 (constant (F := Ideal) S_ .f32 0x3DD105EC#32)) (addf (F := Ideal) (φ := .f32) (transpose S3x64x18x128 [0, 3, 1, 2] (Host.dotGeneral (F := Ideal) (φ₁ := .f32) (φ₂ := .f32) dot_S3x18x96x128_S3x64x18x96_S3x18x128x64_2_3_3_1_01_02 (some .fp32) (a7) (shapeCast S3x64x18x96 (Host.dynamicSlice S1x3x64x18x96 (a2) st5 sliceFits_S10x3x64x18x96_S1x3x64x18x96) shapeCasts_S1x3x64x18x96_S3x64x18x96)) transposes_S3x18x128x64_S3x64x18x128_0_3_1_2) (transpose S3x64x18x128 [0, 3, 1, 2] (Host.dotGeneral (F := Ideal) (φ₁ := .f32) (φ₂ := .f32) dot_S3x64x18x128_S3x18x64x64_S3x18x128x64_1_3_3_2_02_01 (some .fp32) (u) (shapeCast S3x18x64x64 (Host.dynamicSlice S1x3x18x64x64 (a3) st5 sliceFits_S10x3x18x64x64_S1x3x18x64x64) shapeCasts_S1x3x18x64x64_S3x18x64x64)) transposes_S3x18x128x64_S3x64x18x128_0_3_1_2))

/-- The result array with the chunk's result put in. -/
def putOf (st5 : Fin 5 → ℤ) (a8 : FVec Ideal S10x3x64x18x128 .f32) (o : FVec Ideal S3x64x18x128 .f32) : FVec Ideal S10x3x64x18x128 .f32 :=
  Host.dynamicUpdateSlice a8 (broadcastInDim S1x3x64x18x128 ![1, 2, 3, 4] bcast_S3x64x18x128_S1x3x64x18x128_1_2_3_4 o) st5 updateFits_S10x3x64x18x128_S1x3x64x18x128

theorem uOf_eq (n : ℕ) (hn : n < 10) (ut W : ℕ → ℕ → ℕ → ℕ → ℕ → ℝ) (S : ℕ → ℕ → ℕ → ℕ → ℝ) :
    uOf (![(n : ℤ), 0, 0, 0, 0]) (R5 (φ := .f32) ut) (R5 (φ := .f32) W) (R4 (φ := .f32) S)
      = R4 (φ := .f32) fun b t h l => ut n b t h l - ∑ r ∈ Finset.range 96, S b h r l * W n b t h r := by
  refine ext4 fun b t h l => ?_
  unfold uOf
  rw [slice128 _ n hn, slice96 _ n hn]
  pointwise
  simp only [R4_ix4, ← EReal.coe_mul, ← EReal.coe_add, ← EReal.coe_sub, ← coe_sum]
  rw [Finset.sum_range]

theorem sOf_eq (n : ℕ) (hn : n < 10) (U S : ℕ → ℕ → ℕ → ℕ → ℝ) (K : ℕ → ℕ → ℕ → ℕ → ℕ → ℝ) (d : ℕ → ℕ → ℕ → ℕ → ℝ) :
    sOf (![(n : ℤ), 0, 0, 0]) (![(n : ℤ), 0, 0, 0, 0]) (R4 (φ := .f32) U) (R5 (φ := .f32) K) (R4 (φ := .f32) d) (R4 (φ := .f32) S)
      = R4 (φ := .f32) fun b h r l => d n b h r * S b h r l + ∑ x ∈ Finset.range 64, K n b x h r * U b x h l := by
  refine ext4 fun b h r l => ?_
  unfold sOf
  rw [slice4 _ n hn, slice96 _ n hn]
  pointwise
  simp only [R3_ix3, R4_ix4, ← EReal.coe_mul, ← EReal.coe_add, ← EReal.coe_sub, ← coe_sum]
  rw [Finset.sum_range]

theorem oOf_eq (n : ℕ) (hn : n < 10) (U S : ℕ → ℕ → ℕ → ℕ → ℝ) (Q Aq : ℕ → ℕ → ℕ → ℕ → ℕ → ℝ) :
    oOf (![(n : ℤ), 0, 0, 0, 0]) (R4 (φ := .f32) U) (R5 (φ := .f32) Q) (R5 (φ := .f32) Aq) (R4 (φ := .f32) S)
      = R4 (φ := .f32) fun b t h l => SC * (∑ r ∈ Finset.range 96, S b h r l * Q n b t h r + ∑ x ∈ Finset.range 64, U b x h l * Aq n b h t x) := by
  refine ext4 fun b t h l => ?_
  unfold oOf
  rw [slice96 _ n hn, slice64 _ n hn]
  pointwise
  simp only [Cert.KernelIdeal.Own.SC_eq, R4_ix4, ← EReal.coe_mul, ← EReal.coe_add, ← EReal.coe_sub, ← coe_sum]
  rw [Finset.sum_range, Finset.sum_range]
  rfl

theorem putOf_eq (n : ℕ) (hn : n < 10) (a8 : FVec Ideal S10x3x64x18x128 .f32) (o : FVec Ideal S3x64x18x128 .f32)
    (i : Fin 10) (b : Fin 3) (t : Fin 64) (h : Fin 18) (l : Fin 128) :
    putOf (![(n : ℤ), 0, 0, 0, 0]) a8 o (ix5 i b t h l) = if i.val = n then o (ix4 b t h l) else a8 (ix5 i b t h l) := by
  have h' : S10x3x64x18x128.Slices (![n, 0, 0, 0, 0] : Fin 5 → ℕ) S1x3x64x18x128 := ⟨rfl, fun a => by
    match a with
    | ⟨0, _⟩ => exact (by show n + 1 ≤ 10; omega)
    | ⟨1, _⟩ => exact le_refl _
    | ⟨2, _⟩ => exact le_refl _
    | ⟨3, _⟩ => exact le_refl _
    | ⟨4, _⟩ => exact le_refl _⟩
  have e : putOf (![(n : ℤ), 0, 0, 0, 0]) a8 o
      = updateSlice a8 (broadcastInDim S1x3x64x18x128 ![1, 2, 3, 4] bcast_S3x64x18x128_S1x3x64x18x128_1_2_3_4 o) (![n, 0, 0, 0, 0] : Fin 5 → ℕ) h' :=
    Host.dynamicUpdateSlice_eq_updateSlice _ _ _ _ _ (fun a => by
      match a with
      | ⟨0, _⟩ => exact (by show (min (max (n : ℤ) 0) ((10 - 1 : ℕ) : ℤ)).toNat = n; omega)
      | ⟨1, _⟩ => rfl
      | ⟨2, _⟩ => rfl
      | ⟨3, _⟩ => rfl
      | ⟨4, _⟩ => rfl) h'
  rw [e]
  pointwise
  by_cases hi : i.val = n
  · rw [dif_pos ⟨by omega, by omega⟩, if_pos hi]
  · rw [dif_neg (by omega), if_neg hi]

variable {X : In} {n : ℕ} {V : Valuation τ sig (Elt Ideal)} (hn : n < 10) (H : At X n V)
include hn H

theorem U_eq : (res_main_while0b_v121 V : FVec Ideal S3x64x18x128 .f32)
    = R4 (φ := .f32) fun b t h l => (X.chunk n b h).U (X.cS b h n) t l := by
  obtain ⟨st, hst, e⟩ : ∃ st : Fin 5 → ℤ, (∀ k, st k = (![(n : ℤ), 0, 0, 0, 0] : Fin 5 → ℤ) k) ∧ (res_main_while0b_v121 V : FVec Ideal S3x64x18x128 .f32)
      = uOf st (V (Proc.devRef .tc main_v109_0)) (V (Proc.devRef .tc main_v109_1)) (V (Proc.devRef .tc main_v109_7)) := ⟨_, starts5 n hn _ H.ctr, rfl⟩
  rw [e, H.ut, H.W, H.S, funext hst, uOf_eq n hn]
  rfl

theorem S_eq : (step_main_v109_7 V : FVec Ideal S3x18x96x128 .f32) = R4 (φ := .f32) fun b h r l => X.cS b h (n + 1) r l := by
  obtain ⟨st, st', hst, hst', e⟩ : ∃ (st : Fin 5 → ℤ) (st' : Fin 4 → ℤ), (∀ k, st k = (![(n : ℤ), 0, 0, 0, 0] : Fin 5 → ℤ) k)
      ∧ (∀ k, st' k = (![(n : ℤ), 0, 0, 0] : Fin 4 → ℤ) k) ∧ (step_main_v109_7 V : FVec Ideal S3x18x96x128 .f32)
      = sOf st' st (res_main_while0b_v121 V) (V (Proc.devRef .tc main_v109_4)) (V (Proc.devRef .tc main_v109_5)) (V (Proc.devRef .tc main_v109_7)) :=
    ⟨_, _, starts5 n hn _ H.ctr, starts4 n hn _ H.ctr, rfl⟩
  rw [e, U_eq hn H, H.K, H.dec, H.S, funext hst, funext hst', sOf_eq n hn]
  rfl

theorem out_eq (i : Fin 10) (b : Fin 3) (t : Fin 64) (h : Fin 18) (l : Fin 128) (hi : i.val < n + 1) :
    (step_main_v109_8 V : FVec Ideal S10x3x64x18x128 .f32) (ix5 i b t h l)
      = (((X.chunk i b h).o (X.cS b h i) t l : ℝ) : EReal) := by
  obtain ⟨st, hst, e⟩ : ∃ st : Fin 5 → ℤ, (∀ k, st k = (![(n : ℤ), 0, 0, 0, 0] : Fin 5 → ℤ) k) ∧ (step_main_v109_8 V : FVec Ideal S10x3x64x18x128 .f32)
      = putOf st (V (Proc.devRef .tc main_v109_8)) (oOf st (res_main_while0b_v121 V) (V (Proc.devRef .tc main_v109_2)) (V (Proc.devRef .tc main_v109_3))
        (V (Proc.devRef .tc main_v109_7))) := ⟨_, starts5 n hn _ H.ctr, rfl⟩
  rw [e, U_eq hn H, H.Q, H.Aq, H.S, funext hst, oOf_eq n hn, putOf_eq n hn]
  split
  · next hin => subst hin; rfl
  · next hin => exact H.out i b t h l (by omega)

theorem step : At X (n + 1) (STEP V) where
  ut := (STEP_main_v109_0 V).trans H.ut
  W := (STEP_main_v109_1 V).trans H.W
  Q := (STEP_main_v109_2 V).trans H.Q
  Aq := (STEP_main_v109_3 V).trans H.Aq
  K := (STEP_main_v109_4 V).trans H.K
  dec := (STEP_main_v109_5 V).trans H.dec
  ctr := by
    refine (STEP_main_v109_6 V).trans ?_
    show addi (V (Proc.devRef .tc main_v109_6) : IVec S_ 32) (constantI S_ 32 1#32) = _
    rw [H.ctr]
    funext i
    exact (BitVec.ofNat_add n 1).symm
  S := (STEP_main_v109_7 V).trans (S_eq hn H)
  out i b t h l hi := (congrFun (STEP_main_v109_8 V) _).trans (out_eq hn H i b t h l hi)

omit hn H in
/-- After `n` trips. -/
theorem steps (H : At X 0 V) : ∀ n, n ≤ 10 → At X n (STEP^[n] V)
  | 0, _ => H
  | n + 1, hn => by
    rw [Function.iterate_succ_apply']
    exact step (by omega) (steps H n (by omega))

omit hn H in
/-- The loop's entry. -/
theorem entry (HX : From V X) : At X 0 (after L V) where
  ut := (e_v109_0 V).trans (a_v97 HX)
  W := (e_v109_1 V).trans (a_v91 HX)
  Q := (e_v109_2 V).trans (a_v101 HX)
  Aq := (e_v109_3 V).trans (a_v61 HX)
  K := (e_v109_4 V).trans (a_v105 HX)
  dec := (e_v109_5 V).trans (a_v107 HX)
  ctr := by
    rw [e_v109_6, e_c_2]
    rfl
  S := by
    rw [e_v109_7]
    exact ext4 fun b h r l => HX.h0 b h r l
  out i b t h l hi := absurd hi (by omega)

end Cert.ReferenceIdeal.Own

end
-- ==== Proof.Ref.Decode.lean ====
/-
  What the loop's predecessors read: the decoded codes and the arguments, from the launch memory.
-/
module

public import proofs.«01_k».proof.Proof.Ref.Loop
public import Idealize.ShloMosaic.Lib.Pipeline.ValueKit

@[expose] public section

set_option maxRecDepth 16384

noncomputable section

namespace Cert.ReferenceIdeal.Own

open Cert.ReferenceIdeal Cert.ReferenceIdeal.Gen Cert.ReferenceIdeal.Value Cert.Own
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg) (c : Dev nD)

/-- The codes as the region finds them. -/
theorem code_q : (W1 m ρ c (Proc.devRef .tc main_v0) : FVec Ideal S3x640x18x96 .fp8e4m3) = m ((c : Thread nD τ).loc main_arg0) := by
  have h : W1 m ρ c (Proc.devRef .tc main_v0) = _ :=
    at_unary (W := hostOps0_W) (hostOps0 (F := Ideal)) rfl 0 (W0 m ρ c) rfl (by decide) (by decide)
  rw [h]
  exact W1_args m ρ c main_arg0 (by decide)
theorem code_k : (W1 m ρ c (Proc.devRef .tc main_v1) : FVec Ideal S3x640x18x96 .fp8e4m3) = m ((c : Thread nD τ).loc main_arg2) := by
  have h : W1 m ρ c (Proc.devRef .tc main_v1) = _ :=
    at_unary (W := hostOps0_W) (hostOps0 (F := Ideal)) rfl 1 (W0 m ρ c) rfl (by decide) (by decide)
  rw [h]
  exact W1_args m ρ c main_arg2 (by decide)

/-- The decoder's one block of an array is the array. -/
theorem read_v0 (f : Buf (Elt Ideal) ((c : Thread nD τ).loc main_v0)) : (win0_0.blk t0_0).view.read (Elt Ideal) f = f :=
  Memref.read_access_unit_zero (Elt Ideal) main_v0
    (show (fun a => (win0_0.index t0_0) a * main_v0.ty.shape.size a) = fun _ => 0 from
      funext fun a => by fin_cases a <;> decide) (fun a => by fin_cases a <;> decide) f
theorem read_v1 (f : Buf (Elt Ideal) ((c : Thread nD τ).loc main_v1)) : (win0_1.blk t0_0).view.read (Elt Ideal) f = f :=
  Memref.read_access_unit_zero (Elt Ideal) main_v1
    (show (fun a => (win0_1.index t0_0) a * main_v1.ty.shape.size a) = fun _ => 0 from
      funext fun a => by fin_cases a <;> decide) (fun a => by fin_cases a <;> decide) f
theorem read_v2_0 (f : Buf (Elt Ideal) ((c : Thread nD τ).loc main_v2_0)) : (win0_2.blk t0_0).view.read (Elt Ideal) f = f :=
  Memref.read_access_unit_zero (Elt Ideal) main_v2_0
    (show (fun a => (win0_2.index t0_0) a * main_v2_0.ty.shape.size a) = fun _ => 0 from
      funext fun a => by fin_cases a <;> decide) (fun a => by fin_cases a <;> decide) f
theorem read_v2_1 (f : Buf (Elt Ideal) ((c : Thread nD τ).loc main_v2_1)) : (win0_3.blk t0_0).view.read (Elt Ideal) f = f :=
  Memref.read_access_unit_zero (Elt Ideal) main_v2_1
    (show (fun a => (win0_3.index t0_0) a * main_v2_1.ty.shape.size a) = fun _ => 0 from
      funext fun a => by fin_cases a <;> decide) (fun a => by fin_cases a <;> decide) f

section
variable (V : (c : Dev nD) → (b : Ref sig .tc) → Buf (Elt Ideal) ((c : Thread nD τ).loc b))

theorem iblk_0 : iblk0 V c 0 t0_0 = V c main_v0 := by
  show (win0_0.blk t0_0).view.read (Elt Ideal) (V c main_v0) = _
  exact read_v0 c _
theorem iblk_1 : iblk0 V c 1 t0_0 = V c main_v1 := by
  show (win0_1.blk t0_0).view.read (Elt Ideal) (V c main_v1) = _
  exact read_v1 c _

theorem flushed_2 : (dat0 V c).flushed 2 t0_0 = out0_2 (V c main_v0) (V c main_v1) := by
  show (cfg0.win 2).cut _ ((dat0 V c).after 2 t0_0) = _
  rw [after0_2, iblk_0, iblk_1]
  exact funext fun _ => rfl
theorem flushed_3 : (dat0 V c).flushed 3 t0_0 = out0_3 (V c main_v0) (V c main_v1) := by
  show (cfg0.win 3).cut _ ((dat0 V c).after 3 t0_0) = _
  rw [after0_3, iblk_0, iblk_1]
  exact funext fun _ => rfl

theorem arrAt_2 : (dat0 V c).arrAt 2 cfg0.N = out0_2 (V c main_v0) (V c main_v1) := by
  have hw : ((cfg0.win 2).blk t0_0).view.read (Elt Ideal) ((dat0 V c).arrAt 2 cfg0.N) = (dat0 V c).flushed 2 t0_0 := by
    rw [show cfg0.N = t0_0.val + 1 from rfl, (dat0 V c).arrAt_succ (2 : Fin 4) t0_0, flush0_2, if_pos rfl]
    exact View.read_write_univ _ _
  rw [flushed_2] at hw
  exact (read_v2_0 c _).symm.trans hw
theorem arrAt_3 : (dat0 V c).arrAt 3 cfg0.N = out0_3 (V c main_v0) (V c main_v1) := by
  have hw : ((cfg0.win 3).blk t0_0).view.read (Elt Ideal) ((dat0 V c).arrAt 3 cfg0.N) = (dat0 V c).flushed 3 t0_0 := by
    rw [show cfg0.N = t0_0.val + 1 from rfl, (dat0 V c).arrAt_succ (3 : Fin 4) t0_0, flush0_3, if_pos rfl]
    exact View.read_write_univ _ _
  rw [flushed_3] at hw
  exact (read_v2_1 c _).symm.trans hw
end

theorem out_q (x y : FVec Ideal S3x640x18x96 .fp8e4m3) (b : Fin 3) (s : Fin 640) (h : Fin 18) (r : Fin 96) :
    (out0_2 (F := Ideal) x y : FVec Ideal S3x640x18x96 .bf16) (ix4 b s h r) = x (ix4 b s h r) := by
  unfold out0_2
  rw [View.canon_cons_unit_lit _ _ _ (by decide), View.ld_unit_lit _ _ (by decide)]
  pointwise [k0_pay1]
theorem out_k (x y : FVec Ideal S3x640x18x96 .fp8e4m3) (b : Fin 3) (s : Fin 640) (h : Fin 18) (r : Fin 96) :
    (out0_3 (F := Ideal) x y : FVec Ideal S3x640x18x96 .bf16) (ix4 b s h r) = y (ix4 b s h r) := by
  unfold out0_3
  rw [View.canon_cons_unit_lit _ _ _ (by decide), View.ld_unit_lit _ _ (by decide)]
  pointwise [k0_pay2]

theorem read_q (b : Fin 3) (s : Fin 640) (h : Fin 18) (r : Fin 96) :
    (W2 m ρ c (Proc.devRef .tc main_v2_0) : FVec Ideal S3x640x18x96 .bf16) (ix4 b s h r)
      = (m ((c : Thread nD τ).loc main_arg0) : FVec Ideal S3x640x18x96 .f32) (ix4 b s h r) := by
  have e := (W2_arr m ρ c 2).trans (arrAt_2 c (V1 m ρ))
  refine (congrFun e (ix4 b s h r)).trans ((out_q _ _ b s h r).trans ?_)
  exact congrFun (code_q m ρ c) _
theorem read_k (b : Fin 3) (s : Fin 640) (h : Fin 18) (r : Fin 96) :
    (W2 m ρ c (Proc.devRef .tc main_v2_1) : FVec Ideal S3x640x18x96 .bf16) (ix4 b s h r)
      = (m ((c : Thread nD τ).loc main_arg2) : FVec Ideal S3x640x18x96 .f32) (ix4 b s h r) := by
  have e := (W2_arr m ρ c 3).trans (arrAt_3 c (V1 m ρ))
  refine (congrFun e (ix4 b s h r)).trans ((out_k _ _ b s h r).trans ?_)
  exact congrFun (code_k m ρ c) _

/-- The launch memory's arguments are `X`'s numbers. -/
abbrev Holds (X : In) : Prop := X.Of (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7))

variable {X : In} (HX : Holds m c X)
include HX

theorem from_launch : From (W2 m ρ c) X where
  q b s h r := (read_q m ρ c b s h r).trans (HX.q b s h r)
  qs b s h := (congrFun (W2_args m ρ c main_arg1 (by decide)) _).trans (HX.qs b s h)
  k b s h r := (read_k m ρ c b s h r).trans (HX.k b s h r)
  ks b s h := (congrFun (W2_args m ρ c main_arg3 (by decide)) _).trans (HX.ks b s h)
  v b s h l := (congrFun (W2_args m ρ c main_arg4 (by decide)) _).trans (HX.v b s h l)
  g b s h r := (congrFun (W2_args m ρ c main_arg5 (by decide)) _).trans (HX.g b s h r)
  be b s h := (congrFun (W2_args m ρ c main_arg6 (by decide)) _).trans (HX.be b s h)
  h0 b h r l := (congrFun (W2_args m ρ c main_arg7 (by decide)) _).trans (HX.h0 b h r l)

theorem at_end : At X 10 (STEP^[Gen.nT] (Gen.Went m ρ c)) := by
  rw [went_eq m ρ c]
  exact steps (entry (from_launch m ρ c HX)) 10 le_rfl

/-- The reference's first result. -/
theorem ref_out (b : Fin 3) (s : Fin 640) (h : Fin 18) (l : Fin 128) :
    (Gen.WN m ρ c (Proc.devRef .tc main_v112) : FVec Ideal S3x640x2304 .bf16) (ix3 b s ⟨128 * h.val + l.val, by omega⟩)
      = (((X.chunk (s.val / 64) b h).o (X.cS b h (s.val / 64)) (s.val % 64) l : ℝ) : EReal) := by
  rw [final_main_v112]
  unfold out_main_v112
  pointwise
  exact (at_end m ρ c HX).out ⟨s.val / 64, by omega⟩ b ⟨s.val % 64, by omega⟩ h l (by show s.val / 64 < 10; omega)

/-- The reference's second result. -/
theorem ref_state (b : Fin 3) (h : Fin 18) (r : Fin 96) (l : Fin 128) :
    (Gen.WN m ρ c (Proc.devRef .tc main_v109_7) : FVec Ideal S3x18x96x128 .f32) (ix4 b h r l) = ((X.cS b h 10 r l : ℝ) : EReal) := by
  rw [final_main_v109_7, (at_end m ρ c HX).S]
  rfl

end Cert.ReferenceIdeal.Own

end
-- ==== Proof.Algebraic.lean ====
/-
  Kernel and reference, over the extended reals: from finite arguments both leave the same two results.
-/
module

public import proofs.«01_k».proof.Defs
public import proofs.«01_k».proof.Proof.Gen.Pre_finite
public import proofs.«01_k».proof.Proof.Math.Finite
public import proofs.«01_k».proof.Proof.Math.States
public import proofs.«01_k».proof.Proof.Ref.Decode

@[expose] public section

noncomputable section

namespace Cert.Own

open Idealize.ShloMosaic Idealize.SL.Sem

/-- Two outputs equal at every head and lane of every token are equal. -/
theorem ext_out {x y : FVec Ideal ⟨3, ![3, 640, 2304]⟩ .bf16}
    (h : ∀ (b : Fin 3) (s : Fin 640) (h : Fin 18) (l : Fin 128),
      x (ix3 b s ⟨128 * h.val + l.val, by omega⟩) = y (ix3 b s ⟨128 * h.val + l.val, by omega⟩)) : x = y := by
  funext i
  have hi : i = ix3 (i 0 : Fin 3) (i 1 : Fin 640)
      (⟨128 * ((i 2 : Fin 2304).val / 128) + (i 2 : Fin 2304).val % 128, by
        rw [Nat.div_add_mod]; exact (i 2 : Fin 2304).isLt⟩ : Fin 2304) := by
    funext a
    match a with
    | 0 => rfl
    | 1 => rfl
    | 2 => exact Fin.ext (Nat.div_add_mod _ 128).symm
  have h2 : (i 2 : Fin 2304).val / 128 < 18 := Nat.div_lt_of_lt_mul (i 2 : Fin 2304).isLt
  rw [hi]
  exact h (i 0) (i 1) ⟨(i 2 : Fin 2304).val / 128, h2⟩ ⟨(i 2 : Fin 2304).val % 128, Nat.mod_lt _ (by omega)⟩

/-- Two states equal at every batch, head, channel and lane are equal. -/
theorem ext_state {x y : FVec Ideal ⟨4, ![3, 18, 96, 128]⟩ .f32}
    (h : ∀ (b : Fin 3) (h : Fin 18) (r : Fin 96) (l : Fin 128), x (ix4 b h r l) = y (ix4 b h r l)) : x = y := by
  funext i
  have hi : i = ix4 (i 0 : Fin 3) (i 1 : Fin 18) (i 2 : Fin 96) (i 3 : Fin 128) := by
    funext a
    match a with
    | 0 => rfl
    | 1 => rfl
    | 2 => rfl
    | 3 => rfl
  rw [hi]
  exact h _ _ _ _

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)
  (g' : Dev ReferenceIdeal.nD → PrngReg) (c : Dev KernelIdeal.nD) {X : In}

/-- The outputs agree. -/
theorem same_out (H : KernelIdeal.Own.Holds m c X) (H' : ReferenceIdeal.Own.Holds m' c X) :
    (ReferenceIdeal.Gen.WN m' g' c (Proc.devRef .tc ReferenceIdeal.main_v112) : FVec Ideal ⟨3, ![3, 640, 2304]⟩ .bf16)
      = KernelIdeal.Value.G8 m c :=
  ext_out fun b s h l => (ReferenceIdeal.Own.ref_out m' g' c H' b s h l).trans <|
    (congrArg (fun z : ℝ => (z : EReal)) (X.outs b h s l).symm).trans (KernelIdeal.Own.res8 m c X H b s h l).symm

/-- The final states agree. -/
theorem same_state (H : KernelIdeal.Own.Holds m c X) (H' : ReferenceIdeal.Own.Holds m' c X) :
    (ReferenceIdeal.Gen.WN m' g' c (Proc.devRef .tc ReferenceIdeal.main_v109_7) : FVec Ideal ⟨4, ![3, 18, 96, 128]⟩ .f32)
      = KernelIdeal.Value.G9 m c :=
  ext_state fun b h r l => (ReferenceIdeal.Own.ref_state m' g' c H' b h r l).trans <|
    (congrArg (fun z : ℝ => (z : EReal)) (X.states b h 5 r r.isLt l).symm).trans (KernelIdeal.Own.res9 m c X H b h r l).symm

open ReferenceIdeal.Gen in
theorem algebraic : algebraic_KernelIdeal_ReferenceIdeal_pre_finite (hKernelIdeal := KernelIdeal.Gen.facts)
    (hReferenceIdeal := ReferenceIdeal.Gen.facts) (hPre_finite := Pre_finite.Gen.facts) := by
  intro m g m' g' hpre hagree
  have hH : ∀ c, ∃ X, KernelIdeal.Own.Holds m c X ∧ ReferenceIdeal.Own.Holds m' c X := fun c => by
    obtain ⟨h0, h1, h2, h3, h4, h5, h6, h7⟩ := hpre c
    obtain ⟨e0, e1, e2, e3, e4, e5, e6, e7⟩ := hagree c
    have H := @In.of_finite Pre_finite.Gen.facts _ _ _ _ _ _ _ _ h0 h1 h2 h3 h4 h5 h6 h7
    refine ⟨_, H, ?_⟩
    unfold ReferenceIdeal.Own.Holds
    rw [e0, e1, e2, e3, e4, e5, e6, e7]
    exact H
  refine ⟨fun c => KernelIdeal.Value.G8 m c, fun c => KernelIdeal.Value.G9 m c, KernelIdeal.Value.run m g, ?_⟩
  refine (θ_run ReferenceIdeal.defs _ _).mono (fun r h c => ?_) (ReferenceIdeal.Gen.run_main m' g')
  obtain ⟨X, H, H'⟩ := hH c
  exact ⟨(h c _ (mem_uc ReferenceIdeal.main_v112 (by decide))).trans (same_out m m' g' c H H'),
    (h c _ (mem_uc ReferenceIdeal.main_v109_7 (by decide))).trans (same_state m m' g' c H H'),
    (h c _ (mem_uc ReferenceIdeal.main_arg0 (by decide))).trans (WN_main_arg0 m' g' c),
    (h c _ (mem_uc ReferenceIdeal.main_arg1 (by decide))).trans (WN_main_arg1 m' g' c),
    (h c _ (mem_uc ReferenceIdeal.main_arg2 (by decide))).trans (WN_main_arg2 m' g' c),
    (h c _ (mem_uc ReferenceIdeal.main_arg3 (by decide))).trans (WN_main_arg3 m' g' c),
    (h c _ (mem_uc ReferenceIdeal.main_arg4 (by decide))).trans (WN_main_arg4 m' g' c),
    (h c _ (mem_uc ReferenceIdeal.main_arg5 (by decide))).trans (WN_main_arg5 m' g' c),
    (h c _ (mem_uc ReferenceIdeal.main_arg6 (by decide))).trans (WN_main_arg6 m' g' c),
    (h c _ (mem_uc ReferenceIdeal.main_arg7 (by decide))).trans (WN_main_arg7 m' g' c)⟩

end Cert.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Plain.Frame
public import proofs.«01_k».proof.Proof.Ideal.Value
public import proofs.«01_k».proof.Proof.Gen.ReferenceIdeal.Run
public import proofs.«01_k».proof.Proof.Gen.Pre_finite
public import proofs.«01_k».proof.Proof.Preserves
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite.Gen.facts,
  fun m ρ _ => Cert.Kernel.Own.frame m ρ,
  fun m ρ _ => Cert.KernelIdeal.Own.frame m ρ,
  fun m ρ _ => Cert.KernelIdeal.Own.frame m ρ,
  fun m ρ _ => Cert.ReferenceIdeal.Gen.frame m ρ,
  fun m ρ _ => Cert.ReferenceIdeal.Gen.frame m ρ,
  Cert.Own.preserves, Cert.Own.algebraic⟩

end Cert.Proof

end
